-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x4096x2048 : Shape := ⟨3, ![8, 4096, 2048]⟩
abbrev S8x4096x512 : Shape := ⟨3, ![8, 4096, 512]⟩
abbrev S8x32x8 : Shape := ⟨3, ![8, 32, 8]⟩
abbrev S8x32x2 : Shape := ⟨3, ![8, 32, 2]⟩
abbrev S1x128x2048 : Shape := ⟨3, ![1, 128, 2048]⟩
abbrev S1x128x512 : Shape := ⟨3, ![1, 128, 512]⟩
abbrev S1x32x8 : Shape := ⟨3, ![1, 32, 8]⟩
abbrev S1x32x2 : Shape := ⟨3, ![1, 32, 2]⟩
abbrev S1024x256 : Shape := ⟨2, ![1024, 256]⟩
abbrev S32x128x512 : Shape := ⟨3, ![32, 128, 512]⟩
abbrev S32x512x128 : Shape := ⟨3, ![32, 512, 128]⟩
abbrev S32x1024 : Shape := ⟨2, ![32, 1024]⟩
abbrev S1x1024 : Shape := ⟨2, ![1, 1024]⟩
abbrev S256x1024 : Shape := ⟨2, ![256, 1024]⟩
abbrev S128x2048 : Shape := ⟨2, ![128, 2048]⟩
abbrev S2048 : Shape := ⟨1, ![2048]⟩
abbrev S1x2048 : Shape := ⟨2, ![1, 2048]⟩
abbrev S1x256 : Shape := ⟨2, ![1, 256]⟩
abbrev S1 : Shape := ⟨1, ![1]⟩
abbrev S1x1 : Shape := ⟨2, ![1, 1]⟩
abbrev S1x8 : Shape := ⟨2, ![1, 8]⟩
abbrev S1x1x8 : Shape := ⟨3, ![1, 1, 8]⟩
abbrev S128x256 : Shape := ⟨2, ![128, 256]⟩
abbrev S128x512 : Shape := ⟨2, ![128, 512]⟩
abbrev S512 : Shape := ⟨1, ![512]⟩
abbrev S1x512 : Shape := ⟨2, ![1, 512]⟩
abbrev S1x2 : Shape := ⟨2, ![1, 2]⟩
abbrev S1x1x2 : Shape := ⟨3, ![1, 1, 2]⟩
abbrev S1x128 : Shape := ⟨2, ![1, 128]⟩
abbrev S512x128 : Shape := ⟨2, ![512, 128]⟩
abbrev S1x512x128 : Shape := ⟨3, ![1, 512, 128]⟩
abbrev S1x128x256 : Shape := ⟨3, ![1, 128, 256]⟩
abbrev S512x256 : Shape := ⟨2, ![512, 256]⟩
abbrev S1024 : Shape := ⟨1, ![1024]⟩
abbrev S32x128 : Shape := ⟨2, ![32, 128]⟩
abbrev S32 : Shape := ⟨1, ![32]⟩
abbrev S32x1 : Shape := ⟨2, ![32, 1]⟩
abbrev S1x256x128 : Shape := ⟨3, ![1, 256, 128]⟩
abbrev S256x128 : Shape := ⟨2, ![256, 128]⟩
abbrev S256x512 : Shape := ⟨2, ![256, 512]⟩

abbrev nBuf : Space → Nat
  | .hbm => 10
  | .vmem => 32
  | .smem => 0
  | _ => 0

abbrev bufTy : (tb : Table) → Fin (tcTables nBuf tb) → BufTy
  | .hbm, ⟨0, _⟩ => ⟨S8x4096x2048, .bf16⟩
  | .hbm, ⟨1, _⟩ => ⟨S8x4096x512, .bf16⟩
  | .hbm, ⟨2, _⟩ => ⟨S8x4096x512, .bf16⟩
  | .hbm, ⟨3, _⟩ => ⟨S8x4096x2048, .bf16⟩
  | .hbm, ⟨4, _⟩ => ⟨S8x4096x2048, .fp8e4m3⟩
  | .hbm, ⟨5, _⟩ => ⟨S8x32x8, .f32⟩
  | .hbm, ⟨6, _⟩ => ⟨S8x4096x512, .fp8e4m3⟩
  | .hbm, ⟨7, _⟩ => ⟨S8x32x2, .f32⟩
  | .hbm, ⟨8, _⟩ => ⟨S8x4096x512, .fp8e4m3⟩
  | .hbm, ⟨9, _⟩ => ⟨S8x32x2, .f32⟩
  | .local _ .vmem, ⟨0, _⟩ => ⟨S1x128x2048, .bf16⟩
  | .local _ .vmem, ⟨1, _⟩ => ⟨S1x128x2048, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x128x2048, .bf16⟩
  | .local _ .vmem, ⟨7, _⟩ => ⟨S1x128x2048, .bf16⟩
  | .local _ .vmem, ⟨8, _⟩ => ⟨S1x128x2048, .fp8e4m3⟩
  | .local _ .vmem, ⟨9, _⟩ => ⟨S1x128x2048, .fp8e4m3⟩
  | .local _ .vmem, ⟨10, _⟩ => ⟨S1x32x8, .f32⟩
  | .local _ .vmem, ⟨11, _⟩ => ⟨S1x32x8, .f32⟩
  | .local _ .vmem, ⟨12, _⟩ => ⟨S1x128x512, .fp8e4m3⟩
  | .local _ .vmem, ⟨13, _⟩ => ⟨S1x128x512, .fp8e4m3⟩
  | .local _ .vmem, ⟨14, _⟩ => ⟨S1x32x2, .f32⟩
  | .local _ .vmem, ⟨15, _⟩ => ⟨S1x32x2, .f32⟩
  | .local _ .vmem, ⟨16, _⟩ => ⟨S1x128x512, .fp8e4m3⟩
  | .local _ .vmem, ⟨17, _⟩ => ⟨S1x128x512, .fp8e4m3⟩
  | .local _ .vmem, ⟨18, _⟩ => ⟨S1x32x2, .f32⟩
  | .local _ .vmem, ⟨19, _⟩ => ⟨S1x32x2, .f32⟩
  | .local _ .vmem, ⟨20, _⟩ => ⟨S1024x256, .fp8e4m3⟩
  | .local _ .vmem, ⟨21, _⟩ => ⟨S32x128x512, .fp8e4m3⟩
  | .local _ .vmem, ⟨22, _⟩ => ⟨S32x512x128, .fp8e4m3⟩
  | .local _ .vmem, ⟨23, _⟩ => ⟨S32x1024, .f32⟩
  | .local _ .vmem, ⟨24, _⟩ => ⟨S32x1024, .f32⟩
  | .local _ .vmem, ⟨25, _⟩ => ⟨S32x1024, .f32⟩
  | .local _ .vmem, ⟨26, _⟩ => ⟨S32x1024, .f32⟩
  | .local _ .vmem, ⟨27, _⟩ => ⟨S32x1024, .f32⟩
  | .local _ .vmem, ⟨28, _⟩ => ⟨S32x1024, .f32⟩
  | .local _ .vmem, ⟨29, _⟩ => ⟨S1x1024, .f32⟩
  | .local _ .vmem, ⟨30, _⟩ => ⟨S1x1024, .f32⟩
  | .local _ .vmem, ⟨31, _⟩ => ⟨S256x1024, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_scratch9 : Ref sig .tc := ⟨.vmem, 29, rfl⟩
abbrev cc0_scratch10 : Ref sig .tc := ⟨.vmem, 30, rfl⟩
abbrev cc0_scratch11 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 32], ![false, false]⟩

def k0_off1 (i : grid0.Coords) : Fin 3 → Nat :=
  let c0_27 : Index := 0#32
  let arg1 : BitVec 32 := BitVec.ofNat 32 (i 1).val
  let v138 : Index := Scalar.indexCast arg1
  let c0_28 : Index := 0#32
  ![0, v138.toNat, 0]
def k0_off2 (i : grid0.Coords) : Fin 3 → Nat :=
  let c0_61 : Index := 0#32
  let arg1 : BitVec 32 := BitVec.ofNat 32 (i 1).val
  let v243 : Index := Scalar.indexCast arg1
  let c0_62 : Index := 0#32
  ![0, v243.toNat, 0]
def k0_off3 (i : grid0.Coords) : Fin 3 → Nat :=
  let arg1 : BitVec 32 := BitVec.ofNat 32 (i 1).val
  let v247 : Index := Scalar.indexCast arg1
  let c0_63 : Index := 0#32
  let c0_64 : Index := 0#32
  ![v247.toNat, 0, 0]
def k0_off4 (i : grid0.Coords) : Fin 2 → Nat :=
  let arg1 : BitVec 32 := BitVec.ofNat 32 (i 1).val
  let v254 : Index := Scalar.indexCast arg1
  let c0_65 : Index := 0#32
  ![v254.toNat, 0]
def k0_off5 (i : grid0.Coords) : Fin 3 → Nat :=
  let arg1 : BitVec 32 := BitVec.ofNat 32 (i 1).val
  let v333 : Index := Scalar.indexCast arg1
  let c0_91 : Index := 0#32
  let c0_92 : Index := 0#32
  ![v333.toNat, 0, 0]
@[reducible] def k0_t1_loop (i : grid0.Coords) : Scf.Loop 32 :=
  let c0_i32_95 : BitVec 32 := 0#32
  let arg1 : BitVec 32 := BitVec.ofNat 32 (i 1).val
  let v349 : BitVec 32 := Scalar.subi arg1 c0_i32_95
  let c1_i32_96 : BitVec 32 := 1#32
  let v351 : BitVec 32 := Scalar.divsi v349 c1_i32_96
  let v352 : BitVec 32 := Scalar.muli v351 c1_i32_96
  let v353 : BitVec 32 := Scalar.addi c0_i32_95 v352
  let c1_i32_97 : BitVec 32 := 1#32
  ⟨c0_i32_95, v353, c1_i32_97⟩
def k0_off6 (i : grid0.Coords) (k0_t1 : Fin (k0_t1_loop i).trips) : Fin 3 → Nat :=
  let c0_i32_95 : BitVec 32 := 0#32
  let c1_i32_97 : BitVec 32 := 1#32
  let arg24 : BitVec 32 := Scf.iv c0_i32_95 c1_i32_97 k0_t1
  let v637 : Index := Scalar.indexCast arg24
  let c0_233 : Index := 0#32
  let c0_234 : Index := 0#32
  ![v637.toNat, 0, 0]
def k0_off7 (i : grid0.Coords) (k0_t1 : Fin (k0_t1_loop i).trips) : Fin 2 → Nat :=
  let c0_i32_95 : BitVec 32 := 0#32
  let c1_i32_97 : BitVec 32 := 1#32
  let arg24 : BitVec 32 := Scf.iv c0_i32_95 c1_i32_97 k0_t1
  let v644 : Index := Scalar.indexCast arg24
  let c0_239 : Index := 0#32
  ![v644.toNat, 0]
def k0_off8 (i : grid0.Coords) (k0_t1 : Fin (k0_t1_loop i).trips) : Fin 3 → Nat :=
  let c0_i32_95 : BitVec 32 := 0#32
  let c1_i32_97 : BitVec 32 := 1#32
  let arg24 : BitVec 32 := Scf.iv c0_i32_95 c1_i32_97 k0_t1
  let v648 : Index := Scalar.indexCast arg24
  let c0_240 : Index := 0#32
  let c256_241 : Index := 256#32
  ![v648.toNat, 0, 256]
def k0_off9 (i : grid0.Coords) (k0_t1 : Fin (k0_t1_loop i).trips) : Fin 2 → Nat :=
  let c0_i32_95 : BitVec 32 := 0#32
  let c1_i32_97 : BitVec 32 := 1#32
  let arg24 : BitVec 32 := Scf.iv c0_i32_95 c1_i32_97 k0_t1
  let v655 : Index := Scalar.indexCast arg24
  let c512_246 : Index := 512#32
  ![v655.toNat, 512]
@[reducible] def k0_t2_loop (i : grid0.Coords) : Scf.Loop 32 :=
  let c0_i32_95 : BitVec 32 := 0#32
  let arg1 : BitVec 32 := BitVec.ofNat 32 (i 1).val
  let v349 : BitVec 32 := Scalar.subi arg1 c0_i32_95
  let c1_i32_96 : BitVec 32 := 1#32
  let v351 : BitVec 32 := Scalar.divsi v349 c1_i32_96
  let v352 : BitVec 32 := Scalar.muli v351 c1_i32_96
  let v353 : BitVec 32 := Scalar.addi c0_i32_95 v352
  let v350 : BitVec 32 := Scalar.addi c0_i32_95 v349
  let c1_i32_98 : BitVec 32 := 1#32
  ⟨v353, v350, c1_i32_98⟩
def k0_off10 (i : grid0.Coords) (k0_t2 : Fin (k0_t2_loop i).trips) : Fin 3 → Nat :=
  let c0_i32_95 : BitVec 32 := 0#32
  let arg1 : BitVec 32 := BitVec.ofNat 32 (i 1).val
  let v349 : BitVec 32 := Scalar.subi arg1 c0_i32_95
  let c1_i32_96 : BitVec 32 := 1#32
  let v351 : BitVec 32 := Scalar.divsi v349 c1_i32_96
  let v352 : BitVec 32 := Scalar.muli v351 c1_i32_96
  let v353 : BitVec 32 := Scalar.addi c0_i32_95 v352
  let c1_i32_98 : BitVec 32 := 1#32
  let arg24 : BitVec 32 := Scf.iv v353 c1_i32_98 k0_t2
  let v637 : Index := Scalar.indexCast arg24
  let c0_233 : Index := 0#32
  let c0_234 : Index := 0#32
  ![v637.toNat, 0, 0]
def k0_off11 (i : grid0.Coords) (k0_t2 : Fin (k0_t2_loop i).trips) : Fin 2 → Nat :=
  let c0_i32_95 : BitVec 32 := 0#32
  let arg1 : BitVec 32 := BitVec.ofNat 32 (i 1).val
  let v349 : BitVec 32 := Scalar.subi arg1 c0_i32_95
  let c1_i32_96 : BitVec 32 := 1#32
  let v351 : BitVec 32 := Scalar.divsi v349 c1_i32_96
  let v352 : BitVec 32 := Scalar.muli v351 c1_i32_96
  let v353 : BitVec 32 := Scalar.addi c0_i32_95 v352
  let c1_i32_98 : BitVec 32 := 1#32
  let arg24 : BitVec 32 := Scf.iv v353 c1_i32_98 k0_t2
  let v644 : Index := Scalar.indexCast arg24
  let c0_239 : Index := 0#32
  ![v644.toNat, 0]
def k0_off12 (i : grid0.Coords) (k0_t2 : Fin (k0_t2_loop i).trips) : Fin 3 → Nat :=
  let c0_i32_95 : BitVec 32 := 0#32
  let arg1 : BitVec 32 := BitVec.ofNat 32 (i 1).val
  let v349 : BitVec 32 := Scalar.subi arg1 c0_i32_95
  let c1_i32_96 : BitVec 32 := 1#32
  let v351 : BitVec 32 := Scalar.divsi v349 c1_i32_96
  let v352 : BitVec 32 := Scalar.muli v351 c1_i32_96
  let v353 : BitVec 32 := Scalar.addi c0_i32_95 v352
  let c1_i32_98 : BitVec 32 := 1#32
  let arg24 : BitVec 32 := Scf.iv v353 c1_i32_98 k0_t2
  let v648 : Index := Scalar.indexCast arg24
  let c0_240 : Index := 0#32
  let c256_241 : Index := 256#32
  ![v648.toNat, 0, 256]
def k0_off13 (i : grid0.Coords) (k0_t2 : Fin (k0_t2_loop i).trips) : Fin 2 → Nat :=
  let c0_i32_95 : BitVec 32 := 0#32
  let arg1 : BitVec 32 := BitVec.ofNat 32 (i 1).val
  let v349 : BitVec 32 := Scalar.subi arg1 c0_i32_95
  let c1_i32_96 : BitVec 32 := 1#32
  let v351 : BitVec 32 := Scalar.divsi v349 c1_i32_96
  let v352 : BitVec 32 := Scalar.muli v351 c1_i32_96
  let v353 : BitVec 32 := Scalar.addi c0_i32_95 v352
  let c1_i32_98 : BitVec 32 := 1#32
  let arg24 : BitVec 32 := Scf.iv v353 c1_i32_98 k0_t2
  let v655 : Index := Scalar.indexCast arg24
  let c512_246 : Index := 512#32
  ![v655.toNat, 512]
def k0_off14 (i : grid0.Coords) : Fin 3 → Nat :=
  let arg1 : BitVec 32 := BitVec.ofNat 32 (i 1).val
  let v354 : Index := Scalar.indexCast arg1
  let c0_99 : Index := 0#32
  let c0_100 : Index := 0#32
  ![v354.toNat, 0, 0]
def k0_off15 (i : grid0.Coords) : Fin 2 → Nat :=
  let arg1 : BitVec 32 := BitVec.ofNat 32 (i 1).val
  let v363 : Index := Scalar.indexCast arg1
  let c0_106 : Index := 0#32
  ![v363.toNat, 0]
def k0_off16 (i : grid0.Coords) : Fin 3 → Nat :=
  let arg1 : BitVec 32 := BitVec.ofNat 32 (i 1).val
  let v367 : Index := Scalar.indexCast arg1
  let c0_107 : Index := 0#32
  let c256_108 : Index := 256#32
  ![v367.toNat, 0, 256]
def k0_off17 (i : grid0.Coords) : Fin 2 → Nat :=
  let arg1 : BitVec 32 := BitVec.ofNat 32 (i 1).val
  let v376 : Index := Scalar.indexCast arg1
  let c512_114 : Index := 512#32
  ![v376.toNat, 512]
@[reducible] def k0_t3_loop (i : grid0.Coords) : Scf.Loop 32 :=
  let c0_i32_155 : BitVec 32 := 0#32
  let arg1 : BitVec 32 := BitVec.ofNat 32 (i 1).val
  let v492 : BitVec 32 := Scalar.subi arg1 c0_i32_155
  let c1_i32_156 : BitVec 32 := 1#32
  let v494 : BitVec 32 := Scalar.divsi v492 c1_i32_156
  let v495 : BitVec 32 := Scalar.muli v494 c1_i32_156
  let v496 : BitVec 32 := Scalar.addi c0_i32_155 v495
  let c1_i32_157 : BitVec 32 := 1#32
  ⟨c0_i32_155, v496, c1_i32_157⟩
def k0_off18 (i : grid0.Coords) (k0_t3 : Fin (k0_t3_loop i).trips) : Fin 3 → Nat :=
  let c0_i32_155 : BitVec 32 := 0#32
  let c1_i32_157 : BitVec 32 := 1#32
  let arg24 : BitVec 32 := Scf.iv c0_i32_155 c1_i32_157 k0_t3
  let v637 : Index := Scalar.indexCast arg24
  let c0_233 : Index := 0#32
  let c0_234 : Index := 0#32
  ![v637.toNat, 0, 0]
def k0_off19 (i : grid0.Coords) (k0_t3 : Fin (k0_t3_loop i).trips) : Fin 2 → Nat :=
  let c0_i32_155 : BitVec 32 := 0#32
  let c1_i32_157 : BitVec 32 := 1#32
  let arg24 : BitVec 32 := Scf.iv c0_i32_155 c1_i32_157 k0_t3
  let v642 : Index := Scalar.indexCast arg24
  let c0_238 : Index := 0#32
  ![v642.toNat, 0]
def k0_off20 (i : grid0.Coords) (k0_t3 : Fin (k0_t3_loop i).trips) : Fin 3 → Nat :=
  let c0_i32_155 : BitVec 32 := 0#32
  let c1_i32_157 : BitVec 32 := 1#32
  let arg24 : BitVec 32 := Scf.iv c0_i32_155 c1_i32_157 k0_t3
  let v666 : Index := Scalar.indexCast arg24
  let c0_249 : Index := 0#32
  let c0_250 : Index := 0#32
  ![v666.toNat, 0, 0]
def k0_off21 (i : grid0.Coords) (k0_t3 : Fin (k0_t3_loop i).trips) : Fin 3 → Nat :=
  let c0_i32_155 : BitVec 32 := 0#32
  let c1_i32_157 : BitVec 32 := 1#32
  let arg24 : BitVec 32 := Scf.iv c0_i32_155 c1_i32_157 k0_t3
  let v679 : Index := Scalar.indexCast arg24
  let c0_257 : Index := 0#32
  let c256_258 : Index := 256#32
  ![v679.toNat, 0, 256]
def k0_off22 (i : grid0.Coords) (k0_t3 : Fin (k0_t3_loop i).trips) : Fin 2 → Nat :=
  let c0_i32_155 : BitVec 32 := 0#32
  let c1_i32_157 : BitVec 32 := 1#32
  let arg24 : BitVec 32 := Scf.iv c0_i32_155 c1_i32_157 k0_t3
  let v684 : Index := Scalar.indexCast arg24
  let c512_262 : Index := 512#32
  ![v684.toNat, 512]
def k0_off23 (i : grid0.Coords) (k0_t3 : Fin (k0_t3_loop i).trips) : Fin 3 → Nat :=
  let c0_i32_155 : BitVec 32 := 0#32
  let c1_i32_157 : BitVec 32 := 1#32
  let arg24 : BitVec 32 := Scf.iv c0_i32_155 c1_i32_157 k0_t3
  let v708 : Index := Scalar.indexCast arg24
  let c256_273 : Index := 256#32
  let c0_274 : Index := 0#32
  ![v708.toNat, 256, 0]
@[reducible] def k0_t4_loop (i : grid0.Coords) : Scf.Loop 32 :=
  let c0_i32_155 : BitVec 32 := 0#32
  let arg1 : BitVec 32 := BitVec.ofNat 32 (i 1).val
  let v492 : BitVec 32 := Scalar.subi arg1 c0_i32_155
  let c1_i32_156 : BitVec 32 := 1#32
  let v494 : BitVec 32 := Scalar.divsi v492 c1_i32_156
  let v495 : BitVec 32 := Scalar.muli v494 c1_i32_156
  let v496 : BitVec 32 := Scalar.addi c0_i32_155 v495
  let v493 : BitVec 32 := Scalar.addi c0_i32_155 v492
  let c1_i32_158 : BitVec 32 := 1#32
  ⟨v496, v493, c1_i32_158⟩
def k0_off24 (i : grid0.Coords) (k0_t4 : Fin (k0_t4_loop i).trips) : Fin 3 → Nat :=
  let c0_i32_155 : BitVec 32 := 0#32
  let arg1 : BitVec 32 := BitVec.ofNat 32 (i 1).val
  let v492 : BitVec 32 := Scalar.subi arg1 c0_i32_155
  let c1_i32_156 : BitVec 32 := 1#32
  let v494 : BitVec 32 := Scalar.divsi v492 c1_i32_156
  let v495 : BitVec 32 := Scalar.muli v494 c1_i32_156
  let v496 : BitVec 32 := Scalar.addi c0_i32_155 v495
  let c1_i32_158 : BitVec 32 := 1#32
  let arg24 : BitVec 32 := Scf.iv v496 c1_i32_158 k0_t4
  let v637 : Index := Scalar.indexCast arg24
  let c0_233 : Index := 0#32
  let c0_234 : Index := 0#32
  ![v637.toNat, 0, 0]
def k0_off25 (i : grid0.Coords) (k0_t4 : Fin (k0_t4_loop i).trips) : Fin 2 → Nat :=
  let c0_i32_155 : BitVec 32 := 0#32
  let arg1 : BitVec 32 := BitVec.ofNat 32 (i 1).val
  let v492 : BitVec 32 := Scalar.subi arg1 c0_i32_155
  let c1_i32_156 : BitVec 32 := 1#32
  let v494 : BitVec 32 := Scalar.divsi v492 c1_i32_156
  let v495 : BitVec 32 := Scalar.muli v494 c1_i32_156
  let v496 : BitVec 32 := Scalar.addi c0_i32_155 v495
  let c1_i32_158 : BitVec 32 := 1#32
  let arg24 : BitVec 32 := Scf.iv v496 c1_i32_158 k0_t4
  let v642 : Index := Scalar.indexCast arg24
  let c0_238 : Index := 0#32
  ![v642.toNat, 0]
def k0_off26 (i : grid0.Coords) (k0_t4 : Fin (k0_t4_loop i).trips) : Fin 3 → Nat :=
  let c0_i32_155 : BitVec 32 := 0#32
  let arg1 : BitVec 32 := BitVec.ofNat 32 (i 1).val
  let v492 : BitVec 32 := Scalar.subi arg1 c0_i32_155
  let c1_i32_156 : BitVec 32 := 1#32
  let v494 : BitVec 32 := Scalar.divsi v492 c1_i32_156
  let v495 : BitVec 32 := Scalar.muli v494 c1_i32_156
  let v496 : BitVec 32 := Scalar.addi c0_i32_155 v495
  let c1_i32_158 : BitVec 32 := 1#32
  let arg24 : BitVec 32 := Scf.iv v496 c1_i32_158 k0_t4
  let v666 : Index := Scalar.indexCast arg24
  let c0_249 : Index := 0#32
  let c0_250 : Index := 0#32
  ![v666.toNat, 0, 0]
def k0_off27 (i : grid0.Coords) (k0_t4 : Fin (k0_t4_loop i).trips) : Fin 3 → Nat :=
  let c0_i32_155 : BitVec 32 := 0#32
  let arg1 : BitVec 32 := BitVec.ofNat 32 (i 1).val
  let v492 : BitVec 32 := Scalar.subi arg1 c0_i32_155
  let c1_i32_156 : BitVec 32 := 1#32
  let v494 : BitVec 32 := Scalar.divsi v492 c1_i32_156
  let v495 : BitVec 32 := Scalar.muli v494 c1_i32_156
  let v496 : BitVec 32 := Scalar.addi c0_i32_155 v495
  let c1_i32_158 : BitVec 32 := 1#32
  let arg24 : BitVec 32 := Scf.iv v496 c1_i32_158 k0_t4
  let v679 : Index := Scalar.indexCast arg24
  let c0_257 : Index := 0#32
  let c256_258 : Index := 256#32
  ![v679.toNat, 0, 256]
def k0_off28 (i : grid0.Coords) (k0_t4 : Fin (k0_t4_loop i).trips) : Fin 2 → Nat :=
  let c0_i32_155 : BitVec 32 := 0#32
  let arg1 : BitVec 32 := BitVec.ofNat 32 (i 1).val
  let v492 : BitVec 32 := Scalar.subi arg1 c0_i32_155
  let c1_i32_156 : BitVec 32 := 1#32
  let v494 : BitVec 32 := Scalar.divsi v492 c1_i32_156
  let v495 : BitVec 32 := Scalar.muli v494 c1_i32_156
  let v496 : BitVec 32 := Scalar.addi c0_i32_155 v495
  let c1_i32_158 : BitVec 32 := 1#32
  let arg24 : BitVec 32 := Scf.iv v496 c1_i32_158 k0_t4
  let v684 : Index := Scalar.indexCast arg24
  let c512_262 : Index := 512#32
  ![v684.toNat, 512]
def k0_off29 (i : grid0.Coords) (k0_t4 : Fin (k0_t4_loop i).trips) : Fin 3 → Nat :=
  let c0_i32_155 : BitVec 32 := 0#32
  let arg1 : BitVec 32 := BitVec.ofNat 32 (i 1).val
  let v492 : BitVec 32 := Scalar.subi arg1 c0_i32_155
  let c1_i32_156 : BitVec 32 := 1#32
  let v494 : BitVec 32 := Scalar.divsi v492 c1_i32_156
  let v495 : BitVec 32 := Scalar.muli v494 c1_i32_156
  let v496 : BitVec 32 := Scalar.addi c0_i32_155 v495
  let c1_i32_158 : BitVec 32 := 1#32
  let arg24 : BitVec 32 := Scf.iv v496 c1_i32_158 k0_t4
  let v708 : Index := Scalar.indexCast arg24
  let c256_273 : Index := 256#32
  let c0_274 : Index := 0#32
  ![v708.toNat, 256, 0]
def k0_off30 (i : grid0.Coords) : Fin 3 → Nat :=
  let arg1 : BitVec 32 := BitVec.ofNat 32 (i 1).val
  let v528 : Index := Scalar.indexCast arg1
  let c0_176 : Index := 0#32
  let c0_177 : Index := 0#32
  ![v528.toNat, 0, 0]
def k0_off31 (i : grid0.Coords) : Fin 3 → Nat :=
  let arg1 : BitVec 32 := BitVec.ofNat 32 (i 1).val
  let v572 : Index := Scalar.indexCast arg1
  let c256_201 : Index := 256#32
  let c0_202 : Index := 0#32
  ![v572.toNat, 256, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x512 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x32x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S8x4096x2048 : Shape := ⟨3, ![8, 4096, 2048]⟩
abbrev S8x4096x512 : Shape := ⟨3, ![8, 4096, 512]⟩
abbrev S8x32x8 : Shape := ⟨3, ![8, 32, 8]⟩
abbrev S8x32x2 : Shape := ⟨3, ![8, 32, 2]⟩
abbrev S8x32x128x8x256 : Shape := ⟨5, ![8, 32, 128, 8, 256]⟩
abbrev S8x32x1x8x1 : Shape := ⟨5, ![8, 32, 1, 8, 1]⟩
abbrev S8x32x128x2x256 : Shape := ⟨5, ![8, 32, 128, 2, 256]⟩
abbrev S8x32x1x2x1 : Shape := ⟨5, ![8, 32, 1, 2, 1]⟩
abbrev S8x32x128x2x4x256 : Shape := ⟨6, ![8, 32, 128, 2, 4, 256]⟩
abbrev S8x2x32x128x32x128x4 : Shape := ⟨7, ![8, 2, 32, 128, 32, 128, 4]⟩
abbrev S8x2x4x32x128x32x128 : Shape := ⟨7, ![8, 2, 4, 32, 128, 32, 128]⟩
abbrev S8x32x2x4 : Shape := ⟨4, ![8, 32, 2, 4]⟩
abbrev S8x2x4x32 : Shape := ⟨4, ![8, 2, 4, 32]⟩
abbrev S8x2x4x32x1x1x1 : Shape := ⟨7, ![8, 2, 4, 32, 1, 1, 1]⟩
abbrev S8x2x32 : Shape := ⟨3, ![8, 2, 32]⟩
abbrev S8x2x1x1x1x32x1 : Shape := ⟨7, ![8, 2, 1, 1, 1, 32, 1]⟩
abbrev S8x2x4x32x1x32x1 : Shape := ⟨7, ![8, 2, 4, 32, 1, 32, 1]⟩
abbrev S32x128x32x128 : Shape := ⟨4, ![32, 128, 32, 128]⟩
abbrev S1x1x1x32x128x32x128 : Shape := ⟨7, ![1, 1, 1, 32, 128, 32, 128]⟩
abbrev S8x2x4x32x128 : Shape := ⟨5, ![8, 2, 4, 32, 128]⟩
abbrev S8x2x4x32x128x1x1 : Shape := ⟨7, ![8, 2, 4, 32, 128, 1, 1]⟩
abbrev S8x2x4x32x32 : Shape := ⟨5, ![8, 2, 4, 32, 32]⟩
abbrev S8x2x32x256x4x32x128 : Shape := ⟨7, ![8, 2, 32, 256, 4, 32, 128]⟩
abbrev S8x2x4x32x128x32x256 : Shape := ⟨7, ![8, 2, 4, 32, 128, 32, 256]⟩
abbrev S8x2x4x32x128x256 : Shape := ⟨6, ![8, 2, 4, 32, 128, 256]⟩
abbrev S8x2x4x32x128x1 : Shape := ⟨6, ![8, 2, 4, 32, 128, 1]⟩

abbrev nBuf : Space → Nat
  | .hbm => 10
  | .vmem => 10
  | .smem => 0
  | _ => 0

abbrev bufTy : (tb : Table) → Fin (tcTables nBuf tb) → BufTy
  | .hbm, ⟨0, _⟩ => ⟨S8x4096x2048, .bf16⟩
  | .hbm, ⟨1, _⟩ => ⟨S8x4096x512, .bf16⟩
  | .hbm, ⟨2, _⟩ => ⟨S8x4096x512, .bf16⟩
  | .hbm, ⟨3, _⟩ => ⟨S8x4096x2048, .bf16⟩
  | .hbm, ⟨4, _⟩ => ⟨S8x4096x2048, .fp8e4m3⟩
  | .hbm, ⟨5, _⟩ => ⟨S8x32x8, .f32⟩
  | .hbm, ⟨6, _⟩ => ⟨S8x4096x512, .fp8e4m3⟩
  | .hbm, ⟨7, _⟩ => ⟨S8x32x2, .f32⟩
  | .hbm, ⟨8, _⟩ => ⟨S8x4096x512, .fp8e4m3⟩
  | .hbm, ⟨9, _⟩ => ⟨S8x32x2, .f32⟩
  | .local _ .vmem, ⟨0, _⟩ => ⟨S8x4096x2048, .bf16⟩
  | .local _ .vmem, ⟨1, _⟩ => ⟨S8x4096x512, .bf16⟩
  | .local _ .vmem, ⟨2, _⟩ => ⟨S8x4096x512, .bf16⟩
  | .local _ .vmem, ⟨3, _⟩ => ⟨S8x4096x2048, .bf16⟩
  | .local _ .vmem, ⟨4, _⟩ => ⟨S8x4096x2048, .fp8e4m3⟩
  | .local _ .vmem, ⟨5, _⟩ => ⟨S8x32x8, .f32⟩
  | .local _ .vmem, ⟨6, _⟩ => ⟨S8x4096x512, .fp8e4m3⟩
  | .local _ .vmem, ⟨7, _⟩ => ⟨S8x32x2, .f32⟩
  | .local _ .vmem, ⟨8, _⟩ => ⟨S8x4096x512, .fp8e4m3⟩
  | .local _ .vmem, ⟨9, _⟩ => ⟨S8x32x2, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8x4096x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x4096x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x4096x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x32x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x4096x512 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x32x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x4096x512 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x32x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelSafe.lean ====
module

public import proofs.«01_k».proof.Proof.Gen.Kernel.Frame
public import proofs.«01_k».proof.Proof.Gen.Kernel.Loops
public import Idealize.ShloMosaic.Lib.Pipeline.Frame
public import Idealize.ShloMosaic.Lib.Tactic

@[expose] public section

set_option maxRecDepth 16384

noncomputable section

namespace Cert.Kernel.Safe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F] [∀ e, Nonempty (Elt F e)]

local notation "𝕄" => MT nD τ sig Unit (Elt F) ℕ (UR sig nD τ) ℕ

/-- The body from any contents: it runs to its return, the three input blocks as they were, every other buffer at some contents. -/
theorem kernelRun (c : Dev nD) (i : grid0.Coords) (arg2 : Memref sig .tc .vmem S1x128x2048 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x128x2048 .bf16) (harg5 : arg5.IsWhole) (arg6 : Memref sig .tc .vmem S1x128x2048 .fp8e4m3) (harg6 : arg6.IsWhole) (arg7 : Memref sig .tc .vmem S1x32x8 .f32) (harg7 : arg7.IsWhole) (arg8 : Memref sig .tc .vmem S1x128x512 .fp8e4m3) (harg8 : arg8.IsWhole) (arg9 : Memref sig .tc .vmem S1x32x2 .f32) (harg9 : arg9.IsWhole) (arg10 : Memref sig .tc .vmem S1x128x512 .fp8e4m3) (harg10 : arg10.IsWhole) (arg11 : Memref sig .tc .vmem S1x32x2 .f32) (harg11 : arg11.IsWhole) (arg12 : Memref sig .tc .vmem S1024x256 .fp8e4m3) (harg12 : arg12.IsWhole) (arg13 : Memref sig .tc .vmem S32x128x512 .fp8e4m3) (harg13 : arg13.IsWhole) (arg14 : Memref sig .tc .vmem S32x512x128 .fp8e4m3) (harg14 : arg14.IsWhole) (arg15 : Memref sig .tc .vmem S32x1024 .f32) (harg15 : arg15.IsWhole) (arg16 : Memref sig .tc .vmem S32x1024 .f32) (harg16 : arg16.IsWhole) (arg17 : Memref sig .tc .vmem S32x1024 .f32) (harg17 : arg17.IsWhole) (arg18 : Memref sig .tc .vmem S32x1024 .f32) (harg18 : arg18.IsWhole) (arg19 : Memref sig .tc .vmem S32x1024 .f32) (harg19 : arg19.IsWhole) (arg20 : Memref sig .tc .vmem S32x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S256x1024 .f32) (harg23 : arg23.IsWhole) (X2 : S1x128x2048.Idx → Elt F .bf16) (X3 : S1x128x512.Idx → Elt F .bf16) (X4 : S1x128x512.Idx → Elt F .bf16) (K : PUnit → sProp 𝕄) :
    iprop(owns (c : Thread nD τ) arg2 fullShare X2 ∗ owns (c : Thread nD τ) arg3 fullShare X3 ∗ owns (c : Thread nD τ) arg4 fullShare X4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg2 fullShare X2 ∗ owns (c : Thread nD τ) arg3 fullShare X3 ∗ owns (c : Thread nD τ) arg4 fullShare X4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
      ⊢ wp frame (wpE (defs₀ (F := F)) Variants.none (c : Thread nD τ) none) Set.univ
          (cc0_swa_gqa_fp8_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_swa_gqa_fp8_attention_eq_skeleton]; unfold cc0_swa_gqa_fp8_attention_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  by_cases hc : Scalar.cmpi .ne (Scalar.extui (Scalar.cmpi .eq (BitVec.ofNat 32 (i 1).val) 0#32) : BitVec 32) 0#32 = 1#1
  · sl_exec (disch := sl_exact hc)
    sl_step
    iapply Hk
    isplitl [H2]
    · iexists _; isplitr; swap
      · iexact H2
      · ipureintro; exact hf2
    isplitl [H3]
    · iexists _; isplitr; swap
      · iexact H3
      · ipureintro; exact hf3
    isplitl [H4]
    · iexists _; isplitr; swap
      · iexact H4
      · ipureintro; exact hf4
    isplitl [H5]
    · iexists _, _; isplitr; swap
      · iexact H5
      · ipureintro; rfl
    isplitl [H6]
    · iexists _, _; isplitr; swap
      · iexact H6
      · ipureintro; rfl
    isplitl [H7]
    · iexists _, _; isplitr; swap
      · iexact H7
      · ipureintro; rfl
    isplitl [H8]
    · iexists _, _; isplitr; swap
      · iexact H8
      · ipureintro; rfl
    isplitl [H9]
    · iexists _, _; isplitr; swap
      · iexact H9
      · ipureintro; rfl
    isplitl [H10]
    · iexists _, _; isplitr; swap
      · iexact H10
      · ipureintro; rfl
    isplitl [H11]
    · iexists _, _; isplitr; swap
      · iexact H11
      · ipureintro; rfl
    isplitl [H12]
    · iexists _, _; isplitr; swap
      · iexact H12
      · ipureintro; rfl
    isplitl [H13]
    · iexists _, _; isplitr; swap
      · iexact H13
      · ipureintro; rfl
    isplitl [H14]
    · iexists _, _; isplitr; swap
      · iexact H14
      · ipureintro; rfl
    isplitl [H15]
    · iexists _, _; isplitr; swap
      · iexact H15
      · ipureintro; rfl
    isplitl [H16]
    · iexists _, _; isplitr; swap
      · iexact H16
      · ipureintro; rfl
    isplitl [H17]
    · iexists _, _; isplitr; swap
      · iexact H17
      · ipureintro; rfl
    isplitl [H18]
    · iexists _, _; isplitr; swap
      · iexact H18
      · ipureintro; rfl
    isplitl [H19]
    · iexists _, _; isplitr; swap
      · iexact H19
      · ipureintro; rfl
    isplitl [H20]
    · iexists _, _; isplitr; swap
      · iexact H20
      · ipureintro; rfl
    isplitl [H21]
    · iexists _, _; isplitr; swap
      · iexact H21
      · ipureintro; rfl
    isplitl [H22]
    · iexists _, _; isplitr; swap
      · iexact H22
      · ipureintro; rfl
    iexists _, _; isplitr; swap
    · iexact H23
    · ipureintro; rfl
  · sl_exec (disch := sl_exact hc)
    sl_step
    iapply Hk
    isplitl [H2]
    · iexists _; isplitr; swap
      · iexact H2
      · ipureintro; exact hf2
    isplitl [H3]
    · iexists _; isplitr; swap
      · iexact H3
      · ipureintro; exact hf3
    isplitl [H4]
    · iexists _; isplitr; swap
      · iexact H4
      · ipureintro; exact hf4
    isplitl [H5]
    · iexists _, _; isplitr; swap
      · iexact H5
      · ipureintro; rfl
    isplitl [H6]
    · iexists _, _; isplitr; swap
      · iexact H6
      · ipureintro; rfl
    isplitl [H7]
    · iexists _, _; isplitr; swap
      · iexact H7
      · ipureintro; rfl
    isplitl [H8]
    · iexists _, _; isplitr; swap
      · iexact H8
      · ipureintro; rfl
    isplitl [H9]
    · iexists _, _; isplitr; swap
      · iexact H9
      · ipureintro; rfl
    isplitl [H10]
    · iexists _, _; isplitr; swap
      · iexact H10
      · ipureintro; rfl
    isplitl [H11]
    · iexists _, _; isplitr; swap
      · iexact H11
      · ipureintro; rfl
    isplitl [H12]
    · iexists _, _; isplitr; swap
      · iexact H12
      · ipureintro; rfl
    isplitl [H13]
    · iexists _, _; isplitr; swap
      · iexact H13
      · ipureintro; rfl
    isplitl [H14]
    · iexists _, _; isplitr; swap
      · iexact H14
      · ipureintro; rfl
    isplitl [H15]
    · iexists _, _; isplitr; swap
      · iexact H15
      · ipureintro; rfl
    isplitl [H16]
    · iexists _, _; isplitr; swap
      · iexact H16
      · ipureintro; rfl
    isplitl [H17]
    · iexists _, _; isplitr; swap
      · iexact H17
      · ipureintro; rfl
    isplitl [H18]
    · iexists _, _; isplitr; swap
      · iexact H18
      · ipureintro; rfl
    isplitl [H19]
    · iexists _, _; isplitr; swap
      · iexact H19
      · ipureintro; rfl
    isplitl [H20]
    · iexists _, _; isplitr; swap
      · iexact H20
      · ipureintro; rfl
    isplitl [H21]
    · iexists _, _; isplitr; swap
      · iexact H21
      · ipureintro; rfl
    isplitl [H22]
    · iexists _, _; isplitr; swap
      · iexact H22
      · ipureintro; rfl
    iexists _, _; isplitr; swap
    · iexact H23
    · ipureintro; rfl

end Cert.Kernel.Safe

end
-- ==== Proof.KernelSafeRun.lean ====
module

public import proofs.«01_k».proof.Proof.KernelSafe
public import Idealize.ShloMosaic.Lib.Pipeline.FrameBody

@[expose] public section

set_option maxRecDepth 16384

noncomputable section

namespace Cert.Kernel.Safe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The invariant the pipeline carries: every scratch buffer at some contents, and the core's random state. -/
theorem PhiA0_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d) ∗ (∃ d, owns (c : Thread nD τ) (Memref.whole cc0_scratch11) fullShare d)) ∗ (∃ r, prngReg c r)) := by
  rw [Pipeline.ΦA, scopedRest0_eq]; simp only [owns_whole]; try rfl

/-- The proof data of the frame: nothing is said of what the body leaves in a block. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- What the body is called with at point `t`. -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc ∗ owns (c : Thread nD τ) (win0_0.stage (cfg0.slots t 0)) fullShare (Y 0) ∗ owns (c : Thread nD τ) (win0_1.stage (cfg0.slots t 1)) fullShare (Y 1) ∗ owns (c : Thread nD τ) (win0_2.stage (cfg0.slots t 2)) fullShare (Y 2) ∗ owns (c : Thread nD τ) (win0_3.stage (cfg0.slots t 3)) fullShare (Y 3) ∗ owns (c : Thread nD τ) (win0_4.stage (cfg0.slots t 4)) fullShare (Y 4) ∗ owns (c : Thread nD τ) (win0_5.stage (cfg0.slots t 5)) fullShare (Y 5) ∗ owns (c : Thread nD τ) (win0_6.stage (cfg0.slots t 6)) fullShare (Y 6) ∗ owns (c : Thread nD τ) (win0_7.stage (cfg0.slots t 7)) fullShare (Y 7) ∗ owns (c : Thread nD τ) (win0_8.stage (cfg0.slots t 8)) fullShare (Y 8) ∗ owns (c : Thread nD τ) (win0_9.stage (cfg0.slots t 9)) fullShare (Y 9))

/-- What it returns. -/
def bodyPost (c : Dev nD) (t : Fin cfg0.N) : sProp 𝕄 :=
  iprop((rdat m c).Φ t.succ ∗ (rdat m c).owesAt () t.succ ∗ (∃ X, ⌜True⌝ ∗ owns (c : Thread nD τ) (win0_0.stage (cfg0.slots t 0)) fullShare X) ∗ (∃ X, ⌜True⌝ ∗ owns (c : Thread nD τ) (win0_1.stage (cfg0.slots t 1)) fullShare X) ∗ (∃ X, ⌜True⌝ ∗ owns (c : Thread nD τ) (win0_2.stage (cfg0.slots t 2)) fullShare X) ∗ (∃ X, ⌜True⌝ ∗ owns (c : Thread nD τ) (win0_3.stage (cfg0.slots t 3)) fullShare X) ∗ (∃ X, ⌜True⌝ ∗ owns (c : Thread nD τ) (win0_4.stage (cfg0.slots t 4)) fullShare X) ∗ (∃ X, ⌜True⌝ ∗ owns (c : Thread nD τ) (win0_5.stage (cfg0.slots t 5)) fullShare X) ∗ (∃ X, ⌜True⌝ ∗ owns (c : Thread nD τ) (win0_6.stage (cfg0.slots t 6)) fullShare X) ∗ (∃ X, ⌜True⌝ ∗ owns (c : Thread nD τ) (win0_7.stage (cfg0.slots t 7)) fullShare X) ∗ (∃ X, ⌜True⌝ ∗ owns (c : Thread nD τ) (win0_8.stage (cfg0.slots t 8)) fullShare X) ∗ (∃ X, ⌜True⌝ ∗ owns (c : Thread nD τ) (win0_9.stage (cfg0.slots t 9)) fullShare X))

theorem sound_body (c : Dev nD) (t : Fin cfg0.N) (Y : (w : Fin cfg0.W) → (cfg0.win w).block.Idx → Elt F (cfg0.win w).elt) :
    bodyPre m c t Y ⊢ wp frame (wpE (defs₀ (F := F)) Variants.none (c : Thread nD τ) none) Set.univ (bodyAt0 t) (fun _ => bodyPost m c t) := by
  unfold bodyPre bodyPost bodyAt0
  rw [show (rdat m c).Φ t.succ = Pipeline.ΦA spec0 c from rfl,
    show (rdat m c).owesAt () t.succ = (rdat m c).owesAt () t.castSucc from rfl,
    show (rdat m c).Φ t.castSucc = Pipeline.ΦA spec0 c from rfl, PhiA0_eq]
  iintro ⟨⟨⟨HS0, HS1, HS2, HS3, HS4, HS5, HS6, HS7, HS8, HS9, HS10, HS11⟩, Hg⟩, HO, HW0, HW1, HW2, HW3, HW4, HW5, HW6, HW7, HW8, HW9⟩
  iapply (kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Y 0) (Y 1) (Y 2) _)
  isplitl [HW0]
  · iexact HW0
  isplitl [HW1]
  · iexact HW1
  isplitl [HW2]
  · iexact HW2
  isplitl [HW3]
  · iexists _; iexact HW3
  isplitl [HW4]
  · iexists _; iexact HW4
  isplitl [HW5]
  · iexists _; iexact HW5
  isplitl [HW6]
  · iexists _; iexact HW6
  isplitl [HW7]
  · iexists _; iexact HW7
  isplitl [HW8]
  · iexists _; iexact HW8
  isplitl [HW9]
  · iexists _; iexact HW9
  isplitl [HS0]
  · iexact HS0
  isplitl [HS1]
  · iexact HS1
  isplitl [HS2]
  · iexact HS2
  isplitl [HS3]
  · iexact HS3
  isplitl [HS4]
  · iexact HS4
  isplitl [HS5]
  · iexact HS5
  isplitl [HS6]
  · iexact HS6
  isplitl [HS7]
  · iexact HS7
  isplitl [HS8]
  · iexact HS8
  isplitl [HS9]
  · iexact HS9
  isplitl [HS10]
  · iexact HS10
  isplitl [HS11]
  · iexact HS11
  iintro ⟨HW0, HW1, HW2, HW3, HW4, HW5, HW6, HW7, HW8, HW9, HS0, HS1, HS2, HS3, HS4, HS5, HS6, HS7, HS8, HS9, HS10, HS11⟩
  isplitl [HS0 HS1 HS2 HS3 HS4 HS5 HS6 HS7 HS8 HS9 HS10 HS11 Hg]
  · isplitl [HS0 HS1 HS2 HS3 HS4 HS5 HS6 HS7 HS8 HS9 HS10 HS11]
    · isplitl [HS0]
      · iexact HS0
      isplitl [HS1]
      · iexact HS1
      isplitl [HS2]
      · iexact HS2
      isplitl [HS3]
      · iexact HS3
      isplitl [HS4]
      · iexact HS4
      isplitl [HS5]
      · iexact HS5
      isplitl [HS6]
      · iexact HS6
      isplitl [HS7]
      · iexact HS7
      isplitl [HS8]
      · iexact HS8
      isplitl [HS9]
      · iexact HS9
      isplitl [HS10]
      · iexact HS10
      iexact HS11
    iexact Hg
  isplitl [HO]
  · iexact HO
  isplitl [HW0]
  · iexists _; isplitr; · (ipureintro; trivial)
    iexact HW0
  isplitl [HW1]
  · iexists _; isplitr; · (ipureintro; trivial)
    iexact HW1
  isplitl [HW2]
  · iexists _; isplitr; · (ipureintro; trivial)
    iexact HW2
  isplitl [HW3]
  · icases HW3 with ⟨%d3, HW3⟩
    iexists _; isplitr; · (ipureintro; trivial)
    iexact HW3
  isplitl [HW4]
  · icases HW4 with ⟨%d4, HW4⟩
    iexists _; isplitr; · (ipureintro; trivial)
    iexact HW4
  isplitl [HW5]
  · icases HW5 with ⟨%d5, HW5⟩
    iexists _; isplitr; · (ipureintro; trivial)
    iexact HW5
  isplitl [HW6]
  · icases HW6 with ⟨%d6, HW6⟩
    iexists _; isplitr; · (ipureintro; trivial)
    iexact HW6
  isplitl [HW7]
  · icases HW7 with ⟨%d7, HW7⟩
    iexists _; isplitr; · (ipureintro; trivial)
    iexact HW7
  isplitl [HW8]
  · icases HW8 with ⟨%d8, HW8⟩
    iexists _; isplitr; · (ipureintro; trivial)
    iexact HW8
  icases HW9 with ⟨%d9, HW9⟩
  iexists _; isplitr; · (ipureintro; trivial)
  iexact HW9

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y _ => by
  rw [bigSep_W0, bigSep_W0, defs₀_row]
  exact triple_restated (sound_body m c t Y) rfl .rfl fun _ => .rfl

set_option backward.isDefEq.respectTransparency.types false in
/-- From any memory with zero counters every execution of @main ends, its arguments unchanged and every counter at zero. -/
theorem run_main :
    θ_run defs (onTc (τ := τ) (main (F := F))) (s₀ m ρ)
      (fun r => Pipeline.RDat.FramePost (cfgs 0) (rdat m) (V m) r ∧ r.2.sem = fun _ => 0) :=
  Pipeline.RDat.θ_run_frame_track cfgs (0 : Fin 1) launch0 defs₀ Variants.none (rdat m) m ρ main
    (body_obligation m) (fun c w => by unfold RDat.share; split <;> rfl)
    (fun _ _ => rfl) (V m) (hmain m Variants.none) (fun _ _ => rfl)
    (fun _ => .rfl) (fun _ => .rfl) (Q' := fun r => Pipeline.RDat.FramePost (cfgs 0) (rdat m) (V m) r ∧ r.2.sem = fun _ => 0)
    (hQ' := fun _ h => h)

/-- The frame: @main runs, its arguments end as they were, and every counter ends at zero. -/
theorem quiescent :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨h.1.arr_in c 0 rfl, h.1.arr_in c 1 rfl, h.1.arr_in c 2 rfl⟩, h.2⟩) (run_main m ρ)

end Cert.Kernel.Safe

end
-- ==== Proof.Safe.lean ====
module

public import proofs.«01_k».proof.Proof.Gen.KernelIdeal.Frame
public import proofs.«01_k».proof.Proof.Gen.KernelIdeal.Loops
public import Idealize.ShloMosaic.Lib.Pipeline.Frame
public import Idealize.ShloMosaic.Lib.Tactic

@[expose] public section

set_option maxRecDepth 16384

noncomputable section

namespace Cert.KernelIdeal.Safe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F] [∀ e, Nonempty (Elt F e)]

local notation "𝕄" => MT nD τ sig Unit (Elt F) ℕ (UR sig nD τ) ℕ

/-- The body from any contents: it runs to its return, the three input blocks as they were, every other buffer at some contents. -/
theorem kernelRun (c : Dev nD) (i : grid0.Coords) (arg2 : Memref sig .tc .vmem S1x128x2048 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x128x2048 .bf16) (harg5 : arg5.IsWhole) (arg6 : Memref sig .tc .vmem S1x128x2048 .fp8e4m3) (harg6 : arg6.IsWhole) (arg7 : Memref sig .tc .vmem S1x32x8 .f32) (harg7 : arg7.IsWhole) (arg8 : Memref sig .tc .vmem S1x128x512 .fp8e4m3) (harg8 : arg8.IsWhole) (arg9 : Memref sig .tc .vmem S1x32x2 .f32) (harg9 : arg9.IsWhole) (arg10 : Memref sig .tc .vmem S1x128x512 .fp8e4m3) (harg10 : arg10.IsWhole) (arg11 : Memref sig .tc .vmem S1x32x2 .f32) (harg11 : arg11.IsWhole) (arg12 : Memref sig .tc .vmem S1024x256 .fp8e4m3) (harg12 : arg12.IsWhole) (arg13 : Memref sig .tc .vmem S32x128x512 .fp8e4m3) (harg13 : arg13.IsWhole) (arg14 : Memref sig .tc .vmem S32x512x128 .fp8e4m3) (harg14 : arg14.IsWhole) (arg15 : Memref sig .tc .vmem S32x1024 .f32) (harg15 : arg15.IsWhole) (arg16 : Memref sig .tc .vmem S32x1024 .f32) (harg16 : arg16.IsWhole) (arg17 : Memref sig .tc .vmem S32x1024 .f32) (harg17 : arg17.IsWhole) (arg18 : Memref sig .tc .vmem S32x1024 .f32) (harg18 : arg18.IsWhole) (arg19 : Memref sig .tc .vmem S32x1024 .f32) (harg19 : arg19.IsWhole) (arg20 : Memref sig .tc .vmem S32x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S256x1024 .f32) (harg23 : arg23.IsWhole) (X2 : S1x128x2048.Idx → Elt F .bf16) (X3 : S1x128x512.Idx → Elt F .bf16) (X4 : S1x128x512.Idx → Elt F .bf16) (K : PUnit → sProp 𝕄) :
    iprop(owns (c : Thread nD τ) arg2 fullShare X2 ∗ owns (c : Thread nD τ) arg3 fullShare X3 ∗ owns (c : Thread nD τ) arg4 fullShare X4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg2 fullShare X2 ∗ owns (c : Thread nD τ) arg3 fullShare X3 ∗ owns (c : Thread nD τ) arg4 fullShare X4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
      ⊢ wp frame (wpE (defs₀ (F := F)) Variants.none (c : Thread nD τ) none) Set.univ
          (cc0_swa_gqa_fp8_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_swa_gqa_fp8_attention_eq_skeleton]; unfold cc0_swa_gqa_fp8_attention_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  by_cases hc : Scalar.cmpi .ne (Scalar.extui (Scalar.cmpi .eq (BitVec.ofNat 32 (i 1).val) 0#32) : BitVec 32) 0#32 = 1#1
  · sl_exec (disch := sl_exact hc)
    sl_step
    iapply Hk
    isplitl [H2]
    · iexists _; isplitr; swap
      · iexact H2
      · ipureintro; exact hf2
    isplitl [H3]
    · iexists _; isplitr; swap
      · iexact H3
      · ipureintro; exact hf3
    isplitl [H4]
    · iexists _; isplitr; swap
      · iexact H4
      · ipureintro; exact hf4
    isplitl [H5]
    · iexists _, _; isplitr; swap
      · iexact H5
      · ipureintro; rfl
    isplitl [H6]
    · iexists _, _; isplitr; swap
      · iexact H6
      · ipureintro; rfl
    isplitl [H7]
    · iexists _, _; isplitr; swap
      · iexact H7
      · ipureintro; rfl
    isplitl [H8]
    · iexists _, _; isplitr; swap
      · iexact H8
      · ipureintro; rfl
    isplitl [H9]
    · iexists _, _; isplitr; swap
      · iexact H9
      · ipureintro; rfl
    isplitl [H10]
    · iexists _, _; isplitr; swap
      · iexact H10
      · ipureintro; rfl
    isplitl [H11]
    · iexists _, _; isplitr; swap
      · iexact H11
      · ipureintro; rfl
    isplitl [H12]
    · iexists _, _; isplitr; swap
      · iexact H12
      · ipureintro; rfl
    isplitl [H13]
    · iexists _, _; isplitr; swap
      · iexact H13
      · ipureintro; rfl
    isplitl [H14]
    · iexists _, _; isplitr; swap
      · iexact H14
      · ipureintro; rfl
    isplitl [H15]
    · iexists _, _; isplitr; swap
      · iexact H15
      · ipureintro; rfl
    isplitl [H16]
    · iexists _, _; isplitr; swap
      · iexact H16
      · ipureintro; rfl
    isplitl [H17]
    · iexists _, _; isplitr; swap
      · iexact H17
      · ipureintro; rfl
    isplitl [H18]
    · iexists _, _; isplitr; swap
      · iexact H18
      · ipureintro; rfl
    isplitl [H19]
    · iexists _, _; isplitr; swap
      · iexact H19
      · ipureintro; rfl
    isplitl [H20]
    · iexists _, _; isplitr; swap
      · iexact H20
      · ipureintro; rfl
    isplitl [H21]
    · iexists _, _; isplitr; swap
      · iexact H21
      · ipureintro; rfl
    isplitl [H22]
    · iexists _, _; isplitr; swap
      · iexact H22
      · ipureintro; rfl
    iexists _, _; isplitr; swap
    · iexact H23
    · ipureintro; rfl
  · sl_exec (disch := sl_exact hc)
    sl_step
    iapply Hk
    isplitl [H2]
    · iexists _; isplitr; swap
      · iexact H2
      · ipureintro; exact hf2
    isplitl [H3]
    · iexists _; isplitr; swap
      · iexact H3
      · ipureintro; exact hf3
    isplitl [H4]
    · iexists _; isplitr; swap
      · iexact H4
      · ipureintro; exact hf4
    isplitl [H5]
    · iexists _, _; isplitr; swap
      · iexact H5
      · ipureintro; rfl
    isplitl [H6]
    · iexists _, _; isplitr; swap
      · iexact H6
      · ipureintro; rfl
    isplitl [H7]
    · iexists _, _; isplitr; swap
      · iexact H7
      · ipureintro; rfl
    isplitl [H8]
    · iexists _, _; isplitr; swap
      · iexact H8
      · ipureintro; rfl
    isplitl [H9]
    · iexists _, _; isplitr; swap
      · iexact H9
      · ipureintro; rfl
    isplitl [H10]
    · iexists _, _; isplitr; swap
      · iexact H10
      · ipureintro; rfl
    isplitl [H11]
    · iexists _, _; isplitr; swap
      · iexact H11
      · ipureintro; rfl
    isplitl [H12]
    · iexists _, _; isplitr; swap
      · iexact H12
      · ipureintro; rfl
    isplitl [H13]
    · iexists _, _; isplitr; swap
      · iexact H13
      · ipureintro; rfl
    isplitl [H14]
    · iexists _, _; isplitr; swap
      · iexact H14
      · ipureintro; rfl
    isplitl [H15]
    · iexists _, _; isplitr; swap
      · iexact H15
      · ipureintro; rfl
    isplitl [H16]
    · iexists _, _; isplitr; swap
      · iexact H16
      · ipureintro; rfl
    isplitl [H17]
    · iexists _, _; isplitr; swap
      · iexact H17
      · ipureintro; rfl
    isplitl [H18]
    · iexists _, _; isplitr; swap
      · iexact H18
      · ipureintro; rfl
    isplitl [H19]
    · iexists _, _; isplitr; swap
      · iexact H19
      · ipureintro; rfl
    isplitl [H20]
    · iexists _, _; isplitr; swap
      · iexact H20
      · ipureintro; rfl
    isplitl [H21]
    · iexists _, _; isplitr; swap
      · iexact H21
      · ipureintro; rfl
    isplitl [H22]
    · iexists _, _; isplitr; swap
      · iexact H22
      · ipureintro; rfl
    iexists _, _; isplitr; swap
    · iexact H23
    · ipureintro; rfl

end Cert.KernelIdeal.Safe

end
-- ==== Proof.SafeRun.lean ====
module

public import proofs.«01_k».proof.Proof.Safe
public import Idealize.ShloMosaic.Lib.Pipeline.FrameBody

@[expose] public section

set_option maxRecDepth 16384

noncomputable section

namespace Cert.KernelIdeal.Safe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The invariant the pipeline carries: every scratch buffer at some contents, and the core's random state. -/
theorem PhiA0_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d) ∗ (∃ d, owns (c : Thread nD τ) (Memref.whole cc0_scratch11) fullShare d)) ∗ (∃ r, prngReg c r)) := by
  rw [Pipeline.ΦA, scopedRest0_eq]; simp only [owns_whole]; try rfl

/-- The proof data of the frame: nothing is said of what the body leaves in a block. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- What the body is called with at point `t`. -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc ∗ owns (c : Thread nD τ) (win0_0.stage (cfg0.slots t 0)) fullShare (Y 0) ∗ owns (c : Thread nD τ) (win0_1.stage (cfg0.slots t 1)) fullShare (Y 1) ∗ owns (c : Thread nD τ) (win0_2.stage (cfg0.slots t 2)) fullShare (Y 2) ∗ owns (c : Thread nD τ) (win0_3.stage (cfg0.slots t 3)) fullShare (Y 3) ∗ owns (c : Thread nD τ) (win0_4.stage (cfg0.slots t 4)) fullShare (Y 4) ∗ owns (c : Thread nD τ) (win0_5.stage (cfg0.slots t 5)) fullShare (Y 5) ∗ owns (c : Thread nD τ) (win0_6.stage (cfg0.slots t 6)) fullShare (Y 6) ∗ owns (c : Thread nD τ) (win0_7.stage (cfg0.slots t 7)) fullShare (Y 7) ∗ owns (c : Thread nD τ) (win0_8.stage (cfg0.slots t 8)) fullShare (Y 8) ∗ owns (c : Thread nD τ) (win0_9.stage (cfg0.slots t 9)) fullShare (Y 9))

/-- What it returns. -/
def bodyPost (c : Dev nD) (t : Fin cfg0.N) : sProp 𝕄 :=
  iprop((rdat m c).Φ t.succ ∗ (rdat m c).owesAt () t.succ ∗ (∃ X, ⌜True⌝ ∗ owns (c : Thread nD τ) (win0_0.stage (cfg0.slots t 0)) fullShare X) ∗ (∃ X, ⌜True⌝ ∗ owns (c : Thread nD τ) (win0_1.stage (cfg0.slots t 1)) fullShare X) ∗ (∃ X, ⌜True⌝ ∗ owns (c : Thread nD τ) (win0_2.stage (cfg0.slots t 2)) fullShare X) ∗ (∃ X, ⌜True⌝ ∗ owns (c : Thread nD τ) (win0_3.stage (cfg0.slots t 3)) fullShare X) ∗ (∃ X, ⌜True⌝ ∗ owns (c : Thread nD τ) (win0_4.stage (cfg0.slots t 4)) fullShare X) ∗ (∃ X, ⌜True⌝ ∗ owns (c : Thread nD τ) (win0_5.stage (cfg0.slots t 5)) fullShare X) ∗ (∃ X, ⌜True⌝ ∗ owns (c : Thread nD τ) (win0_6.stage (cfg0.slots t 6)) fullShare X) ∗ (∃ X, ⌜True⌝ ∗ owns (c : Thread nD τ) (win0_7.stage (cfg0.slots t 7)) fullShare X) ∗ (∃ X, ⌜True⌝ ∗ owns (c : Thread nD τ) (win0_8.stage (cfg0.slots t 8)) fullShare X) ∗ (∃ X, ⌜True⌝ ∗ owns (c : Thread nD τ) (win0_9.stage (cfg0.slots t 9)) fullShare X))

theorem sound_body (c : Dev nD) (t : Fin cfg0.N) (Y : (w : Fin cfg0.W) → (cfg0.win w).block.Idx → Elt F (cfg0.win w).elt) :
    bodyPre m c t Y ⊢ wp frame (wpE (defs₀ (F := F)) Variants.none (c : Thread nD τ) none) Set.univ (bodyAt0 t) (fun _ => bodyPost m c t) := by
  unfold bodyPre bodyPost bodyAt0
  rw [show (rdat m c).Φ t.succ = Pipeline.ΦA spec0 c from rfl,
    show (rdat m c).owesAt () t.succ = (rdat m c).owesAt () t.castSucc from rfl,
    show (rdat m c).Φ t.castSucc = Pipeline.ΦA spec0 c from rfl, PhiA0_eq]
  iintro ⟨⟨⟨HS0, HS1, HS2, HS3, HS4, HS5, HS6, HS7, HS8, HS9, HS10, HS11⟩, Hg⟩, HO, HW0, HW1, HW2, HW3, HW4, HW5, HW6, HW7, HW8, HW9⟩
  iapply (kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Y 0) (Y 1) (Y 2) _)
  isplitl [HW0]
  · iexact HW0
  isplitl [HW1]
  · iexact HW1
  isplitl [HW2]
  · iexact HW2
  isplitl [HW3]
  · iexists _; iexact HW3
  isplitl [HW4]
  · iexists _; iexact HW4
  isplitl [HW5]
  · iexists _; iexact HW5
  isplitl [HW6]
  · iexists _; iexact HW6
  isplitl [HW7]
  · iexists _; iexact HW7
  isplitl [HW8]
  · iexists _; iexact HW8
  isplitl [HW9]
  · iexists _; iexact HW9
  isplitl [HS0]
  · iexact HS0
  isplitl [HS1]
  · iexact HS1
  isplitl [HS2]
  · iexact HS2
  isplitl [HS3]
  · iexact HS3
  isplitl [HS4]
  · iexact HS4
  isplitl [HS5]
  · iexact HS5
  isplitl [HS6]
  · iexact HS6
  isplitl [HS7]
  · iexact HS7
  isplitl [HS8]
  · iexact HS8
  isplitl [HS9]
  · iexact HS9
  isplitl [HS10]
  · iexact HS10
  isplitl [HS11]
  · iexact HS11
  iintro ⟨HW0, HW1, HW2, HW3, HW4, HW5, HW6, HW7, HW8, HW9, HS0, HS1, HS2, HS3, HS4, HS5, HS6, HS7, HS8, HS9, HS10, HS11⟩
  isplitl [HS0 HS1 HS2 HS3 HS4 HS5 HS6 HS7 HS8 HS9 HS10 HS11 Hg]
  · isplitl [HS0 HS1 HS2 HS3 HS4 HS5 HS6 HS7 HS8 HS9 HS10 HS11]
    · isplitl [HS0]
      · iexact HS0
      isplitl [HS1]
      · iexact HS1
      isplitl [HS2]
      · iexact HS2
      isplitl [HS3]
      · iexact HS3
      isplitl [HS4]
      · iexact HS4
      isplitl [HS5]
      · iexact HS5
      isplitl [HS6]
      · iexact HS6
      isplitl [HS7]
      · iexact HS7
      isplitl [HS8]
      · iexact HS8
      isplitl [HS9]
      · iexact HS9
      isplitl [HS10]
      · iexact HS10
      iexact HS11
    iexact Hg
  isplitl [HO]
  · iexact HO
  isplitl [HW0]
  · iexists _; isplitr; · (ipureintro; trivial)
    iexact HW0
  isplitl [HW1]
  · iexists _; isplitr; · (ipureintro; trivial)
    iexact HW1
  isplitl [HW2]
  · iexists _; isplitr; · (ipureintro; trivial)
    iexact HW2
  isplitl [HW3]
  · icases HW3 with ⟨%d3, HW3⟩
    iexists _; isplitr; · (ipureintro; trivial)
    iexact HW3
  isplitl [HW4]
  · icases HW4 with ⟨%d4, HW4⟩
    iexists _; isplitr; · (ipureintro; trivial)
    iexact HW4
  isplitl [HW5]
  · icases HW5 with ⟨%d5, HW5⟩
    iexists _; isplitr; · (ipureintro; trivial)
    iexact HW5
  isplitl [HW6]
  · icases HW6 with ⟨%d6, HW6⟩
    iexists _; isplitr; · (ipureintro; trivial)
    iexact HW6
  isplitl [HW7]
  · icases HW7 with ⟨%d7, HW7⟩
    iexists _; isplitr; · (ipureintro; trivial)
    iexact HW7
  isplitl [HW8]
  · icases HW8 with ⟨%d8, HW8⟩
    iexists _; isplitr; · (ipureintro; trivial)
    iexact HW8
  icases HW9 with ⟨%d9, HW9⟩
  iexists _; isplitr; · (ipureintro; trivial)
  iexact HW9

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y _ => by
  rw [bigSep_W0, bigSep_W0, defs₀_row]
  exact triple_restated (sound_body m c t Y) rfl .rfl fun _ => .rfl

set_option backward.isDefEq.respectTransparency.types false in
/-- From any memory with zero counters every execution of @main ends, its arguments unchanged and every counter at zero. -/
theorem run_main :
    θ_run defs (onTc (τ := τ) (main (F := F))) (s₀ m ρ)
      (fun r => Pipeline.RDat.FramePost (cfgs 0) (rdat m) (V m) r ∧ r.2.sem = fun _ => 0) :=
  Pipeline.RDat.θ_run_frame_track cfgs (0 : Fin 1) launch0 defs₀ Variants.none (rdat m) m ρ main
    (body_obligation m) (fun c w => by unfold RDat.share; split <;> rfl)
    (fun _ _ => rfl) (V m) (hmain m Variants.none) (fun _ _ => rfl)
    (fun _ => .rfl) (fun _ => .rfl) (Q' := fun r => Pipeline.RDat.FramePost (cfgs 0) (rdat m) (V m) r ∧ r.2.sem = fun _ => 0)
    (hQ' := fun _ h => h)

/-- The frame: @main runs, its arguments end as they were, and every counter ends at zero. -/
theorem quiescent :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨h.1.arr_in c 0 rfl, h.1.arr_in c 1 rfl, h.1.arr_in c 2 rfl⟩, h.2⟩) (run_main m ρ)

end Cert.KernelIdeal.Safe

end
-- ==== Proof.Tails.lean ====
module

public import proofs.«01_k».proof.Proof.Gen.KernelIdeal.Skeleton

@[expose] public section

/-! The kernel's body cut into three consecutive stretches: quantising and storing (from part 6), the block maxima and scales
of the probabilities (from part 13), the accumulation (from part 16). -/

set_option maxRecDepth 16384
set_option maxHeartbeats 4000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The body from part 16 on. -/
def tail16 (i : grid0.Coords) (arg2 : Memref sig .tc .vmem S1x128x2048 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x128x2048 .bf16) (harg5 : arg5.IsWhole) (arg6 : Memref sig .tc .vmem S1x128x2048 .fp8e4m3) (harg6 : arg6.IsWhole) (arg7 : Memref sig .tc .vmem S1x32x8 .f32) (harg7 : arg7.IsWhole) (arg8 : Memref sig .tc .vmem S1x128x512 .fp8e4m3) (harg8 : arg8.IsWhole) (arg9 : Memref sig .tc .vmem S1x32x2 .f32) (harg9 : arg9.IsWhole) (arg10 : Memref sig .tc .vmem S1x128x512 .fp8e4m3) (harg10 : arg10.IsWhole) (arg11 : Memref sig .tc .vmem S1x32x2 .f32) (harg11 : arg11.IsWhole) (arg12 : Memref sig .tc .vmem S1024x256 .fp8e4m3) (harg12 : arg12.IsWhole) (arg13 : Memref sig .tc .vmem S32x128x512 .fp8e4m3) (harg13 : arg13.IsWhole) (arg14 : Memref sig .tc .vmem S32x512x128 .fp8e4m3) (harg14 : arg14.IsWhole) (arg15 : Memref sig .tc .vmem S32x1024 .f32) (harg15 : arg15.IsWhole) (arg16 : Memref sig .tc .vmem S32x1024 .f32) (harg16 : arg16.IsWhole) (arg17 : Memref sig .tc .vmem S32x1024 .f32) (harg17 : arg17.IsWhole) (arg18 : Memref sig .tc .vmem S32x1024 .f32) (harg18 : arg18.IsWhole) (arg19 : Memref sig .tc .vmem S32x1024 .f32) (harg19 : arg19.IsWhole) (arg20 : Memref sig .tc .vmem S32x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S256x1024 .f32) (harg23 : arg23.IsWhole) (arg1 : BitVec 32) (v348 : IVec S128x512 1) (v397 : FVec F S1x1024 .f32) (v468 : FVec F S32x1024 .f32) (v469 : FVec F S32x1024 .f32) (v473 : Vec F S32x1024 .f32) : Prog (TpuEff nD τ sig (Elt F) Λ₀ .tc) PUnit := do
  let ⟨v501, v503⟩ : Σ' (v501 : FVec F S128x512 .f32), Vec F S1x512 .f32 ← k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v397 v468 v469 v473
  k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v348 v501 v503
  let ⟨v575, v576, v578⟩ : Σ' (v575 : FVec F S256x512 .f32) (v576 : Vec F S256x512 .f32), Vec F S1x512 .f32 ← k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v348
  let ⟨v588, v615⟩ : Σ' (v588 : FVec F S256x1024 .f32), FVec F S128x256 .bf16 ← k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v575 v576 v578
  let v616 : Vec F S1x128x256 .bf16 ← Prog.lift (.load arg5 (Rect.unit (s := S1x128x2048) ![0, 0, 1024] S1x128x256.size inb_S1x128x2048_S1x128x256_0_0_1024).toLoadRect (View.loadsAt_vmem h_S1x128x256))
  Prog.lift (.store arg5 (Rect.unit (s := S1x128x2048) ![0, 0, 1024] S1x128x256.size inb_S1x128x2048_S1x128x256_0_0_1024) (k0_pay1 v615) Finset.univ (View.stores_vmem h_S1x128x256 (harg5.storeExact_slice rfl _ packedbf16_S1x128x2048_S1x128x256_0_0_1024) (fun _ => rfl)) (.inl rfl))
  let v622 : Vec F S1x128x256 .bf16 ← Prog.lift (.load arg5 (Rect.unit (s := S1x128x2048) ![0, 0, 1280] S1x128x256.size inb_S1x128x2048_S1x128x256_0_0_1280).toLoadRect (View.loadsAt_vmem h_S1x128x256))
  Prog.lift (.store arg5 (Rect.unit (s := S1x128x2048) ![0, 0, 1280] S1x128x256.size inb_S1x128x2048_S1x128x256_0_0_1280) (k0_pay2 v588) Finset.univ (View.stores_vmem h_S1x128x256 (harg5.storeExact_slice rfl _ packedbf16_S1x128x2048_S1x128x256_0_0_1280) (fun _ => rfl)) (.inl rfl))
  let v628 : Vec F S1x128x256 .bf16 ← Prog.lift (.load arg5 (Rect.unit (s := S1x128x2048) ![0, 0, 1536] S1x128x256.size inb_S1x128x2048_S1x128x256_0_0_1536).toLoadRect (View.loadsAt_vmem h_S1x128x256))
  Prog.lift (.store arg5 (Rect.unit (s := S1x128x2048) ![0, 0, 1536] S1x128x256.size inb_S1x128x2048_S1x128x256_0_0_1536) (k0_pay3 v588) Finset.univ (View.stores_vmem h_S1x128x256 (harg5.storeExact_slice rfl _ packedbf16_S1x128x2048_S1x128x256_0_0_1536) (fun _ => rfl)) (.inl rfl))
  let v634 : Vec F S1x128x256 .bf16 ← Prog.lift (.load arg5 (Rect.unit (s := S1x128x2048) ![0, 0, 1792] S1x128x256.size inb_S1x128x2048_S1x128x256_0_0_1792).toLoadRect (View.loadsAt_vmem h_S1x128x256))
  Prog.lift (.store arg5 (Rect.unit (s := S1x128x2048) ![0, 0, 1792] S1x128x256.size inb_S1x128x2048_S1x128x256_0_0_1792) (k0_pay4 v588) Finset.univ (View.stores_vmem h_S1x128x256 (harg5.storeExact_slice rfl _ packedbf16_S1x128x2048_S1x128x256_0_0_1792) (fun _ => rfl)) (.inl rfl))
  pure ⟨⟩

/-- The body from part 13 on. -/
def tail13 (i : grid0.Coords) (arg2 : Memref sig .tc .vmem S1x128x2048 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x128x2048 .bf16) (harg5 : arg5.IsWhole) (arg6 : Memref sig .tc .vmem S1x128x2048 .fp8e4m3) (harg6 : arg6.IsWhole) (arg7 : Memref sig .tc .vmem S1x32x8 .f32) (harg7 : arg7.IsWhole) (arg8 : Memref sig .tc .vmem S1x128x512 .fp8e4m3) (harg8 : arg8.IsWhole) (arg9 : Memref sig .tc .vmem S1x32x2 .f32) (harg9 : arg9.IsWhole) (arg10 : Memref sig .tc .vmem S1x128x512 .fp8e4m3) (harg10 : arg10.IsWhole) (arg11 : Memref sig .tc .vmem S1x32x2 .f32) (harg11 : arg11.IsWhole) (arg12 : Memref sig .tc .vmem S1024x256 .fp8e4m3) (harg12 : arg12.IsWhole) (arg13 : Memref sig .tc .vmem S32x128x512 .fp8e4m3) (harg13 : arg13.IsWhole) (arg14 : Memref sig .tc .vmem S32x512x128 .fp8e4m3) (harg14 : arg14.IsWhole) (arg15 : Memref sig .tc .vmem S32x1024 .f32) (harg15 : arg15.IsWhole) (arg16 : Memref sig .tc .vmem S32x1024 .f32) (harg16 : arg16.IsWhole) (arg17 : Memref sig .tc .vmem S32x1024 .f32) (harg17 : arg17.IsWhole) (arg18 : Memref sig .tc .vmem S32x1024 .f32) (harg18 : arg18.IsWhole) (arg19 : Memref sig .tc .vmem S32x1024 .f32) (harg19 : arg19.IsWhole) (arg20 : Memref sig .tc .vmem S32x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S256x1024 .f32) (harg23 : arg23.IsWhole) (arg1 : BitVec 32) (v77 : FVec F S1x2048 .f32) (v344 : IVec S128x512 32) (v345 : IVec S128x512 32) (v346 : IVec S128x512 32) : Prog (TpuEff nD τ sig (Elt F) Λ₀ .tc) PUnit := do
  let ⟨v348, v380, v381⟩ : Σ' (v348 : IVec S128x512 1) (v380 : FVec F S1x128 .f32), FVec F S1x128 .f32 ← k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v77 v344 v345 v346
  let ⟨v393, v397, v400, v405, v410, v415, v420, v425, v429⟩ : Σ' (v393 : FVec F S32x1024 .f32) (v397 : FVec F S1x1024 .f32) (v400 : FVec F S32x1024 .f32) (v405 : FVec F S32x128 .f32) (v410 : FVec F S32x128 .f32) (v415 : FVec F S32x128 .f32) (v420 : FVec F S32x128 .f32) (v425 : FVec F S32x128 .f32), FVec F S32x1 .f32 ← k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v77 v380 v381
  let ⟨v468, v469, v473⟩ : Σ' (v468 : FVec F S32x1024 .f32) (v469 : FVec F S32x1024 .f32), Vec F S32x1024 .f32 ← k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v393 v400 v405 v410 v415 v420 v425 v429
  tail16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v348 v397 v468 v469 v473

/-- The body from part 6 on. -/
def tail6 (i : grid0.Coords) (arg2 : Memref sig .tc .vmem S1x128x2048 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x128x2048 .bf16) (harg5 : arg5.IsWhole) (arg6 : Memref sig .tc .vmem S1x128x2048 .fp8e4m3) (harg6 : arg6.IsWhole) (arg7 : Memref sig .tc .vmem S1x32x8 .f32) (harg7 : arg7.IsWhole) (arg8 : Memref sig .tc .vmem S1x128x512 .fp8e4m3) (harg8 : arg8.IsWhole) (arg9 : Memref sig .tc .vmem S1x32x2 .f32) (harg9 : arg9.IsWhole) (arg10 : Memref sig .tc .vmem S1x128x512 .fp8e4m3) (harg10 : arg10.IsWhole) (arg11 : Memref sig .tc .vmem S1x32x2 .f32) (harg11 : arg11.IsWhole) (arg12 : Memref sig .tc .vmem S1024x256 .fp8e4m3) (harg12 : arg12.IsWhole) (arg13 : Memref sig .tc .vmem S32x128x512 .fp8e4m3) (harg13 : arg13.IsWhole) (arg14 : Memref sig .tc .vmem S32x512x128 .fp8e4m3) (harg14 : arg14.IsWhole) (arg15 : Memref sig .tc .vmem S32x1024 .f32) (harg15 : arg15.IsWhole) (arg16 : Memref sig .tc .vmem S32x1024 .f32) (harg16 : arg16.IsWhole) (arg17 : Memref sig .tc .vmem S32x1024 .f32) (harg17 : arg17.IsWhole) (arg18 : Memref sig .tc .vmem S32x1024 .f32) (harg18 : arg18.IsWhole) (arg19 : Memref sig .tc .vmem S32x1024 .f32) (harg19 : arg19.IsWhole) (arg20 : Memref sig .tc .vmem S32x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S256x1024 .f32) (harg23 : arg23.IsWhole) (arg1 : BitVec 32) (v5 : FVec F S128x2048 .f32) (v8 : FVec F S1x2048 .f32) (v13 : FVec F S1x256 .f32) (v18 : FVec F S1x256 .f32) (v23 : FVec F S1x256 .f32) (v28 : FVec F S1x256 .f32) (v33 : FVec F S1x256 .f32) (v38 : FVec F S1x256 .f32) (v43 : FVec F S1x256 .f32) : Prog (TpuEff nD τ sig (Elt F) Λ₀ .tc) PUnit := do
  let ⟨v77, v84⟩ : Σ' (v77 : FVec F S1x2048 .f32), FVec F S128x2048 .fp8e4m3 ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v5 v8 v13 v18 v23 v28 v33 v38 v43
  let v137 : FVec F S1x8 .f32 ← k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v77
  let v170 : FVec F S128x256 .fp8e4m3 ← k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v84 v137
  let ⟨v176, v214, v216⟩ : Σ' (v176 : FVec F S128x512 .f32) (v214 : FVec F S1x512 .f32), FVec F S1x512 .f32 ← k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v170
  k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v176 v214 v216
  let ⟨v302, v304⟩ : Σ' (v302 : FVec F S1x512 .f32), FVec F S128x512 .f32 ← k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
  let ⟨v344, v345, v346⟩ : Σ' (v344 : IVec S128x512 32) (v345 : IVec S128x512 32), IVec S128x512 32 ← k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v302 v304
  tail13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v77 v344 v345 v346

/-- The body is part 5 followed by the rest. -/
theorem skel_eq (i : grid0.Coords) (arg2 : Memref sig .tc .vmem S1x128x2048 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x128x2048 .bf16) (harg5 : arg5.IsWhole) (arg6 : Memref sig .tc .vmem S1x128x2048 .fp8e4m3) (harg6 : arg6.IsWhole) (arg7 : Memref sig .tc .vmem S1x32x8 .f32) (harg7 : arg7.IsWhole) (arg8 : Memref sig .tc .vmem S1x128x512 .fp8e4m3) (harg8 : arg8.IsWhole) (arg9 : Memref sig .tc .vmem S1x32x2 .f32) (harg9 : arg9.IsWhole) (arg10 : Memref sig .tc .vmem S1x128x512 .fp8e4m3) (harg10 : arg10.IsWhole) (arg11 : Memref sig .tc .vmem S1x32x2 .f32) (harg11 : arg11.IsWhole) (arg12 : Memref sig .tc .vmem S1024x256 .fp8e4m3) (harg12 : arg12.IsWhole) (arg13 : Memref sig .tc .vmem S32x128x512 .fp8e4m3) (harg13 : arg13.IsWhole) (arg14 : Memref sig .tc .vmem S32x512x128 .fp8e4m3) (harg14 : arg14.IsWhole) (arg15 : Memref sig .tc .vmem S32x1024 .f32) (harg15 : arg15.IsWhole) (arg16 : Memref sig .tc .vmem S32x1024 .f32) (harg16 : arg16.IsWhole) (arg17 : Memref sig .tc .vmem S32x1024 .f32) (harg17 : arg17.IsWhole) (arg18 : Memref sig .tc .vmem S32x1024 .f32) (harg18 : arg18.IsWhole) (arg19 : Memref sig .tc .vmem S32x1024 .f32) (harg19 : arg19.IsWhole) (arg20 : Memref sig .tc .vmem S32x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S256x1024 .f32) (harg23 : arg23.IsWhole) :
    cc0_swa_gqa_fp8_attention_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 = (do
  let ⟨arg1, v5, v8, v13, v18, v23, v28, v33, v38, v43⟩ : Σ' (arg1 : BitVec 32) (v5 : FVec F S128x2048 .f32) (v8 : FVec F S1x2048 .f32) (v13 : FVec F S1x256 .f32) (v18 : FVec F S1x256 .f32) (v23 : FVec F S1x256 .f32) (v28 : FVec F S1x256 .f32) (v33 : FVec F S1x256 .f32) (v38 : FVec F S1x256 .f32), FVec F S1x256 .f32 ← k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
  tail6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v5 v8 v13 v18 v23 v28 v33 v38 v43) := rfl

end Cert.KernelIdeal.Val

end
-- ==== Proof.Offs.lean ====
module

public import proofs.«01_k».proof.Proof.Gen.KernelIdeal.Frame
public import proofs.«01_k».proof.Proof.Gen.KernelIdeal.Loops

@[expose] public section

/-! The load and store offsets of the kernel and the trip counts of its loops, in closed form. -/

set_option maxRecDepth 16384

noncomputable section

namespace Cert.KernelIdeal.Val

open Cert.KernelIdeal Cert.KernelIdeal.Gen Idealize.ShloMosaic

/-- A block number survives the kernel's index arithmetic. -/
theorem ofNat_block : ∀ n : Fin 32, (Scalar.indexCast (BitVec.ofNat 32 n.val)).toNat = n.val := by decide +kernel

/-- So does the induction variable of a loop counting from zero by one. -/
theorem iv_block : ∀ n : Fin 32, (Scalar.indexCast (Scf.iv (0#32) (1#32) n.val)).toNat = n.val := by decide +kernel

/-- Loop 1 runs once for every earlier block. -/
theorem trips_t1 (i : grid0.Coords) : (k0_t1_loop i).trips = (i 1).val := by
  have h : ∀ n : Fin 32, (let arg1 : BitVec 32 := BitVec.ofNat 32 n.val
    (⟨0#32, Scalar.addi 0#32 (Scalar.muli (Scalar.divsi (Scalar.subi arg1 0#32) 1#32) 1#32), 1#32⟩ : Scf.Loop 32).trips) = n.val := by decide +kernel
  exact h (i 1)

/-- Loop 3 runs once for every earlier block. -/
theorem trips_t3 (i : grid0.Coords) : (k0_t3_loop i).trips = (i 1).val := by
  have h : ∀ n : Fin 32, (let arg1 : BitVec 32 := BitVec.ofNat 32 n.val
    (⟨0#32, Scalar.addi 0#32 (Scalar.muli (Scalar.divsi (Scalar.subi arg1 0#32) 1#32) 1#32), 1#32⟩ : Scf.Loop 32).trips) = n.val := by decide +kernel
  exact h (i 1)

/-- Loop 2, the remainder loop of an unrolling by one, never runs. -/
theorem trips_t2 (i : grid0.Coords) : (k0_t2_loop i).trips = 0 := by
  have h : ∀ n : Fin 32, (let arg1 : BitVec 32 := BitVec.ofNat 32 n.val
    (⟨Scalar.addi 0#32 (Scalar.muli (Scalar.divsi (Scalar.subi arg1 0#32) 1#32) 1#32), Scalar.addi 0#32 (Scalar.subi arg1 0#32), 1#32⟩ : Scf.Loop 32).trips) = 0 := by decide +kernel
  exact h (i 1)

/-- Loop 4, the remainder loop of an unrolling by one, never runs. -/
theorem trips_t4 (i : grid0.Coords) : (k0_t4_loop i).trips = 0 := by
  have h : ∀ n : Fin 32, (let arg1 : BitVec 32 := BitVec.ofNat 32 n.val
    (⟨Scalar.addi 0#32 (Scalar.muli (Scalar.divsi (Scalar.subi arg1 0#32) 1#32) 1#32), Scalar.addi 0#32 (Scalar.subi arg1 0#32), 1#32⟩ : Scf.Loop 32).trips) = 0 := by decide +kernel
  exact h (i 1)

theorem off1_eq (i : grid0.Coords) : k0_off1 i = ![0, (i 1).val, 0] := by
  have := ofNat_block (i 1)
  unfold k0_off1
  funext a; fin_cases a
  · rfl
  · exact this
  · rfl

theorem off2_eq (i : grid0.Coords) : k0_off2 i = ![0, (i 1).val, 0] := by
  have := ofNat_block (i 1)
  unfold k0_off2
  funext a; fin_cases a
  · rfl
  · exact this
  · rfl

theorem off3_eq (i : grid0.Coords) : k0_off3 i = ![(i 1).val, 0, 0] := by
  have := ofNat_block (i 1)
  unfold k0_off3
  funext a; fin_cases a
  · exact this
  · rfl
  · rfl

theorem off4_eq (i : grid0.Coords) : k0_off4 i = ![(i 1).val, 0] := by
  have := ofNat_block (i 1)
  unfold k0_off4
  funext a; fin_cases a
  · exact this
  · rfl

theorem off5_eq (i : grid0.Coords) : k0_off5 i = ![(i 1).val, 0, 0] := by
  have := ofNat_block (i 1)
  unfold k0_off5
  funext a; fin_cases a
  · exact this
  · rfl
  · rfl

theorem off6_eq (i : grid0.Coords) (k : Fin (k0_t1_loop i).trips) : k0_off6 i k = ![k.val, 0, 0] := by
  have hk : k.val < 32 := by have := k.isLt; have := trips_t1 i; have : (i 1).val < 32 := (i 1).isLt; omega
  have := iv_block ⟨k.val, hk⟩
  unfold k0_off6
  funext a; fin_cases a
  · exact this
  · rfl
  · rfl

theorem off7_eq (i : grid0.Coords) (k : Fin (k0_t1_loop i).trips) : k0_off7 i k = ![k.val, 0] := by
  have hk : k.val < 32 := by have := k.isLt; have := trips_t1 i; have : (i 1).val < 32 := (i 1).isLt; omega
  have := iv_block ⟨k.val, hk⟩
  unfold k0_off7
  funext a; fin_cases a
  · exact this
  · rfl

theorem off8_eq (i : grid0.Coords) (k : Fin (k0_t1_loop i).trips) : k0_off8 i k = ![k.val, 0, 256] := by
  have hk : k.val < 32 := by have := k.isLt; have := trips_t1 i; have : (i 1).val < 32 := (i 1).isLt; omega
  have := iv_block ⟨k.val, hk⟩
  unfold k0_off8
  funext a; fin_cases a
  · exact this
  · rfl
  · rfl

theorem off9_eq (i : grid0.Coords) (k : Fin (k0_t1_loop i).trips) : k0_off9 i k = ![k.val, 512] := by
  have hk : k.val < 32 := by have := k.isLt; have := trips_t1 i; have : (i 1).val < 32 := (i 1).isLt; omega
  have := iv_block ⟨k.val, hk⟩
  unfold k0_off9
  funext a; fin_cases a
  · exact this
  · rfl

theorem off14_eq (i : grid0.Coords) : k0_off14 i = ![(i 1).val, 0, 0] := by
  have := ofNat_block (i 1)
  unfold k0_off14
  funext a; fin_cases a
  · exact this
  · rfl
  · rfl

theorem off15_eq (i : grid0.Coords) : k0_off15 i = ![(i 1).val, 0] := by
  have := ofNat_block (i 1)
  unfold k0_off15
  funext a; fin_cases a
  · exact this
  · rfl

theorem off16_eq (i : grid0.Coords) : k0_off16 i = ![(i 1).val, 0, 256] := by
  have := ofNat_block (i 1)
  unfold k0_off16
  funext a; fin_cases a
  · exact this
  · rfl
  · rfl

theorem off17_eq (i : grid0.Coords) : k0_off17 i = ![(i 1).val, 512] := by
  have := ofNat_block (i 1)
  unfold k0_off17
  funext a; fin_cases a
  · exact this
  · rfl

theorem off18_eq (i : grid0.Coords) (k : Fin (k0_t3_loop i).trips) : k0_off18 i k = ![k.val, 0, 0] := by
  have hk : k.val < 32 := by have := k.isLt; have := trips_t3 i; have : (i 1).val < 32 := (i 1).isLt; omega
  have := iv_block ⟨k.val, hk⟩
  unfold k0_off18
  funext a; fin_cases a
  · exact this
  · rfl
  · rfl

theorem off19_eq (i : grid0.Coords) (k : Fin (k0_t3_loop i).trips) : k0_off19 i k = ![k.val, 0] := by
  have hk : k.val < 32 := by have := k.isLt; have := trips_t3 i; have : (i 1).val < 32 := (i 1).isLt; omega
  have := iv_block ⟨k.val, hk⟩
  unfold k0_off19
  funext a; fin_cases a
  · exact this
  · rfl

theorem off20_eq (i : grid0.Coords) (k : Fin (k0_t3_loop i).trips) : k0_off20 i k = ![k.val, 0, 0] := by
  have hk : k.val < 32 := by have := k.isLt; have := trips_t3 i; have : (i 1).val < 32 := (i 1).isLt; omega
  have := iv_block ⟨k.val, hk⟩
  unfold k0_off20
  funext a; fin_cases a
  · exact this
  · rfl
  · rfl

theorem off21_eq (i : grid0.Coords) (k : Fin (k0_t3_loop i).trips) : k0_off21 i k = ![k.val, 0, 256] := by
  have hk : k.val < 32 := by have := k.isLt; have := trips_t3 i; have : (i 1).val < 32 := (i 1).isLt; omega
  have := iv_block ⟨k.val, hk⟩
  unfold k0_off21
  funext a; fin_cases a
  · exact this
  · rfl
  · rfl

theorem off22_eq (i : grid0.Coords) (k : Fin (k0_t3_loop i).trips) : k0_off22 i k = ![k.val, 512] := by
  have hk : k.val < 32 := by have := k.isLt; have := trips_t3 i; have : (i 1).val < 32 := (i 1).isLt; omega
  have := iv_block ⟨k.val, hk⟩
  unfold k0_off22
  funext a; fin_cases a
  · exact this
  · rfl

theorem off23_eq (i : grid0.Coords) (k : Fin (k0_t3_loop i).trips) : k0_off23 i k = ![k.val, 256, 0] := by
  have hk : k.val < 32 := by have := k.isLt; have := trips_t3 i; have : (i 1).val < 32 := (i 1).isLt; omega
  have := iv_block ⟨k.val, hk⟩
  unfold k0_off23
  funext a; fin_cases a
  · exact this
  · rfl
  · rfl

theorem off30_eq (i : grid0.Coords) : k0_off30 i = ![(i 1).val, 0, 0] := by
  have := ofNat_block (i 1)
  unfold k0_off30
  funext a; fin_cases a
  · exact this
  · rfl
  · rfl

theorem off31_eq (i : grid0.Coords) : k0_off31 i = ![(i 1).val, 256, 0] := by
  have := ofNat_block (i 1)
  unfold k0_off31
  funext a; fin_cases a
  · exact this
  · rfl
  · rfl

end Cert.KernelIdeal.Val

end
-- ==== Proof.PayA.lean ====
module

public import proofs.«01_k».proof.Proof.Gen.KernelIdeal.Skeleton
public import Idealize.ShloMosaic.Lib.Pointwise
public import Idealize.ShloMosaic.Lib.Pipeline.ValueKit.Tiles
public import Idealize.ShloMosaic.Lib.Pipeline.FrameBody

@[expose] public section

/-! What the attention payloads of the kernel compute at one index. -/

set_option maxRecDepth 16384
set_option maxHeartbeats 2000000

noncomputable section

namespace Cert.KernelIdeal.Val

open Cert.KernelIdeal Cert.KernelIdeal.Gen Idealize.ShloMosaic

/-- The lane of the key and value codes that the query lane `L` meets at depth `d`: lanes 0–511 are the queries of the first
key head, lanes 512–1023 those of the second. -/
def lane (L : Fin 1024) (d : Fin 256) : Fin 512 := ⟨256 * (L.val / 512) + d.val, by omega⟩

/-- The lowest value, as the kernel spells it. -/
abbrev negInf : EReal := Ideal.ofBits .f32 0xFF800000#32

/-- Clipping to the range of the code format. -/
abbrev clip (x : EReal) : EReal := min (Ideal.ofBits .f32 0x43E00000#32) (max (Ideal.ofBits .f32 0xC3E00000#32) x)

/-- The product of the code of key `r` of block `n` with the codes of query lane `L`. -/
def dotK (K : Vec Ideal S32x128x512 .fp8e4m3) (Q : Vec Ideal S1024x256 .fp8e4m3) (n : Fin 32) (r : Fin 128) (L : Fin 1024) : EReal :=
  ∑ d : Fin 256, K (ix3 n r (lane L d)) * Q (ix2 L d)

/-- The largest product of a block. -/
def blockMax (K : Vec Ideal S32x128x512 .fp8e4m3) (Q : Vec Ideal S1024x256 .fp8e4m3) (n : Fin 32) (L : Fin 1024) : EReal :=
  Finset.univ.fold max negInf fun r : Fin 128 => dotK K Q n r L

section Reads
variable {κ : Kind} {sp : Space} {e : EltTy}

/-- A load at a unit-stride rectangle reads the whole memref at the shifted index. -/
theorem readAt_at {S : Shape} (v : View sig κ sp S e) (f : v.ty.Contents (Elt Ideal)) (off size : Fin S.rank → ℕ) (inb)
    (x : (Rect.unit off size inb).shape.Idx) (y : S.Idx) (h : ∀ a, (y a : ℕ) = off a + x a) :
    v.readAt (Elt Ideal) (Rect.unit off size inb).toLoadRect f x = v.read (Elt Ideal) f y :=
  View.ld_unit_apply_of (v.read (Elt Ideal) f) off size inb x y h

theorem rdK (v : View sig κ sp S32x128x512 e) (f : v.ty.Contents (Elt Ideal)) (off : Fin 3 → ℕ) (inb : ∀ a, off a + S1x128x256.size a ≤ S32x128x512.size a) (n b : ℕ)
    (ho : off = ![n, 0, b]) (n' : Fin 32) (hn : n'.val = n) (L : Fin 1024) (hL : 256 * (L.val / 512) = b) (r : Fin 128) (d : Fin 256) :
    v.readAt (Elt Ideal) (Rect.unit (s := S32x128x512) off S1x128x256.size inb).toLoadRect f (ix3 0 r d) = v.read (Elt Ideal) f (ix3 n' r (lane L d)) := by
  subst ho
  exact readAt_at v f _ _ inb _ _ (fun a => by fin_cases a <;> simp [lane, hn, hL])

theorem rdV (v : View sig κ sp S32x512x128 e) (f : v.ty.Contents (Elt Ideal)) (off : Fin 3 → ℕ) (inb : ∀ a, off a + S1x256x128.size a ≤ S32x512x128.size a) (n b : ℕ)
    (ho : off = ![n, b, 0]) (n' : Fin 32) (hn : n'.val = n) (L : Fin 1024) (hL : 256 * (L.val / 512) = b) (r : Fin 128) (d : Fin 256) :
    v.readAt (Elt Ideal) (Rect.unit (s := S32x512x128) off S1x256x128.size inb).toLoadRect f (ix3 0 d r) = v.read (Elt Ideal) f (ix3 n' (lane L d) r) := by
  subst ho
  exact readAt_at v f _ _ inb _ _ (fun a => by fin_cases a <;> simp [lane, hn, hL])

theorem rdQ (v : View sig κ sp S1024x256 e) (f : v.ty.Contents (Elt Ideal)) (off : Fin 2 → ℕ) (inb : ∀ a, off a + S512x256.size a ≤ S1024x256.size a) (b : ℕ)
    (ho : off = ![b, 0]) (L : Fin 1024) (j : Fin 512) (hj : L.val = b + j.val) (d : Fin 256) :
    v.readAt (Elt Ideal) (Rect.unit (s := S1024x256) off S512x256.size inb).toLoadRect f (ix2 j d) = v.read (Elt Ideal) f (ix2 L d) := by
  subst ho
  exact readAt_at v f _ _ inb _ _ (fun a => by fin_cases a <;> simp [hj])

theorem rdRow (v : View sig κ sp S32x1024 e) (f : v.ty.Contents (Elt Ideal)) (off : Fin 2 → ℕ) (inb : ∀ a, off a + S1x512.size a ≤ S32x1024.size a) (n b : ℕ)
    (ho : off = ![n, b]) (n' : Fin 32) (hn : n'.val = n) (L : Fin 1024) (j : Fin 512) (hj : L.val = b + j.val) :
    v.readAt (Elt Ideal) (Rect.unit (s := S32x1024) off S1x512.size inb).toLoadRect f (ix2 0 j) = v.read (Elt Ideal) f (ix2 n' L) := by
  subst ho
  exact readAt_at v f _ _ inb _ _ (fun a => by fin_cases a <;> simp [hj, hn])

theorem rdOne (v : View sig κ sp S1x1024 e) (f : v.ty.Contents (Elt Ideal)) (off : Fin 2 → ℕ) (inb : ∀ a, off a + S1x512.size a ≤ S1x1024.size a) (b : ℕ)
    (ho : off = ![0, b]) (L : Fin 1024) (j : Fin 512) (hj : L.val = b + j.val) :
    v.readAt (Elt Ideal) (Rect.unit (s := S1x1024) off S1x512.size inb).toLoadRect f (ix2 0 j) = v.read (Elt Ideal) f (ix2 0 L) := by
  subst ho
  exact readAt_at v f _ _ inb _ _ (fun a => by fin_cases a <;> simp [hj])

theorem rdAcc (v : View sig κ sp S256x1024 e) (f : v.ty.Contents (Elt Ideal)) (off : Fin 2 → ℕ) (inb : ∀ a, off a + S256x512.size a ≤ S256x1024.size a) (b : ℕ)
    (ho : off = ![0, b]) (L : Fin 1024) (j : Fin 512) (hj : L.val = b + j.val) (d : Fin 256) :
    v.readAt (Elt Ideal) (Rect.unit (s := S256x1024) off S256x512.size inb).toLoadRect f (ix2 d j) = v.read (Elt Ideal) f (ix2 d L) := by
  subst ho
  exact readAt_at v f _ _ inb _ _ (fun a => by fin_cases a <;> simp [hj])

end Reads

theorem pay68_at (A : Vec Ideal S1x128x256 .fp8e4m3) (B : Vec Ideal S512x256 .fp8e4m3) (j : Fin 512) :
    k0_pay68 A B (ix2 0 j) = Finset.univ.fold max negInf fun r : Fin 128 => ∑ d : Fin 256, A (ix3 0 r d) * B (ix2 j d) := by
  pointwise [k0_pay68]

theorem pay69_at (A : Vec Ideal S1x128x256 .fp8e4m3) (B : Vec Ideal S512x256 .fp8e4m3) (j : Fin 512) :
    k0_pay69 A B (ix2 0 j) = Finset.univ.fold max negInf fun r : Fin 128 => ∑ d : Fin 256, A (ix3 0 r d) * B (ix2 j d) := by
  pointwise [k0_pay69]

theorem pay72_at (u v w : IVec S128x512 32) (A : Vec Ideal S1x128x256 .fp8e4m3) (B : Vec Ideal S512x256 .fp8e4m3) (j : Fin 512) :
    k0_pay72 u v w A B (ix2 0 j) = Finset.univ.fold max negInf fun r : Fin 128 =>
      Scalar.select (k0_pay67 u v w (ix2 r j)) (∑ d : Fin 256, A (ix3 0 r d) * B (ix2 j d)) negInf := by
  pointwise [k0_pay72]

theorem pay73_at (u v w : IVec S128x512 32) (A : Vec Ideal S1x128x256 .fp8e4m3) (B : Vec Ideal S512x256 .fp8e4m3) (j : Fin 512) :
    k0_pay73 u v w A B (ix2 0 j) = Finset.univ.fold max negInf fun r : Fin 128 =>
      Scalar.select (k0_pay67 u v w (ix2 r j)) (∑ d : Fin 256, A (ix3 0 r d) * B (ix2 j d)) negInf := by
  pointwise [k0_pay73]

theorem pay6_at (A : Vec Ideal S1x128x256 .fp8e4m3) (B : Vec Ideal S512x256 .fp8e4m3) (c m l : Vec Ideal S1x512 .f32) (j : Fin 512) :
    k0_pay6 A B c m l (ix2 0 j) = l (ix2 0 j) + ∑ r : Fin 128, Ideal.exp ((∑ d : Fin 256, A (ix3 0 r d) * B (ix2 j d)) * c (ix2 0 j) - m (ix2 0 j)) := by
  pointwise [k0_pay6, k0_pay5]

theorem pay10_at (A : Vec Ideal S1x128x256 .fp8e4m3) (B : Vec Ideal S512x256 .fp8e4m3) (c m l : Vec Ideal S1x512 .f32) (j : Fin 512) :
    k0_pay10 A B c m l (ix2 0 j) = l (ix2 0 j) + ∑ r : Fin 128, Ideal.exp ((∑ d : Fin 256, A (ix3 0 r d) * B (ix2 j d)) * c (ix2 0 j) - m (ix2 0 j)) := by
  pointwise [k0_pay10, k0_pay9]

theorem pay8_at (A : Vec Ideal S1x128x256 .fp8e4m3) (B : Vec Ideal S512x256 .fp8e4m3) (c m l w : Vec Ideal S1x512 .f32) (V : Vec Ideal S1x256x128 .fp8e4m3) (o : Vec Ideal S256x512 .f32) (e : Fin 256) (j : Fin 512) :
    k0_pay8 (k0_pay7 A B c m l V) o w (ix2 e j) = o (ix2 e j) + (∑ r : Fin 128, V (ix3 0 e r) * clip (Ideal.exp ((∑ d : Fin 256, A (ix3 0 r d) * B (ix2 j d)) * c (ix2 0 j) - m (ix2 0 j)) * l (ix2 0 j))) * w (ix2 0 j) := by
  pointwise [k0_pay8, k0_pay7, k0_pay5]

theorem pay95_at (A : Vec Ideal S1x128x256 .fp8e4m3) (B : Vec Ideal S512x256 .fp8e4m3) (c m l w : Vec Ideal S1x512 .f32) (V : Vec Ideal S1x256x128 .fp8e4m3) (o : Vec Ideal S256x512 .f32) (e : Fin 256) (j : Fin 512) :
    k0_pay95 (k0_pay11 A B c m l) (k0_pay12 V) o w (ix2 e j) = o (ix2 e j) + (∑ r : Fin 128, V (ix3 0 e r) * clip (Ideal.exp ((∑ d : Fin 256, A (ix3 0 r d) * B (ix2 j d)) * c (ix2 0 j) - m (ix2 0 j)) * l (ix2 0 j))) * w (ix2 0 j) := by
  pointwise [k0_pay95, k0_pay11, k0_pay12, k0_pay9]

theorem pay99_at (M : IVec S128x512 1) (A : Vec Ideal S1x128x256 .fp8e4m3) (B : Vec Ideal S512x256 .fp8e4m3) (c m l : Vec Ideal S1x512 .f32) (j : Fin 512) :
    k0_pay99 M (k0_pay97 A B) c m l (ix2 0 j) = l (ix2 0 j) + ∑ r : Fin 128, Ideal.exp (Scalar.select (M (ix2 r j)) ((∑ d : Fin 256, A (ix3 0 r d) * B (ix2 j d)) * c (ix2 0 j)) negInf - m (ix2 0 j)) := by
  pointwise [k0_pay99, k0_pay98, k0_pay97]

theorem pay102_at (M : IVec S128x512 1) (A : Vec Ideal S1x128x256 .fp8e4m3) (B : Vec Ideal S512x256 .fp8e4m3) (c m l : Vec Ideal S1x512 .f32) (j : Fin 512) :
    k0_pay102 M A B c m l (ix2 0 j) = l (ix2 0 j) + ∑ r : Fin 128, Ideal.exp (Scalar.select (M (ix2 r j)) ((∑ d : Fin 256, A (ix3 0 r d) * B (ix2 j d)) * c (ix2 0 j)) negInf - m (ix2 0 j)) := by
  pointwise [k0_pay102, k0_pay101]

theorem pay100_at (M : IVec S128x512 1) (A : Vec Ideal S1x128x256 .fp8e4m3) (B : Vec Ideal S512x256 .fp8e4m3) (c m l w : Vec Ideal S1x512 .f32) (V : Vec Ideal S1x256x128 .fp8e4m3) (o : Vec Ideal S256x512 .f32) (e : Fin 256) (j : Fin 512) :
    k0_pay100 M (k0_pay97 A B) c m l V o w (ix2 e j) = o (ix2 e j) + (∑ r : Fin 128, V (ix3 0 e r) * clip (Ideal.exp (Scalar.select (M (ix2 r j)) ((∑ d : Fin 256, A (ix3 0 r d) * B (ix2 j d)) * c (ix2 0 j)) negInf - m (ix2 0 j)) * l (ix2 0 j))) * w (ix2 0 j) := by
  pointwise [k0_pay100, k0_pay98, k0_pay97]

theorem pay104_at (M : IVec S128x512 1) (A : Vec Ideal S1x128x256 .fp8e4m3) (B : Vec Ideal S512x256 .fp8e4m3) (c m l w : Vec Ideal S1x512 .f32) (V : Vec Ideal S1x256x128 .fp8e4m3) (o : Vec Ideal S256x512 .f32) (e : Fin 256) (j : Fin 512) :
    k0_pay104 (k0_pay103 M A B c m l V) o w (ix2 e j) = o (ix2 e j) + (∑ r : Fin 128, V (ix3 0 e r) * clip (Ideal.exp (Scalar.select (M (ix2 r j)) ((∑ d : Fin 256, A (ix3 0 r d) * B (ix2 j d)) * c (ix2 0 j)) negInf - m (ix2 0 j)) * l (ix2 0 j))) * w (ix2 0 j) := by
  pointwise [k0_pay104, k0_pay103, k0_pay101]

theorem pay68_block {κ κ' : Kind} {sp sp' : Space} (v : View sig κ sp S32x128x512 .fp8e4m3) (f : v.ty.Contents (Elt Ideal)) (u : View sig κ' sp' S1024x256 .fp8e4m3) (g : u.ty.Contents (Elt Ideal))
    (off : Fin 3 → ℕ) (inb : ∀ a, off a + S1x128x256.size a ≤ S32x128x512.size a) (off' : Fin 2 → ℕ) (inb' : ∀ a, off' a + S512x256.size a ≤ S1024x256.size a) (n b b' : ℕ) (ho : off = ![n, 0, b]) (ho' : off' = ![b', 0]) (n' : Fin 32) (hn : n'.val = n) (L : Fin 1024) (j : Fin 512)
    (hL : 256 * (L.val / 512) = b) (hj : L.val = b' + j.val) :
    k0_pay68 (F := Ideal) (v.readAt (Elt Ideal) (Rect.unit (s := S32x128x512) off S1x128x256.size inb).toLoadRect f) (u.readAt (Elt Ideal) (Rect.unit (s := S1024x256) off' S512x256.size inb').toLoadRect g) (ix2 0 j)
      = blockMax (v.read (Elt Ideal) f) (u.read (Elt Ideal) g) n' L := by
  rw [pay68_at]
  unfold blockMax dotK
  congr 1; funext r; refine Finset.sum_congr rfl fun d _ => ?_
  rw [rdK v f off inb n b ho n' hn L hL r d, rdQ u g off' inb' b' ho' L j hj d]

theorem pay69_block {κ κ' : Kind} {sp sp' : Space} (v : View sig κ sp S32x128x512 .fp8e4m3) (f : v.ty.Contents (Elt Ideal)) (u : View sig κ' sp' S1024x256 .fp8e4m3) (g : u.ty.Contents (Elt Ideal))
    (off : Fin 3 → ℕ) (inb : ∀ a, off a + S1x128x256.size a ≤ S32x128x512.size a) (off' : Fin 2 → ℕ) (inb' : ∀ a, off' a + S512x256.size a ≤ S1024x256.size a) (n b b' : ℕ) (ho : off = ![n, 0, b]) (ho' : off' = ![b', 0]) (n' : Fin 32) (hn : n'.val = n) (L : Fin 1024) (j : Fin 512)
    (hL : 256 * (L.val / 512) = b) (hj : L.val = b' + j.val) :
    k0_pay69 (F := Ideal) (v.readAt (Elt Ideal) (Rect.unit (s := S32x128x512) off S1x128x256.size inb).toLoadRect f) (u.readAt (Elt Ideal) (Rect.unit (s := S1024x256) off' S512x256.size inb').toLoadRect g) (ix2 0 j)
      = blockMax (v.read (Elt Ideal) f) (u.read (Elt Ideal) g) n' L := by
  rw [pay69_at]
  unfold blockMax dotK
  congr 1; funext r; refine Finset.sum_congr rfl fun d _ => ?_
  rw [rdK v f off inb n b ho n' hn L hL r d, rdQ u g off' inb' b' ho' L j hj d]

/-- The unnormalised probability of key `r` of block `n` at query lane `L`: `C` holds the factors of the scores, `M` their maxima. -/
def prob (K : Vec Ideal S32x128x512 .fp8e4m3) (Q : Vec Ideal S1024x256 .fp8e4m3) (C : Vec Ideal S32x1024 .f32) (M : Vec Ideal S1x1024 .f32)
    (n : Fin 32) (r : Fin 128) (L : Fin 1024) : EReal := Ideal.exp (dotK K Q n r L * C (ix2 n L) - M (ix2 0 L))

/-- The same in the block of the queries themselves, where `mask` switches keys off. -/
def probD (mask : IVec S128x512 1) (K : Vec Ideal S32x128x512 .fp8e4m3) (Q : Vec Ideal S1024x256 .fp8e4m3) (C : Vec Ideal S32x1024 .f32) (M : Vec Ideal S1x1024 .f32)
    (n : Fin 32) (r : Fin 128) (L : Fin 1024) : EReal :=
  Ideal.exp (Scalar.select (mask (ix2 r ⟨L.val % 512, Nat.mod_lt _ (by norm_num)⟩)) (dotK K Q n r L * C (ix2 n L)) negInf - M (ix2 0 L))

/-- The contribution of block `n` to the output lane: the value codes times the codes of the probabilities `p`, scaled. -/
def outTerm (V : Vec Ideal S32x512x128 .fp8e4m3) (I W : Vec Ideal S32x1024 .f32) (p : Fin 128 → EReal) (n : Fin 32) (e : Fin 256) (L : Fin 1024) : EReal :=
  (∑ r : Fin 128, V (ix3 n (lane L e) r) * clip (p r * I (ix2 n L))) * W (ix2 n L)

section Blocks

theorem pay6_block {κ : Kind} {sp : Space} (n b b' : ℕ) (n' : Fin 32) (hn : n'.val = n) (L : Fin 1024) (j : Fin 512) (hL : 256 * (L.val / 512) = b) (hj : L.val = b' + j.val)
    (v13 : View sig κ sp S32x128x512 .fp8e4m3) (f13 : v13.ty.Contents (Elt Ideal)) (o13 : Fin 3 → ℕ) (i13 : ∀ a, o13 a + S1x128x256.size a ≤ S32x128x512.size a) (h13 : o13 = ![n, 0, b])
    (v12 : View sig κ sp S1024x256 .fp8e4m3) (f12 : v12.ty.Contents (Elt Ideal)) (o12 : Fin 2 → ℕ) (i12 : ∀ a, o12 a + S512x256.size a ≤ S1024x256.size a) (h12 : o12 = ![b', 0])
    (v18 : View sig κ sp S32x1024 .f32) (f18 : v18.ty.Contents (Elt Ideal)) (o18 : Fin 2 → ℕ) (i18 : ∀ a, o18 a + S1x512.size a ≤ S32x1024.size a) (h18 : o18 = ![n, b'])
    (v21 : View sig κ sp S1x1024 .f32) (f21 : v21.ty.Contents (Elt Ideal)) (o21 : Fin 2 → ℕ) (i21 : ∀ a, o21 a + S1x512.size a ≤ S1x1024.size a) (h21 : o21 = ![0, b'])
    (v22 : View sig κ sp S1x1024 .f32) (f22 : v22.ty.Contents (Elt Ideal)) (o22 : Fin 2 → ℕ) (i22 : ∀ a, o22 a + S1x512.size a ≤ S1x1024.size a) (h22 : o22 = ![0, b'])
    :
    k0_pay6 (F := Ideal) (v13.readAt (Elt Ideal) (Rect.unit (s := S32x128x512) o13 S1x128x256.size i13).toLoadRect f13) (v12.readAt (Elt Ideal) (Rect.unit (s := S1024x256) o12 S512x256.size i12).toLoadRect f12) (v18.readAt (Elt Ideal) (Rect.unit (s := S32x1024) o18 S1x512.size i18).toLoadRect f18) (v21.readAt (Elt Ideal) (Rect.unit (s := S1x1024) o21 S1x512.size i21).toLoadRect f21) (v22.readAt (Elt Ideal) (Rect.unit (s := S1x1024) o22 S1x512.size i22).toLoadRect f22) (ix2 0 j)
      = (v22.read (Elt Ideal) f22) (ix2 0 L) + ∑ r : Fin 128, prob (v13.read (Elt Ideal) f13) (v12.read (Elt Ideal) f12) (v18.read (Elt Ideal) f18) (v21.read (Elt Ideal) f21) n' r L := by
  rw [pay6_at]
  unfold prob dotK
  rw [rdRow v18 f18 o18 i18 n b' h18 n' hn L j hj, rdOne v21 f21 o21 i21 b' h21 L j hj, rdOne v22 f22 o22 i22 b' h22 L j hj]
  refine congrArg (fun z : EReal => _ + z) (Finset.sum_congr rfl fun r _ => ?_)

  rw [show (∑ d : Fin 256, (v13.readAt (Elt Ideal) (Rect.unit (s := S32x128x512) o13 S1x128x256.size i13).toLoadRect f13) (ix3 0 r d) * (v12.readAt (Elt Ideal) (Rect.unit (s := S1024x256) o12 S512x256.size i12).toLoadRect f12) (ix2 j d)) = ∑ d : Fin 256, (v13.read (Elt Ideal) f13) (ix3 n' r (lane L d)) * (v12.read (Elt Ideal) f12) (ix2 L d) from
    Finset.sum_congr rfl fun d _ => by rw [rdK v13 f13 o13 i13 n b h13 n' hn L hL r d, rdQ v12 f12 o12 i12 b' h12 L j hj d]]

theorem pay10_block {κ : Kind} {sp : Space} (n b b' : ℕ) (n' : Fin 32) (hn : n'.val = n) (L : Fin 1024) (j : Fin 512) (hL : 256 * (L.val / 512) = b) (hj : L.val = b' + j.val)
    (v13 : View sig κ sp S32x128x512 .fp8e4m3) (f13 : v13.ty.Contents (Elt Ideal)) (o13 : Fin 3 → ℕ) (i13 : ∀ a, o13 a + S1x128x256.size a ≤ S32x128x512.size a) (h13 : o13 = ![n, 0, b])
    (v12 : View sig κ sp S1024x256 .fp8e4m3) (f12 : v12.ty.Contents (Elt Ideal)) (o12 : Fin 2 → ℕ) (i12 : ∀ a, o12 a + S512x256.size a ≤ S1024x256.size a) (h12 : o12 = ![b', 0])
    (v18 : View sig κ sp S32x1024 .f32) (f18 : v18.ty.Contents (Elt Ideal)) (o18 : Fin 2 → ℕ) (i18 : ∀ a, o18 a + S1x512.size a ≤ S32x1024.size a) (h18 : o18 = ![n, b'])
    (v21 : View sig κ sp S1x1024 .f32) (f21 : v21.ty.Contents (Elt Ideal)) (o21 : Fin 2 → ℕ) (i21 : ∀ a, o21 a + S1x512.size a ≤ S1x1024.size a) (h21 : o21 = ![0, b'])
    (v22 : View sig κ sp S1x1024 .f32) (f22 : v22.ty.Contents (Elt Ideal)) (o22 : Fin 2 → ℕ) (i22 : ∀ a, o22 a + S1x512.size a ≤ S1x1024.size a) (h22 : o22 = ![0, b'])
    :
    k0_pay10 (F := Ideal) (v13.readAt (Elt Ideal) (Rect.unit (s := S32x128x512) o13 S1x128x256.size i13).toLoadRect f13) (v12.readAt (Elt Ideal) (Rect.unit (s := S1024x256) o12 S512x256.size i12).toLoadRect f12) (v18.readAt (Elt Ideal) (Rect.unit (s := S32x1024) o18 S1x512.size i18).toLoadRect f18) (v21.readAt (Elt Ideal) (Rect.unit (s := S1x1024) o21 S1x512.size i21).toLoadRect f21) (v22.readAt (Elt Ideal) (Rect.unit (s := S1x1024) o22 S1x512.size i22).toLoadRect f22) (ix2 0 j)
      = (v22.read (Elt Ideal) f22) (ix2 0 L) + ∑ r : Fin 128, prob (v13.read (Elt Ideal) f13) (v12.read (Elt Ideal) f12) (v18.read (Elt Ideal) f18) (v21.read (Elt Ideal) f21) n' r L := by
  rw [pay10_at]
  unfold prob dotK
  rw [rdRow v18 f18 o18 i18 n b' h18 n' hn L j hj, rdOne v21 f21 o21 i21 b' h21 L j hj, rdOne v22 f22 o22 i22 b' h22 L j hj]
  refine congrArg (fun z : EReal => _ + z) (Finset.sum_congr rfl fun r _ => ?_)

  rw [show (∑ d : Fin 256, (v13.readAt (Elt Ideal) (Rect.unit (s := S32x128x512) o13 S1x128x256.size i13).toLoadRect f13) (ix3 0 r d) * (v12.readAt (Elt Ideal) (Rect.unit (s := S1024x256) o12 S512x256.size i12).toLoadRect f12) (ix2 j d)) = ∑ d : Fin 256, (v13.read (Elt Ideal) f13) (ix3 n' r (lane L d)) * (v12.read (Elt Ideal) f12) (ix2 L d) from
    Finset.sum_congr rfl fun d _ => by rw [rdK v13 f13 o13 i13 n b h13 n' hn L hL r d, rdQ v12 f12 o12 i12 b' h12 L j hj d]]

theorem pay99_block {κ : Kind} {sp : Space} (n b b' : ℕ) (n' : Fin 32) (hn : n'.val = n) (L : Fin 1024) (j : Fin 512) (hL : 256 * (L.val / 512) = b) (hj : L.val = b' + j.val)
    (v13 : View sig κ sp S32x128x512 .fp8e4m3) (f13 : v13.ty.Contents (Elt Ideal)) (o13 : Fin 3 → ℕ) (i13 : ∀ a, o13 a + S1x128x256.size a ≤ S32x128x512.size a) (h13 : o13 = ![n, 0, b])
    (v12 : View sig κ sp S1024x256 .fp8e4m3) (f12 : v12.ty.Contents (Elt Ideal)) (o12 : Fin 2 → ℕ) (i12 : ∀ a, o12 a + S512x256.size a ≤ S1024x256.size a) (h12 : o12 = ![b', 0])
    (v18 : View sig κ sp S32x1024 .f32) (f18 : v18.ty.Contents (Elt Ideal)) (o18 : Fin 2 → ℕ) (i18 : ∀ a, o18 a + S1x512.size a ≤ S32x1024.size a) (h18 : o18 = ![n, b'])
    (v21 : View sig κ sp S1x1024 .f32) (f21 : v21.ty.Contents (Elt Ideal)) (o21 : Fin 2 → ℕ) (i21 : ∀ a, o21 a + S1x512.size a ≤ S1x1024.size a) (h21 : o21 = ![0, b'])
    (v22 : View sig κ sp S1x1024 .f32) (f22 : v22.ty.Contents (Elt Ideal)) (o22 : Fin 2 → ℕ) (i22 : ∀ a, o22 a + S1x512.size a ≤ S1x1024.size a) (h22 : o22 = ![0, b'])
    (mask : IVec S128x512 1) (hm : L.val % 512 = j.val) :
    k0_pay99 (F := Ideal) mask (k0_pay97 (F := Ideal) (v13.readAt (Elt Ideal) (Rect.unit (s := S32x128x512) o13 S1x128x256.size i13).toLoadRect f13) (v12.readAt (Elt Ideal) (Rect.unit (s := S1024x256) o12 S512x256.size i12).toLoadRect f12)) (v18.readAt (Elt Ideal) (Rect.unit (s := S32x1024) o18 S1x512.size i18).toLoadRect f18) (v21.readAt (Elt Ideal) (Rect.unit (s := S1x1024) o21 S1x512.size i21).toLoadRect f21) (v22.readAt (Elt Ideal) (Rect.unit (s := S1x1024) o22 S1x512.size i22).toLoadRect f22) (ix2 0 j)
      = (v22.read (Elt Ideal) f22) (ix2 0 L) + ∑ r : Fin 128, probD mask (v13.read (Elt Ideal) f13) (v12.read (Elt Ideal) f12) (v18.read (Elt Ideal) f18) (v21.read (Elt Ideal) f21) n' r L := by
  rw [pay99_at]
  unfold probD dotK
  rw [rdRow v18 f18 o18 i18 n b' h18 n' hn L j hj, rdOne v21 f21 o21 i21 b' h21 L j hj, rdOne v22 f22 o22 i22 b' h22 L j hj]
  refine congrArg (fun z : EReal => _ + z) (Finset.sum_congr rfl fun r _ => ?_)
  rw [show (⟨L.val % 512, Nat.mod_lt _ (by norm_num)⟩ : Fin 512) = j from Fin.ext hm]
  rw [show (∑ d : Fin 256, (v13.readAt (Elt Ideal) (Rect.unit (s := S32x128x512) o13 S1x128x256.size i13).toLoadRect f13) (ix3 0 r d) * (v12.readAt (Elt Ideal) (Rect.unit (s := S1024x256) o12 S512x256.size i12).toLoadRect f12) (ix2 j d)) = ∑ d : Fin 256, (v13.read (Elt Ideal) f13) (ix3 n' r (lane L d)) * (v12.read (Elt Ideal) f12) (ix2 L d) from
    Finset.sum_congr rfl fun d _ => by rw [rdK v13 f13 o13 i13 n b h13 n' hn L hL r d, rdQ v12 f12 o12 i12 b' h12 L j hj d]]

theorem pay102_block {κ : Kind} {sp : Space} (n b b' : ℕ) (n' : Fin 32) (hn : n'.val = n) (L : Fin 1024) (j : Fin 512) (hL : 256 * (L.val / 512) = b) (hj : L.val = b' + j.val)
    (v13 : View sig κ sp S32x128x512 .fp8e4m3) (f13 : v13.ty.Contents (Elt Ideal)) (o13 : Fin 3 → ℕ) (i13 : ∀ a, o13 a + S1x128x256.size a ≤ S32x128x512.size a) (h13 : o13 = ![n, 0, b])
    (v12 : View sig κ sp S1024x256 .fp8e4m3) (f12 : v12.ty.Contents (Elt Ideal)) (o12 : Fin 2 → ℕ) (i12 : ∀ a, o12 a + S512x256.size a ≤ S1024x256.size a) (h12 : o12 = ![b', 0])
    (v18 : View sig κ sp S32x1024 .f32) (f18 : v18.ty.Contents (Elt Ideal)) (o18 : Fin 2 → ℕ) (i18 : ∀ a, o18 a + S1x512.size a ≤ S32x1024.size a) (h18 : o18 = ![n, b'])
    (v21 : View sig κ sp S1x1024 .f32) (f21 : v21.ty.Contents (Elt Ideal)) (o21 : Fin 2 → ℕ) (i21 : ∀ a, o21 a + S1x512.size a ≤ S1x1024.size a) (h21 : o21 = ![0, b'])
    (v22 : View sig κ sp S1x1024 .f32) (f22 : v22.ty.Contents (Elt Ideal)) (o22 : Fin 2 → ℕ) (i22 : ∀ a, o22 a + S1x512.size a ≤ S1x1024.size a) (h22 : o22 = ![0, b'])
    (mask : IVec S128x512 1) (hm : L.val % 512 = j.val) :
    k0_pay102 (F := Ideal) mask (v13.readAt (Elt Ideal) (Rect.unit (s := S32x128x512) o13 S1x128x256.size i13).toLoadRect f13) (v12.readAt (Elt Ideal) (Rect.unit (s := S1024x256) o12 S512x256.size i12).toLoadRect f12) (v18.readAt (Elt Ideal) (Rect.unit (s := S32x1024) o18 S1x512.size i18).toLoadRect f18) (v21.readAt (Elt Ideal) (Rect.unit (s := S1x1024) o21 S1x512.size i21).toLoadRect f21) (v22.readAt (Elt Ideal) (Rect.unit (s := S1x1024) o22 S1x512.size i22).toLoadRect f22) (ix2 0 j)
      = (v22.read (Elt Ideal) f22) (ix2 0 L) + ∑ r : Fin 128, probD mask (v13.read (Elt Ideal) f13) (v12.read (Elt Ideal) f12) (v18.read (Elt Ideal) f18) (v21.read (Elt Ideal) f21) n' r L := by
  rw [pay102_at]
  unfold probD dotK
  rw [rdRow v18 f18 o18 i18 n b' h18 n' hn L j hj, rdOne v21 f21 o21 i21 b' h21 L j hj, rdOne v22 f22 o22 i22 b' h22 L j hj]
  refine congrArg (fun z : EReal => _ + z) (Finset.sum_congr rfl fun r _ => ?_)
  rw [show (⟨L.val % 512, Nat.mod_lt _ (by norm_num)⟩ : Fin 512) = j from Fin.ext hm]
  rw [show (∑ d : Fin 256, (v13.readAt (Elt Ideal) (Rect.unit (s := S32x128x512) o13 S1x128x256.size i13).toLoadRect f13) (ix3 0 r d) * (v12.readAt (Elt Ideal) (Rect.unit (s := S1024x256) o12 S512x256.size i12).toLoadRect f12) (ix2 j d)) = ∑ d : Fin 256, (v13.read (Elt Ideal) f13) (ix3 n' r (lane L d)) * (v12.read (Elt Ideal) f12) (ix2 L d) from
    Finset.sum_congr rfl fun d _ => by rw [rdK v13 f13 o13 i13 n b h13 n' hn L hL r d, rdQ v12 f12 o12 i12 b' h12 L j hj d]]

theorem pay8_block {κ : Kind} {sp : Space} (n b b' : ℕ) (n' : Fin 32) (hn : n'.val = n) (L : Fin 1024) (j : Fin 512) (hL : 256 * (L.val / 512) = b) (hj : L.val = b' + j.val)
    (v13 : View sig κ sp S32x128x512 .fp8e4m3) (f13 : v13.ty.Contents (Elt Ideal)) (o13 : Fin 3 → ℕ) (i13 : ∀ a, o13 a + S1x128x256.size a ≤ S32x128x512.size a) (h13 : o13 = ![n, 0, b])
    (v12 : View sig κ sp S1024x256 .fp8e4m3) (f12 : v12.ty.Contents (Elt Ideal)) (o12 : Fin 2 → ℕ) (i12 : ∀ a, o12 a + S512x256.size a ≤ S1024x256.size a) (h12 : o12 = ![b', 0])
    (v14 : View sig κ sp S32x512x128 .fp8e4m3) (f14 : v14.ty.Contents (Elt Ideal)) (o14 : Fin 3 → ℕ) (i14 : ∀ a, o14 a + S1x256x128.size a ≤ S32x512x128.size a) (h14 : o14 = ![n, b, 0])
    (v18 : View sig κ sp S32x1024 .f32) (f18 : v18.ty.Contents (Elt Ideal)) (o18 : Fin 2 → ℕ) (i18 : ∀ a, o18 a + S1x512.size a ≤ S32x1024.size a) (h18 : o18 = ![n, b'])
    (v19 : View sig κ sp S32x1024 .f32) (f19 : v19.ty.Contents (Elt Ideal)) (o19 : Fin 2 → ℕ) (i19 : ∀ a, o19 a + S1x512.size a ≤ S32x1024.size a) (h19 : o19 = ![n, b'])
    (v20 : View sig κ sp S32x1024 .f32) (f20 : v20.ty.Contents (Elt Ideal)) (o20 : Fin 2 → ℕ) (i20 : ∀ a, o20 a + S1x512.size a ≤ S32x1024.size a) (h20 : o20 = ![n, b'])
    (v21 : View sig κ sp S1x1024 .f32) (f21 : v21.ty.Contents (Elt Ideal)) (o21 : Fin 2 → ℕ) (i21 : ∀ a, o21 a + S1x512.size a ≤ S1x1024.size a) (h21 : o21 = ![0, b'])
    (v23 : View sig κ sp S256x1024 .f32) (f23 : v23.ty.Contents (Elt Ideal)) (o23 : Fin 2 → ℕ) (i23 : ∀ a, o23 a + S256x512.size a ≤ S256x1024.size a) (h23 : o23 = ![0, b'])
    (e : Fin 256) :
    k0_pay8 (F := Ideal) (k0_pay7 (v13.readAt (Elt Ideal) (Rect.unit (s := S32x128x512) o13 S1x128x256.size i13).toLoadRect f13) (v12.readAt (Elt Ideal) (Rect.unit (s := S1024x256) o12 S512x256.size i12).toLoadRect f12) (v18.readAt (Elt Ideal) (Rect.unit (s := S32x1024) o18 S1x512.size i18).toLoadRect f18) (v21.readAt (Elt Ideal) (Rect.unit (s := S1x1024) o21 S1x512.size i21).toLoadRect f21) (v19.readAt (Elt Ideal) (Rect.unit (s := S32x1024) o19 S1x512.size i19).toLoadRect f19) (v14.readAt (Elt Ideal) (Rect.unit (s := S32x512x128) o14 S1x256x128.size i14).toLoadRect f14)) (v23.readAt (Elt Ideal) (Rect.unit (s := S256x1024) o23 S256x512.size i23).toLoadRect f23) (v20.readAt (Elt Ideal) (Rect.unit (s := S32x1024) o20 S1x512.size i20).toLoadRect f20) (ix2 e j)
      = (v23.read (Elt Ideal) f23) (ix2 e L) + outTerm (v14.read (Elt Ideal) f14) (v19.read (Elt Ideal) f19) (v20.read (Elt Ideal) f20) (fun r => prob (v13.read (Elt Ideal) f13) (v12.read (Elt Ideal) f12) (v18.read (Elt Ideal) f18) (v21.read (Elt Ideal) f21) n' r L) n' e L := by
  rw [pay8_at]
  unfold outTerm prob dotK
  rw [rdRow v18 f18 o18 i18 n b' h18 n' hn L j hj, rdOne v21 f21 o21 i21 b' h21 L j hj, rdAcc v23 f23 o23 i23 b' h23 L j hj e, rdRow v19 f19 o19 i19 n b' h19 n' hn L j hj, rdRow v20 f20 o20 i20 n b' h20 n' hn L j hj]
  congr 2
  refine Finset.sum_congr rfl fun r _ => ?_

  rw [rdV v14 f14 o14 i14 n b h14 n' hn L hL r e]
  rw [show (∑ d : Fin 256, (v13.readAt (Elt Ideal) (Rect.unit (s := S32x128x512) o13 S1x128x256.size i13).toLoadRect f13) (ix3 0 r d) * (v12.readAt (Elt Ideal) (Rect.unit (s := S1024x256) o12 S512x256.size i12).toLoadRect f12) (ix2 j d)) = ∑ d : Fin 256, (v13.read (Elt Ideal) f13) (ix3 n' r (lane L d)) * (v12.read (Elt Ideal) f12) (ix2 L d) from
    Finset.sum_congr rfl fun d _ => by rw [rdK v13 f13 o13 i13 n b h13 n' hn L hL r d, rdQ v12 f12 o12 i12 b' h12 L j hj d]]

theorem pay95_block {κ : Kind} {sp : Space} (n b b' : ℕ) (n' : Fin 32) (hn : n'.val = n) (L : Fin 1024) (j : Fin 512) (hL : 256 * (L.val / 512) = b) (hj : L.val = b' + j.val)
    (v13 : View sig κ sp S32x128x512 .fp8e4m3) (f13 : v13.ty.Contents (Elt Ideal)) (o13 : Fin 3 → ℕ) (i13 : ∀ a, o13 a + S1x128x256.size a ≤ S32x128x512.size a) (h13 : o13 = ![n, 0, b])
    (v12 : View sig κ sp S1024x256 .fp8e4m3) (f12 : v12.ty.Contents (Elt Ideal)) (o12 : Fin 2 → ℕ) (i12 : ∀ a, o12 a + S512x256.size a ≤ S1024x256.size a) (h12 : o12 = ![b', 0])
    (v14 : View sig κ sp S32x512x128 .fp8e4m3) (f14 : v14.ty.Contents (Elt Ideal)) (o14 : Fin 3 → ℕ) (i14 : ∀ a, o14 a + S1x256x128.size a ≤ S32x512x128.size a) (h14 : o14 = ![n, b, 0])
    (v18 : View sig κ sp S32x1024 .f32) (f18 : v18.ty.Contents (Elt Ideal)) (o18 : Fin 2 → ℕ) (i18 : ∀ a, o18 a + S1x512.size a ≤ S32x1024.size a) (h18 : o18 = ![n, b'])
    (v19 : View sig κ sp S32x1024 .f32) (f19 : v19.ty.Contents (Elt Ideal)) (o19 : Fin 2 → ℕ) (i19 : ∀ a, o19 a + S1x512.size a ≤ S32x1024.size a) (h19 : o19 = ![n, b'])
    (v20 : View sig κ sp S32x1024 .f32) (f20 : v20.ty.Contents (Elt Ideal)) (o20 : Fin 2 → ℕ) (i20 : ∀ a, o20 a + S1x512.size a ≤ S32x1024.size a) (h20 : o20 = ![n, b'])
    (v21 : View sig κ sp S1x1024 .f32) (f21 : v21.ty.Contents (Elt Ideal)) (o21 : Fin 2 → ℕ) (i21 : ∀ a, o21 a + S1x512.size a ≤ S1x1024.size a) (h21 : o21 = ![0, b'])
    (v23 : View sig κ sp S256x1024 .f32) (f23 : v23.ty.Contents (Elt Ideal)) (o23 : Fin 2 → ℕ) (i23 : ∀ a, o23 a + S256x512.size a ≤ S256x1024.size a) (h23 : o23 = ![0, b'])
    (e : Fin 256) :
    k0_pay95 (F := Ideal) (k0_pay11 (v13.readAt (Elt Ideal) (Rect.unit (s := S32x128x512) o13 S1x128x256.size i13).toLoadRect f13) (v12.readAt (Elt Ideal) (Rect.unit (s := S1024x256) o12 S512x256.size i12).toLoadRect f12) (v18.readAt (Elt Ideal) (Rect.unit (s := S32x1024) o18 S1x512.size i18).toLoadRect f18) (v21.readAt (Elt Ideal) (Rect.unit (s := S1x1024) o21 S1x512.size i21).toLoadRect f21) (v19.readAt (Elt Ideal) (Rect.unit (s := S32x1024) o19 S1x512.size i19).toLoadRect f19)) (k0_pay12 (v14.readAt (Elt Ideal) (Rect.unit (s := S32x512x128) o14 S1x256x128.size i14).toLoadRect f14)) (v23.readAt (Elt Ideal) (Rect.unit (s := S256x1024) o23 S256x512.size i23).toLoadRect f23) (v20.readAt (Elt Ideal) (Rect.unit (s := S32x1024) o20 S1x512.size i20).toLoadRect f20) (ix2 e j)
      = (v23.read (Elt Ideal) f23) (ix2 e L) + outTerm (v14.read (Elt Ideal) f14) (v19.read (Elt Ideal) f19) (v20.read (Elt Ideal) f20) (fun r => prob (v13.read (Elt Ideal) f13) (v12.read (Elt Ideal) f12) (v18.read (Elt Ideal) f18) (v21.read (Elt Ideal) f21) n' r L) n' e L := by
  rw [pay95_at]
  unfold outTerm prob dotK
  rw [rdRow v18 f18 o18 i18 n b' h18 n' hn L j hj, rdOne v21 f21 o21 i21 b' h21 L j hj, rdAcc v23 f23 o23 i23 b' h23 L j hj e, rdRow v19 f19 o19 i19 n b' h19 n' hn L j hj, rdRow v20 f20 o20 i20 n b' h20 n' hn L j hj]
  congr 2
  refine Finset.sum_congr rfl fun r _ => ?_

  rw [rdV v14 f14 o14 i14 n b h14 n' hn L hL r e]
  rw [show (∑ d : Fin 256, (v13.readAt (Elt Ideal) (Rect.unit (s := S32x128x512) o13 S1x128x256.size i13).toLoadRect f13) (ix3 0 r d) * (v12.readAt (Elt Ideal) (Rect.unit (s := S1024x256) o12 S512x256.size i12).toLoadRect f12) (ix2 j d)) = ∑ d : Fin 256, (v13.read (Elt Ideal) f13) (ix3 n' r (lane L d)) * (v12.read (Elt Ideal) f12) (ix2 L d) from
    Finset.sum_congr rfl fun d _ => by rw [rdK v13 f13 o13 i13 n b h13 n' hn L hL r d, rdQ v12 f12 o12 i12 b' h12 L j hj d]]

theorem pay100_block {κ : Kind} {sp : Space} (n b b' : ℕ) (n' : Fin 32) (hn : n'.val = n) (L : Fin 1024) (j : Fin 512) (hL : 256 * (L.val / 512) = b) (hj : L.val = b' + j.val)
    (v13 : View sig κ sp S32x128x512 .fp8e4m3) (f13 : v13.ty.Contents (Elt Ideal)) (o13 : Fin 3 → ℕ) (i13 : ∀ a, o13 a + S1x128x256.size a ≤ S32x128x512.size a) (h13 : o13 = ![n, 0, b])
    (v12 : View sig κ sp S1024x256 .fp8e4m3) (f12 : v12.ty.Contents (Elt Ideal)) (o12 : Fin 2 → ℕ) (i12 : ∀ a, o12 a + S512x256.size a ≤ S1024x256.size a) (h12 : o12 = ![b', 0])
    (v14 : View sig κ sp S32x512x128 .fp8e4m3) (f14 : v14.ty.Contents (Elt Ideal)) (o14 : Fin 3 → ℕ) (i14 : ∀ a, o14 a + S1x256x128.size a ≤ S32x512x128.size a) (h14 : o14 = ![n, b, 0])
    (v18 : View sig κ sp S32x1024 .f32) (f18 : v18.ty.Contents (Elt Ideal)) (o18 : Fin 2 → ℕ) (i18 : ∀ a, o18 a + S1x512.size a ≤ S32x1024.size a) (h18 : o18 = ![n, b'])
    (v19 : View sig κ sp S32x1024 .f32) (f19 : v19.ty.Contents (Elt Ideal)) (o19 : Fin 2 → ℕ) (i19 : ∀ a, o19 a + S1x512.size a ≤ S32x1024.size a) (h19 : o19 = ![n, b'])
    (v20 : View sig κ sp S32x1024 .f32) (f20 : v20.ty.Contents (Elt Ideal)) (o20 : Fin 2 → ℕ) (i20 : ∀ a, o20 a + S1x512.size a ≤ S32x1024.size a) (h20 : o20 = ![n, b'])
    (v21 : View sig κ sp S1x1024 .f32) (f21 : v21.ty.Contents (Elt Ideal)) (o21 : Fin 2 → ℕ) (i21 : ∀ a, o21 a + S1x512.size a ≤ S1x1024.size a) (h21 : o21 = ![0, b'])
    (v23 : View sig κ sp S256x1024 .f32) (f23 : v23.ty.Contents (Elt Ideal)) (o23 : Fin 2 → ℕ) (i23 : ∀ a, o23 a + S256x512.size a ≤ S256x1024.size a) (h23 : o23 = ![0, b'])
    (mask : IVec S128x512 1) (hm : L.val % 512 = j.val) (e : Fin 256) :
    k0_pay100 (F := Ideal) mask (k0_pay97 (v13.readAt (Elt Ideal) (Rect.unit (s := S32x128x512) o13 S1x128x256.size i13).toLoadRect f13) (v12.readAt (Elt Ideal) (Rect.unit (s := S1024x256) o12 S512x256.size i12).toLoadRect f12)) (v18.readAt (Elt Ideal) (Rect.unit (s := S32x1024) o18 S1x512.size i18).toLoadRect f18) (v21.readAt (Elt Ideal) (Rect.unit (s := S1x1024) o21 S1x512.size i21).toLoadRect f21) (v19.readAt (Elt Ideal) (Rect.unit (s := S32x1024) o19 S1x512.size i19).toLoadRect f19) (v14.readAt (Elt Ideal) (Rect.unit (s := S32x512x128) o14 S1x256x128.size i14).toLoadRect f14) (v23.readAt (Elt Ideal) (Rect.unit (s := S256x1024) o23 S256x512.size i23).toLoadRect f23) (v20.readAt (Elt Ideal) (Rect.unit (s := S32x1024) o20 S1x512.size i20).toLoadRect f20) (ix2 e j)
      = (v23.read (Elt Ideal) f23) (ix2 e L) + outTerm (v14.read (Elt Ideal) f14) (v19.read (Elt Ideal) f19) (v20.read (Elt Ideal) f20) (fun r => probD mask (v13.read (Elt Ideal) f13) (v12.read (Elt Ideal) f12) (v18.read (Elt Ideal) f18) (v21.read (Elt Ideal) f21) n' r L) n' e L := by
  rw [pay100_at (M := mask)]
  unfold outTerm probD dotK
  rw [rdRow v18 f18 o18 i18 n b' h18 n' hn L j hj, rdOne v21 f21 o21 i21 b' h21 L j hj, rdAcc v23 f23 o23 i23 b' h23 L j hj e, rdRow v19 f19 o19 i19 n b' h19 n' hn L j hj, rdRow v20 f20 o20 i20 n b' h20 n' hn L j hj]
  congr 2
  refine Finset.sum_congr rfl fun r _ => ?_
  rw [show (⟨L.val % 512, Nat.mod_lt _ (by norm_num)⟩ : Fin 512) = j from Fin.ext hm]
  rw [rdV v14 f14 o14 i14 n b h14 n' hn L hL r e]
  rw [show (∑ d : Fin 256, (v13.readAt (Elt Ideal) (Rect.unit (s := S32x128x512) o13 S1x128x256.size i13).toLoadRect f13) (ix3 0 r d) * (v12.readAt (Elt Ideal) (Rect.unit (s := S1024x256) o12 S512x256.size i12).toLoadRect f12) (ix2 j d)) = ∑ d : Fin 256, (v13.read (Elt Ideal) f13) (ix3 n' r (lane L d)) * (v12.read (Elt Ideal) f12) (ix2 L d) from
    Finset.sum_congr rfl fun d _ => by rw [rdK v13 f13 o13 i13 n b h13 n' hn L hL r d, rdQ v12 f12 o12 i12 b' h12 L j hj d]]

theorem pay104_block {κ : Kind} {sp : Space} (n b b' : ℕ) (n' : Fin 32) (hn : n'.val = n) (L : Fin 1024) (j : Fin 512) (hL : 256 * (L.val / 512) = b) (hj : L.val = b' + j.val)
    (v13 : View sig κ sp S32x128x512 .fp8e4m3) (f13 : v13.ty.Contents (Elt Ideal)) (o13 : Fin 3 → ℕ) (i13 : ∀ a, o13 a + S1x128x256.size a ≤ S32x128x512.size a) (h13 : o13 = ![n, 0, b])
    (v12 : View sig κ sp S1024x256 .fp8e4m3) (f12 : v12.ty.Contents (Elt Ideal)) (o12 : Fin 2 → ℕ) (i12 : ∀ a, o12 a + S512x256.size a ≤ S1024x256.size a) (h12 : o12 = ![b', 0])
    (v14 : View sig κ sp S32x512x128 .fp8e4m3) (f14 : v14.ty.Contents (Elt Ideal)) (o14 : Fin 3 → ℕ) (i14 : ∀ a, o14 a + S1x256x128.size a ≤ S32x512x128.size a) (h14 : o14 = ![n, b, 0])
    (v18 : View sig κ sp S32x1024 .f32) (f18 : v18.ty.Contents (Elt Ideal)) (o18 : Fin 2 → ℕ) (i18 : ∀ a, o18 a + S1x512.size a ≤ S32x1024.size a) (h18 : o18 = ![n, b'])
    (v19 : View sig κ sp S32x1024 .f32) (f19 : v19.ty.Contents (Elt Ideal)) (o19 : Fin 2 → ℕ) (i19 : ∀ a, o19 a + S1x512.size a ≤ S32x1024.size a) (h19 : o19 = ![n, b'])
    (v20 : View sig κ sp S32x1024 .f32) (f20 : v20.ty.Contents (Elt Ideal)) (o20 : Fin 2 → ℕ) (i20 : ∀ a, o20 a + S1x512.size a ≤ S32x1024.size a) (h20 : o20 = ![n, b'])
    (v21 : View sig κ sp S1x1024 .f32) (f21 : v21.ty.Contents (Elt Ideal)) (o21 : Fin 2 → ℕ) (i21 : ∀ a, o21 a + S1x512.size a ≤ S1x1024.size a) (h21 : o21 = ![0, b'])
    (v23 : View sig κ sp S256x1024 .f32) (f23 : v23.ty.Contents (Elt Ideal)) (o23 : Fin 2 → ℕ) (i23 : ∀ a, o23 a + S256x512.size a ≤ S256x1024.size a) (h23 : o23 = ![0, b'])
    (mask : IVec S128x512 1) (hm : L.val % 512 = j.val) (e : Fin 256) :
    k0_pay104 (F := Ideal) (k0_pay103 mask (v13.readAt (Elt Ideal) (Rect.unit (s := S32x128x512) o13 S1x128x256.size i13).toLoadRect f13) (v12.readAt (Elt Ideal) (Rect.unit (s := S1024x256) o12 S512x256.size i12).toLoadRect f12) (v18.readAt (Elt Ideal) (Rect.unit (s := S32x1024) o18 S1x512.size i18).toLoadRect f18) (v21.readAt (Elt Ideal) (Rect.unit (s := S1x1024) o21 S1x512.size i21).toLoadRect f21) (v19.readAt (Elt Ideal) (Rect.unit (s := S32x1024) o19 S1x512.size i19).toLoadRect f19) (v14.readAt (Elt Ideal) (Rect.unit (s := S32x512x128) o14 S1x256x128.size i14).toLoadRect f14)) (v23.readAt (Elt Ideal) (Rect.unit (s := S256x1024) o23 S256x512.size i23).toLoadRect f23) (v20.readAt (Elt Ideal) (Rect.unit (s := S32x1024) o20 S1x512.size i20).toLoadRect f20) (ix2 e j)
      = (v23.read (Elt Ideal) f23) (ix2 e L) + outTerm (v14.read (Elt Ideal) f14) (v19.read (Elt Ideal) f19) (v20.read (Elt Ideal) f20) (fun r => probD mask (v13.read (Elt Ideal) f13) (v12.read (Elt Ideal) f12) (v18.read (Elt Ideal) f18) (v21.read (Elt Ideal) f21) n' r L) n' e L := by
  rw [pay104_at (M := mask)]
  unfold outTerm probD dotK
  rw [rdRow v18 f18 o18 i18 n b' h18 n' hn L j hj, rdOne v21 f21 o21 i21 b' h21 L j hj, rdAcc v23 f23 o23 i23 b' h23 L j hj e, rdRow v19 f19 o19 i19 n b' h19 n' hn L j hj, rdRow v20 f20 o20 i20 n b' h20 n' hn L j hj]
  congr 2
  refine Finset.sum_congr rfl fun r _ => ?_
  rw [show (⟨L.val % 512, Nat.mod_lt _ (by norm_num)⟩ : Fin 512) = j from Fin.ext hm]
  rw [rdV v14 f14 o14 i14 n b h14 n' hn L hL r e]
  rw [show (∑ d : Fin 256, (v13.readAt (Elt Ideal) (Rect.unit (s := S32x128x512) o13 S1x128x256.size i13).toLoadRect f13) (ix3 0 r d) * (v12.readAt (Elt Ideal) (Rect.unit (s := S1024x256) o12 S512x256.size i12).toLoadRect f12) (ix2 j d)) = ∑ d : Fin 256, (v13.read (Elt Ideal) f13) (ix3 n' r (lane L d)) * (v12.read (Elt Ideal) f12) (ix2 L d) from
    Finset.sum_congr rfl fun d _ => by rw [rdK v13 f13 o13 i13 n b h13 n' hn L hL r d, rdQ v12 f12 o12 i12 b' h12 L j hj d]]

end Blocks

/-- Peeling the last block off a sum over the first blocks. -/
theorem sum_lt_succ (f : Fin 32 → EReal) (k : ℕ) (hk : k < 32) :
    ∑ n ∈ Finset.univ.filter (fun n : Fin 32 => n.val < k + 1), f n = (∑ n ∈ Finset.univ.filter (fun n : Fin 32 => n.val < k), f n) + f ⟨k, hk⟩ := by
  rw [show (Finset.univ.filter fun n : Fin 32 => n.val < k + 1) = insert ⟨k, hk⟩ (Finset.univ.filter fun n : Fin 32 => n.val < k) from by
    ext n; simp [Fin.ext_iff]; omega]
  rw [Finset.sum_insert (by simp), add_comm]

end Cert.KernelIdeal.Val

end
-- ==== Proof.LoopVals.lean ====
module

public import proofs.«01_k».proof.Proof.Offs
public import proofs.«01_k».proof.Proof.PayA
public import Idealize.ShloMosaic.Lib.WritesUnit

@[expose] public section

/-! What the two counted loops of the kernel leave in the buffers they write: the block maxima of the scores (first loop),
the running sum of the probabilities and the running product with the values (second loop). -/

set_option maxRecDepth 16384
set_option maxHeartbeats 1000000

noncomputable section

namespace Cert.KernelIdeal.Val

open Cert.KernelIdeal Cert.KernelIdeal.Gen Idealize.ShloMosaic

/-- The two pieces one trip of the first loop writes. -/
theorem tripL_t1 (𝒱 : Variants) (c : Dev nD) (bd : Option 𝒱.V) (i : grid0.Coords) (arg2 : Memref sig .tc .vmem S1x128x2048 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x128x2048 .bf16) (harg5 : arg5.IsWhole) (arg6 : Memref sig .tc .vmem S1x128x2048 .fp8e4m3) (harg6 : arg6.IsWhole) (arg7 : Memref sig .tc .vmem S1x32x8 .f32) (harg7 : arg7.IsWhole) (arg8 : Memref sig .tc .vmem S1x128x512 .fp8e4m3) (harg8 : arg8.IsWhole) (arg9 : Memref sig .tc .vmem S1x32x2 .f32) (harg9 : arg9.IsWhole) (arg10 : Memref sig .tc .vmem S1x128x512 .fp8e4m3) (harg10 : arg10.IsWhole) (arg11 : Memref sig .tc .vmem S1x32x2 .f32) (harg11 : arg11.IsWhole) (arg12 : Memref sig .tc .vmem S1024x256 .fp8e4m3) (harg12 : arg12.IsWhole) (arg13 : Memref sig .tc .vmem S32x128x512 .fp8e4m3) (harg13 : arg13.IsWhole) (arg14 : Memref sig .tc .vmem S32x512x128 .fp8e4m3) (harg14 : arg14.IsWhole) (arg15 : Memref sig .tc .vmem S32x1024 .f32) (harg15 : arg15.IsWhole) (arg16 : Memref sig .tc .vmem S32x1024 .f32) (harg16 : arg16.IsWhole) (arg17 : Memref sig .tc .vmem S32x1024 .f32) (harg17 : arg17.IsWhole) (arg18 : Memref sig .tc .vmem S32x1024 .f32) (harg18 : arg18.IsWhole) (arg19 : Memref sig .tc .vmem S32x1024 .f32) (harg19 : arg19.IsWhole) (arg20 : Memref sig .tc .vmem S32x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S256x1024 .f32) (harg23 : arg23.IsWhole) (arg1 : BitVec 32) (v77 : FVec Ideal S1x2048 .f32) (v344 : IVec S128x512 32) (v345 : IVec S128x512 32) (v346 : IVec S128x512 32) (X_arg12 : BufTy.Contents (Elt Ideal) arg12.view.ty) (X_arg13 : BufTy.Contents (Elt Ideal) arg13.view.ty) (k : Fin (k0_t1_loop i).trips) :
    tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v77 v344 v345 v346 X_arg12 X_arg13 k
      = [⟨Rect.unit (s := S32x1024) (k0_off9 i k) S1x512.size (k0_off9_inb i k),
          k0_pay69 (View.readAt (Elt Ideal) arg13.view (Rect.unit (s := S32x128x512) (k0_off8 i k) S1x128x256.size (k0_off8_inb i k)).toLoadRect X_arg13)
            (View.readAt (Elt Ideal) arg12.view (Rect.unit (s := S1024x256) ![512, 0] S512x256.size inb_S1024x256_S512x256_512_0).toLoadRect X_arg12)⟩,
         ⟨Rect.unit (s := S32x1024) (k0_off7 i k) S1x512.size (k0_off7_inb i k),
          k0_pay68 (View.readAt (Elt Ideal) arg13.view (Rect.unit (s := S32x128x512) (k0_off6 i k) S1x128x256.size (k0_off6_inb i k)).toLoadRect X_arg13)
            (View.readAt (Elt Ideal) arg12.view (Rect.unit (s := S1024x256) ![0, 0] S512x256.size inb_S1024x256_S512x256_0_0).toLoadRect X_arg12)⟩] := by
  unfold tripL_k0_t1 trip_k0_t1
  rfl

/-- After `k` trips of the first loop the rows below `k` hold the block maxima, the others what they held. -/
theorem read_t1 (𝒱 : Variants) (c : Dev nD) (bd : Option 𝒱.V) (i : grid0.Coords) (arg2 : Memref sig .tc .vmem S1x128x2048 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x128x2048 .bf16) (harg5 : arg5.IsWhole) (arg6 : Memref sig .tc .vmem S1x128x2048 .fp8e4m3) (harg6 : arg6.IsWhole) (arg7 : Memref sig .tc .vmem S1x32x8 .f32) (harg7 : arg7.IsWhole) (arg8 : Memref sig .tc .vmem S1x128x512 .fp8e4m3) (harg8 : arg8.IsWhole) (arg9 : Memref sig .tc .vmem S1x32x2 .f32) (harg9 : arg9.IsWhole) (arg10 : Memref sig .tc .vmem S1x128x512 .fp8e4m3) (harg10 : arg10.IsWhole) (arg11 : Memref sig .tc .vmem S1x32x2 .f32) (harg11 : arg11.IsWhole) (arg12 : Memref sig .tc .vmem S1024x256 .fp8e4m3) (harg12 : arg12.IsWhole) (arg13 : Memref sig .tc .vmem S32x128x512 .fp8e4m3) (harg13 : arg13.IsWhole) (arg14 : Memref sig .tc .vmem S32x512x128 .fp8e4m3) (harg14 : arg14.IsWhole) (arg15 : Memref sig .tc .vmem S32x1024 .f32) (harg15 : arg15.IsWhole) (arg16 : Memref sig .tc .vmem S32x1024 .f32) (harg16 : arg16.IsWhole) (arg17 : Memref sig .tc .vmem S32x1024 .f32) (harg17 : arg17.IsWhole) (arg18 : Memref sig .tc .vmem S32x1024 .f32) (harg18 : arg18.IsWhole) (arg19 : Memref sig .tc .vmem S32x1024 .f32) (harg19 : arg19.IsWhole) (arg20 : Memref sig .tc .vmem S32x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S256x1024 .f32) (harg23 : arg23.IsWhole) (arg1 : BitVec 32) (v77 : FVec Ideal S1x2048 .f32) (v344 : IVec S128x512 32) (v345 : IVec S128x512 32) (v346 : IVec S128x512 32) (X_arg12 : BufTy.Contents (Elt Ideal) arg12.view.ty) (X_arg13 : BufTy.Contents (Elt Ideal) arg13.view.ty) (G : BufTy.Contents (Elt Ideal) arg17.view.ty) (n : Fin 32) (L : Fin 1024) (k : ℕ) (hk : k ≤ (k0_t1_loop i).trips) :
    arg17.view.read (Elt Ideal) (arg17.view.writes (Elt Ideal) G (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v77 v344 v345 v346 X_arg12 X_arg13 k)) (ix2 n L)
      = if n.val < k then blockMax (arg13.view.read (Elt Ideal) X_arg13) (arg12.view.read (Elt Ideal) X_arg12) n L
        else arg17.view.read (Elt Ideal) G (ix2 n L) := by
  induction k with
  | zero => rw [if_neg (Nat.not_lt_zero _)]; rfl
  | succ k ih =>
    have ih := ih (by omega)
    have hk' : k < (k0_t1_loop i).trips := by omega
    have h1 := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v77 v344 v345 v346 X_arg12 X_arg13 ⟨k, hk'⟩
    rw [tripL_t1] at h1
    rw [show k + 1 = (⟨k, hk'⟩ : Fin (k0_t1_loop i).trips).val + 1 from rfl, h1]
    rw [List.cons_append, List.cons_append, List.nil_append]
    by_cases hn : n.val = k
    · rw [if_pos (by simp only; omega)]
      by_cases hL : L.val < 512
      · rw [View.read_writes_cons_unit_of_not_mem _ _ _ _ _ _ (off9_eq i ⟨k, hk'⟩) 1 (Or.inl hL)]
        rw [View.read_writes_cons_unit_of_mem _ _ _ _ _ _ (ix2 0 ⟨L.val, hL⟩) (off7_eq i ⟨k, hk'⟩) (fun a => by fin_cases a <;> simp [hn])]
        exact pay68_block _ _ _ _ _ _ _ _ _ _ _ (off6_eq i ⟨k, hk'⟩) rfl n hn L _ (by omega) (by simp only; omega)
      · rw [View.read_writes_cons_unit_of_mem _ _ _ _ _ _ (ix2 0 ⟨L.val - 512, by omega⟩) (off9_eq i ⟨k, hk'⟩) (fun a => by fin_cases a <;> simp [hn]; omega)]
        exact pay69_block _ _ _ _ _ _ _ _ _ _ _ (off8_eq i ⟨k, hk'⟩) rfl n hn L _ (by omega) (by simp only; omega)
    · have hne : n.val < k ∨ k + 1 ≤ n.val := by omega
      rw [View.read_writes_cons_unit_of_not_mem _ _ _ _ _ _ (off9_eq i ⟨k, hk'⟩) 0 (by simpa using hne)]
      rw [View.read_writes_cons_unit_of_not_mem _ _ _ _ _ _ (off7_eq i ⟨k, hk'⟩) 0 (by simpa using hne)]
      rw [ih]
      by_cases h : n.val < k
      · rw [if_pos h, if_pos (by simp only; omega)]
      · rw [if_neg h, if_neg (by simp only; omega)]

/-- The two pieces one trip of the second loop writes into the running sum. -/
theorem tripL_t3a (𝒱 : Variants) (c : Dev nD) (bd : Option 𝒱.V) (i : grid0.Coords) (arg2 : Memref sig .tc .vmem S1x128x2048 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x128x2048 .bf16) (harg5 : arg5.IsWhole) (arg6 : Memref sig .tc .vmem S1x128x2048 .fp8e4m3) (harg6 : arg6.IsWhole) (arg7 : Memref sig .tc .vmem S1x32x8 .f32) (harg7 : arg7.IsWhole) (arg8 : Memref sig .tc .vmem S1x128x512 .fp8e4m3) (harg8 : arg8.IsWhole) (arg9 : Memref sig .tc .vmem S1x32x2 .f32) (harg9 : arg9.IsWhole) (arg10 : Memref sig .tc .vmem S1x128x512 .fp8e4m3) (harg10 : arg10.IsWhole) (arg11 : Memref sig .tc .vmem S1x32x2 .f32) (harg11 : arg11.IsWhole) (arg12 : Memref sig .tc .vmem S1024x256 .fp8e4m3) (harg12 : arg12.IsWhole) (arg13 : Memref sig .tc .vmem S32x128x512 .fp8e4m3) (harg13 : arg13.IsWhole) (arg14 : Memref sig .tc .vmem S32x512x128 .fp8e4m3) (harg14 : arg14.IsWhole) (arg15 : Memref sig .tc .vmem S32x1024 .f32) (harg15 : arg15.IsWhole) (arg16 : Memref sig .tc .vmem S32x1024 .f32) (harg16 : arg16.IsWhole) (arg17 : Memref sig .tc .vmem S32x1024 .f32) (harg17 : arg17.IsWhole) (arg18 : Memref sig .tc .vmem S32x1024 .f32) (harg18 : arg18.IsWhole) (arg19 : Memref sig .tc .vmem S32x1024 .f32) (harg19 : arg19.IsWhole) (arg20 : Memref sig .tc .vmem S32x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S256x1024 .f32) (harg23 : arg23.IsWhole) (arg1 : BitVec 32) (v397 : FVec Ideal S1x1024 .f32) (v468 : FVec Ideal S32x1024 .f32) (v469 : FVec Ideal S32x1024 .f32) (v473 : Vec Ideal S32x1024 .f32) (X_arg12 : BufTy.Contents (Elt Ideal) arg12.view.ty) (X_arg13 : BufTy.Contents (Elt Ideal) arg13.view.ty) (X_arg14 : BufTy.Contents (Elt Ideal) arg14.view.ty) (X_arg18 : BufTy.Contents (Elt Ideal) arg18.view.ty) (X_arg19 : BufTy.Contents (Elt Ideal) arg19.view.ty) (X_arg20 : BufTy.Contents (Elt Ideal) arg20.view.ty) (X_arg21 : BufTy.Contents (Elt Ideal) arg21.view.ty) (G_arg22 : BufTy.Contents (Elt Ideal) arg22.view.ty) (G_arg23 : BufTy.Contents (Elt Ideal) arg23.view.ty) (k : Fin (k0_t3_loop i).trips) :
    (tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v397 v468 v469 v473 X_arg12 X_arg13 X_arg14 X_arg18 X_arg19 X_arg20 X_arg21 k G_arg22 G_arg23).1
      = [⟨Rect.unit (s := S1x1024) ![0, 512] S1x512.size inb_S1x1024_S1x512_0_512,
          k0_pay10 (View.readAt (Elt Ideal) arg13.view (Rect.unit (s := S32x128x512) (k0_off21 i k) S1x128x256.size (k0_off21_inb i k)).toLoadRect X_arg13) (View.readAt (Elt Ideal) arg12.view (Rect.unit (s := S1024x256) ![512, 0] S512x256.size inb_S1024x256_S512x256_512_0).toLoadRect X_arg12)
            (View.readAt (Elt Ideal) arg18.view (Rect.unit (s := S32x1024) (k0_off22 i k) S1x512.size (k0_off22_inb i k)).toLoadRect X_arg18) (View.readAt (Elt Ideal) arg21.view (Rect.unit (s := S1x1024) ![0, 512] S1x512.size inb_S1x1024_S1x512_0_512).toLoadRect X_arg21) (View.readAt (Elt Ideal) arg22.view (Rect.unit (s := S1x1024) ![0, 512] S1x512.size inb_S1x1024_S1x512_0_512).toLoadRect G_arg22)⟩,
         ⟨Rect.unit (s := S1x1024) ![0, 0] S1x512.size inb_S1x1024_S1x512_0_0,
          k0_pay6 (View.readAt (Elt Ideal) arg13.view (Rect.unit (s := S32x128x512) (k0_off18 i k) S1x128x256.size (k0_off18_inb i k)).toLoadRect X_arg13) (View.readAt (Elt Ideal) arg12.view (Rect.unit (s := S1024x256) ![0, 0] S512x256.size inb_S1024x256_S512x256_0_0).toLoadRect X_arg12)
            (View.readAt (Elt Ideal) arg18.view (Rect.unit (s := S32x1024) (k0_off19 i k) S1x512.size (k0_off19_inb i k)).toLoadRect X_arg18) (View.readAt (Elt Ideal) arg21.view (Rect.unit (s := S1x1024) ![0, 0] S1x512.size inb_S1x1024_S1x512_0_0).toLoadRect X_arg21) (View.readAt (Elt Ideal) arg22.view (Rect.unit (s := S1x1024) ![0, 0] S1x512.size inb_S1x1024_S1x512_0_0).toLoadRect G_arg22)⟩] := by
  unfold tripL_k0_t3 trip_k0_t3
  show [_, _] = _
  rw [show trip_k0_t3.sl.v692 arg22 G_arg22 = View.readAt (Elt Ideal) arg22.view (Rect.unit (s := S1x1024) ![0, 512] S1x512.size inb_S1x1024_S1x512_0_512).toLoadRect G_arg22 from by unfold trip_k0_t3.sl.v692; rfl]

/-- The two pieces one trip of the second loop writes into the running product. -/
theorem tripL_t3b (𝒱 : Variants) (c : Dev nD) (bd : Option 𝒱.V) (i : grid0.Coords) (arg2 : Memref sig .tc .vmem S1x128x2048 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x128x2048 .bf16) (harg5 : arg5.IsWhole) (arg6 : Memref sig .tc .vmem S1x128x2048 .fp8e4m3) (harg6 : arg6.IsWhole) (arg7 : Memref sig .tc .vmem S1x32x8 .f32) (harg7 : arg7.IsWhole) (arg8 : Memref sig .tc .vmem S1x128x512 .fp8e4m3) (harg8 : arg8.IsWhole) (arg9 : Memref sig .tc .vmem S1x32x2 .f32) (harg9 : arg9.IsWhole) (arg10 : Memref sig .tc .vmem S1x128x512 .fp8e4m3) (harg10 : arg10.IsWhole) (arg11 : Memref sig .tc .vmem S1x32x2 .f32) (harg11 : arg11.IsWhole) (arg12 : Memref sig .tc .vmem S1024x256 .fp8e4m3) (harg12 : arg12.IsWhole) (arg13 : Memref sig .tc .vmem S32x128x512 .fp8e4m3) (harg13 : arg13.IsWhole) (arg14 : Memref sig .tc .vmem S32x512x128 .fp8e4m3) (harg14 : arg14.IsWhole) (arg15 : Memref sig .tc .vmem S32x1024 .f32) (harg15 : arg15.IsWhole) (arg16 : Memref sig .tc .vmem S32x1024 .f32) (harg16 : arg16.IsWhole) (arg17 : Memref sig .tc .vmem S32x1024 .f32) (harg17 : arg17.IsWhole) (arg18 : Memref sig .tc .vmem S32x1024 .f32) (harg18 : arg18.IsWhole) (arg19 : Memref sig .tc .vmem S32x1024 .f32) (harg19 : arg19.IsWhole) (arg20 : Memref sig .tc .vmem S32x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S256x1024 .f32) (harg23 : arg23.IsWhole) (arg1 : BitVec 32) (v397 : FVec Ideal S1x1024 .f32) (v468 : FVec Ideal S32x1024 .f32) (v469 : FVec Ideal S32x1024 .f32) (v473 : Vec Ideal S32x1024 .f32) (X_arg12 : BufTy.Contents (Elt Ideal) arg12.view.ty) (X_arg13 : BufTy.Contents (Elt Ideal) arg13.view.ty) (X_arg14 : BufTy.Contents (Elt Ideal) arg14.view.ty) (X_arg18 : BufTy.Contents (Elt Ideal) arg18.view.ty) (X_arg19 : BufTy.Contents (Elt Ideal) arg19.view.ty) (X_arg20 : BufTy.Contents (Elt Ideal) arg20.view.ty) (X_arg21 : BufTy.Contents (Elt Ideal) arg21.view.ty) (G_arg22 : BufTy.Contents (Elt Ideal) arg22.view.ty) (G_arg23 : BufTy.Contents (Elt Ideal) arg23.view.ty) (k : Fin (k0_t3_loop i).trips) :
    (tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v397 v468 v469 v473 X_arg12 X_arg13 X_arg14 X_arg18 X_arg19 X_arg20 X_arg21 k G_arg22 G_arg23).2
      = [⟨Rect.unit (s := S256x1024) ![0, 512] S256x512.size inb_S256x1024_S256x512_0_512,
          k0_pay95 (k0_pay11 (View.readAt (Elt Ideal) arg13.view (Rect.unit (s := S32x128x512) (k0_off21 i k) S1x128x256.size (k0_off21_inb i k)).toLoadRect X_arg13) (View.readAt (Elt Ideal) arg12.view (Rect.unit (s := S1024x256) ![512, 0] S512x256.size inb_S1024x256_S512x256_512_0).toLoadRect X_arg12) (View.readAt (Elt Ideal) arg18.view (Rect.unit (s := S32x1024) (k0_off22 i k) S1x512.size (k0_off22_inb i k)).toLoadRect X_arg18) (View.readAt (Elt Ideal) arg21.view (Rect.unit (s := S1x1024) ![0, 512] S1x512.size inb_S1x1024_S1x512_0_512).toLoadRect X_arg21) (View.readAt (Elt Ideal) arg19.view (Rect.unit (s := S32x1024) (k0_off22 i k) S1x512.size (k0_off22_inb i k)).toLoadRect X_arg19)) (k0_pay12 (View.readAt (Elt Ideal) arg14.view (Rect.unit (s := S32x512x128) (k0_off23 i k) S1x256x128.size (k0_off23_inb i k)).toLoadRect X_arg14))
            (View.readAt (Elt Ideal) arg23.view (Rect.unit (s := S256x1024) ![0, 512] S256x512.size inb_S256x1024_S256x512_0_512).toLoadRect G_arg23) (View.readAt (Elt Ideal) arg20.view (Rect.unit (s := S32x1024) (k0_off22 i k) S1x512.size (k0_off22_inb i k)).toLoadRect X_arg20)⟩,
         ⟨Rect.unit (s := S256x1024) ![0, 0] S256x512.size inb_S256x1024_S256x512_0_0,
          k0_pay8 (k0_pay7 (View.readAt (Elt Ideal) arg13.view (Rect.unit (s := S32x128x512) (k0_off18 i k) S1x128x256.size (k0_off18_inb i k)).toLoadRect X_arg13) (View.readAt (Elt Ideal) arg12.view (Rect.unit (s := S1024x256) ![0, 0] S512x256.size inb_S1024x256_S512x256_0_0).toLoadRect X_arg12) (View.readAt (Elt Ideal) arg18.view (Rect.unit (s := S32x1024) (k0_off19 i k) S1x512.size (k0_off19_inb i k)).toLoadRect X_arg18) (View.readAt (Elt Ideal) arg21.view (Rect.unit (s := S1x1024) ![0, 0] S1x512.size inb_S1x1024_S1x512_0_0).toLoadRect X_arg21) (View.readAt (Elt Ideal) arg19.view (Rect.unit (s := S32x1024) (k0_off19 i k) S1x512.size (k0_off19_inb i k)).toLoadRect X_arg19) (View.readAt (Elt Ideal) arg14.view (Rect.unit (s := S32x512x128) (k0_off20 i k) S1x256x128.size (k0_off20_inb i k)).toLoadRect X_arg14))
            (View.readAt (Elt Ideal) arg23.view (Rect.unit (s := S256x1024) ![0, 0] S256x512.size inb_S256x1024_S256x512_0_0).toLoadRect G_arg23) (View.readAt (Elt Ideal) arg20.view (Rect.unit (s := S32x1024) (k0_off19 i k) S1x512.size (k0_off19_inb i k)).toLoadRect X_arg20)⟩] := by
  unfold tripL_k0_t3 trip_k0_t3
  show [_, _] = _
  unfold trip_k0_t3.sl.r_3 trip_k0_t3.sl.r_4 trip_k0_t3.sl.v712 trip_k0_t3.sl.r trip_k0_t3.sl.r_1 trip_k0_t3.sl.r_2
  rfl

/-- After `k` trips of the second loop the running sum holds the probabilities of the blocks below `k`. -/
theorem read_t3a (𝒱 : Variants) (c : Dev nD) (bd : Option 𝒱.V) (i : grid0.Coords) (arg2 : Memref sig .tc .vmem S1x128x2048 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x128x2048 .bf16) (harg5 : arg5.IsWhole) (arg6 : Memref sig .tc .vmem S1x128x2048 .fp8e4m3) (harg6 : arg6.IsWhole) (arg7 : Memref sig .tc .vmem S1x32x8 .f32) (harg7 : arg7.IsWhole) (arg8 : Memref sig .tc .vmem S1x128x512 .fp8e4m3) (harg8 : arg8.IsWhole) (arg9 : Memref sig .tc .vmem S1x32x2 .f32) (harg9 : arg9.IsWhole) (arg10 : Memref sig .tc .vmem S1x128x512 .fp8e4m3) (harg10 : arg10.IsWhole) (arg11 : Memref sig .tc .vmem S1x32x2 .f32) (harg11 : arg11.IsWhole) (arg12 : Memref sig .tc .vmem S1024x256 .fp8e4m3) (harg12 : arg12.IsWhole) (arg13 : Memref sig .tc .vmem S32x128x512 .fp8e4m3) (harg13 : arg13.IsWhole) (arg14 : Memref sig .tc .vmem S32x512x128 .fp8e4m3) (harg14 : arg14.IsWhole) (arg15 : Memref sig .tc .vmem S32x1024 .f32) (harg15 : arg15.IsWhole) (arg16 : Memref sig .tc .vmem S32x1024 .f32) (harg16 : arg16.IsWhole) (arg17 : Memref sig .tc .vmem S32x1024 .f32) (harg17 : arg17.IsWhole) (arg18 : Memref sig .tc .vmem S32x1024 .f32) (harg18 : arg18.IsWhole) (arg19 : Memref sig .tc .vmem S32x1024 .f32) (harg19 : arg19.IsWhole) (arg20 : Memref sig .tc .vmem S32x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S256x1024 .f32) (harg23 : arg23.IsWhole) (arg1 : BitVec 32) (v397 : FVec Ideal S1x1024 .f32) (v468 : FVec Ideal S32x1024 .f32) (v469 : FVec Ideal S32x1024 .f32) (v473 : Vec Ideal S32x1024 .f32) (X_arg12 : BufTy.Contents (Elt Ideal) arg12.view.ty) (X_arg13 : BufTy.Contents (Elt Ideal) arg13.view.ty) (X_arg14 : BufTy.Contents (Elt Ideal) arg14.view.ty) (X_arg18 : BufTy.Contents (Elt Ideal) arg18.view.ty) (X_arg19 : BufTy.Contents (Elt Ideal) arg19.view.ty) (X_arg20 : BufTy.Contents (Elt Ideal) arg20.view.ty) (X_arg21 : BufTy.Contents (Elt Ideal) arg21.view.ty) (G_arg22 : BufTy.Contents (Elt Ideal) arg22.view.ty) (G_arg23 : BufTy.Contents (Elt Ideal) arg23.view.ty) (L : Fin 1024) (k : ℕ) (hk : k ≤ (k0_t3_loop i).trips) :
    arg22.view.read (Elt Ideal) (arg22.view.writes (Elt Ideal) G_arg22 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v397 v468 v469 v473 X_arg12 X_arg13 X_arg14 X_arg18 X_arg19 X_arg20 X_arg21 G_arg22 G_arg23 k).1) (ix2 0 L)
      = arg22.view.read (Elt Ideal) G_arg22 (ix2 0 L)
        + ∑ n ∈ Finset.univ.filter (fun n : Fin 32 => n.val < k), ∑ r : Fin 128, prob (arg13.view.read (Elt Ideal) X_arg13) (arg12.view.read (Elt Ideal) X_arg12) (arg18.view.read (Elt Ideal) X_arg18) (arg21.view.read (Elt Ideal) X_arg21) n r L := by
  induction k with
  | zero =>
    rw [show (Finset.univ.filter fun n : Fin 32 => n.val < 0) = ∅ from by simp, Finset.sum_empty, add_zero]
    rfl
  | succ k ih =>
    have ih := ih (by omega)
    have hk' : k < (k0_t3_loop i).trips := by omega
    have h32 : k < 32 := by have := trips_t3 i; have : (i 1).val < 32 := (i 1).isLt; omega
    have h1 : (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v397 v468 v469 v473 X_arg12 X_arg13 X_arg14 X_arg18 X_arg19 X_arg20 X_arg21 G_arg22 G_arg23 (k + 1)).1
        = (tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v397 v468 v469 v473 X_arg12 X_arg13 X_arg14 X_arg18 X_arg19 X_arg20 X_arg21 ⟨k, hk'⟩ (arg22.view.writes (Elt Ideal) G_arg22 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v397 v468 v469 v473 X_arg12 X_arg13 X_arg14 X_arg18 X_arg19 X_arg20 X_arg21 G_arg22 G_arg23 k).1) (arg23.view.writes (Elt Ideal) G_arg23 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v397 v468 v469 v473 X_arg12 X_arg13 X_arg14 X_arg18 X_arg19 X_arg20 X_arg21 G_arg22 G_arg23 k).2)).1
          ++ (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v397 v468 v469 v473 X_arg12 X_arg13 X_arg14 X_arg18 X_arg19 X_arg20 X_arg21 G_arg22 G_arg23 k).1 := congrArg Prod.fst (pb_k0_t3_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v397 v468 v469 v473 X_arg12 X_arg13 X_arg14 X_arg18 X_arg19 X_arg20 X_arg21 G_arg22 G_arg23 ⟨k, hk'⟩)
    rw [tripL_t3a] at h1
    rw [sum_lt_succ _ k h32, ← add_assoc, ← ih]
    rw [h1]
    rw [List.cons_append, List.cons_append, List.nil_append]
    by_cases hL : L.val < 512
    · rw [View.read_writes_cons_unit_of_not_mem _ _ _ _ _ _ rfl 1 (Or.inl hL)]
      rw [View.read_writes_cons_unit_of_mem _ _ _ _ _ _ (ix2 0 ⟨L.val, hL⟩) rfl (fun a => by fin_cases a <;> simp)]
      refine pay6_block k 0 0 ⟨k, h32⟩ rfl L ⟨L.val, hL⟩ (by omega) (by simp) _ _ _ _ (off18_eq i ⟨k, hk'⟩) _ _ _ _ rfl _ _ _ _ (off19_eq i ⟨k, hk'⟩) _ _ _ _ rfl _ _ _ _ rfl
    · rw [View.read_writes_cons_unit_of_mem _ _ _ _ _ _ (ix2 0 ⟨L.val - 512, by omega⟩) rfl (fun a => by fin_cases a <;> simp; omega)]
      refine pay10_block k 256 512 ⟨k, h32⟩ rfl L ⟨L.val - 512, by omega⟩ (by omega) (by simp only; omega) _ _ _ _ (off21_eq i ⟨k, hk'⟩) _ _ _ _ rfl _ _ _ _ (off22_eq i ⟨k, hk'⟩) _ _ _ _ rfl _ _ _ _ rfl

/-- After `k` trips of the second loop the running product holds the contributions of the blocks below `k`. -/
theorem read_t3b (𝒱 : Variants) (c : Dev nD) (bd : Option 𝒱.V) (i : grid0.Coords) (arg2 : Memref sig .tc .vmem S1x128x2048 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x128x2048 .bf16) (harg5 : arg5.IsWhole) (arg6 : Memref sig .tc .vmem S1x128x2048 .fp8e4m3) (harg6 : arg6.IsWhole) (arg7 : Memref sig .tc .vmem S1x32x8 .f32) (harg7 : arg7.IsWhole) (arg8 : Memref sig .tc .vmem S1x128x512 .fp8e4m3) (harg8 : arg8.IsWhole) (arg9 : Memref sig .tc .vmem S1x32x2 .f32) (harg9 : arg9.IsWhole) (arg10 : Memref sig .tc .vmem S1x128x512 .fp8e4m3) (harg10 : arg10.IsWhole) (arg11 : Memref sig .tc .vmem S1x32x2 .f32) (harg11 : arg11.IsWhole) (arg12 : Memref sig .tc .vmem S1024x256 .fp8e4m3) (harg12 : arg12.IsWhole) (arg13 : Memref sig .tc .vmem S32x128x512 .fp8e4m3) (harg13 : arg13.IsWhole) (arg14 : Memref sig .tc .vmem S32x512x128 .fp8e4m3) (harg14 : arg14.IsWhole) (arg15 : Memref sig .tc .vmem S32x1024 .f32) (harg15 : arg15.IsWhole) (arg16 : Memref sig .tc .vmem S32x1024 .f32) (harg16 : arg16.IsWhole) (arg17 : Memref sig .tc .vmem S32x1024 .f32) (harg17 : arg17.IsWhole) (arg18 : Memref sig .tc .vmem S32x1024 .f32) (harg18 : arg18.IsWhole) (arg19 : Memref sig .tc .vmem S32x1024 .f32) (harg19 : arg19.IsWhole) (arg20 : Memref sig .tc .vmem S32x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S256x1024 .f32) (harg23 : arg23.IsWhole) (arg1 : BitVec 32) (v397 : FVec Ideal S1x1024 .f32) (v468 : FVec Ideal S32x1024 .f32) (v469 : FVec Ideal S32x1024 .f32) (v473 : Vec Ideal S32x1024 .f32) (X_arg12 : BufTy.Contents (Elt Ideal) arg12.view.ty) (X_arg13 : BufTy.Contents (Elt Ideal) arg13.view.ty) (X_arg14 : BufTy.Contents (Elt Ideal) arg14.view.ty) (X_arg18 : BufTy.Contents (Elt Ideal) arg18.view.ty) (X_arg19 : BufTy.Contents (Elt Ideal) arg19.view.ty) (X_arg20 : BufTy.Contents (Elt Ideal) arg20.view.ty) (X_arg21 : BufTy.Contents (Elt Ideal) arg21.view.ty) (G_arg22 : BufTy.Contents (Elt Ideal) arg22.view.ty) (G_arg23 : BufTy.Contents (Elt Ideal) arg23.view.ty) (e : Fin 256) (L : Fin 1024) (k : ℕ) (hk : k ≤ (k0_t3_loop i).trips) :
    arg23.view.read (Elt Ideal) (arg23.view.writes (Elt Ideal) G_arg23 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v397 v468 v469 v473 X_arg12 X_arg13 X_arg14 X_arg18 X_arg19 X_arg20 X_arg21 G_arg22 G_arg23 k).2) (ix2 e L)
      = arg23.view.read (Elt Ideal) G_arg23 (ix2 e L)
        + ∑ n ∈ Finset.univ.filter (fun n : Fin 32 => n.val < k), outTerm (arg14.view.read (Elt Ideal) X_arg14) (arg19.view.read (Elt Ideal) X_arg19) (arg20.view.read (Elt Ideal) X_arg20) (fun r => prob (arg13.view.read (Elt Ideal) X_arg13) (arg12.view.read (Elt Ideal) X_arg12) (arg18.view.read (Elt Ideal) X_arg18) (arg21.view.read (Elt Ideal) X_arg21) n r L) n e L := by
  induction k with
  | zero =>
    rw [show (Finset.univ.filter fun n : Fin 32 => n.val < 0) = ∅ from by simp, Finset.sum_empty, add_zero]
    rfl
  | succ k ih =>
    have ih := ih (by omega)
    have hk' : k < (k0_t3_loop i).trips := by omega
    have h32 : k < 32 := by have := trips_t3 i; have : (i 1).val < 32 := (i 1).isLt; omega
    have h1 : (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v397 v468 v469 v473 X_arg12 X_arg13 X_arg14 X_arg18 X_arg19 X_arg20 X_arg21 G_arg22 G_arg23 (k + 1)).2
        = (tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v397 v468 v469 v473 X_arg12 X_arg13 X_arg14 X_arg18 X_arg19 X_arg20 X_arg21 ⟨k, hk'⟩ (arg22.view.writes (Elt Ideal) G_arg22 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v397 v468 v469 v473 X_arg12 X_arg13 X_arg14 X_arg18 X_arg19 X_arg20 X_arg21 G_arg22 G_arg23 k).1) (arg23.view.writes (Elt Ideal) G_arg23 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v397 v468 v469 v473 X_arg12 X_arg13 X_arg14 X_arg18 X_arg19 X_arg20 X_arg21 G_arg22 G_arg23 k).2)).2
          ++ (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v397 v468 v469 v473 X_arg12 X_arg13 X_arg14 X_arg18 X_arg19 X_arg20 X_arg21 G_arg22 G_arg23 k).2 := congrArg Prod.snd (pb_k0_t3_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v397 v468 v469 v473 X_arg12 X_arg13 X_arg14 X_arg18 X_arg19 X_arg20 X_arg21 G_arg22 G_arg23 ⟨k, hk'⟩)
    rw [tripL_t3b] at h1
    rw [sum_lt_succ _ k h32, ← add_assoc, ← ih]
    rw [h1]
    rw [List.cons_append, List.cons_append, List.nil_append]
    by_cases hL : L.val < 512
    · rw [View.read_writes_cons_unit_of_not_mem _ _ _ _ _ _ rfl 1 (Or.inl hL)]
      rw [View.read_writes_cons_unit_of_mem _ _ _ _ _ _ (ix2 e ⟨L.val, hL⟩) rfl (fun a => by fin_cases a <;> simp)]
      refine pay8_block k 0 0 ⟨k, h32⟩ rfl L ⟨L.val, hL⟩ (by omega) (by simp) _ _ _ _ (off18_eq i ⟨k, hk'⟩) _ _ _ _ rfl _ _ _ _ (off20_eq i ⟨k, hk'⟩) _ _ _ _ (off19_eq i ⟨k, hk'⟩) _ _ _ _ (off19_eq i ⟨k, hk'⟩) _ _ _ _ (off19_eq i ⟨k, hk'⟩) _ _ _ _ rfl _ _ _ _ rfl e
    · rw [View.read_writes_cons_unit_of_mem _ _ _ _ _ _ (ix2 e ⟨L.val - 512, by omega⟩) rfl (fun a => by fin_cases a <;> simp; omega)]
      refine pay95_block k 256 512 ⟨k, h32⟩ rfl L ⟨L.val - 512, by omega⟩ (by omega) (by simp only; omega) _ _ _ _ (off21_eq i ⟨k, hk'⟩) _ _ _ _ rfl _ _ _ _ (off23_eq i ⟨k, hk'⟩) _ _ _ _ (off22_eq i ⟨k, hk'⟩) _ _ _ _ (off22_eq i ⟨k, hk'⟩) _ _ _ _ (off22_eq i ⟨k, hk'⟩) _ _ _ _ rfl _ _ _ _ rfl e

end Cert.KernelIdeal.Val

end
-- ==== Proof.AccVals.lean ====
module

public import proofs.«01_k».proof.Proof.Tails
public import proofs.«01_k».proof.Proof.LoopVals
public import proofs.«01_k».proof.Proof.Offs
public import Idealize.ShloMosaic.Lib.VecWindow
public import Idealize.ShloMosaic.Lib.Tactic

@[expose] public section

/-! The accumulation stretch of the body (from part 16 on): from known codes, factors and maxima it leaves the normalised
output block. -/

set_option maxRecDepth 16384
set_option maxHeartbeats 4000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The sum of a query lane's unnormalised probabilities: the blocks before the queries' own in full, their own under the mask. -/
def ell (i : Fin 32) (mask : IVec S128x512 1) (K : Vec Ideal S32x128x512 .fp8e4m3) (Q : Vec Ideal S1024x256 .fp8e4m3) (C : Vec Ideal S32x1024 .f32)
    (M : Vec Ideal S1x1024 .f32) (L : Fin 1024) : EReal :=
  (∑ n ∈ Finset.univ.filter (fun n : Fin 32 => n.val < i.val), ∑ r : Fin 128, prob K Q C M n r L) + ∑ r : Fin 128, probD mask K Q C M i r L

/-- The weighted sum of the values at depth `e` of a query lane. -/
def acc (i : Fin 32) (mask : IVec S128x512 1) (K : Vec Ideal S32x128x512 .fp8e4m3) (Q : Vec Ideal S1024x256 .fp8e4m3) (V : Vec Ideal S32x512x128 .fp8e4m3)
    (C : Vec Ideal S32x1024 .f32) (M : Vec Ideal S1x1024 .f32) (I W : Vec Ideal S32x1024 .f32) (e : Fin 256) (L : Fin 1024) : EReal :=
  (∑ n ∈ Finset.univ.filter (fun n : Fin 32 => n.val < i.val), outTerm V I W (fun r => prob K Q C M n r L) n e L)
    + outTerm V I W (fun r => probD mask K Q C M i r L) i e L

/-- The lane of query `q` of head `h`. -/
def qlane (h : Fin 8) (q : Fin 128) : Fin 1024 := ⟨128 * h.val + q.val, by omega⟩

/-- The output block. -/
def outY (i : Fin 32) (mask : IVec S128x512 1) (K : Vec Ideal S32x128x512 .fp8e4m3) (Q : Vec Ideal S1024x256 .fp8e4m3) (V : Vec Ideal S32x512x128 .fp8e4m3)
    (C : Vec Ideal S32x1024 .f32) (M : Vec Ideal S1x1024 .f32) (I W : Vec Ideal S32x1024 .f32) : Vec Ideal S1x128x2048 .bf16 := fun y =>
  let L := qlane ⟨(y 2).val / 256, by have : (y 2).val < 2048 := (y 2).isLt; omega⟩ (y 1)
  Ideal.div (acc i mask K Q V C M I W ⟨(y 2).val % 256, Nat.mod_lt _ (by norm_num)⟩ L) (ell i mask K Q C M L)

/-- The two half-row updates of the running sums by the queries' own block. -/
theorem ell_read (i : grid0.Coords) (mask : IVec S128x512 1)
    (v13 : View sig .tc .vmem S32x128x512 .fp8e4m3) (f13 : v13.ty.Contents (Elt Ideal))
    (v12 : View sig .tc .vmem S1024x256 .fp8e4m3) (f12 : v12.ty.Contents (Elt Ideal))
    (v18 : View sig .tc .vmem S32x1024 .f32) (f18 : v18.ty.Contents (Elt Ideal))
    (v21 : View sig .tc .vmem S1x1024 .f32) (f21 : v21.ty.Contents (Elt Ideal)) (v22 : View sig .tc .vmem S1x1024 .f32) (R : List (View.Piece (Elt Ideal) S1x1024 .f32)) (L : Fin 1024) :
    v22.read (Elt Ideal) (v22.writes (Elt Ideal) v22.junk (⟨Rect.unit (s := S1x1024) ![0, 512] S1x512.size (by decide), k0_pay102 mask (v13.readAt (Elt Ideal) (Rect.unit (s := S32x128x512) (k0_off16 i) S1x128x256.size (k0_off16_inb i)).toLoadRect f13) (v12.readAt (Elt Ideal) (Rect.unit (s := S1024x256) (![512, 0]) S512x256.size (by decide)).toLoadRect f12) (v18.readAt (Elt Ideal) (Rect.unit (s := S32x1024) (k0_off17 i) S1x512.size (k0_off17_inb i)).toLoadRect f18) (v21.readAt (Elt Ideal) (Rect.unit (s := S1x1024) (![0, 512]) S1x512.size (by decide)).toLoadRect f21) (v22.readAt (Elt Ideal) (Rect.unit (s := S1x1024) (![0, 512]) S1x512.size (by decide)).toLoadRect (v22.writes (Elt Ideal) v22.junk (⟨Rect.unit (s := S1x1024) ![0, 0] S1x512.size (by decide), k0_pay99 mask (k0_pay97 (v13.readAt (Elt Ideal) (Rect.unit (s := S32x128x512) (k0_off14 i) S1x128x256.size (k0_off14_inb i)).toLoadRect f13) (v12.readAt (Elt Ideal) (Rect.unit (s := S1024x256) (![0, 0]) S512x256.size (by decide)).toLoadRect f12)) (v18.readAt (Elt Ideal) (Rect.unit (s := S32x1024) (k0_off15 i) S1x512.size (k0_off15_inb i)).toLoadRect f18) (v21.readAt (Elt Ideal) (Rect.unit (s := S1x1024) (![0, 0]) S1x512.size (by decide)).toLoadRect f21) (v22.readAt (Elt Ideal) (Rect.unit (s := S1x1024) (![0, 0]) S1x512.size (by decide)).toLoadRect (v22.writes (Elt Ideal) v22.junk (R)))⟩ :: R)))⟩ :: ⟨Rect.unit (s := S1x1024) ![0, 0] S1x512.size (by decide), k0_pay99 mask (k0_pay97 (v13.readAt (Elt Ideal) (Rect.unit (s := S32x128x512) (k0_off14 i) S1x128x256.size (k0_off14_inb i)).toLoadRect f13) (v12.readAt (Elt Ideal) (Rect.unit (s := S1024x256) (![0, 0]) S512x256.size (by decide)).toLoadRect f12)) (v18.readAt (Elt Ideal) (Rect.unit (s := S32x1024) (k0_off15 i) S1x512.size (k0_off15_inb i)).toLoadRect f18) (v21.readAt (Elt Ideal) (Rect.unit (s := S1x1024) (![0, 0]) S1x512.size (by decide)).toLoadRect f21) (v22.readAt (Elt Ideal) (Rect.unit (s := S1x1024) (![0, 0]) S1x512.size (by decide)).toLoadRect (v22.writes (Elt Ideal) v22.junk (R)))⟩ :: R)) (ix2 0 L)
      = v22.read (Elt Ideal) (v22.writes (Elt Ideal) v22.junk (R)) (ix2 0 L) + ∑ r : Fin 128, probD mask (v13.read (Elt Ideal) f13) (v12.read (Elt Ideal) f12) (v18.read (Elt Ideal) f18) (v21.read (Elt Ideal) f21) (i 1) r L := by
  have hi : (i 1).val < 32 := (i 1).isLt
  by_cases hL : L.val < 512
  · rw [View.read_writes_cons_unit_of_not_mem _ _ _ _ _ _ rfl 1 (Or.inl hL)]
    rw [View.read_writes_cons_unit_of_mem _ _ _ _ _ _ (ix2 0 ⟨L.val, hL⟩) rfl (fun a => by fin_cases a <;> simp)]
    exact pay99_block (i 1).val 0 0 (i 1) rfl L ⟨L.val, hL⟩ (by omega) (by simp) _ _ _ _ (off14_eq i) _ _ _ _ rfl _ _ _ _ (off15_eq i) _ _ _ _ rfl _ _ _ _ rfl mask (by simp only; omega)
  · rw [View.read_writes_cons_unit_of_mem _ _ _ _ _ _ (ix2 0 ⟨L.val - 512, by omega⟩) rfl (fun a => by fin_cases a <;> simp; omega)]
    refine (pay102_block (i 1).val 256 512 (i 1) rfl L ⟨L.val - 512, by omega⟩ (by omega) (by simp only; omega) _ _ _ _ (off16_eq i) _ _ _ _ rfl _ _ _ _ (off17_eq i) _ _ _ _ rfl _ _ _ _ rfl mask (by simp only; omega)).trans ?_
    rw [View.read_writes_cons_unit_of_not_mem _ _ _ _ _ _ rfl 1 (Or.inr (by simp; omega))]

/-- The two half updates of the running output by the queries' own block. -/
theorem acc_read (i : grid0.Coords) (mask : IVec S128x512 1)
    (v13 : View sig .tc .vmem S32x128x512 .fp8e4m3) (f13 : v13.ty.Contents (Elt Ideal))
    (v12 : View sig .tc .vmem S1024x256 .fp8e4m3) (f12 : v12.ty.Contents (Elt Ideal))
    (v14 : View sig .tc .vmem S32x512x128 .fp8e4m3) (f14 : v14.ty.Contents (Elt Ideal))
    (v18 : View sig .tc .vmem S32x1024 .f32) (f18 : v18.ty.Contents (Elt Ideal))
    (v19 : View sig .tc .vmem S32x1024 .f32) (f19 : v19.ty.Contents (Elt Ideal))
    (v20 : View sig .tc .vmem S32x1024 .f32) (f20 : v20.ty.Contents (Elt Ideal))
    (v21 : View sig .tc .vmem S1x1024 .f32) (f21 : v21.ty.Contents (Elt Ideal)) (v23 : View sig .tc .vmem S256x1024 .f32) (R : List (View.Piece (Elt Ideal) S256x1024 .f32)) (e : Fin 256) (L : Fin 1024) :
    v23.read (Elt Ideal) (v23.writes (Elt Ideal) v23.junk (⟨Rect.unit (s := S256x1024) ![0, 512] S256x512.size (by decide), k0_pay104 (k0_pay103 mask (v13.readAt (Elt Ideal) (Rect.unit (s := S32x128x512) (k0_off16 i) S1x128x256.size (k0_off16_inb i)).toLoadRect f13) (v12.readAt (Elt Ideal) (Rect.unit (s := S1024x256) (![512, 0]) S512x256.size (by decide)).toLoadRect f12) (v18.readAt (Elt Ideal) (Rect.unit (s := S32x1024) (k0_off17 i) S1x512.size (k0_off17_inb i)).toLoadRect f18) (v21.readAt (Elt Ideal) (Rect.unit (s := S1x1024) (![0, 512]) S1x512.size (by decide)).toLoadRect f21) (v19.readAt (Elt Ideal) (Rect.unit (s := S32x1024) (k0_off17 i) S1x512.size (k0_off17_inb i)).toLoadRect f19) (v14.readAt (Elt Ideal) (Rect.unit (s := S32x512x128) (k0_off31 i) S1x256x128.size (k0_off31_inb i)).toLoadRect f14)) (v23.readAt (Elt Ideal) (Rect.unit (s := S256x1024) (![0, 512]) S256x512.size (by decide)).toLoadRect (v23.writes (Elt Ideal) v23.junk (⟨Rect.unit (s := S256x1024) ![0, 0] S256x512.size (by decide), k0_pay100 mask (k0_pay97 (v13.readAt (Elt Ideal) (Rect.unit (s := S32x128x512) (k0_off14 i) S1x128x256.size (k0_off14_inb i)).toLoadRect f13) (v12.readAt (Elt Ideal) (Rect.unit (s := S1024x256) (![0, 0]) S512x256.size (by decide)).toLoadRect f12)) (v18.readAt (Elt Ideal) (Rect.unit (s := S32x1024) (k0_off15 i) S1x512.size (k0_off15_inb i)).toLoadRect f18) (v21.readAt (Elt Ideal) (Rect.unit (s := S1x1024) (![0, 0]) S1x512.size (by decide)).toLoadRect f21) (v19.readAt (Elt Ideal) (Rect.unit (s := S32x1024) (k0_off15 i) S1x512.size (k0_off15_inb i)).toLoadRect f19) (v14.readAt (Elt Ideal) (Rect.unit (s := S32x512x128) (k0_off30 i) S1x256x128.size (k0_off30_inb i)).toLoadRect f14) (v23.readAt (Elt Ideal) (Rect.unit (s := S256x1024) (![0, 0]) S256x512.size (by decide)).toLoadRect (v23.writes (Elt Ideal) v23.junk (R))) (v20.readAt (Elt Ideal) (Rect.unit (s := S32x1024) (k0_off15 i) S1x512.size (k0_off15_inb i)).toLoadRect f20)⟩ :: R))) (v20.readAt (Elt Ideal) (Rect.unit (s := S32x1024) (k0_off17 i) S1x512.size (k0_off17_inb i)).toLoadRect f20)⟩ :: ⟨Rect.unit (s := S256x1024) ![0, 0] S256x512.size (by decide), k0_pay100 mask (k0_pay97 (v13.readAt (Elt Ideal) (Rect.unit (s := S32x128x512) (k0_off14 i) S1x128x256.size (k0_off14_inb i)).toLoadRect f13) (v12.readAt (Elt Ideal) (Rect.unit (s := S1024x256) (![0, 0]) S512x256.size (by decide)).toLoadRect f12)) (v18.readAt (Elt Ideal) (Rect.unit (s := S32x1024) (k0_off15 i) S1x512.size (k0_off15_inb i)).toLoadRect f18) (v21.readAt (Elt Ideal) (Rect.unit (s := S1x1024) (![0, 0]) S1x512.size (by decide)).toLoadRect f21) (v19.readAt (Elt Ideal) (Rect.unit (s := S32x1024) (k0_off15 i) S1x512.size (k0_off15_inb i)).toLoadRect f19) (v14.readAt (Elt Ideal) (Rect.unit (s := S32x512x128) (k0_off30 i) S1x256x128.size (k0_off30_inb i)).toLoadRect f14) (v23.readAt (Elt Ideal) (Rect.unit (s := S256x1024) (![0, 0]) S256x512.size (by decide)).toLoadRect (v23.writes (Elt Ideal) v23.junk (R))) (v20.readAt (Elt Ideal) (Rect.unit (s := S32x1024) (k0_off15 i) S1x512.size (k0_off15_inb i)).toLoadRect f20)⟩ :: R)) (ix2 e L)
      = v23.read (Elt Ideal) (v23.writes (Elt Ideal) v23.junk (R)) (ix2 e L) + outTerm (v14.read (Elt Ideal) f14) (v19.read (Elt Ideal) f19) (v20.read (Elt Ideal) f20) (fun r => probD mask (v13.read (Elt Ideal) f13) (v12.read (Elt Ideal) f12) (v18.read (Elt Ideal) f18) (v21.read (Elt Ideal) f21) (i 1) r L) (i 1) e L := by
  have hi : (i 1).val < 32 := (i 1).isLt
  by_cases hL : L.val < 512
  · rw [View.read_writes_cons_unit_of_not_mem _ _ _ _ _ _ rfl 1 (Or.inl hL)]
    rw [View.read_writes_cons_unit_of_mem _ _ _ _ _ _ (ix2 e ⟨L.val, hL⟩) rfl (fun a => by fin_cases a <;> simp)]
    exact pay100_block (i 1).val 0 0 (i 1) rfl L ⟨L.val, hL⟩ (by omega) (by simp) _ _ _ _ (off14_eq i) _ _ _ _ rfl _ _ _ _ (off30_eq i) _ _ _ _ (off15_eq i) _ _ _ _ (off15_eq i) _ _ _ _ (off15_eq i) _ _ _ _ rfl _ _ _ _ rfl mask (by simp only; omega) e
  · rw [View.read_writes_cons_unit_of_mem _ _ _ _ _ _ (ix2 e ⟨L.val - 512, by omega⟩) rfl (fun a => by fin_cases a <;> simp; omega)]
    refine (pay104_block (i 1).val 256 512 (i 1) rfl L ⟨L.val - 512, by omega⟩ (by omega) (by simp only; omega) _ _ _ _ (off16_eq i) _ _ _ _ rfl _ _ _ _ (off31_eq i) _ _ _ _ (off17_eq i) _ _ _ _ (off17_eq i) _ _ _ _ (off17_eq i) _ _ _ _ rfl _ _ _ _ rfl mask (by simp only; omega) e).trans ?_
    rw [View.read_writes_cons_unit_of_not_mem _ _ _ _ _ _ rfl 1 (Or.inr (by simp; omega))]

section Heads
variable (A : Vec Ideal S256x1024 .f32) (B : Vec Ideal S1x1024 .f32) (q : Fin 128) (e : Fin 256)

theorem head0_at : k0_pay106 A B (ix3 0 q e) = Ideal.div (A (ix2 e (qlane 0 q))) (B (ix2 0 (qlane 0 q))) := by
  rw [show qlane 0 q = ⟨q.val, by omega⟩ from Fin.ext (by simp [qlane])]
  pointwise [k0_pay106, k0_pay105]

theorem head1_at : k0_pay107 A B (ix3 0 q e) = Ideal.div (A (ix2 e (qlane 1 q))) (B (ix2 0 (qlane 1 q))) := by
  rw [show qlane 1 q = ⟨128 + q.val, by omega⟩ from Fin.ext (by simp [qlane])]
  pointwise [k0_pay107, k0_pay105]

theorem head2_at : k0_pay108 A B (ix3 0 q e) = Ideal.div (A (ix2 e (qlane 2 q))) (B (ix2 0 (qlane 2 q))) := by
  rw [show qlane 2 q = ⟨256 + q.val, by omega⟩ from Fin.ext (by simp [qlane])]
  pointwise [k0_pay108, k0_pay105]

theorem head3_at : k0_pay109 A B (ix3 0 q e) = Ideal.div (A (ix2 e (qlane 3 q))) (B (ix2 0 (qlane 3 q))) := by
  rw [show qlane 3 q = ⟨384 + q.val, by omega⟩ from Fin.ext (by simp [qlane])]
  pointwise [k0_pay109, k0_pay105]

theorem head4_at : k0_pay1 (k0_pay110 A B) (ix3 0 q e) = Ideal.div (A (ix2 e (qlane 4 q))) (B (ix2 0 (qlane 4 q))) := by
  rw [show qlane 4 q = ⟨512 + q.val, by omega⟩ from Fin.ext (by simp [qlane])]
  pointwise [k0_pay1, k0_pay110, k0_pay105]

theorem head5_at : k0_pay2 (k0_pay105 A B) (ix3 0 q e) = Ideal.div (A (ix2 e (qlane 5 q))) (B (ix2 0 (qlane 5 q))) := by
  rw [show qlane 5 q = ⟨640 + q.val, by omega⟩ from Fin.ext (by simp [qlane])]
  pointwise [k0_pay2, k0_pay105]

theorem head6_at : k0_pay3 (k0_pay105 A B) (ix3 0 q e) = Ideal.div (A (ix2 e (qlane 6 q))) (B (ix2 0 (qlane 6 q))) := by
  rw [show qlane 6 q = ⟨768 + q.val, by omega⟩ from Fin.ext (by simp [qlane])]
  pointwise [k0_pay3, k0_pay105]

theorem head7_at : k0_pay4 (k0_pay105 A B) (ix3 0 q e) = Ideal.div (A (ix2 e (qlane 7 q))) (B (ix2 0 (qlane 7 q))) := by
  rw [show qlane 7 q = ⟨896 + q.val, by omega⟩ from Fin.ext (by simp [qlane])]
  pointwise [k0_pay4, k0_pay105]

end Heads
theorem heads0 (v : View sig .tc .vmem S1x128x2048 .bf16) (f : v.ty.Contents (Elt Ideal)) (A : Vec Ideal S256x1024 .f32) (B : Vec Ideal S1x1024 .f32) (q : Fin 128) (e : Fin 256) :
    v.read (Elt Ideal) (v.writes (Elt Ideal) f [⟨Rect.unit (s := S1x128x2048) ![0, 0, 1792] S1x128x256.size (by decide), k0_pay4 (k0_pay105 A B)⟩, ⟨Rect.unit (s := S1x128x2048) ![0, 0, 1536] S1x128x256.size (by decide), k0_pay3 (k0_pay105 A B)⟩, ⟨Rect.unit (s := S1x128x2048) ![0, 0, 1280] S1x128x256.size (by decide), k0_pay2 (k0_pay105 A B)⟩, ⟨Rect.unit (s := S1x128x2048) ![0, 0, 1024] S1x128x256.size (by decide), k0_pay1 (k0_pay110 A B)⟩, ⟨Rect.unit (s := S1x128x2048) ![0, 0, 768] S1x128x256.size (by decide), k0_pay109 A B⟩, ⟨Rect.unit (s := S1x128x2048) ![0, 0, 512] S1x128x256.size (by decide), k0_pay108 A B⟩, ⟨Rect.unit (s := S1x128x2048) ![0, 0, 256] S1x128x256.size (by decide), k0_pay107 A B⟩, ⟨Rect.unit (s := S1x128x2048) ![0, 0, 0] S1x128x256.size (by decide), k0_pay106 A B⟩]) (ix3 0 q ⟨0 + e.val, by omega⟩) = Ideal.div (A (ix2 e (qlane 0 q))) (B (ix2 0 (qlane 0 q))) := by
  rw [View.read_writes_cons_unit_of_not_mem _ _ _ _ _ _ rfl 2 (Or.inl (by show 0 + e.val < 1792; omega))]
  rw [View.read_writes_cons_unit_of_not_mem _ _ _ _ _ _ rfl 2 (Or.inl (by show 0 + e.val < 1536; omega))]
  rw [View.read_writes_cons_unit_of_not_mem _ _ _ _ _ _ rfl 2 (Or.inl (by show 0 + e.val < 1280; omega))]
  rw [View.read_writes_cons_unit_of_not_mem _ _ _ _ _ _ rfl 2 (Or.inl (by show 0 + e.val < 1024; omega))]
  rw [View.read_writes_cons_unit_of_not_mem _ _ _ _ _ _ rfl 2 (Or.inl (by show 0 + e.val < 768; omega))]
  rw [View.read_writes_cons_unit_of_not_mem _ _ _ _ _ _ rfl 2 (Or.inl (by show 0 + e.val < 512; omega))]
  rw [View.read_writes_cons_unit_of_not_mem _ _ _ _ _ _ rfl 2 (Or.inl (by show 0 + e.val < 256; omega))]
  rw [View.read_writes_cons_unit_of_mem _ _ _ _ _ _ (ix3 0 q e) rfl (fun a => by fin_cases a <;> simp)]
  exact head0_at A B q e

theorem heads1 (v : View sig .tc .vmem S1x128x2048 .bf16) (f : v.ty.Contents (Elt Ideal)) (A : Vec Ideal S256x1024 .f32) (B : Vec Ideal S1x1024 .f32) (q : Fin 128) (e : Fin 256) :
    v.read (Elt Ideal) (v.writes (Elt Ideal) f [⟨Rect.unit (s := S1x128x2048) ![0, 0, 1792] S1x128x256.size (by decide), k0_pay4 (k0_pay105 A B)⟩, ⟨Rect.unit (s := S1x128x2048) ![0, 0, 1536] S1x128x256.size (by decide), k0_pay3 (k0_pay105 A B)⟩, ⟨Rect.unit (s := S1x128x2048) ![0, 0, 1280] S1x128x256.size (by decide), k0_pay2 (k0_pay105 A B)⟩, ⟨Rect.unit (s := S1x128x2048) ![0, 0, 1024] S1x128x256.size (by decide), k0_pay1 (k0_pay110 A B)⟩, ⟨Rect.unit (s := S1x128x2048) ![0, 0, 768] S1x128x256.size (by decide), k0_pay109 A B⟩, ⟨Rect.unit (s := S1x128x2048) ![0, 0, 512] S1x128x256.size (by decide), k0_pay108 A B⟩, ⟨Rect.unit (s := S1x128x2048) ![0, 0, 256] S1x128x256.size (by decide), k0_pay107 A B⟩, ⟨Rect.unit (s := S1x128x2048) ![0, 0, 0] S1x128x256.size (by decide), k0_pay106 A B⟩]) (ix3 0 q ⟨256 + e.val, by omega⟩) = Ideal.div (A (ix2 e (qlane 1 q))) (B (ix2 0 (qlane 1 q))) := by
  rw [View.read_writes_cons_unit_of_not_mem _ _ _ _ _ _ rfl 2 (Or.inl (by show 256 + e.val < 1792; omega))]
  rw [View.read_writes_cons_unit_of_not_mem _ _ _ _ _ _ rfl 2 (Or.inl (by show 256 + e.val < 1536; omega))]
  rw [View.read_writes_cons_unit_of_not_mem _ _ _ _ _ _ rfl 2 (Or.inl (by show 256 + e.val < 1280; omega))]
  rw [View.read_writes_cons_unit_of_not_mem _ _ _ _ _ _ rfl 2 (Or.inl (by show 256 + e.val < 1024; omega))]
  rw [View.read_writes_cons_unit_of_not_mem _ _ _ _ _ _ rfl 2 (Or.inl (by show 256 + e.val < 768; omega))]
  rw [View.read_writes_cons_unit_of_not_mem _ _ _ _ _ _ rfl 2 (Or.inl (by show 256 + e.val < 512; omega))]
  rw [View.read_writes_cons_unit_of_mem _ _ _ _ _ _ (ix3 0 q e) rfl (fun a => by fin_cases a <;> simp)]
  exact head1_at A B q e

theorem heads2 (v : View sig .tc .vmem S1x128x2048 .bf16) (f : v.ty.Contents (Elt Ideal)) (A : Vec Ideal S256x1024 .f32) (B : Vec Ideal S1x1024 .f32) (q : Fin 128) (e : Fin 256) :
    v.read (Elt Ideal) (v.writes (Elt Ideal) f [⟨Rect.unit (s := S1x128x2048) ![0, 0, 1792] S1x128x256.size (by decide), k0_pay4 (k0_pay105 A B)⟩, ⟨Rect.unit (s := S1x128x2048) ![0, 0, 1536] S1x128x256.size (by decide), k0_pay3 (k0_pay105 A B)⟩, ⟨Rect.unit (s := S1x128x2048) ![0, 0, 1280] S1x128x256.size (by decide), k0_pay2 (k0_pay105 A B)⟩, ⟨Rect.unit (s := S1x128x2048) ![0, 0, 1024] S1x128x256.size (by decide), k0_pay1 (k0_pay110 A B)⟩, ⟨Rect.unit (s := S1x128x2048) ![0, 0, 768] S1x128x256.size (by decide), k0_pay109 A B⟩, ⟨Rect.unit (s := S1x128x2048) ![0, 0, 512] S1x128x256.size (by decide), k0_pay108 A B⟩, ⟨Rect.unit (s := S1x128x2048) ![0, 0, 256] S1x128x256.size (by decide), k0_pay107 A B⟩, ⟨Rect.unit (s := S1x128x2048) ![0, 0, 0] S1x128x256.size (by decide), k0_pay106 A B⟩]) (ix3 0 q ⟨512 + e.val, by omega⟩) = Ideal.div (A (ix2 e (qlane 2 q))) (B (ix2 0 (qlane 2 q))) := by
  rw [View.read_writes_cons_unit_of_not_mem _ _ _ _ _ _ rfl 2 (Or.inl (by show 512 + e.val < 1792; omega))]
  rw [View.read_writes_cons_unit_of_not_mem _ _ _ _ _ _ rfl 2 (Or.inl (by show 512 + e.val < 1536; omega))]
  rw [View.read_writes_cons_unit_of_not_mem _ _ _ _ _ _ rfl 2 (Or.inl (by show 512 + e.val < 1280; omega))]
  rw [View.read_writes_cons_unit_of_not_mem _ _ _ _ _ _ rfl 2 (Or.inl (by show 512 + e.val < 1024; omega))]
  rw [View.read_writes_cons_unit_of_not_mem _ _ _ _ _ _ rfl 2 (Or.inl (by show 512 + e.val < 768; omega))]
  rw [View.read_writes_cons_unit_of_mem _ _ _ _ _ _ (ix3 0 q e) rfl (fun a => by fin_cases a <;> simp)]
  exact head2_at A B q e

theorem heads3 (v : View sig .tc .vmem S1x128x2048 .bf16) (f : v.ty.Contents (Elt Ideal)) (A : Vec Ideal S256x1024 .f32) (B : Vec Ideal S1x1024 .f32) (q : Fin 128) (e : Fin 256) :
    v.read (Elt Ideal) (v.writes (Elt Ideal) f [⟨Rect.unit (s := S1x128x2048) ![0, 0, 1792] S1x128x256.size (by decide), k0_pay4 (k0_pay105 A B)⟩, ⟨Rect.unit (s := S1x128x2048) ![0, 0, 1536] S1x128x256.size (by decide), k0_pay3 (k0_pay105 A B)⟩, ⟨Rect.unit (s := S1x128x2048) ![0, 0, 1280] S1x128x256.size (by decide), k0_pay2 (k0_pay105 A B)⟩, ⟨Rect.unit (s := S1x128x2048) ![0, 0, 1024] S1x128x256.size (by decide), k0_pay1 (k0_pay110 A B)⟩, ⟨Rect.unit (s := S1x128x2048) ![0, 0, 768] S1x128x256.size (by decide), k0_pay109 A B⟩, ⟨Rect.unit (s := S1x128x2048) ![0, 0, 512] S1x128x256.size (by decide), k0_pay108 A B⟩, ⟨Rect.unit (s := S1x128x2048) ![0, 0, 256] S1x128x256.size (by decide), k0_pay107 A B⟩, ⟨Rect.unit (s := S1x128x2048) ![0, 0, 0] S1x128x256.size (by decide), k0_pay106 A B⟩]) (ix3 0 q ⟨768 + e.val, by omega⟩) = Ideal.div (A (ix2 e (qlane 3 q))) (B (ix2 0 (qlane 3 q))) := by
  rw [View.read_writes_cons_unit_of_not_mem _ _ _ _ _ _ rfl 2 (Or.inl (by show 768 + e.val < 1792; omega))]
  rw [View.read_writes_cons_unit_of_not_mem _ _ _ _ _ _ rfl 2 (Or.inl (by show 768 + e.val < 1536; omega))]
  rw [View.read_writes_cons_unit_of_not_mem _ _ _ _ _ _ rfl 2 (Or.inl (by show 768 + e.val < 1280; omega))]
  rw [View.read_writes_cons_unit_of_not_mem _ _ _ _ _ _ rfl 2 (Or.inl (by show 768 + e.val < 1024; omega))]
  rw [View.read_writes_cons_unit_of_mem _ _ _ _ _ _ (ix3 0 q e) rfl (fun a => by fin_cases a <;> simp)]
  exact head3_at A B q e

theorem heads4 (v : View sig .tc .vmem S1x128x2048 .bf16) (f : v.ty.Contents (Elt Ideal)) (A : Vec Ideal S256x1024 .f32) (B : Vec Ideal S1x1024 .f32) (q : Fin 128) (e : Fin 256) :
    v.read (Elt Ideal) (v.writes (Elt Ideal) f [⟨Rect.unit (s := S1x128x2048) ![0, 0, 1792] S1x128x256.size (by decide), k0_pay4 (k0_pay105 A B)⟩, ⟨Rect.unit (s := S1x128x2048) ![0, 0, 1536] S1x128x256.size (by decide), k0_pay3 (k0_pay105 A B)⟩, ⟨Rect.unit (s := S1x128x2048) ![0, 0, 1280] S1x128x256.size (by decide), k0_pay2 (k0_pay105 A B)⟩, ⟨Rect.unit (s := S1x128x2048) ![0, 0, 1024] S1x128x256.size (by decide), k0_pay1 (k0_pay110 A B)⟩, ⟨Rect.unit (s := S1x128x2048) ![0, 0, 768] S1x128x256.size (by decide), k0_pay109 A B⟩, ⟨Rect.unit (s := S1x128x2048) ![0, 0, 512] S1x128x256.size (by decide), k0_pay108 A B⟩, ⟨Rect.unit (s := S1x128x2048) ![0, 0, 256] S1x128x256.size (by decide), k0_pay107 A B⟩, ⟨Rect.unit (s := S1x128x2048) ![0, 0, 0] S1x128x256.size (by decide), k0_pay106 A B⟩]) (ix3 0 q ⟨1024 + e.val, by omega⟩) = Ideal.div (A (ix2 e (qlane 4 q))) (B (ix2 0 (qlane 4 q))) := by
  rw [View.read_writes_cons_unit_of_not_mem _ _ _ _ _ _ rfl 2 (Or.inl (by show 1024 + e.val < 1792; omega))]
  rw [View.read_writes_cons_unit_of_not_mem _ _ _ _ _ _ rfl 2 (Or.inl (by show 1024 + e.val < 1536; omega))]
  rw [View.read_writes_cons_unit_of_not_mem _ _ _ _ _ _ rfl 2 (Or.inl (by show 1024 + e.val < 1280; omega))]
  rw [View.read_writes_cons_unit_of_mem _ _ _ _ _ _ (ix3 0 q e) rfl (fun a => by fin_cases a <;> simp)]
  exact head4_at A B q e

theorem heads5 (v : View sig .tc .vmem S1x128x2048 .bf16) (f : v.ty.Contents (Elt Ideal)) (A : Vec Ideal S256x1024 .f32) (B : Vec Ideal S1x1024 .f32) (q : Fin 128) (e : Fin 256) :
    v.read (Elt Ideal) (v.writes (Elt Ideal) f [⟨Rect.unit (s := S1x128x2048) ![0, 0, 1792] S1x128x256.size (by decide), k0_pay4 (k0_pay105 A B)⟩, ⟨Rect.unit (s := S1x128x2048) ![0, 0, 1536] S1x128x256.size (by decide), k0_pay3 (k0_pay105 A B)⟩, ⟨Rect.unit (s := S1x128x2048) ![0, 0, 1280] S1x128x256.size (by decide), k0_pay2 (k0_pay105 A B)⟩, ⟨Rect.unit (s := S1x128x2048) ![0, 0, 1024] S1x128x256.size (by decide), k0_pay1 (k0_pay110 A B)⟩, ⟨Rect.unit (s := S1x128x2048) ![0, 0, 768] S1x128x256.size (by decide), k0_pay109 A B⟩, ⟨Rect.unit (s := S1x128x2048) ![0, 0, 512] S1x128x256.size (by decide), k0_pay108 A B⟩, ⟨Rect.unit (s := S1x128x2048) ![0, 0, 256] S1x128x256.size (by decide), k0_pay107 A B⟩, ⟨Rect.unit (s := S1x128x2048) ![0, 0, 0] S1x128x256.size (by decide), k0_pay106 A B⟩]) (ix3 0 q ⟨1280 + e.val, by omega⟩) = Ideal.div (A (ix2 e (qlane 5 q))) (B (ix2 0 (qlane 5 q))) := by
  rw [View.read_writes_cons_unit_of_not_mem _ _ _ _ _ _ rfl 2 (Or.inl (by show 1280 + e.val < 1792; omega))]
  rw [View.read_writes_cons_unit_of_not_mem _ _ _ _ _ _ rfl 2 (Or.inl (by show 1280 + e.val < 1536; omega))]
  rw [View.read_writes_cons_unit_of_mem _ _ _ _ _ _ (ix3 0 q e) rfl (fun a => by fin_cases a <;> simp)]
  exact head5_at A B q e

theorem heads6 (v : View sig .tc .vmem S1x128x2048 .bf16) (f : v.ty.Contents (Elt Ideal)) (A : Vec Ideal S256x1024 .f32) (B : Vec Ideal S1x1024 .f32) (q : Fin 128) (e : Fin 256) :
    v.read (Elt Ideal) (v.writes (Elt Ideal) f [⟨Rect.unit (s := S1x128x2048) ![0, 0, 1792] S1x128x256.size (by decide), k0_pay4 (k0_pay105 A B)⟩, ⟨Rect.unit (s := S1x128x2048) ![0, 0, 1536] S1x128x256.size (by decide), k0_pay3 (k0_pay105 A B)⟩, ⟨Rect.unit (s := S1x128x2048) ![0, 0, 1280] S1x128x256.size (by decide), k0_pay2 (k0_pay105 A B)⟩, ⟨Rect.unit (s := S1x128x2048) ![0, 0, 1024] S1x128x256.size (by decide), k0_pay1 (k0_pay110 A B)⟩, ⟨Rect.unit (s := S1x128x2048) ![0, 0, 768] S1x128x256.size (by decide), k0_pay109 A B⟩, ⟨Rect.unit (s := S1x128x2048) ![0, 0, 512] S1x128x256.size (by decide), k0_pay108 A B⟩, ⟨Rect.unit (s := S1x128x2048) ![0, 0, 256] S1x128x256.size (by decide), k0_pay107 A B⟩, ⟨Rect.unit (s := S1x128x2048) ![0, 0, 0] S1x128x256.size (by decide), k0_pay106 A B⟩]) (ix3 0 q ⟨1536 + e.val, by omega⟩) = Ideal.div (A (ix2 e (qlane 6 q))) (B (ix2 0 (qlane 6 q))) := by
  rw [View.read_writes_cons_unit_of_not_mem _ _ _ _ _ _ rfl 2 (Or.inl (by show 1536 + e.val < 1792; omega))]
  rw [View.read_writes_cons_unit_of_mem _ _ _ _ _ _ (ix3 0 q e) rfl (fun a => by fin_cases a <;> simp)]
  exact head6_at A B q e

theorem heads7 (v : View sig .tc .vmem S1x128x2048 .bf16) (f : v.ty.Contents (Elt Ideal)) (A : Vec Ideal S256x1024 .f32) (B : Vec Ideal S1x1024 .f32) (q : Fin 128) (e : Fin 256) :
    v.read (Elt Ideal) (v.writes (Elt Ideal) f [⟨Rect.unit (s := S1x128x2048) ![0, 0, 1792] S1x128x256.size (by decide), k0_pay4 (k0_pay105 A B)⟩, ⟨Rect.unit (s := S1x128x2048) ![0, 0, 1536] S1x128x256.size (by decide), k0_pay3 (k0_pay105 A B)⟩, ⟨Rect.unit (s := S1x128x2048) ![0, 0, 1280] S1x128x256.size (by decide), k0_pay2 (k0_pay105 A B)⟩, ⟨Rect.unit (s := S1x128x2048) ![0, 0, 1024] S1x128x256.size (by decide), k0_pay1 (k0_pay110 A B)⟩, ⟨Rect.unit (s := S1x128x2048) ![0, 0, 768] S1x128x256.size (by decide), k0_pay109 A B⟩, ⟨Rect.unit (s := S1x128x2048) ![0, 0, 512] S1x128x256.size (by decide), k0_pay108 A B⟩, ⟨Rect.unit (s := S1x128x2048) ![0, 0, 256] S1x128x256.size (by decide), k0_pay107 A B⟩, ⟨Rect.unit (s := S1x128x2048) ![0, 0, 0] S1x128x256.size (by decide), k0_pay106 A B⟩]) (ix3 0 q ⟨1792 + e.val, by omega⟩) = Ideal.div (A (ix2 e (qlane 7 q))) (B (ix2 0 (qlane 7 q))) := by
  rw [View.read_writes_cons_unit_of_mem _ _ _ _ _ _ (ix3 0 q e) rfl (fun a => by fin_cases a <;> simp)]
  exact head7_at A B q e

/-- The eight stores of the heads fill the output block with the quotients. -/
theorem heads_read (v : View sig .tc .vmem S1x128x2048 .bf16) (f : v.ty.Contents (Elt Ideal)) (A : Vec Ideal S256x1024 .f32) (B : Vec Ideal S1x1024 .f32) :
    v.read (Elt Ideal) (v.writes (Elt Ideal) f [⟨Rect.unit (s := S1x128x2048) ![0, 0, 1792] S1x128x256.size (by decide), k0_pay4 (k0_pay105 A B)⟩, ⟨Rect.unit (s := S1x128x2048) ![0, 0, 1536] S1x128x256.size (by decide), k0_pay3 (k0_pay105 A B)⟩, ⟨Rect.unit (s := S1x128x2048) ![0, 0, 1280] S1x128x256.size (by decide), k0_pay2 (k0_pay105 A B)⟩, ⟨Rect.unit (s := S1x128x2048) ![0, 0, 1024] S1x128x256.size (by decide), k0_pay1 (k0_pay110 A B)⟩, ⟨Rect.unit (s := S1x128x2048) ![0, 0, 768] S1x128x256.size (by decide), k0_pay109 A B⟩, ⟨Rect.unit (s := S1x128x2048) ![0, 0, 512] S1x128x256.size (by decide), k0_pay108 A B⟩, ⟨Rect.unit (s := S1x128x2048) ![0, 0, 256] S1x128x256.size (by decide), k0_pay107 A B⟩, ⟨Rect.unit (s := S1x128x2048) ![0, 0, 0] S1x128x256.size (by decide), k0_pay106 A B⟩]) = fun y =>
      Ideal.div (A (ix2 ⟨(y 2).val % 256, Nat.mod_lt _ (by norm_num)⟩ (qlane ⟨(y 2).val / 256, by have : (y 2).val < 2048 := (y 2).isLt; omega⟩ (y 1))))
        (B (ix2 0 (qlane ⟨(y 2).val / 256, by have : (y 2).val < 2048 := (y 2).isLt; omega⟩ (y 1)))) := by
  have hlt : ∀ (h : Fin 8) (e : Fin 256), 256 * h.val + e.val < 2048 := fun h e => by omega
  funext y
  have h2 : (y 2).val < 2048 := (y 2).isLt
  obtain ⟨h, hh⟩ : ∃ h : Fin 8, h = ⟨(y 2).val / 256, by omega⟩ := ⟨_, rfl⟩
  obtain ⟨e, he⟩ : ∃ e : Fin 256, e = ⟨(y 2).val % 256, Nat.mod_lt _ (by norm_num)⟩ := ⟨_, rfl⟩
  have hv : h.val = (y 2).val / 256 := congrArg Fin.val hh
  have ev : e.val = (y 2).val % 256 := congrArg Fin.val he
  rw [← hh, ← he]
  have hy : y = ix3 0 (y 1) ⟨256 * h.val + e.val, hlt h e⟩ := by
    funext a
    fin_cases a
    · exact Fin.ext (by have : (y 0).val < 1 := (y 0).isLt; show (y 0).val = 0; omega)
    · rfl
    · exact Fin.ext (by show (y 2).val = 256 * h.val + e.val; omega)
  generalize y 1 = q at hy ⊢
  subst hy
  clear hh he hv ev h2
  fin_cases h
  · exact heads0 v f A B q e
  · exact heads1 v f A B q e
  · exact heads2 v f A B q e
  · exact heads3 v f A B q e
  · exact heads4 v f A B q e
  · exact heads5 v f A B q e
  · exact heads6 v f A B q e
  · exact heads7 v f A B q e

end Cert.KernelIdeal.Val

end
-- ==== Proof.T16.lean ====
module

public import proofs.«01_k».proof.Proof.AccVals

@[expose] public section

/-! The run of the accumulation stretch. -/

set_option maxRecDepth 16384
set_option maxHeartbeats 4000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- No trip of the second half of the loop writes anything. -/
theorem pb4_zero (𝒱 : Variants) (c : Dev nD) (bd : Option 𝒱.V) (i : grid0.Coords) (arg2 : Memref sig .tc .vmem S1x128x2048 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x128x2048 .bf16) (harg5 : arg5.IsWhole) (arg6 : Memref sig .tc .vmem S1x128x2048 .fp8e4m3) (harg6 : arg6.IsWhole) (arg7 : Memref sig .tc .vmem S1x32x8 .f32) (harg7 : arg7.IsWhole) (arg8 : Memref sig .tc .vmem S1x128x512 .fp8e4m3) (harg8 : arg8.IsWhole) (arg9 : Memref sig .tc .vmem S1x32x2 .f32) (harg9 : arg9.IsWhole) (arg10 : Memref sig .tc .vmem S1x128x512 .fp8e4m3) (harg10 : arg10.IsWhole) (arg11 : Memref sig .tc .vmem S1x32x2 .f32) (harg11 : arg11.IsWhole) (arg12 : Memref sig .tc .vmem S1024x256 .fp8e4m3) (harg12 : arg12.IsWhole) (arg13 : Memref sig .tc .vmem S32x128x512 .fp8e4m3) (harg13 : arg13.IsWhole) (arg14 : Memref sig .tc .vmem S32x512x128 .fp8e4m3) (harg14 : arg14.IsWhole) (arg15 : Memref sig .tc .vmem S32x1024 .f32) (harg15 : arg15.IsWhole) (arg16 : Memref sig .tc .vmem S32x1024 .f32) (harg16 : arg16.IsWhole) (arg17 : Memref sig .tc .vmem S32x1024 .f32) (harg17 : arg17.IsWhole) (arg18 : Memref sig .tc .vmem S32x1024 .f32) (harg18 : arg18.IsWhole) (arg19 : Memref sig .tc .vmem S32x1024 .f32) (harg19 : arg19.IsWhole) (arg20 : Memref sig .tc .vmem S32x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S256x1024 .f32) (harg23 : arg23.IsWhole) (arg1 : BitVec 32) (v397 : FVec Ideal S1x1024 .f32) (v468 : FVec Ideal S32x1024 .f32) (v469 : FVec Ideal S32x1024 .f32) (v473 : Vec Ideal S32x1024 .f32) (v496 : BitVec 32) (X_arg12 : BufTy.Contents (Elt Ideal) arg12.view.ty) (X_arg13 : BufTy.Contents (Elt Ideal) arg13.view.ty) (X_arg14 : BufTy.Contents (Elt Ideal) arg14.view.ty) (X_arg18 : BufTy.Contents (Elt Ideal) arg18.view.ty) (X_arg19 : BufTy.Contents (Elt Ideal) arg19.view.ty) (X_arg20 : BufTy.Contents (Elt Ideal) arg20.view.ty) (X_arg21 : BufTy.Contents (Elt Ideal) arg21.view.ty) (G_arg22 : BufTy.Contents (Elt Ideal) arg22.view.ty) (G_arg23 : BufTy.Contents (Elt Ideal) arg23.view.ty) :
    pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v397 v468 v469 v473 v496 X_arg12 X_arg13 X_arg14 X_arg18 X_arg19 X_arg20 X_arg21 G_arg22 G_arg23 0 = ([], []) := rfl

theorem pay89_eq (x : FVec Ideal S32x1024 .f32) : k0_pay89 x = x := by funext y; idx_vars y; pointwise [k0_pay89]
theorem pay90_eq (x : FVec Ideal S32x1024 .f32) : k0_pay90 x = x := by funext y; idx_vars y; pointwise [k0_pay90]
theorem pay91_eq (x z : FVec Ideal S32x1024 .f32) : k0_pay91 x z = fun y => x y * z y := by funext y; idx_vars y; pointwise [k0_pay91]
theorem pay92_eq (x : FVec Ideal S1x1024 .f32) : k0_pay92 x = x := by funext y; idx_vars y; pointwise [k0_pay92]
theorem pay93_eq : k0_pay93 (F := Ideal) = fun _ => 0 := by funext y; idx_vars y; pointwise [k0_pay93]
theorem pay94_eq : k0_pay94 (F := Ideal) = fun _ => 0 := by funext y; idx_vars y; pointwise [k0_pay94]

/-- The block from the quotients' two arguments. -/
theorem heads_value (v : View sig .tc .vmem S1x128x2048 .bf16) (f : v.ty.Contents (Elt Ideal)) (A : Vec Ideal S256x1024 .f32) (B : Vec Ideal S1x1024 .f32)
    (i : Fin 32) (mask : IVec S128x512 1) (K : Vec Ideal S32x128x512 .fp8e4m3) (Q : Vec Ideal S1024x256 .fp8e4m3) (V : Vec Ideal S32x512x128 .fp8e4m3)
    (C : Vec Ideal S32x1024 .f32) (M : Vec Ideal S1x1024 .f32) (I W : Vec Ideal S32x1024 .f32)
    (hA : ∀ e L, A (ix2 e L) = acc i mask K Q V C M I W e L) (hB : ∀ L, B (ix2 0 L) = ell i mask K Q C M L) :
    v.read (Elt Ideal) (v.writes (Elt Ideal) f [⟨Rect.unit (s := S1x128x2048) ![0, 0, 1792] S1x128x256.size (by decide), k0_pay4 (k0_pay105 A B)⟩, ⟨Rect.unit (s := S1x128x2048) ![0, 0, 1536] S1x128x256.size (by decide), k0_pay3 (k0_pay105 A B)⟩, ⟨Rect.unit (s := S1x128x2048) ![0, 0, 1280] S1x128x256.size (by decide), k0_pay2 (k0_pay105 A B)⟩, ⟨Rect.unit (s := S1x128x2048) ![0, 0, 1024] S1x128x256.size (by decide), k0_pay1 (k0_pay110 A B)⟩, ⟨Rect.unit (s := S1x128x2048) ![0, 0, 768] S1x128x256.size (by decide), k0_pay109 A B⟩, ⟨Rect.unit (s := S1x128x2048) ![0, 0, 512] S1x128x256.size (by decide), k0_pay108 A B⟩, ⟨Rect.unit (s := S1x128x2048) ![0, 0, 256] S1x128x256.size (by decide), k0_pay107 A B⟩, ⟨Rect.unit (s := S1x128x2048) ![0, 0, 0] S1x128x256.size (by decide), k0_pay106 A B⟩]) = outY i mask K Q V C M I W := by
  rw [heads_read]
  funext y
  rw [hA, hB]
  rfl

/-- The accumulation stretch: from the codes in buffers 12–14, the scales in 16, the factors in 18 and the maxima `v397`, it leaves the
output block in buffer 5. -/
theorem t16 (c : Dev nD) (i : grid0.Coords) (arg2 : Memref sig .tc .vmem S1x128x2048 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x128x2048 .bf16) (harg5 : arg5.IsWhole) (arg6 : Memref sig .tc .vmem S1x128x2048 .fp8e4m3) (harg6 : arg6.IsWhole) (arg7 : Memref sig .tc .vmem S1x32x8 .f32) (harg7 : arg7.IsWhole) (arg8 : Memref sig .tc .vmem S1x128x512 .fp8e4m3) (harg8 : arg8.IsWhole) (arg9 : Memref sig .tc .vmem S1x32x2 .f32) (harg9 : arg9.IsWhole) (arg10 : Memref sig .tc .vmem S1x128x512 .fp8e4m3) (harg10 : arg10.IsWhole) (arg11 : Memref sig .tc .vmem S1x32x2 .f32) (harg11 : arg11.IsWhole) (arg12 : Memref sig .tc .vmem S1024x256 .fp8e4m3) (harg12 : arg12.IsWhole) (arg13 : Memref sig .tc .vmem S32x128x512 .fp8e4m3) (harg13 : arg13.IsWhole) (arg14 : Memref sig .tc .vmem S32x512x128 .fp8e4m3) (harg14 : arg14.IsWhole) (arg15 : Memref sig .tc .vmem S32x1024 .f32) (harg15 : arg15.IsWhole) (arg16 : Memref sig .tc .vmem S32x1024 .f32) (harg16 : arg16.IsWhole) (arg17 : Memref sig .tc .vmem S32x1024 .f32) (harg17 : arg17.IsWhole) (arg18 : Memref sig .tc .vmem S32x1024 .f32) (harg18 : arg18.IsWhole) (arg19 : Memref sig .tc .vmem S32x1024 .f32) (harg19 : arg19.IsWhole) (arg20 : Memref sig .tc .vmem S32x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S256x1024 .f32) (harg23 : arg23.IsWhole) (arg1 : BitVec 32) (v348 : IVec S128x512 1) (v397 : FVec Ideal S1x1024 .f32) (v468 : FVec Ideal S32x1024 .f32) (v469 : FVec Ideal S32x1024 .f32) (v473 : Vec Ideal S32x1024 .f32) (X12 : Vec Ideal S1024x256 .fp8e4m3) (X13 : Vec Ideal S32x128x512 .fp8e4m3) (X14 : Vec Ideal S32x512x128 .fp8e4m3) (X16 : Vec Ideal S32x1024 .f32) (X18 : Vec Ideal S32x1024 .f32) (K : PUnit → sProp 𝕄) :
    iprop((∃ d, owns (c : Thread nD τ) arg5 fullShare d) ∗ owns (c : Thread nD τ) arg12 fullShare X12 ∗ owns (c : Thread nD τ) arg13 fullShare X13 ∗ owns (c : Thread nD τ) arg14 fullShare X14 ∗ owns (c : Thread nD τ) arg16 fullShare X16 ∗ owns (c : Thread nD τ) arg18 fullShare X18 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg5 fullShare (outY (i 1) v348 X13 X12 X14 X18 v397 v468 (fun y => v469 y * X16 y)) ∗ owns (c : Thread nD τ) arg12 fullShare X12 ∗ owns (c : Thread nD τ) arg13 fullShare X13 ∗ owns (c : Thread nD τ) arg14 fullShare X14 ∗ owns (c : Thread nD τ) arg16 fullShare X16 ∗ owns (c : Thread nD τ) arg18 fullShare X18 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
      ⊢ wp frame (wpE (defs₀ (F := Ideal)) Variants.none (c : Thread nD τ) none) Set.univ
          (tail16 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v348 v397 v468 v469 v473) K := by
  unfold tail16
  unfold owns
  iintro ⟨⟨%d5, %f5, -, H5⟩, ⟨%f12, %hf12, H12⟩, ⟨%f13, %hf13, H13⟩, ⟨%f14, %hf14, H14⟩, ⟨%f16, %hf16, H16⟩, ⟨%f18, %hf18, H18⟩, ⟨%d19, %f19, -, H19⟩, ⟨%d20, %f20, -, H20⟩, ⟨%d21, %f21, -, H21⟩, ⟨%d22, %f22, -, H22⟩, ⟨%d23, %f23, -, H23⟩, Hk⟩
  sl_exec
  sl_step
  iapply Hk
  isplitl [H5]
  · iexists _; isplitr; swap
    · iexact H5
    · ipureintro; exact (by
      refine heads_value arg5.view f5 _ _ (i 1) v348 X13 X12 X14 X18 v397 v468 (fun y => v469 y * X16 y) ?_ ?_
      · intro e L
        refine (readAt_at arg23.view _ _ _ _ _ (ix2 e L) (fun a => by fin_cases a <;> simp)).trans ?_
        refine (acc_read i v348 arg13.view f13 arg12.view f12 arg14.view f14 arg18.view f18 arg19.view _ arg20.view _ arg21.view _ arg23.view _ e L).trans ?_
        rw [show Scf.trips (k0_t4_loop i).lb (k0_t4_loop i).ub (k0_t4_loop i).st = 0 from trips_t4 i]
        rw [pb4_zero, List.nil_append, View.writes_append]
        refine (congrArg (fun z : EReal => z + _) (read_t3b Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v397 v468 v469 v473 _ _ _ _ _ _ _ _ _ e L _ (le_refl _))).trans ?_
        unfold t16.sl.H19_1 t16.sl.H20_1 t16.sl.H21_1 t16.sl.H23_1
        rw [View.read_writes_full, View.read_writes_full, View.read_writes_full, View.read_writes_full, View.readAt_full, pay90_eq, pay91_eq, pay92_eq, pay94_eq, hf12, hf13, hf14, hf16, hf18, zero_add]
        exact congrArg (fun k : ℕ => (∑ n ∈ Finset.univ.filter (fun n : Fin 32 => n.val < k), outTerm X14 v468 (fun y => v469 y * X16 y) (fun r => prob X13 X12 X18 v397 n r L) n e L) + outTerm X14 v468 (fun y => v469 y * X16 y) (fun r => probD v348 X13 X12 X18 v397 (i 1) r L) (i 1) e L) (trips_t3 i)
      · intro L
        refine (readAt_at arg22.view _ _ _ _ _ (ix2 0 L) (fun a => by fin_cases a <;> simp)).trans ?_
        refine (ell_read i v348 arg13.view f13 arg12.view f12 arg18.view f18 arg21.view _ arg22.view _ L).trans ?_
        rw [show Scf.trips (k0_t4_loop i).lb (k0_t4_loop i).ub (k0_t4_loop i).st = 0 from trips_t4 i]
        rw [pb4_zero, List.nil_append, View.writes_append]
        refine (congrArg (fun z : EReal => z + _) (read_t3a Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v397 v468 v469 v473 _ _ _ _ _ _ _ _ _ L _ (le_refl _))).trans ?_
        unfold t16.sl.H21_1 t16.sl.H22_1
        rw [View.read_writes_full, View.read_writes_full, pay92_eq, pay93_eq, hf12, hf13, hf18, zero_add]
        exact congrArg (fun k : ℕ => (∑ n ∈ Finset.univ.filter (fun n : Fin 32 => n.val < k), ∑ r : Fin 128, prob X13 X12 X18 v397 n r L) + ∑ r : Fin 128, probD v348 X13 X12 X18 v397 (i 1) r L) (trips_t3 i))
  isplitl [H12]
  · iexists _; isplitr; swap
    · iexact H12
    · ipureintro; exact hf12
  isplitl [H13]
  · iexists _; isplitr; swap
    · iexact H13
    · ipureintro; exact hf13
  isplitl [H14]
  · iexists _; isplitr; swap
    · iexact H14
    · ipureintro; exact hf14
  isplitl [H16]
  · iexists _; isplitr; swap
    · iexact H16
    · ipureintro; exact hf16
  isplitl [H18]
  · iexists _; isplitr; swap
    · iexact H18
    · ipureintro; exact hf18
  isplitl [H19]
  · iexists _, _; isplitr; swap
    · iexact H19
    · ipureintro; rfl
  isplitl [H20]
  · iexists _, _; isplitr; swap
    · iexact H20
    · ipureintro; rfl
  isplitl [H21]
  · iexists _, _; isplitr; swap
    · iexact H21
    · ipureintro; rfl
  isplitl [H22]
  · iexists _, _; isplitr; swap
    · iexact H22
    · ipureintro; rfl
  iexists _, _; isplitr; swap
  · iexact H23
  · ipureintro; rfl

end Cert.KernelIdeal.Val

end
-- ==== Proof.ScaleVals.lean ====
module

public import proofs.«01_k».proof.Proof.T16

@[expose] public section

/-! The block maxima, the factors of the scores, and the scales of the probabilities. -/

set_option maxRecDepth 16384
set_option maxHeartbeats 4000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The number of doublings between a largest magnitude and the range of the code format, as the kernel computes it: the logarithm to base 2,
rounded down, plus one, corrected by one step in either direction, and 0 where the magnitude is 0. -/
def expo (a : EReal) : EReal :=
  let y : Ideal .f32 := Scalar.mulf (F := Ideal) (φ := .f32) a (Scalar.ofBits .f32 0x3B124925#32)
  let one : Ideal .f32 := Scalar.ofBits (F := Ideal) .f32 0x3F800000#32
  let zero : Ideal .f32 := Scalar.ofBits (F := Ideal) .f32 0x00000000#32
  let e0 : Ideal .f32 := Scalar.addf (F := Ideal) (Scalar.floor (F := Ideal) (Scalar.mulf (F := Ideal) (Scalar.log (F := Ideal) y) (Scalar.ofBits (F := Ideal) .f32 0x3FB8AA3B#32))) one
  let e1 : Ideal .f32 := Scalar.select (Scalar.cmpf (F := Ideal) .oge y (Scalar.exp2 (F := Ideal) e0)) (Scalar.addf (F := Ideal) e0 one) e0
  let e2 : Ideal .f32 := Scalar.select (Scalar.cmpf (F := Ideal) .olt y (Scalar.exp2 (F := Ideal) (Scalar.subf (F := Ideal) e1 one))) (Scalar.subf (F := Ideal) e1 one) e1
  Scalar.select (Scalar.cmpf (F := Ideal) (φ := .f32) .oeq a zero) zero e2

/-- The factor the values are multiplied by before coding. -/
def inv (a : EReal) : EReal := Ideal.exp2 (0 - expo a)

/-- The scale: what a code is multiplied by to give back its value. -/
def scl (a : EReal) : EReal := Ideal.exp2 (expo a)

/-- The factor of the scores of block `n` at lane `L`. -/
def cF (v77 : FVec Ideal S1x2048 .f32) (X15 : Vec Ideal S32x1024 .f32) : Vec Ideal S32x1024 .f32 := fun y =>
  (Ideal.ofBits .f32 0x3D800000#32 * v77 (ix2 0 ⟨256 * ((y 1).val / 128) + (y 1).val % 128, by have : (y 1).val < 1024 := (y 1).isLt; omega⟩)) * X15 y

/-- The largest product of the queries' own block, under the mask. -/
def blockMaxD (mask : IVec S128x512 1) (K : Vec Ideal S32x128x512 .fp8e4m3) (Q : Vec Ideal S1024x256 .fp8e4m3) (n : Fin 32) (L : Fin 1024) : EReal :=
  Finset.univ.fold max negInf fun r : Fin 128 => Scalar.select (mask (ix2 r ⟨L.val % 512, Nat.mod_lt _ (by norm_num)⟩)) (dotK K Q n r L) negInf

/-- The block maxima after the stretch: those of the later blocks are as before. -/
def bmF (i : Fin 32) (mask : IVec S128x512 1) (K : Vec Ideal S32x128x512 .fp8e4m3) (Q : Vec Ideal S1024x256 .fp8e4m3) (X17 : Vec Ideal S32x1024 .f32) :
    Vec Ideal S32x1024 .f32 := fun y =>
  if (y 0).val < i.val then blockMax K Q (y 0) (y 1) else if (y 0).val = i.val then blockMaxD mask K Q i (y 1) else X17 y

/-- The largest score of a lane. -/
def mF (B C : Vec Ideal S32x1024 .f32) : Vec Ideal S1x1024 .f32 := fun y =>
  Finset.univ.fold max negInf fun n : Fin 32 => B (ix2 n (y 1)) * C (ix2 n (y 1))

/-- The largest unnormalised probability of block `n` and head `h`. -/
def aF (B C : Vec Ideal S32x1024 .f32) (n : Fin 32) (h : Fin 8) : EReal :=
  Finset.univ.fold max negInf fun q : Fin 128 =>
    Ideal.exp (B (ix2 n (qlane h q)) * C (ix2 n (qlane h q)) - mF B C (ix2 0 (qlane h q)))

def headOf (L : Fin 1024) : Fin 8 := ⟨L.val / 128, by omega⟩

def invF (a : Fin 32 → Fin 8 → EReal) : Vec Ideal S32x1024 .f32 := fun y => inv (a (y 0) (headOf (y 1)))
def sclF (a : Fin 32 → Fin 8 → EReal) : Vec Ideal S32x1024 .f32 := fun y => scl (a (y 0) (headOf (y 1)))

variable (a : FVec Ideal S1x2048 .f32) (b B : FVec Ideal S32x1024 .f32)

theorem pay76_at (n : Fin 32) (L : Fin 1024) : k0_pay76 a (k0_pay74 a) (k0_pay75 a) b (ix2 n L) = cF a b (ix2 n L) := by
  pointwise [k0_pay76, k0_pay74, k0_pay75, cF]
  split_ifs <;> exact congrArg (fun z : EReal => Ideal.ofBits FTy.f32 1031798784#32 * z * b (ix2 n L)) (congrArg a (congrArg (ix2 0) (Fin.ext (by simp only; omega))))

theorem pay76_eq : k0_pay76 a (k0_pay74 a) (k0_pay75 a) b = cF a b := by
  funext y
  rw [show y = ix2 (y 0) (y 1) from funext fun k => by fin_cases k <;> rfl]
  exact pay76_at a b _ _

theorem pay77_eq : k0_pay77 a (k0_pay74 a) (k0_pay75 a) b B = fun y => B y * cF a b y := by
  show mulf B (k0_pay76 a (k0_pay74 a) (k0_pay75 a) b) = _
  rw [pay76_eq]; rfl

theorem colmax_at (X : FVec Ideal S32x1024 .f32) (L : Fin 1024) :
    shapeCast S1x1024 (multiReduction .maximumf [0] S1024 X 0xFF800000#32 reduces_S32x1024_S1024 (.inl rfl) rfl) shapeCasts_S1024_S1x1024 (ix2 0 L)
      = Finset.univ.fold max negInf fun n : Fin 32 => X (ix2 n L) := by
  pointwise []

theorem pay78_eq : k0_pay78 a (k0_pay74 a) (k0_pay75 a) b B = mF B (cF a b) := by
  funext y
  rw [show y = ix2 0 (y 1) from funext fun k => by fin_cases k; · exact Fin.ext (by have : (y 0).val < 1 := (y 0).isLt; show (y 0).val = 0; omega)
                                                   · rfl]
  show shapeCast S1x1024 (multiReduction .maximumf [0] S1024 (k0_pay77 a (k0_pay74 a) (k0_pay75 a) b B) 0xFF800000#32 reduces_S32x1024_S1024 (.inl rfl) rfl) shapeCasts_S1024_S1x1024 (ix2 0 (y 1)) = _
  refine (colmax_at _ (y 1)).trans ?_
  rw [pay77_eq]
  rfl

theorem bcast_at (X : FVec Ideal S1x1024 .f32) (Y : FVec Ideal S32x1024 .f32) (n : Fin 32) (L : Fin 1024) :
    exp (subf Y (broadcastTo S32x1024 X broadcasts_S1x1024_S32x1024)) (ix2 n L) = Ideal.exp (Y (ix2 n L) - X (ix2 0 L)) := by
  pointwise []

theorem pay79_at (n : Fin 32) (L : Fin 1024) :
    k0_pay79 a (k0_pay74 a) (k0_pay75 a) b B (ix2 n L) = Ideal.exp (B (ix2 n L) * cF a b (ix2 n L) - mF B (cF a b) (ix2 0 L)) := by
  show exp (subf (k0_pay77 a (k0_pay74 a) (k0_pay75 a) b B) (broadcastTo S32x1024 (k0_pay78 a (k0_pay74 a) (k0_pay75 a) b B) broadcasts_S1x1024_S32x1024)) (ix2 n L) = _
  rw [bcast_at, pay77_eq, pay78_eq]

/-- Eight row maxima over 128 lanes each, laid side by side. -/
theorem cat_at (X : FVec Ideal S32x1024 .f32) (n : Fin 32) (L : Fin 1024) :
    concatenate S32x1024 1 [⟨S32x128, broadcastTo S32x128 (shapeCast S32x1 (shapeCast S32x1 (multiReduction .maximumf [1] S32 (extractStridedSlice S32x128 ![0, 0] X slices_S32x1024_o0_0_S32x128) 0xFF800000#32 reduces_S32x128_S32 (.inl rfl) rfl) shapeCasts_S32_S32x1) shapeCasts_S32x1_S32x1) broadcasts_S32x1_S32x128⟩, ⟨S32x128, broadcastTo S32x128 (shapeCast S32x1 (shapeCast S32x1 (multiReduction .maximumf [1] S32 (extractStridedSlice S32x128 ![0, 128] X slices_S32x1024_o0_128_S32x128) 0xFF800000#32 reduces_S32x128_S32 (.inl rfl) rfl) shapeCasts_S32_S32x1) shapeCasts_S32x1_S32x1) broadcasts_S32x1_S32x128⟩, ⟨S32x128, broadcastTo S32x128 (shapeCast S32x1 (shapeCast S32x1 (multiReduction .maximumf [1] S32 (extractStridedSlice S32x128 ![0, 256] X slices_S32x1024_o0_256_S32x128) 0xFF800000#32 reduces_S32x128_S32 (.inl rfl) rfl) shapeCasts_S32_S32x1) shapeCasts_S32x1_S32x1) broadcasts_S32x1_S32x128⟩, ⟨S32x128, broadcastTo S32x128 (shapeCast S32x1 (shapeCast S32x1 (multiReduction .maximumf [1] S32 (extractStridedSlice S32x128 ![0, 384] X slices_S32x1024_o0_384_S32x128) 0xFF800000#32 reduces_S32x128_S32 (.inl rfl) rfl) shapeCasts_S32_S32x1) shapeCasts_S32x1_S32x1) broadcasts_S32x1_S32x128⟩, ⟨S32x128, broadcastTo S32x128 (shapeCast S32x1 (shapeCast S32x1 (multiReduction .maximumf [1] S32 (extractStridedSlice S32x128 ![0, 512] X slices_S32x1024_o0_512_S32x128) 0xFF800000#32 reduces_S32x128_S32 (.inl rfl) rfl) shapeCasts_S32_S32x1) shapeCasts_S32x1_S32x1) broadcasts_S32x1_S32x128⟩, ⟨S32x128, broadcastTo S32x128 (shapeCast S32x1 (shapeCast S32x1 (multiReduction .maximumf [1] S32 (extractStridedSlice S32x128 ![0, 640] X slices_S32x1024_o0_640_S32x128) 0xFF800000#32 reduces_S32x128_S32 (.inl rfl) rfl) shapeCasts_S32_S32x1) shapeCasts_S32x1_S32x1) broadcasts_S32x1_S32x128⟩, ⟨S32x128, broadcastTo S32x128 (shapeCast S32x1 (shapeCast S32x1 (multiReduction .maximumf [1] S32 (extractStridedSlice S32x128 ![0, 768] X slices_S32x1024_o0_768_S32x128) 0xFF800000#32 reduces_S32x128_S32 (.inl rfl) rfl) shapeCasts_S32_S32x1) shapeCasts_S32x1_S32x1) broadcasts_S32x1_S32x128⟩, ⟨S32x128, broadcastTo S32x128 (shapeCast S32x1 (shapeCast S32x1 (multiReduction .maximumf [1] S32 (extractStridedSlice S32x128 ![0, 896] X slices_S32x1024_o0_896_S32x128) 0xFF800000#32 reduces_S32x128_S32 (.inl rfl) rfl) shapeCasts_S32_S32x1) shapeCasts_S32x1_S32x1) broadcasts_S32x1_S32x128⟩] concatenates_S32x128_S32x128_S32x128_S32x128_S32x128_S32x128_S32x128_S32x128_S32x1024_d1 (ix2 n L) = Finset.univ.fold max negInf fun q : Fin 128 => X (ix2 n (qlane (headOf L) q)) := by
  pointwise []
  split_ifs <;> refine congrArg (fun f => Finset.fold max negInf f Finset.univ) (funext fun q => congrArg X (congrArg (ix2 n) (Fin.ext (by simp only [qlane, headOf]; omega))))

theorem pay86_eq : k0_pay86 (k0_pay79 a (k0_pay74 a) (k0_pay75 a) b B) (k0_pay80 a (k0_pay74 a) (k0_pay75 a) b B) (k0_pay81 a (k0_pay74 a) (k0_pay75 a) b B) (k0_pay82 a (k0_pay74 a) (k0_pay75 a) b B) (k0_pay83 a (k0_pay74 a) (k0_pay75 a) b B) (k0_pay84 a (k0_pay74 a) (k0_pay75 a) b B) (k0_pay85 a (k0_pay74 a) (k0_pay75 a) b B) = fun y => expo ((concatenate S32x1024 1 [⟨S32x128, broadcastTo S32x128 (shapeCast S32x1 (shapeCast S32x1 (multiReduction .maximumf [1] S32 (extractStridedSlice S32x128 ![0, 0] (k0_pay79 a (k0_pay74 a) (k0_pay75 a) b B) slices_S32x1024_o0_0_S32x128) 0xFF800000#32 reduces_S32x128_S32 (.inl rfl) rfl) shapeCasts_S32_S32x1) shapeCasts_S32x1_S32x1) broadcasts_S32x1_S32x128⟩, ⟨S32x128, broadcastTo S32x128 (shapeCast S32x1 (shapeCast S32x1 (multiReduction .maximumf [1] S32 (extractStridedSlice S32x128 ![0, 128] (k0_pay79 a (k0_pay74 a) (k0_pay75 a) b B) slices_S32x1024_o0_128_S32x128) 0xFF800000#32 reduces_S32x128_S32 (.inl rfl) rfl) shapeCasts_S32_S32x1) shapeCasts_S32x1_S32x1) broadcasts_S32x1_S32x128⟩, ⟨S32x128, broadcastTo S32x128 (shapeCast S32x1 (shapeCast S32x1 (multiReduction .maximumf [1] S32 (extractStridedSlice S32x128 ![0, 256] (k0_pay79 a (k0_pay74 a) (k0_pay75 a) b B) slices_S32x1024_o0_256_S32x128) 0xFF800000#32 reduces_S32x128_S32 (.inl rfl) rfl) shapeCasts_S32_S32x1) shapeCasts_S32x1_S32x1) broadcasts_S32x1_S32x128⟩, ⟨S32x128, broadcastTo S32x128 (shapeCast S32x1 (shapeCast S32x1 (multiReduction .maximumf [1] S32 (extractStridedSlice S32x128 ![0, 384] (k0_pay79 a (k0_pay74 a) (k0_pay75 a) b B) slices_S32x1024_o0_384_S32x128) 0xFF800000#32 reduces_S32x128_S32 (.inl rfl) rfl) shapeCasts_S32_S32x1) shapeCasts_S32x1_S32x1) broadcasts_S32x1_S32x128⟩, ⟨S32x128, broadcastTo S32x128 (shapeCast S32x1 (shapeCast S32x1 (multiReduction .maximumf [1] S32 (extractStridedSlice S32x128 ![0, 512] (k0_pay79 a (k0_pay74 a) (k0_pay75 a) b B) slices_S32x1024_o0_512_S32x128) 0xFF800000#32 reduces_S32x128_S32 (.inl rfl) rfl) shapeCasts_S32_S32x1) shapeCasts_S32x1_S32x1) broadcasts_S32x1_S32x128⟩, ⟨S32x128, broadcastTo S32x128 (shapeCast S32x1 (shapeCast S32x1 (multiReduction .maximumf [1] S32 (extractStridedSlice S32x128 ![0, 640] (k0_pay79 a (k0_pay74 a) (k0_pay75 a) b B) slices_S32x1024_o0_640_S32x128) 0xFF800000#32 reduces_S32x128_S32 (.inl rfl) rfl) shapeCasts_S32_S32x1) shapeCasts_S32x1_S32x1) broadcasts_S32x1_S32x128⟩, ⟨S32x128, broadcastTo S32x128 (shapeCast S32x1 (shapeCast S32x1 (multiReduction .maximumf [1] S32 (extractStridedSlice S32x128 ![0, 768] (k0_pay79 a (k0_pay74 a) (k0_pay75 a) b B) slices_S32x1024_o0_768_S32x128) 0xFF800000#32 reduces_S32x128_S32 (.inl rfl) rfl) shapeCasts_S32_S32x1) shapeCasts_S32x1_S32x1) broadcasts_S32x1_S32x128⟩, ⟨S32x128, broadcastTo S32x128 (shapeCast S32x1 (shapeCast S32x1 (multiReduction .maximumf [1] S32 (extractStridedSlice S32x128 ![0, 896] (k0_pay79 a (k0_pay74 a) (k0_pay75 a) b B) slices_S32x1024_o0_896_S32x128) 0xFF800000#32 reduces_S32x128_S32 (.inl rfl) rfl) shapeCasts_S32_S32x1) shapeCasts_S32x1_S32x1) broadcasts_S32x1_S32x128⟩] concatenates_S32x128_S32x128_S32x128_S32x128_S32x128_S32x128_S32x128_S32x128_S32x1024_d1) y) := rfl

theorem pay86_at (n : Fin 32) (L : Fin 1024) : k0_pay86 (k0_pay79 a (k0_pay74 a) (k0_pay75 a) b B) (k0_pay80 a (k0_pay74 a) (k0_pay75 a) b B) (k0_pay81 a (k0_pay74 a) (k0_pay75 a) b B) (k0_pay82 a (k0_pay74 a) (k0_pay75 a) b B) (k0_pay83 a (k0_pay74 a) (k0_pay75 a) b B) (k0_pay84 a (k0_pay74 a) (k0_pay75 a) b B) (k0_pay85 a (k0_pay74 a) (k0_pay75 a) b B) (ix2 n L) = expo (aF B (cF a b) n (headOf L)) := by
  rw [pay86_eq]
  show expo _ = _
  rw [cat_at]
  unfold aF
  exact congrArg (fun f => expo (Finset.fold max negInf f Finset.univ)) (funext fun q => pay79_at a b B n _)

theorem neg_at (X : FVec Ideal S32x1024 .f32) (n : Fin 32) (L : Fin 1024) :
    exp2 (subf (broadcast S32x1024 (Scalar.ofBits .f32 0x00000000#32)) X) (ix2 n L) = Ideal.exp2 (0 - X (ix2 n L)) := by
  pointwise []
  rfl

theorem pay87_eq : k0_pay87 (k0_pay79 a (k0_pay74 a) (k0_pay75 a) b B) (k0_pay80 a (k0_pay74 a) (k0_pay75 a) b B) (k0_pay81 a (k0_pay74 a) (k0_pay75 a) b B) (k0_pay82 a (k0_pay74 a) (k0_pay75 a) b B) (k0_pay83 a (k0_pay74 a) (k0_pay75 a) b B) (k0_pay84 a (k0_pay74 a) (k0_pay75 a) b B) (k0_pay85 a (k0_pay74 a) (k0_pay75 a) b B) = invF (aF B (cF a b)) := by
  funext y
  rw [show y = ix2 (y 0) (y 1) from funext fun k => by fin_cases k <;> rfl]
  show exp2 (subf (broadcast S32x1024 (Scalar.ofBits .f32 0x00000000#32)) (k0_pay86 (k0_pay79 a (k0_pay74 a) (k0_pay75 a) b B) (k0_pay80 a (k0_pay74 a) (k0_pay75 a) b B) (k0_pay81 a (k0_pay74 a) (k0_pay75 a) b B) (k0_pay82 a (k0_pay74 a) (k0_pay75 a) b B) (k0_pay83 a (k0_pay74 a) (k0_pay75 a) b B) (k0_pay84 a (k0_pay74 a) (k0_pay75 a) b B) (k0_pay85 a (k0_pay74 a) (k0_pay75 a) b B))) (ix2 (y 0) (y 1)) = _
  refine (neg_at _ (y 0) (y 1)).trans (congrArg (fun z : EReal => Ideal.exp2 (0 - z)) (pay86_at a b B (y 0) (y 1)))

theorem pay88_eq : k0_pay88 (k0_pay79 a (k0_pay74 a) (k0_pay75 a) b B) (k0_pay80 a (k0_pay74 a) (k0_pay75 a) b B) (k0_pay81 a (k0_pay74 a) (k0_pay75 a) b B) (k0_pay82 a (k0_pay74 a) (k0_pay75 a) b B) (k0_pay83 a (k0_pay74 a) (k0_pay75 a) b B) (k0_pay84 a (k0_pay74 a) (k0_pay75 a) b B) (k0_pay85 a (k0_pay74 a) (k0_pay75 a) b B) = sclF (aF B (cF a b)) := by
  funext y
  rw [show y = ix2 (y 0) (y 1) from funext fun k => by fin_cases k <;> rfl]
  exact congrArg Ideal.exp2 (pay86_at a b B (y 0) (y 1))

end Cert.KernelIdeal.Val

end
-- ==== Proof.T13.lean ====
module

public import proofs.«01_k».proof.Proof.ScaleVals

@[expose] public section

/-! The stretch from part 13 on: the block maxima, the factors of the scores and the scales of the probabilities, and the
accumulation that uses them. -/

set_option maxRecDepth 16384
set_option maxHeartbeats 4000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- No trip of the second half of the maxima's loop writes anything. -/
theorem pb2_zero (𝒱 : Variants) (c : Dev nD) (bd : Option 𝒱.V) (i : grid0.Coords) (arg2 : Memref sig .tc .vmem S1x128x2048 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x128x2048 .bf16) (harg5 : arg5.IsWhole) (arg6 : Memref sig .tc .vmem S1x128x2048 .fp8e4m3) (harg6 : arg6.IsWhole) (arg7 : Memref sig .tc .vmem S1x32x8 .f32) (harg7 : arg7.IsWhole) (arg8 : Memref sig .tc .vmem S1x128x512 .fp8e4m3) (harg8 : arg8.IsWhole) (arg9 : Memref sig .tc .vmem S1x32x2 .f32) (harg9 : arg9.IsWhole) (arg10 : Memref sig .tc .vmem S1x128x512 .fp8e4m3) (harg10 : arg10.IsWhole) (arg11 : Memref sig .tc .vmem S1x32x2 .f32) (harg11 : arg11.IsWhole) (arg12 : Memref sig .tc .vmem S1024x256 .fp8e4m3) (harg12 : arg12.IsWhole) (arg13 : Memref sig .tc .vmem S32x128x512 .fp8e4m3) (harg13 : arg13.IsWhole) (arg14 : Memref sig .tc .vmem S32x512x128 .fp8e4m3) (harg14 : arg14.IsWhole) (arg15 : Memref sig .tc .vmem S32x1024 .f32) (harg15 : arg15.IsWhole) (arg16 : Memref sig .tc .vmem S32x1024 .f32) (harg16 : arg16.IsWhole) (arg17 : Memref sig .tc .vmem S32x1024 .f32) (harg17 : arg17.IsWhole) (arg18 : Memref sig .tc .vmem S32x1024 .f32) (harg18 : arg18.IsWhole) (arg19 : Memref sig .tc .vmem S32x1024 .f32) (harg19 : arg19.IsWhole) (arg20 : Memref sig .tc .vmem S32x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S256x1024 .f32) (harg23 : arg23.IsWhole) (arg1 : BitVec 32) (v77 : FVec Ideal S1x2048 .f32) (v344 : IVec S128x512 32) (v345 : IVec S128x512 32) (v346 : IVec S128x512 32) (X_arg12 : BufTy.Contents (Elt Ideal) arg12.view.ty) (X_arg13 : BufTy.Contents (Elt Ideal) arg13.view.ty) :
    pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v77 v344 v345 v346 X_arg12 X_arg13 0 = [] := rfl

theorem dotK_block (v13 : View sig .tc .vmem S32x128x512 .fp8e4m3) (f13 : v13.ty.Contents (Elt Ideal))
    (v12 : View sig .tc .vmem S1024x256 .fp8e4m3) (f12 : v12.ty.Contents (Elt Ideal)) (o13 : Fin 3 → ℕ) (i13 : ∀ a, o13 a + S1x128x256.size a ≤ S32x128x512.size a)
    (o12 : Fin 2 → ℕ) (i12 : ∀ a, o12 a + S512x256.size a ≤ S1024x256.size a) (n b b' : ℕ) (h13 : o13 = ![n, 0, b]) (h12 : o12 = ![b', 0]) (n' : Fin 32) (hn : n'.val = n) (L : Fin 1024) (j : Fin 512)
    (hL : 256 * (L.val / 512) = b) (hj : L.val = b' + j.val) (r : Fin 128) :
    (∑ d : Fin 256, (v13.readAt (Elt Ideal) (Rect.unit (s := S32x128x512) (o13) S1x128x256.size i13).toLoadRect f13) (ix3 0 r d) * (v12.readAt (Elt Ideal) (Rect.unit (s := S1024x256) (o12) S512x256.size i12).toLoadRect f12) (ix2 j d)) = dotK (v13.read (Elt Ideal) f13) (v12.read (Elt Ideal) f12) n' r L := by
  unfold dotK
  refine Finset.sum_congr rfl fun d _ => ?_
  rw [rdK v13 f13 o13 i13 n b h13 n' hn L hL r d, rdQ v12 f12 o12 i12 b' h12 L j hj d]

/-- The two half rows of the queries' own block. -/
theorem bm_read (i : grid0.Coords) (u v w : IVec S128x512 32) (v13 : View sig .tc .vmem S32x128x512 .fp8e4m3) (f13 : v13.ty.Contents (Elt Ideal))
    (v12 : View sig .tc .vmem S1024x256 .fp8e4m3) (f12 : v12.ty.Contents (Elt Ideal)) (v17 : View sig .tc .vmem S32x1024 .f32) (f17 : v17.ty.Contents (Elt Ideal))
    (R : List (View.Piece (Elt Ideal) S32x1024 .f32)) (n : Fin 32) (L : Fin 1024) :
    v17.read (Elt Ideal) (v17.writes (Elt Ideal) f17 (⟨Rect.unit (s := S32x1024) (k0_off17 i) S1x512.size (k0_off17_inb i), k0_pay73 u v w (v13.readAt (Elt Ideal) (Rect.unit (s := S32x128x512) (k0_off16 i) S1x128x256.size (k0_off16_inb i)).toLoadRect f13) (v12.readAt (Elt Ideal) (Rect.unit (s := S1024x256) (![512, 0]) S512x256.size (by decide)).toLoadRect f12)⟩ :: ⟨Rect.unit (s := S32x1024) (k0_off15 i) S1x512.size (k0_off15_inb i), k0_pay72 u v w (v13.readAt (Elt Ideal) (Rect.unit (s := S32x128x512) (k0_off14 i) S1x128x256.size (k0_off14_inb i)).toLoadRect f13) (v12.readAt (Elt Ideal) (Rect.unit (s := S1024x256) (![0, 0]) S512x256.size (by decide)).toLoadRect f12)⟩ :: R)) (ix2 n L)
      = if n.val = (i 1).val then blockMaxD (k0_pay67 u v w) (v13.read (Elt Ideal) f13) (v12.read (Elt Ideal) f12) (i 1) L else v17.read (Elt Ideal) (v17.writes (Elt Ideal) f17 R) (ix2 n L) := by
  have hi : (i 1).val < 32 := (i 1).isLt
  by_cases hn : n.val = (i 1).val
  · rw [if_pos hn]
    by_cases hL : L.val < 512
    · rw [View.read_writes_cons_unit_of_not_mem _ _ _ _ _ _ (off17_eq i) 1 (Or.inl hL)]
      rw [View.read_writes_cons_unit_of_mem _ _ _ _ _ _ (ix2 0 ⟨L.val, hL⟩) (off15_eq i) (fun a => by fin_cases a <;> simp [hn])]
      rw [pay72_at]
      unfold blockMaxD
      refine congrArg (fun f => Finset.fold max negInf f Finset.univ) (funext fun r => ?_)
      rw [dotK_block v13 f13 v12 f12 _ _ _ _ (i 1).val 0 0 (off14_eq i) rfl (i 1) rfl L ⟨L.val, hL⟩ (by omega) (by simp) r]
      rw [show (⟨L.val % 512, Nat.mod_lt _ (by norm_num)⟩ : Fin 512) = ⟨L.val, hL⟩ from Fin.ext (by simp only; omega)]
    · rw [View.read_writes_cons_unit_of_mem _ _ _ _ _ _ (ix2 0 ⟨L.val - 512, by omega⟩) (off17_eq i) (fun a => by fin_cases a <;> simp [hn]; omega)]
      rw [pay73_at]
      unfold blockMaxD
      refine congrArg (fun f => Finset.fold max negInf f Finset.univ) (funext fun r => ?_)
      rw [dotK_block v13 f13 v12 f12 _ _ _ _ (i 1).val 256 512 (off16_eq i) rfl (i 1) rfl L ⟨L.val - 512, by omega⟩ (by omega) (by simp only; omega) r]
      rw [show (⟨L.val % 512, Nat.mod_lt _ (by norm_num)⟩ : Fin 512) = ⟨L.val - 512, by omega⟩ from Fin.ext (by simp only; omega)]
  · rw [if_neg hn]
    rw [View.read_writes_cons_unit_of_not_mem _ _ _ _ _ _ (off17_eq i) 0 (by simp; omega)]
    rw [View.read_writes_cons_unit_of_not_mem _ _ _ _ _ _ (off15_eq i) 0 (by simp; omega)]

theorem t13 (c : Dev nD) (i : grid0.Coords) (arg2 : Memref sig .tc .vmem S1x128x2048 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x128x2048 .bf16) (harg5 : arg5.IsWhole) (arg6 : Memref sig .tc .vmem S1x128x2048 .fp8e4m3) (harg6 : arg6.IsWhole) (arg7 : Memref sig .tc .vmem S1x32x8 .f32) (harg7 : arg7.IsWhole) (arg8 : Memref sig .tc .vmem S1x128x512 .fp8e4m3) (harg8 : arg8.IsWhole) (arg9 : Memref sig .tc .vmem S1x32x2 .f32) (harg9 : arg9.IsWhole) (arg10 : Memref sig .tc .vmem S1x128x512 .fp8e4m3) (harg10 : arg10.IsWhole) (arg11 : Memref sig .tc .vmem S1x32x2 .f32) (harg11 : arg11.IsWhole) (arg12 : Memref sig .tc .vmem S1024x256 .fp8e4m3) (harg12 : arg12.IsWhole) (arg13 : Memref sig .tc .vmem S32x128x512 .fp8e4m3) (harg13 : arg13.IsWhole) (arg14 : Memref sig .tc .vmem S32x512x128 .fp8e4m3) (harg14 : arg14.IsWhole) (arg15 : Memref sig .tc .vmem S32x1024 .f32) (harg15 : arg15.IsWhole) (arg16 : Memref sig .tc .vmem S32x1024 .f32) (harg16 : arg16.IsWhole) (arg17 : Memref sig .tc .vmem S32x1024 .f32) (harg17 : arg17.IsWhole) (arg18 : Memref sig .tc .vmem S32x1024 .f32) (harg18 : arg18.IsWhole) (arg19 : Memref sig .tc .vmem S32x1024 .f32) (harg19 : arg19.IsWhole) (arg20 : Memref sig .tc .vmem S32x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S256x1024 .f32) (harg23 : arg23.IsWhole) (arg1 : BitVec 32) (v77 : FVec Ideal S1x2048 .f32) (v344 : IVec S128x512 32) (v345 : IVec S128x512 32) (v346 : IVec S128x512 32) (X12 : Vec Ideal S1024x256 .fp8e4m3) (X13 : Vec Ideal S32x128x512 .fp8e4m3) (X14 : Vec Ideal S32x512x128 .fp8e4m3) (X15 : Vec Ideal S32x1024 .f32) (X16 : Vec Ideal S32x1024 .f32) (X17 : Vec Ideal S32x1024 .f32) (K : PUnit → sProp 𝕄) :
    iprop((∃ d, owns (c : Thread nD τ) arg5 fullShare d) ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg5 fullShare (outY (i 1) (k0_pay67 v344 v345 v346) X13 X12 X14 (cF v77 X15) (mF (bmF (i 1) (k0_pay67 v344 v345 v346) X13 X12 X17) (cF v77 X15)) (invF (aF (bmF (i 1) (k0_pay67 v344 v345 v346) X13 X12 X17) (cF v77 X15))) (fun y => sclF (aF (bmF (i 1) (k0_pay67 v344 v345 v346) X13 X12 X17) (cF v77 X15)) y * X16 y)) ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare (bmF (i 1) (k0_pay67 v344 v345 v346) X13 X12 X17) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
      ⊢ wp frame (wpE (defs₀ (F := Ideal)) Variants.none (c : Thread nD τ) none) Set.univ
          (tail13 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v77 v344 v345 v346) K := by
  unfold tail13
  unfold owns
  iintro ⟨⟨%d5, %f5, -, H5⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  set_option sl_exec.stopBefore "tail16" in sl_exec
  have h17 : View.read (Elt Ideal) arg17.view (arg17.view.writes (Elt Ideal) f17 (t13.sl.H17_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v77 v344 v345 v346 f12 f13)) = (bmF (i 1) (k0_pay67 v344 v345 v346) X13 X12 X17) := by
    funext y
    rw [show y = ix2 (y 0) (y 1) from funext fun k => by fin_cases k <;> rfl]
    refine (bm_read i v344 v345 v346 arg13.view f13 arg12.view f12 arg17.view f17 _ (y 0) (y 1)).trans ?_
    rw [show Scf.trips (k0_t2_loop i).lb (k0_t2_loop i).ub (k0_t2_loop i).st = 0 from trips_t2 i, pb2_zero, List.nil_append]
    have e1 := read_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v77 v344 v345 v346 f12 f13 f17 (y 0) (y 1) _ (le_refl _)
    rw [hf12, hf13, hf17] at e1
    rw [hf12, hf13]
    refine (congrArg (fun z : EReal => if (y 0).val = (i 1).val then blockMaxD (k0_pay67 v344 v345 v346) X13 X12 (i 1) (y 1) else z)
      (e1.trans (if_congr (show _ < _ ↔ (y 0).val < (i 1).val by rw [trips_t1 i]) rfl rfl))).trans ?_
    unfold bmF
    by_cases hy : (y 0).val = (i 1).val
    · rw [if_pos hy, if_neg (by simp only [ix2]; omega)]; exact (if_pos hy).symm
    · rw [if_neg hy]
      exact if_congr Iff.rfl rfl (if_neg hy).symm
  have e15 : (View.readAt (Elt Ideal) arg15.view (Rect.unit (s := S32x1024) ![0, 0] S32x1024.size inb_S32x1024_S32x1024_0_0).toLoadRect f15) = X15 := by rw [View.readAt_full, hf15]
  have e17 : (View.readAt (Elt Ideal) arg17.view (Rect.unit (s := S32x1024) ![0, 0] S32x1024.size inb_S32x1024_S32x1024_0_0).toLoadRect (arg17.view.writes (Elt Ideal) f17 (t13.sl.H17_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v77 v344 v345 v346 f12 f13))) = (bmF (i 1) (k0_pay67 v344 v345 v346) X13 X12 X17) := by rw [View.readAt_full, h17]
  have er : t13.sl.r c arg15 v77 f15 = cF v77 X15 := (pay76_eq _ _).trans (congrArg (cF v77) e15)
  have er1 : t13.sl.r_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v77 v344 v345 v346 f12 f13 f15 f17 = mF (bmF (i 1) (k0_pay67 v344 v345 v346) X13 X12 X17) (cF v77 X15) := by
    refine (pay78_eq v77 (View.readAt (Elt Ideal) arg15.view (Rect.unit (s := S32x1024) ![0, 0] S32x1024.size inb_S32x1024_S32x1024_0_0).toLoadRect f15) (View.readAt (Elt Ideal) arg17.view (Rect.unit (s := S32x1024) ![0, 0] S32x1024.size inb_S32x1024_S32x1024_0_0).toLoadRect (arg17.view.writes (Elt Ideal) f17 (t13.sl.H17_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v77 v344 v345 v346 f12 f13)))).trans ?_
    rw [e15, e17]
  have er9 : t13.sl.r_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v77 v344 v345 v346 f12 f13 f15 f17 = invF (aF (bmF (i 1) (k0_pay67 v344 v345 v346) X13 X12 X17) (cF v77 X15)) := by
    refine (pay87_eq v77 (View.readAt (Elt Ideal) arg15.view (Rect.unit (s := S32x1024) ![0, 0] S32x1024.size inb_S32x1024_S32x1024_0_0).toLoadRect f15) (View.readAt (Elt Ideal) arg17.view (Rect.unit (s := S32x1024) ![0, 0] S32x1024.size inb_S32x1024_S32x1024_0_0).toLoadRect (arg17.view.writes (Elt Ideal) f17 (t13.sl.H17_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v77 v344 v345 v346 f12 f13)))).trans ?_
    rw [e15, e17]
  have er10 : t13.sl.r_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v77 v344 v345 v346 f12 f13 f15 f17 = sclF (aF (bmF (i 1) (k0_pay67 v344 v345 v346) X13 X12 X17) (cF v77 X15)) := by
    refine (pay88_eq v77 (View.readAt (Elt Ideal) arg15.view (Rect.unit (s := S32x1024) ![0, 0] S32x1024.size inb_S32x1024_S32x1024_0_0).toLoadRect f15) (View.readAt (Elt Ideal) arg17.view (Rect.unit (s := S32x1024) ![0, 0] S32x1024.size inb_S32x1024_S32x1024_0_0).toLoadRect (arg17.view.writes (Elt Ideal) f17 (t13.sl.H17_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v77 v344 v345 v346 f12 f13)))).trans ?_
    rw [e15, e17]
  have h18 : View.read (Elt Ideal) arg18.view (arg18.view.writes (Elt Ideal) f18 [⟨Rect.unit (s := S32x1024) ![0, 0] S32x1024.size inb_S32x1024_S32x1024_0_0, k0_pay89 (t13.sl.r c arg15 v77 f15)⟩]) = cF v77 X15 := by
    rw [View.read_writes_full, pay89_eq, er]
  rw [er1, er9, er10]
  iapply (t16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 (k0_pay67 v344 v345 v346) (mF (bmF (i 1) (k0_pay67 v344 v345 v346) X13 X12 X17) (cF v77 X15)) (invF (aF (bmF (i 1) (k0_pay67 v344 v345 v346) X13 X12 X17) (cF v77 X15))) (sclF (aF (bmF (i 1) (k0_pay67 v344 v345 v346) X13 X12 X17) (cF v77 X15))) _ X12 X13 X14 X16 (cF v77 X15) K)
  unfold owns
  isplitl [H5]
  · iexists _, _; isplitr; swap
    · iexact H5
    · ipureintro; rfl
  isplitl [H12]
  · iexists _; isplitr; swap
    · iexact H12
    · ipureintro; exact hf12
  isplitl [H13]
  · iexists _; isplitr; swap
    · iexact H13
    · ipureintro; exact hf13
  isplitl [H14]
  · iexists _; isplitr; swap
    · iexact H14
    · ipureintro; exact hf14
  isplitl [H16]
  · iexists _; isplitr; swap
    · iexact H16
    · ipureintro; exact hf16
  isplitl [H18]
  · iexists _; isplitr; swap
    · iexact H18
    · ipureintro; exact h18
  isplitl [H19]
  · iexists _, _; isplitr; swap
    · iexact H19
    · ipureintro; rfl
  isplitl [H20]
  · iexists _, _; isplitr; swap
    · iexact H20
    · ipureintro; rfl
  isplitl [H21]
  · iexists _, _; isplitr; swap
    · iexact H21
    · ipureintro; rfl
  isplitl [H22]
  · iexists _, _; isplitr; swap
    · iexact H22
    · ipureintro; rfl
  isplitl [H23]
  · iexists _, _; isplitr; swap
    · iexact H23
    · ipureintro; rfl
  iintro ⟨G5, G12, G13, G14, G16, ⟨%g18, -, H18⟩, G19, G20, G21, G22, G23⟩
  iapply Hk
  isplitl [G5]
  · iexact G5
  isplitl [G12]
  · iexact G12
  isplitl [G13]
  · iexact G13
  isplitl [G14]
  · iexact G14
  isplitl [H15]
  · iexists _; isplitr; swap
    · iexact H15
    · ipureintro; exact hf15
  isplitl [G16]
  · iexact G16
  isplitl [H17]
  · iexists _; isplitr; swap
    · iexact H17
    · ipureintro; exact h17
  isplitl [H18]
  · iexists _, _; isplitr; swap
    · iexact H18
    · ipureintro; rfl
  isplitl [G19]
  · iexact G19
  isplitl [G20]
  · iexact G20
  isplitl [G21]
  · iexact G21
  isplitl [G22]
  · iexact G22
  iexact G23

end Cert.KernelIdeal.Val

end
-- ==== Proof.QuantVals.lean ====
module

public import proofs.«01_k».proof.Proof.ScaleVals

@[expose] public section

/-! The codes and the scales of the queries, the keys and the values. -/

set_option maxRecDepth 16384
set_option maxHeartbeats 4000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The largest magnitude of a query block's head. -/
def amaxQ (X : Vec Ideal S1x128x2048 .bf16) (h : Fin 8) : EReal :=
  Finset.univ.fold max negInf fun d : Fin 256 => Finset.univ.fold max negInf fun q : Fin 128 =>
    max (X (ix3 0 q ⟨256 * h.val + d.val, by omega⟩)) (-X (ix3 0 q ⟨256 * h.val + d.val, by omega⟩))

/-- The largest magnitude of a key or value block's head. -/
def amaxK (X : Vec Ideal S1x128x512 .bf16) (h : Fin 2) : EReal :=
  Finset.univ.fold max negInf fun d : Fin 256 => Finset.univ.fold max negInf fun q : Fin 128 =>
    max (X (ix3 0 q ⟨256 * h.val + d.val, by omega⟩)) (-X (ix3 0 q ⟨256 * h.val + d.val, by omega⟩))

def headQ (l : Fin 2048) : Fin 8 := ⟨l.val / 256, by omega⟩
def headK (l : Fin 512) : Fin 2 := ⟨l.val / 256, by omega⟩

/-- The code of a value in a head whose largest magnitude is `a`. -/
def code (a x : EReal) : EReal := clip (x * inv a)

def qcode (X : Vec Ideal S1x128x2048 .bf16) : Vec Ideal S1x128x2048 .fp8e4m3 := fun y => code (amaxQ X (headQ (y 2))) (X y)
def kcode (X : Vec Ideal S1x128x512 .bf16) : Vec Ideal S1x128x512 .fp8e4m3 := fun y => code (amaxK X (headK (y 2))) (X y)
def qscale (X : Vec Ideal S1x128x2048 .bf16) : FVec Ideal S1x2048 .f32 := fun y => scl (amaxQ X (headQ (y 1)))

/-- The queries' codes by lane and depth. -/
def qlanes (X : Vec Ideal S1x128x2048 .bf16) : Vec Ideal S1024x256 .fp8e4m3 := fun y =>
  qcode X (ix3 0 ⟨(y 0).val % 128, Nat.mod_lt _ (by norm_num)⟩
    ⟨256 * ((y 0).val / 128) + (y 1).val, by have : (y 0).val < 1024 := (y 0).isLt; have : (y 1).val < 256 := (y 1).isLt; omega⟩)

/-- One row of the queries' scales replaced. -/
def setRowQ (i : Fin 32) (g : Fin 8 → EReal) (X : Vec Ideal S1x32x8 .f32) : Vec Ideal S1x32x8 .f32 := fun y => if (y 1).val = i.val then g (y 2) else X y
/-- One row of the keys' or the values' scales replaced. -/
def setRowK (i : Fin 32) (g : Fin 2 → EReal) (X : Vec Ideal S1x32x2 .f32) : Vec Ideal S1x32x2 .f32 := fun y => if (y 1).val = i.val then g (y 2) else X y
/-- One block of key codes replaced. -/
def setK (i : Fin 32) (X : Vec Ideal S1x128x512 .bf16) (Y : Vec Ideal S32x128x512 .fp8e4m3) : Vec Ideal S32x128x512 .fp8e4m3 :=
  fun y => if (y 0).val = i.val then kcode X (ix3 0 (y 1) (y 2)) else Y y
/-- One block of value codes replaced. -/
def setV (i : Fin 32) (X : Vec Ideal S1x128x512 .bf16) (Y : Vec Ideal S32x512x128 .fp8e4m3) : Vec Ideal S32x512x128 .fp8e4m3 :=
  fun y => if (y 0).val = i.val then kcode X (ix3 0 (y 2) (y 1)) else Y y
def kvOf (L : Fin 1024) : Fin 2 := ⟨L.val / 512, by omega⟩
/-- One row of lane scales replaced. -/
def setS (i : Fin 32) (X : Vec Ideal S1x128x512 .bf16) (Y : Vec Ideal S32x1024 .f32) : Vec Ideal S32x1024 .f32 :=
  fun y => if (y 0).val = i.val then scl (amaxK X (kvOf (y 1))) else Y y

theorem eta3 {a b : ℕ} (y : Shape.Idx ⟨3, ![1, a, b]⟩) : y = ix3 0 (y 1) (y 2) := by
  funext k
  fin_cases k
  · exact Fin.ext (by have : (y 0).val < 1 := (y 0).isLt; show (y 0).val = 0; omega)
  · rfl
  · rfl

theorem pay24_at (X : Vec Ideal S1x128x2048 .bf16) (q : Fin 128) (l : Fin 2048) : k0_pay24 X (ix2 q l) = X (ix3 0 q l) := by
  pointwise [k0_pay24]

theorem pay25_at (X : Vec Ideal S1x128x2048 .bf16) (l : Fin 2048) :
    k0_pay25 X (ix2 0 l) = Finset.univ.fold max negInf fun q : Fin 128 => max (X (ix3 0 q l)) (-X (ix3 0 q l)) := by
  pointwise [k0_pay25, k0_pay24]
  rfl

/-- Eight maxima over 256 lanes each, laid side by side. -/
theorem cat8_at (X : FVec Ideal S1x2048 .f32) (l : Fin 2048) :
    concatenate S1x2048 1 [⟨S1x256, broadcastTo S1x256 (shapeCast S1x1 (shapeCast S1x1 (multiReduction .maximumf [1] S1 (extractStridedSlice S1x256 ![0, 0] X slices_S1x2048_o0_0_S1x256) 0xFF800000#32 reduces_S1x256_S1 (.inl rfl) rfl) shapeCasts_S1_S1x1) shapeCasts_S1x1_S1x1) broadcasts_S1x1_S1x256⟩, ⟨S1x256, broadcastTo S1x256 (shapeCast S1x1 (shapeCast S1x1 (multiReduction .maximumf [1] S1 (extractStridedSlice S1x256 ![0, 256] X slices_S1x2048_o0_256_S1x256) 0xFF800000#32 reduces_S1x256_S1 (.inl rfl) rfl) shapeCasts_S1_S1x1) shapeCasts_S1x1_S1x1) broadcasts_S1x1_S1x256⟩, ⟨S1x256, broadcastTo S1x256 (shapeCast S1x1 (shapeCast S1x1 (multiReduction .maximumf [1] S1 (extractStridedSlice S1x256 ![0, 512] X slices_S1x2048_o0_512_S1x256) 0xFF800000#32 reduces_S1x256_S1 (.inl rfl) rfl) shapeCasts_S1_S1x1) shapeCasts_S1x1_S1x1) broadcasts_S1x1_S1x256⟩, ⟨S1x256, broadcastTo S1x256 (shapeCast S1x1 (shapeCast S1x1 (multiReduction .maximumf [1] S1 (extractStridedSlice S1x256 ![0, 768] X slices_S1x2048_o0_768_S1x256) 0xFF800000#32 reduces_S1x256_S1 (.inl rfl) rfl) shapeCasts_S1_S1x1) shapeCasts_S1x1_S1x1) broadcasts_S1x1_S1x256⟩, ⟨S1x256, broadcastTo S1x256 (shapeCast S1x1 (shapeCast S1x1 (multiReduction .maximumf [1] S1 (extractStridedSlice S1x256 ![0, 1024] X slices_S1x2048_o0_1024_S1x256) 0xFF800000#32 reduces_S1x256_S1 (.inl rfl) rfl) shapeCasts_S1_S1x1) shapeCasts_S1x1_S1x1) broadcasts_S1x1_S1x256⟩, ⟨S1x256, broadcastTo S1x256 (shapeCast S1x1 (shapeCast S1x1 (multiReduction .maximumf [1] S1 (extractStridedSlice S1x256 ![0, 1280] X slices_S1x2048_o0_1280_S1x256) 0xFF800000#32 reduces_S1x256_S1 (.inl rfl) rfl) shapeCasts_S1_S1x1) shapeCasts_S1x1_S1x1) broadcasts_S1x1_S1x256⟩, ⟨S1x256, broadcastTo S1x256 (shapeCast S1x1 (shapeCast S1x1 (multiReduction .maximumf [1] S1 (extractStridedSlice S1x256 ![0, 1536] X slices_S1x2048_o0_1536_S1x256) 0xFF800000#32 reduces_S1x256_S1 (.inl rfl) rfl) shapeCasts_S1_S1x1) shapeCasts_S1x1_S1x1) broadcasts_S1x1_S1x256⟩, ⟨S1x256, broadcastTo S1x256 (shapeCast S1x1 (shapeCast S1x1 (multiReduction .maximumf [1] S1 (extractStridedSlice S1x256 ![0, 1792] X slices_S1x2048_o0_1792_S1x256) 0xFF800000#32 reduces_S1x256_S1 (.inl rfl) rfl) shapeCasts_S1_S1x1) shapeCasts_S1x1_S1x1) broadcasts_S1x1_S1x256⟩] concatenates_S1x256_S1x256_S1x256_S1x256_S1x256_S1x256_S1x256_S1x256_S1x2048_d1 (ix2 0 l) = Finset.univ.fold max negInf fun d : Fin 256 => X (ix2 0 ⟨256 * (headQ l).val + d.val, by have := (headQ l).isLt; omega⟩) := by
  pointwise []
  split_ifs <;> refine congrArg (fun f => Finset.fold max negInf f Finset.univ) (funext fun q => congrArg X (congrArg (ix2 0) (Fin.ext (by simp only [headQ]; omega))))

/-- Two maxima over 256 lanes each, laid side by side. -/
theorem cat2_at (X : FVec Ideal S1x512 .f32) (l : Fin 512) :
    concatenate S1x512 1 [⟨S1x256, broadcastTo S1x256 (shapeCast S1x1 (shapeCast S1x1 (multiReduction .maximumf [1] S1 (extractStridedSlice S1x256 ![0, 0] X slices_S1x512_o0_0_S1x256) 0xFF800000#32 reduces_S1x256_S1 (.inl rfl) rfl) shapeCasts_S1_S1x1) shapeCasts_S1x1_S1x1) broadcasts_S1x1_S1x256⟩, ⟨S1x256, broadcastTo S1x256 (shapeCast S1x1 (shapeCast S1x1 (multiReduction .maximumf [1] S1 (extractStridedSlice S1x256 ![0, 256] X slices_S1x512_o0_256_S1x256) 0xFF800000#32 reduces_S1x256_S1 (.inl rfl) rfl) shapeCasts_S1_S1x1) shapeCasts_S1x1_S1x1) broadcasts_S1x1_S1x256⟩] concatenates_S1x256_S1x256_S1x512_d1 (ix2 0 l) = Finset.univ.fold max negInf fun d : Fin 256 => X (ix2 0 ⟨256 * (headK l).val + d.val, by have := (headK l).isLt; omega⟩) := by
  pointwise []
  split_ifs <;> refine congrArg (fun f => Finset.fold max negInf f Finset.univ) (funext fun q => congrArg X (congrArg (ix2 0) (Fin.ext (by simp only [headK]; omega))))

theorem pay33_at (X : Vec Ideal S1x128x2048 .bf16) (l : Fin 2048) : k0_pay33 (k0_pay25 X) (k0_pay26 X) (k0_pay27 X) (k0_pay28 X) (k0_pay29 X) (k0_pay30 X) (k0_pay31 X) (k0_pay32 X) (ix2 0 l) = expo (amaxQ X (headQ l)) := by
  have e : k0_pay33 (k0_pay25 X) (k0_pay26 X) (k0_pay27 X) (k0_pay28 X) (k0_pay29 X) (k0_pay30 X) (k0_pay31 X) (k0_pay32 X) = fun y => expo (concatenate S1x2048 1 [⟨S1x256, broadcastTo S1x256 (shapeCast S1x1 (shapeCast S1x1 (multiReduction .maximumf [1] S1 (extractStridedSlice S1x256 ![0, 0] (k0_pay25 X) slices_S1x2048_o0_0_S1x256) 0xFF800000#32 reduces_S1x256_S1 (.inl rfl) rfl) shapeCasts_S1_S1x1) shapeCasts_S1x1_S1x1) broadcasts_S1x1_S1x256⟩, ⟨S1x256, broadcastTo S1x256 (shapeCast S1x1 (shapeCast S1x1 (multiReduction .maximumf [1] S1 (extractStridedSlice S1x256 ![0, 256] (k0_pay25 X) slices_S1x2048_o0_256_S1x256) 0xFF800000#32 reduces_S1x256_S1 (.inl rfl) rfl) shapeCasts_S1_S1x1) shapeCasts_S1x1_S1x1) broadcasts_S1x1_S1x256⟩, ⟨S1x256, broadcastTo S1x256 (shapeCast S1x1 (shapeCast S1x1 (multiReduction .maximumf [1] S1 (extractStridedSlice S1x256 ![0, 512] (k0_pay25 X) slices_S1x2048_o0_512_S1x256) 0xFF800000#32 reduces_S1x256_S1 (.inl rfl) rfl) shapeCasts_S1_S1x1) shapeCasts_S1x1_S1x1) broadcasts_S1x1_S1x256⟩, ⟨S1x256, broadcastTo S1x256 (shapeCast S1x1 (shapeCast S1x1 (multiReduction .maximumf [1] S1 (extractStridedSlice S1x256 ![0, 768] (k0_pay25 X) slices_S1x2048_o0_768_S1x256) 0xFF800000#32 reduces_S1x256_S1 (.inl rfl) rfl) shapeCasts_S1_S1x1) shapeCasts_S1x1_S1x1) broadcasts_S1x1_S1x256⟩, ⟨S1x256, broadcastTo S1x256 (shapeCast S1x1 (shapeCast S1x1 (multiReduction .maximumf [1] S1 (extractStridedSlice S1x256 ![0, 1024] (k0_pay25 X) slices_S1x2048_o0_1024_S1x256) 0xFF800000#32 reduces_S1x256_S1 (.inl rfl) rfl) shapeCasts_S1_S1x1) shapeCasts_S1x1_S1x1) broadcasts_S1x1_S1x256⟩, ⟨S1x256, broadcastTo S1x256 (shapeCast S1x1 (shapeCast S1x1 (multiReduction .maximumf [1] S1 (extractStridedSlice S1x256 ![0, 1280] (k0_pay25 X) slices_S1x2048_o0_1280_S1x256) 0xFF800000#32 reduces_S1x256_S1 (.inl rfl) rfl) shapeCasts_S1_S1x1) shapeCasts_S1x1_S1x1) broadcasts_S1x1_S1x256⟩, ⟨S1x256, broadcastTo S1x256 (shapeCast S1x1 (shapeCast S1x1 (multiReduction .maximumf [1] S1 (extractStridedSlice S1x256 ![0, 1536] (k0_pay25 X) slices_S1x2048_o0_1536_S1x256) 0xFF800000#32 reduces_S1x256_S1 (.inl rfl) rfl) shapeCasts_S1_S1x1) shapeCasts_S1x1_S1x1) broadcasts_S1x1_S1x256⟩, ⟨S1x256, broadcastTo S1x256 (shapeCast S1x1 (shapeCast S1x1 (multiReduction .maximumf [1] S1 (extractStridedSlice S1x256 ![0, 1792] (k0_pay25 X) slices_S1x2048_o0_1792_S1x256) 0xFF800000#32 reduces_S1x256_S1 (.inl rfl) rfl) shapeCasts_S1_S1x1) shapeCasts_S1x1_S1x1) broadcasts_S1x1_S1x256⟩] concatenates_S1x256_S1x256_S1x256_S1x256_S1x256_S1x256_S1x256_S1x256_S1x2048_d1 y) := rfl
  rw [e]
  show expo _ = _
  rw [cat8_at]
  exact congrArg (fun f => expo (Finset.fold max negInf f Finset.univ)) (funext fun d => pay25_at X _)

theorem pay34_eq (X : Vec Ideal S1x128x2048 .bf16) : k0_pay34 (k0_pay25 X) (k0_pay26 X) (k0_pay27 X) (k0_pay28 X) (k0_pay29 X) (k0_pay30 X) (k0_pay31 X) (k0_pay32 X) = qscale X := by
  funext y
  rw [show y = ix2 0 (y 1) from funext fun k => by fin_cases k; · exact Fin.ext (by have : (y 0).val < 1 := (y 0).isLt; show (y 0).val = 0; omega)
                                                   · rfl]
  exact congrArg Ideal.exp2 (pay33_at X (y 1))

theorem codeQ_at (E : FVec Ideal S1x2048 .f32) (V : FVec Ideal S128x2048 .f32) (q : Fin 128) (l : Fin 2048) :
    truncf .fp8e4m3 (minimumf (broadcast S128x2048 (Scalar.ofBits .f32 0x43E00000#32)) (maximumf (broadcast S128x2048 (Scalar.ofBits .f32 0xC3E00000#32))
      (mulf V (broadcastTo S128x2048 (exp2 (subf (broadcast S1x2048 (Scalar.ofBits .f32 0x00000000#32)) E)) broadcasts_S1x2048_S128x2048)))) bitsLt_fp8e4m3_f32 (ix2 q l)
      = clip (V (ix2 q l) * Ideal.exp2 (0 - E (ix2 0 l))) := by
  pointwise []
  rfl

theorem pay35_at (X : Vec Ideal S1x128x2048 .bf16) (q : Fin 128) (l : Fin 2048) : k0_pay35 (k0_pay24 X) (k0_pay25 X) (k0_pay26 X) (k0_pay27 X) (k0_pay28 X) (k0_pay29 X) (k0_pay30 X) (k0_pay31 X) (k0_pay32 X) (ix2 q l) = qcode X (ix3 0 q l) := by
  refine (codeQ_at (k0_pay33 (k0_pay25 X) (k0_pay26 X) (k0_pay27 X) (k0_pay28 X) (k0_pay29 X) (k0_pay30 X) (k0_pay31 X) (k0_pay32 X)) (k0_pay24 X) q l).trans ?_
  rw [pay33_at, pay24_at]
  rfl

theorem up3 (V : FVec Ideal S128x2048 .fp8e4m3) (q : Fin 128) (l : Fin 2048) :
    shapeCast S1x128x2048 V shapeCasts_S128x2048_S1x128x2048 (ix3 0 q l) = V (ix2 q l) := by
  pointwise []

theorem pay36_eq (X : Vec Ideal S1x128x2048 .bf16) : k0_pay36 (k0_pay24 X) (k0_pay25 X) (k0_pay26 X) (k0_pay27 X) (k0_pay28 X) (k0_pay29 X) (k0_pay30 X) (k0_pay31 X) (k0_pay32 X) = qcode X := by
  funext y
  rw [eta3 y]
  exact (up3 _ _ _).trans (pay35_at X _ _)

theorem pay38_at (v77 : FVec Ideal S1x2048 .f32) (h : Fin 8) : k0_pay38 (k0_pay37 v77) (ix3 0 0 h) = v77 (ix2 0 ⟨256 * h.val, by omega⟩) := by
  pointwise [k0_pay38, k0_pay37]
  fin_cases h <;> rfl

theorem pay48_at (X : Vec Ideal S1x128x512 .bf16) (q : Fin 128) (l : Fin 512) : k0_pay48 X (ix2 q l) = X (ix3 0 q l) := by
  pointwise [k0_pay48]

theorem colK_at (X : Vec Ideal S1x128x512 .bf16) (l : Fin 512) :
    shapeCast S1x512 (multiReduction .maximumf [0] S512 (absf (k0_pay48 X)) 0xFF800000#32 reduces_S128x512_S512 (.inl rfl) rfl) shapeCasts_S512_S1x512 (ix2 0 l)
      = Finset.univ.fold max negInf fun q : Fin 128 => max (X (ix3 0 q l)) (-X (ix3 0 q l)) := by
  pointwise [k0_pay48]
  rfl

theorem pay49_at (X : Vec Ideal S1x128x512 .bf16) (l : Fin 512) : k0_pay49 X (ix2 0 l) = expo (amaxK X (headK l)) := by
  have e : k0_pay49 X = fun y => expo (concatenate S1x512 1 [⟨S1x256, broadcastTo S1x256 (shapeCast S1x1 (shapeCast S1x1 (multiReduction .maximumf [1] S1 (extractStridedSlice S1x256 ![0, 0] (shapeCast S1x512 (multiReduction .maximumf [0] S512 (absf (k0_pay48 X)) 0xFF800000#32 reduces_S128x512_S512 (.inl rfl) rfl) shapeCasts_S512_S1x512) slices_S1x512_o0_0_S1x256) 0xFF800000#32 reduces_S1x256_S1 (.inl rfl) rfl) shapeCasts_S1_S1x1) shapeCasts_S1x1_S1x1) broadcasts_S1x1_S1x256⟩, ⟨S1x256, broadcastTo S1x256 (shapeCast S1x1 (shapeCast S1x1 (multiReduction .maximumf [1] S1 (extractStridedSlice S1x256 ![0, 256] (shapeCast S1x512 (multiReduction .maximumf [0] S512 (absf (k0_pay48 X)) 0xFF800000#32 reduces_S128x512_S512 (.inl rfl) rfl) shapeCasts_S512_S1x512) slices_S1x512_o0_256_S1x256) 0xFF800000#32 reduces_S1x256_S1 (.inl rfl) rfl) shapeCasts_S1_S1x1) shapeCasts_S1x1_S1x1) broadcasts_S1x1_S1x256⟩] concatenates_S1x256_S1x256_S1x512_d1 y) := rfl
  rw [e]
  show expo _ = _
  rw [cat2_at]
  exact congrArg (fun f => expo (Finset.fold max negInf f Finset.univ)) (funext fun d => colK_at X _)

theorem codeK_at (E : FVec Ideal S1x512 .f32) (V : FVec Ideal S128x512 .f32) (q : Fin 128) (l : Fin 512) :
    k0_pay53 V (subf (broadcast S1x512 (Scalar.ofBits .f32 0x00000000#32)) E) (ix3 0 q l)
      = clip (V (ix2 q l) * Ideal.exp2 (0 - E (ix2 0 l))) := by
  pointwise [k0_pay53, k0_pay52]
  rfl

theorem pay53_at (X : Vec Ideal S1x128x512 .bf16) (q : Fin 128) (l : Fin 512) : k0_pay53 (k0_pay48 X) (k0_pay50 X) (ix3 0 q l) = kcode X (ix3 0 q l) := by
  refine (codeK_at (k0_pay49 X) (k0_pay48 X) q l).trans ?_
  rw [pay49_at, pay48_at]
  rfl

theorem pay53_eq (X : Vec Ideal S1x128x512 .bf16) : k0_pay53 (k0_pay48 X) (k0_pay50 X) = kcode X := by
  funext y
  rw [eta3 y]
  exact pay53_at X _ _

theorem rowK_at (E : FVec Ideal S1x512 .f32) (h : Fin 2) : k0_pay63 E (ix3 0 0 h) = E (ix2 0 ⟨256 * h.val, by omega⟩) := by
  pointwise [k0_pay63]
  fin_cases h <;> rfl

theorem pay63_at (X : Vec Ideal S1x128x512 .bf16) (h : Fin 2) : k0_pay63 (k0_pay59 X) (ix3 0 0 h) = scl (amaxK X h) := by
  refine (rowK_at _ h).trans ?_
  refine (congrArg Ideal.exp2 (pay49_at X _)).trans ?_
  refine congrArg (fun z => scl (amaxK X z)) (Fin.ext (by simp only [headK]; omega))

theorem pay54_at (X : Vec Ideal S1x128x512 .bf16) (h : Fin 2) : k0_pay54 (k0_pay49 X) (ix3 0 0 h) = scl (amaxK X h) := pay63_at X h

theorem laneK_at (E : FVec Ideal S1x512 .f32) (L : Fin 1024) : k0_pay65 E (ix2 0 L) = E (ix2 0 ⟨256 * (kvOf L).val + L.val % 128, by have := (kvOf L).isLt; omega⟩) := by
  pointwise [k0_pay65]
  split_ifs <;> exact congrArg E (congrArg (ix2 0) (Fin.ext (by simp only [kvOf]; omega)))

theorem pay65_at (X : Vec Ideal S1x128x512 .bf16) (L : Fin 1024) : k0_pay65 (k0_pay59 X) (ix2 0 L) = scl (amaxK X (kvOf L)) := by
  refine (laneK_at _ L).trans ?_
  refine (congrArg Ideal.exp2 (pay49_at X _)).trans ?_
  refine congrArg (fun z => scl (amaxK X z)) (Fin.ext (by simp only [headK]; omega))

theorem pay56_at (X : Vec Ideal S1x128x512 .bf16) (L : Fin 1024) : k0_pay56 (k0_pay49 X) (ix2 0 L) = scl (amaxK X (kvOf L)) := pay65_at X L

theorem pay62_eq (X : Vec Ideal S1x128x512 .bf16) : k0_pay62 (k0_pay60 X) = kcode X := pay53_eq X

theorem tr_at (V : FVec Ideal S128x512 .f32) (q : Fin 128) (l : Fin 512) : k0_pay64 V (ix3 0 l q) = k0_pay62 V (ix3 0 q l) := by
  pointwise [k0_pay64, k0_pay62, k0_pay61]

theorem pay64_at (X : Vec Ideal S1x128x512 .bf16) (q : Fin 128) (l : Fin 512) : k0_pay64 (k0_pay60 X) (ix3 0 l q) = kcode X (ix3 0 q l) := by
  refine (tr_at _ q l).trans ?_
  rw [pay62_eq]

end Cert.KernelIdeal.Val

end
-- ==== Proof.T6.lean ====
module

public import proofs.«01_k».proof.Proof.T13
public import proofs.«01_k».proof.Proof.QuantVals

@[expose] public section

/-! The stretch from part 6 on: the codes and the scales of one block of queries, keys and values are stored, and the attention of the
block's queries is computed from them and the earlier blocks. -/

set_option maxRecDepth 16384
set_option maxHeartbeats 4000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The causal mask inside the queries' own block. -/
abbrev maskD : IVec S128x512 1 := (k0_pay67 (iota .tc S128x512 32 [0] iota_S128x512_d0_w32) (iota .tc S128x512 32 [1] iota_S128x512_d1_w32) k0_pay66)

theorem set7 (i : grid0.Coords) (v : View sig .tc .vmem S1x32x8 .f32) (f : v.ty.Contents (Elt Ideal)) (P : Vec Ideal S1x1x8 .f32) (g : Fin 8 → EReal)
    (hP : ∀ h : Fin 8, P (ix3 0 0 h) = g h) :
    v.read (Elt Ideal) (v.writes (Elt Ideal) f [⟨Rect.unit (s := S1x32x8) (k0_off1 i) S1x1x8.size (k0_off1_inb i), P⟩]) = setRowQ (i 1) g (v.read (Elt Ideal) f) := by
  funext y
  by_cases h : (y 1).val = (i 1).val
  · refine (View.read_writes_cons_unit_of_mem v f (k0_off1_inb i) P [] y (ix3 0 0 (y 2)) (off1_eq i) ?_).trans ?_
    · intro a; fin_cases a
      · exact (by have : (y 0).val < 1 := (y 0).isLt; show (y 0).val = 0 + 0; omega)
      · exact (by show (y 1).val = (i 1).val + 0; omega)
      · exact (by show (y 2).val = 0 + (y 2).val; omega)
    · exact (hP _).trans (if_pos h).symm
  · exact (View.read_writes_cons_unit_of_not_mem v f (k0_off1_inb i) P [] y (off1_eq i) 1 (by show (y 1).val < (i 1).val ∨ (i 1).val + 1 ≤ (y 1).val; omega)).trans (if_neg h).symm

theorem set9 (i : grid0.Coords) (v : View sig .tc .vmem S1x32x2 .f32) (f : v.ty.Contents (Elt Ideal)) (P : Vec Ideal S1x1x2 .f32) (g : Fin 2 → EReal)
    (hP : ∀ h : Fin 2, P (ix3 0 0 h) = g h) :
    v.read (Elt Ideal) (v.writes (Elt Ideal) f [⟨Rect.unit (s := S1x32x2) (k0_off2 i) S1x1x2.size (k0_off2_inb i), P⟩]) = setRowK (i 1) g (v.read (Elt Ideal) f) := by
  funext y
  by_cases h : (y 1).val = (i 1).val
  · refine (View.read_writes_cons_unit_of_mem v f (k0_off2_inb i) P [] y (ix3 0 0 (y 2)) (off2_eq i) ?_).trans ?_
    · intro a; fin_cases a
      · exact (by have : (y 0).val < 1 := (y 0).isLt; show (y 0).val = 0 + 0; omega)
      · exact (by show (y 1).val = (i 1).val + 0; omega)
      · exact (by show (y 2).val = 0 + (y 2).val; omega)
    · exact (hP _).trans (if_pos h).symm
  · exact (View.read_writes_cons_unit_of_not_mem v f (k0_off2_inb i) P [] y (off2_eq i) 1 (by show (y 1).val < (i 1).val ∨ (i 1).val + 1 ≤ (y 1).val; omega)).trans (if_neg h).symm

theorem set13 (i : grid0.Coords) (v : View sig .tc .vmem S32x128x512 .fp8e4m3) (f : v.ty.Contents (Elt Ideal)) (P : Vec Ideal S1x128x512 .fp8e4m3) (X : Vec Ideal S1x128x512 .bf16)
    (hP : ∀ (b : Fin 128) (l : Fin 512), P (ix3 0 b l) = kcode X (ix3 0 b l)) :
    v.read (Elt Ideal) (v.writes (Elt Ideal) f [⟨Rect.unit (s := S32x128x512) (k0_off3 i) S1x128x512.size (k0_off3_inb i), P⟩]) = setK (i 1) X (v.read (Elt Ideal) f) := by
  funext y
  by_cases h : (y 0).val = (i 1).val
  · refine (View.read_writes_cons_unit_of_mem v f (k0_off3_inb i) P [] y (ix3 0 (y 1) (y 2)) (off3_eq i) ?_).trans ?_
    · intro a; fin_cases a
      · exact (by show (y 0).val = (i 1).val + 0; omega)
      · exact (by show (y 1).val = 0 + (y 1).val; omega)
      · exact (by show (y 2).val = 0 + (y 2).val; omega)
    · exact (hP _ _).trans (if_pos h).symm
  · exact (View.read_writes_cons_unit_of_not_mem v f (k0_off3_inb i) P [] y (off3_eq i) 0 (by show (y 0).val < (i 1).val ∨ (i 1).val + 1 ≤ (y 0).val; omega)).trans (if_neg h).symm

theorem set14 (i : grid0.Coords) (v : View sig .tc .vmem S32x512x128 .fp8e4m3) (f : v.ty.Contents (Elt Ideal)) (P : Vec Ideal S1x512x128 .fp8e4m3) (X : Vec Ideal S1x128x512 .bf16)
    (hP : ∀ (b : Fin 512) (l : Fin 128), P (ix3 0 b l) = kcode X (ix3 0 l b)) :
    v.read (Elt Ideal) (v.writes (Elt Ideal) f [⟨Rect.unit (s := S32x512x128) (k0_off5 i) S1x512x128.size (k0_off5_inb i), P⟩]) = setV (i 1) X (v.read (Elt Ideal) f) := by
  funext y
  by_cases h : (y 0).val = (i 1).val
  · refine (View.read_writes_cons_unit_of_mem v f (k0_off5_inb i) P [] y (ix3 0 (y 1) (y 2)) (off5_eq i) ?_).trans ?_
    · intro a; fin_cases a
      · exact (by show (y 0).val = (i 1).val + 0; omega)
      · exact (by show (y 1).val = 0 + (y 1).val; omega)
      · exact (by show (y 2).val = 0 + (y 2).val; omega)
    · exact (hP _ _).trans (if_pos h).symm
  · exact (View.read_writes_cons_unit_of_not_mem v f (k0_off5_inb i) P [] y (off5_eq i) 0 (by show (y 0).val < (i 1).val ∨ (i 1).val + 1 ≤ (y 0).val; omega)).trans (if_neg h).symm

theorem set15 (i : grid0.Coords) (v : View sig .tc .vmem S32x1024 .f32) (f : v.ty.Contents (Elt Ideal)) (P : Vec Ideal S1x1024 .f32) (X : Vec Ideal S1x128x512 .bf16)
    (hP : ∀ L : Fin 1024, P (ix2 0 L) = scl (amaxK X (kvOf L))) :
    v.read (Elt Ideal) (v.writes (Elt Ideal) f [⟨Rect.unit (s := S32x1024) (k0_off4 i) S1x1024.size (k0_off4_inb i), P⟩]) = setS (i 1) X (v.read (Elt Ideal) f) := by
  funext y
  by_cases h : (y 0).val = (i 1).val
  · refine (View.read_writes_cons_unit_of_mem v f (k0_off4_inb i) P [] y (ix2 0 (y 1)) (off4_eq i) ?_).trans ?_
    · intro a; fin_cases a
      · exact (by show (y 0).val = (i 1).val + 0; omega)
      · exact (by show (y 1).val = 0 + (y 1).val; omega)
    · exact (hP _).trans (if_pos h).symm
  · exact (View.read_writes_cons_unit_of_not_mem v f (k0_off4_inb i) P [] y (off4_eq i) 0 (by show (y 0).val < (i 1).val ∨ (i 1).val + 1 ≤ (y 0).val; omega)).trans (if_neg h).symm

theorem cutPay (V : FVec Ideal S128x2048 .fp8e4m3) (q : Fin 128) (d : Fin 256) :
    k0_pay39 V (ix2 q d) = V (ix2 q ⟨0 + d.val, by omega⟩) ∧ k0_pay40 V (ix2 q d) = V (ix2 q ⟨256 + d.val, by omega⟩) ∧ k0_pay41 V (ix2 q d) = V (ix2 q ⟨512 + d.val, by omega⟩) ∧ k0_pay42 V (ix2 q d) = V (ix2 q ⟨768 + d.val, by omega⟩) ∧ k0_pay43 V (ix2 q d) = V (ix2 q ⟨1024 + d.val, by omega⟩) ∧ k0_pay44 V (ix2 q d) = V (ix2 q ⟨1280 + d.val, by omega⟩) ∧ k0_pay45 V (ix2 q d) = V (ix2 q ⟨1536 + d.val, by omega⟩) ∧ k0_pay47 (k0_pay46 V) (ix2 q d) = V (ix2 q ⟨1792 + d.val, by omega⟩) := by
  refine ⟨?_, ?_, ?_, ?_, ?_, ?_, ?_, ?_⟩ <;> pointwise [k0_pay39, k0_pay40, k0_pay41, k0_pay42, k0_pay43, k0_pay44, k0_pay45, k0_pay46, k0_pay47]

theorem set12 (v : View sig .tc .vmem S1024x256 .fp8e4m3) (f : v.ty.Contents (Elt Ideal)) (V : FVec Ideal S128x2048 .fp8e4m3) (X : Vec Ideal S1x128x2048 .bf16)
    (hV : ∀ q l, V (ix2 q l) = qcode X (ix3 0 q l)) :
    v.read (Elt Ideal) (v.writes (Elt Ideal) f [⟨Rect.unit (s := S1024x256) ![896, 0] S128x256.size inb_S1024x256_S128x256_896_0, k0_pay47 (k0_pay46 V)⟩, ⟨Rect.unit (s := S1024x256) ![768, 0] S128x256.size inb_S1024x256_S128x256_768_0, k0_pay45 V⟩, ⟨Rect.unit (s := S1024x256) ![640, 0] S128x256.size inb_S1024x256_S128x256_640_0, k0_pay44 V⟩, ⟨Rect.unit (s := S1024x256) ![512, 0] S128x256.size inb_S1024x256_S128x256_512_0, k0_pay43 V⟩, ⟨Rect.unit (s := S1024x256) ![384, 0] S128x256.size inb_S1024x256_S128x256_384_0, k0_pay42 V⟩, ⟨Rect.unit (s := S1024x256) ![256, 0] S128x256.size inb_S1024x256_S128x256_256_0, k0_pay41 V⟩, ⟨Rect.unit (s := S1024x256) ![128, 0] S128x256.size inb_S1024x256_S128x256_128_0, k0_pay40 V⟩, ⟨Rect.unit (s := S1024x256) ![0, 0] S128x256.size inb_S1024x256_S128x256_0_0, k0_pay39 V⟩]) = qlanes X := by
  funext y
  have hy : (y 0).val < 1024 := (y 0).isLt
  by_cases h7 : 896 ≤ (y 0).val
  · refine (View.read_writes_cons_unit_of_mem v f inb_S1024x256_S128x256_896_0 (k0_pay47 (k0_pay46 V)) _ y (ix2 ⟨(y 0).val - 896, by have : (y 0).val < 1024 := (y 0).isLt; omega⟩ (y 1)) rfl ?_).trans ?_
    · intro a; fin_cases a
      · exact (by show (y 0).val = 896 + ((y 0).val - 896); omega)
      · exact (by show (y 1).val = 0 + (y 1).val; omega)
    refine ((cutPay V _ _).2.2.2.2.2.2.2).trans ((hV _ _).trans ?_)
    unfold qlanes
    refine congrArg (qcode X) (congr (congrArg (ix3 0) (Fin.ext ?_)) (Fin.ext ?_))
    · simp only; omega
    · simp only; omega
  refine (View.read_writes_cons_unit_of_not_mem v f inb_S1024x256_S128x256_896_0 (k0_pay47 (k0_pay46 V)) _ y rfl 0 (Or.inl (by show (y 0).val < 896; omega))).trans ?_
  by_cases h6 : 768 ≤ (y 0).val
  · refine (View.read_writes_cons_unit_of_mem v f inb_S1024x256_S128x256_768_0 (k0_pay45 V) _ y (ix2 ⟨(y 0).val - 768, by have : (y 0).val < 1024 := (y 0).isLt; omega⟩ (y 1)) rfl ?_).trans ?_
    · intro a; fin_cases a
      · exact (by show (y 0).val = 768 + ((y 0).val - 768); omega)
      · exact (by show (y 1).val = 0 + (y 1).val; omega)
    refine ((cutPay V _ _).2.2.2.2.2.2.1).trans ((hV _ _).trans ?_)
    unfold qlanes
    refine congrArg (qcode X) (congr (congrArg (ix3 0) (Fin.ext ?_)) (Fin.ext ?_))
    · simp only; omega
    · simp only; omega
  refine (View.read_writes_cons_unit_of_not_mem v f inb_S1024x256_S128x256_768_0 (k0_pay45 V) _ y rfl 0 (Or.inl (by show (y 0).val < 768; omega))).trans ?_
  by_cases h5 : 640 ≤ (y 0).val
  · refine (View.read_writes_cons_unit_of_mem v f inb_S1024x256_S128x256_640_0 (k0_pay44 V) _ y (ix2 ⟨(y 0).val - 640, by have : (y 0).val < 1024 := (y 0).isLt; omega⟩ (y 1)) rfl ?_).trans ?_
    · intro a; fin_cases a
      · exact (by show (y 0).val = 640 + ((y 0).val - 640); omega)
      · exact (by show (y 1).val = 0 + (y 1).val; omega)
    refine ((cutPay V _ _).2.2.2.2.2.1).trans ((hV _ _).trans ?_)
    unfold qlanes
    refine congrArg (qcode X) (congr (congrArg (ix3 0) (Fin.ext ?_)) (Fin.ext ?_))
    · simp only; omega
    · simp only; omega
  refine (View.read_writes_cons_unit_of_not_mem v f inb_S1024x256_S128x256_640_0 (k0_pay44 V) _ y rfl 0 (Or.inl (by show (y 0).val < 640; omega))).trans ?_
  by_cases h4 : 512 ≤ (y 0).val
  · refine (View.read_writes_cons_unit_of_mem v f inb_S1024x256_S128x256_512_0 (k0_pay43 V) _ y (ix2 ⟨(y 0).val - 512, by have : (y 0).val < 1024 := (y 0).isLt; omega⟩ (y 1)) rfl ?_).trans ?_
    · intro a; fin_cases a
      · exact (by show (y 0).val = 512 + ((y 0).val - 512); omega)
      · exact (by show (y 1).val = 0 + (y 1).val; omega)
    refine ((cutPay V _ _).2.2.2.2.1).trans ((hV _ _).trans ?_)
    unfold qlanes
    refine congrArg (qcode X) (congr (congrArg (ix3 0) (Fin.ext ?_)) (Fin.ext ?_))
    · simp only; omega
    · simp only; omega
  refine (View.read_writes_cons_unit_of_not_mem v f inb_S1024x256_S128x256_512_0 (k0_pay43 V) _ y rfl 0 (Or.inl (by show (y 0).val < 512; omega))).trans ?_
  by_cases h3 : 384 ≤ (y 0).val
  · refine (View.read_writes_cons_unit_of_mem v f inb_S1024x256_S128x256_384_0 (k0_pay42 V) _ y (ix2 ⟨(y 0).val - 384, by have : (y 0).val < 1024 := (y 0).isLt; omega⟩ (y 1)) rfl ?_).trans ?_
    · intro a; fin_cases a
      · exact (by show (y 0).val = 384 + ((y 0).val - 384); omega)
      · exact (by show (y 1).val = 0 + (y 1).val; omega)
    refine ((cutPay V _ _).2.2.2.1).trans ((hV _ _).trans ?_)
    unfold qlanes
    refine congrArg (qcode X) (congr (congrArg (ix3 0) (Fin.ext ?_)) (Fin.ext ?_))
    · simp only; omega
    · simp only; omega
  refine (View.read_writes_cons_unit_of_not_mem v f inb_S1024x256_S128x256_384_0 (k0_pay42 V) _ y rfl 0 (Or.inl (by show (y 0).val < 384; omega))).trans ?_
  by_cases h2 : 256 ≤ (y 0).val
  · refine (View.read_writes_cons_unit_of_mem v f inb_S1024x256_S128x256_256_0 (k0_pay41 V) _ y (ix2 ⟨(y 0).val - 256, by have : (y 0).val < 1024 := (y 0).isLt; omega⟩ (y 1)) rfl ?_).trans ?_
    · intro a; fin_cases a
      · exact (by show (y 0).val = 256 + ((y 0).val - 256); omega)
      · exact (by show (y 1).val = 0 + (y 1).val; omega)
    refine ((cutPay V _ _).2.2.1).trans ((hV _ _).trans ?_)
    unfold qlanes
    refine congrArg (qcode X) (congr (congrArg (ix3 0) (Fin.ext ?_)) (Fin.ext ?_))
    · simp only; omega
    · simp only; omega
  refine (View.read_writes_cons_unit_of_not_mem v f inb_S1024x256_S128x256_256_0 (k0_pay41 V) _ y rfl 0 (Or.inl (by show (y 0).val < 256; omega))).trans ?_
  by_cases h1 : 128 ≤ (y 0).val
  · refine (View.read_writes_cons_unit_of_mem v f inb_S1024x256_S128x256_128_0 (k0_pay40 V) _ y (ix2 ⟨(y 0).val - 128, by have : (y 0).val < 1024 := (y 0).isLt; omega⟩ (y 1)) rfl ?_).trans ?_
    · intro a; fin_cases a
      · exact (by show (y 0).val = 128 + ((y 0).val - 128); omega)
      · exact (by show (y 1).val = 0 + (y 1).val; omega)
    refine ((cutPay V _ _).2.1).trans ((hV _ _).trans ?_)
    unfold qlanes
    refine congrArg (qcode X) (congr (congrArg (ix3 0) (Fin.ext ?_)) (Fin.ext ?_))
    · simp only; omega
    · simp only; omega
  refine (View.read_writes_cons_unit_of_not_mem v f inb_S1024x256_S128x256_128_0 (k0_pay40 V) _ y rfl 0 (Or.inl (by show (y 0).val < 128; omega))).trans ?_
  by_cases h0 : 0 ≤ (y 0).val
  · refine (View.read_writes_cons_unit_of_mem v f inb_S1024x256_S128x256_0_0 (k0_pay39 V) _ y (ix2 ⟨(y 0).val - 0, by have : (y 0).val < 1024 := (y 0).isLt; omega⟩ (y 1)) rfl ?_).trans ?_
    · intro a; fin_cases a
      · exact (by show (y 0).val = 0 + ((y 0).val - 0); omega)
      · exact (by show (y 1).val = 0 + (y 1).val; omega)
    refine ((cutPay V _ _).1).trans ((hV _ _).trans ?_)
    unfold qlanes
    refine congrArg (qcode X) (congr (congrArg (ix3 0) (Fin.ext ?_)) (Fin.ext ?_))
    · simp only; omega
    · simp only; omega
  exact absurd (Nat.zero_le _) h0

theorem t6 (c : Dev nD) (i : grid0.Coords) (arg2 : Memref sig .tc .vmem S1x128x2048 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x128x2048 .bf16) (harg5 : arg5.IsWhole) (arg6 : Memref sig .tc .vmem S1x128x2048 .fp8e4m3) (harg6 : arg6.IsWhole) (arg7 : Memref sig .tc .vmem S1x32x8 .f32) (harg7 : arg7.IsWhole) (arg8 : Memref sig .tc .vmem S1x128x512 .fp8e4m3) (harg8 : arg8.IsWhole) (arg9 : Memref sig .tc .vmem S1x32x2 .f32) (harg9 : arg9.IsWhole) (arg10 : Memref sig .tc .vmem S1x128x512 .fp8e4m3) (harg10 : arg10.IsWhole) (arg11 : Memref sig .tc .vmem S1x32x2 .f32) (harg11 : arg11.IsWhole) (arg12 : Memref sig .tc .vmem S1024x256 .fp8e4m3) (harg12 : arg12.IsWhole) (arg13 : Memref sig .tc .vmem S32x128x512 .fp8e4m3) (harg13 : arg13.IsWhole) (arg14 : Memref sig .tc .vmem S32x512x128 .fp8e4m3) (harg14 : arg14.IsWhole) (arg15 : Memref sig .tc .vmem S32x1024 .f32) (harg15 : arg15.IsWhole) (arg16 : Memref sig .tc .vmem S32x1024 .f32) (harg16 : arg16.IsWhole) (arg17 : Memref sig .tc .vmem S32x1024 .f32) (harg17 : arg17.IsWhole) (arg18 : Memref sig .tc .vmem S32x1024 .f32) (harg18 : arg18.IsWhole) (arg19 : Memref sig .tc .vmem S32x1024 .f32) (harg19 : arg19.IsWhole) (arg20 : Memref sig .tc .vmem S32x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S256x1024 .f32) (harg23 : arg23.IsWhole) (arg1 : BitVec 32) (X2 : Vec Ideal S1x128x2048 .bf16) (X3 : Vec Ideal S1x128x512 .bf16) (X4 : Vec Ideal S1x128x512 .bf16) (X7 : Vec Ideal S1x32x8 .f32) (X9 : Vec Ideal S1x32x2 .f32) (X11 : Vec Ideal S1x32x2 .f32) (X13 : Vec Ideal S32x128x512 .fp8e4m3) (X14 : Vec Ideal S32x512x128 .fp8e4m3) (X15 : Vec Ideal S32x1024 .f32) (X16 : Vec Ideal S32x1024 .f32) (X17 : Vec Ideal S32x1024 .f32) (K : PUnit → sProp 𝕄) :
    iprop(owns (c : Thread nD τ) arg2 fullShare X2 ∗ owns (c : Thread nD τ) arg3 fullShare X3 ∗ owns (c : Thread nD τ) arg4 fullShare X4 ∗ (∃ d, owns (c : Thread nD τ) arg5 fullShare d) ∗ (∃ d, owns (c : Thread nD τ) arg6 fullShare d) ∗ owns (c : Thread nD τ) arg7 fullShare X7 ∗ (∃ d, owns (c : Thread nD τ) arg8 fullShare d) ∗ owns (c : Thread nD τ) arg9 fullShare X9 ∗ (∃ d, owns (c : Thread nD τ) arg10 fullShare d) ∗ owns (c : Thread nD τ) arg11 fullShare X11 ∗ (∃ d, owns (c : Thread nD τ) arg12 fullShare d) ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg2 fullShare X2 ∗ owns (c : Thread nD τ) arg3 fullShare X3 ∗ owns (c : Thread nD τ) arg4 fullShare X4 ∗ owns (c : Thread nD τ) arg5 fullShare (outY (i 1) maskD (setK (i 1) X3 X13) (qlanes X2) (setV (i 1) X4 X14) (cF (qscale X2) (setS (i 1) X3 X15)) (mF (bmF (i 1) maskD (setK (i 1) X3 X13) (qlanes X2) X17) (cF (qscale X2) (setS (i 1) X3 X15))) (invF (aF (bmF (i 1) maskD (setK (i 1) X3 X13) (qlanes X2) X17) (cF (qscale X2) (setS (i 1) X3 X15)))) (fun y => sclF (aF (bmF (i 1) maskD (setK (i 1) X3 X13) (qlanes X2) X17) (cF (qscale X2) (setS (i 1) X3 X15))) y * (setS (i 1) X4 X16) y)) ∗ owns (c : Thread nD τ) arg6 fullShare (qcode X2) ∗ owns (c : Thread nD τ) arg7 fullShare (setRowQ (i 1) (fun h => scl (amaxQ X2 h)) X7) ∗ owns (c : Thread nD τ) arg8 fullShare (kcode X3) ∗ owns (c : Thread nD τ) arg9 fullShare (setRowK (i 1) (fun h => scl (amaxK X3 h)) X9) ∗ owns (c : Thread nD τ) arg10 fullShare (kcode X4) ∗ owns (c : Thread nD τ) arg11 fullShare (setRowK (i 1) (fun h => scl (amaxK X4 h)) X11) ∗ owns (c : Thread nD τ) arg12 fullShare (qlanes X2) ∗ owns (c : Thread nD τ) arg13 fullShare (setK (i 1) X3 X13) ∗ owns (c : Thread nD τ) arg14 fullShare (setV (i 1) X4 X14) ∗ owns (c : Thread nD τ) arg15 fullShare (setS (i 1) X3 X15) ∗ owns (c : Thread nD τ) arg16 fullShare (setS (i 1) X4 X16) ∗ owns (c : Thread nD τ) arg17 fullShare (bmF (i 1) maskD (setK (i 1) X3 X13) (qlanes X2) X17) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
      ⊢ wp frame (wpE (defs₀ (F := Ideal)) Variants.none (c : Thread nD τ) none) Set.univ
          (tail6 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 (k0_pay24 X2) (k0_pay25 X2) (k0_pay26 X2) (k0_pay27 X2) (k0_pay28 X2) (k0_pay29 X2) (k0_pay30 X2) (k0_pay31 X2) (k0_pay32 X2)) K := by
  unfold tail6
  unfold owns
  iintro ⟨⟨%f2, %hf2, H2⟩, ⟨%f3, %hf3, H3⟩, ⟨%f4, %hf4, H4⟩, ⟨%d5, %f5, -, H5⟩, ⟨%d6, %f6, -, H6⟩, ⟨%f7, %hf7, H7⟩, ⟨%d8, %f8, -, H8⟩, ⟨%f9, %hf9, H9⟩, ⟨%d10, %f10, -, H10⟩, ⟨%f11, %hf11, H11⟩, ⟨%d12, %f12, -, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  set_option sl_exec.stopBefore "tail13" in sl_exec
  have e3 : (View.readAt (Elt Ideal) arg3.view (Rect.unit (s := S1x128x512) ![0, 0, 0] S1x128x512.size inb_S1x128x512_S1x128x512_0_0_0).toLoadRect f3) = X3 := by rw [View.readAt_full, hf3]
  have e4 : (View.readAt (Elt Ideal) arg4.view (Rect.unit (s := S1x128x512) ![0, 0, 0] S1x128x512.size inb_S1x128x512_S1x128x512_0_0_0).toLoadRect f4) = X4 := by rw [View.readAt_full, hf4]
  have h6 : View.read (Elt Ideal) arg6.view (arg6.view.writes (Elt Ideal) f6 [⟨Rect.unit (s := S1x128x2048) ![0, 0, 0] S1x128x2048.size inb_S1x128x2048_S1x128x2048_0_0_0, k0_pay36 (k0_pay24 X2) (k0_pay25 X2) (k0_pay26 X2) (k0_pay27 X2) (k0_pay28 X2) (k0_pay29 X2) (k0_pay30 X2) (k0_pay31 X2) (k0_pay32 X2)⟩]) = (qcode X2) := by
    rw [View.read_writes_full, pay36_eq]
  have h7 : View.read (Elt Ideal) arg7.view (arg7.view.writes (Elt Ideal) f7 [⟨Rect.unit (s := S1x32x8) (k0_off1 i) S1x1x8.size (k0_off1_inb i), t6.sl.v141 X2⟩]) = (setRowQ (i 1) (fun h => scl (amaxQ X2 h)) X7) := by
    exact (set7 i arg7.view f7 (k0_pay38 (k0_pay37 (k0_pay34 (k0_pay25 X2) (k0_pay26 X2) (k0_pay27 X2) (k0_pay28 X2) (k0_pay29 X2) (k0_pay30 X2) (k0_pay31 X2) (k0_pay32 X2)))) (fun h => scl (amaxQ X2 h)) (fun h => (pay38_at _ h).trans ((congrFun (pay34_eq X2) _).trans (congrArg (fun z => scl (amaxQ X2 z)) (Fin.ext (by simp only [headQ, ix2]; omega)))))).trans (congrArg _ hf7)
  have h8 : View.read (Elt Ideal) arg8.view (arg8.view.writes (Elt Ideal) f8 [⟨Rect.unit (s := S1x128x512) ![0, 0, 0] S1x128x512.size inb_S1x128x512_S1x128x512_0_0_0, k0_pay53 (t6.sl.r_3 c arg3 f3) (t6.sl.r_5 c arg3 f3)⟩]) = (kcode X3) := by
    rw [View.read_writes_full]; exact (congrArg (fun X => k0_pay53 (k0_pay48 X) (k0_pay50 X)) e3).trans (pay53_eq X3)
  have h9 : View.read (Elt Ideal) arg9.view (arg9.view.writes (Elt Ideal) f9 [⟨Rect.unit (s := S1x32x2) (k0_off2 i) S1x1x2.size (k0_off2_inb i), k0_pay54 (t6.sl.r_4 c arg3 f3)⟩]) = (setRowK (i 1) (fun h => scl (amaxK X3 h)) X9) := by
    exact (set9 i arg9.view f9 _ _ (fun h => (congrArg (fun X => k0_pay54 (k0_pay49 X) (ix3 0 0 h)) e3).trans (pay54_at X3 h))).trans (congrArg _ hf9)
  have h10 : View.read (Elt Ideal) arg10.view (arg10.view.writes (Elt Ideal) f10 [⟨Rect.unit (s := S1x128x512) ![0, 0, 0] S1x128x512.size inb_S1x128x512_S1x128x512_0_0_0, k0_pay62 (t6.sl.r_7 c arg4 f4)⟩]) = (kcode X4) := by
    rw [View.read_writes_full]; exact (congrArg (fun X => k0_pay62 (k0_pay60 X)) e4).trans (pay62_eq X4)
  have h11 : View.read (Elt Ideal) arg11.view (arg11.view.writes (Elt Ideal) f11 [⟨Rect.unit (s := S1x32x2) (k0_off2 i) S1x1x2.size (k0_off2_inb i), k0_pay63 (t6.sl.r_6 c arg4 f4)⟩]) = (setRowK (i 1) (fun h => scl (amaxK X4 h)) X11) := by
    exact (set9 i arg11.view f11 _ _ (fun h => (congrArg (fun X => k0_pay63 (k0_pay59 X) (ix3 0 0 h)) e4).trans (pay63_at X4 h))).trans (congrArg _ hf11)
  have h12 : View.read (Elt Ideal) arg12.view (arg12.view.writes (Elt Ideal) f12 [⟨Rect.unit (s := S1024x256) ![896, 0] S128x256.size inb_S1024x256_S128x256_896_0, k0_pay47 (t6.sl.v170 X2)⟩, ⟨Rect.unit (s := S1024x256) ![768, 0] S128x256.size inb_S1024x256_S128x256_768_0, t6.sl.v169 X2⟩, ⟨Rect.unit (s := S1024x256) ![640, 0] S128x256.size inb_S1024x256_S128x256_640_0, t6.sl.v165 X2⟩, ⟨Rect.unit (s := S1024x256) ![512, 0] S128x256.size inb_S1024x256_S128x256_512_0, t6.sl.v161 X2⟩, ⟨Rect.unit (s := S1024x256) ![384, 0] S128x256.size inb_S1024x256_S128x256_384_0, t6.sl.v157 X2⟩, ⟨Rect.unit (s := S1024x256) ![256, 0] S128x256.size inb_S1024x256_S128x256_256_0, t6.sl.v153 X2⟩, ⟨Rect.unit (s := S1024x256) ![128, 0] S128x256.size inb_S1024x256_S128x256_128_0, t6.sl.v149 X2⟩, ⟨Rect.unit (s := S1024x256) ![0, 0] S128x256.size inb_S1024x256_S128x256_0_0, t6.sl.v145 X2⟩]) = (qlanes X2) := by
    exact set12 arg12.view f12 (k0_pay35 (k0_pay24 X2) (k0_pay25 X2) (k0_pay26 X2) (k0_pay27 X2) (k0_pay28 X2) (k0_pay29 X2) (k0_pay30 X2) (k0_pay31 X2) (k0_pay32 X2)) X2 (pay35_at X2)
  have h13 : View.read (Elt Ideal) arg13.view (arg13.view.writes (Elt Ideal) f13 [⟨Rect.unit (s := S32x128x512) (k0_off3 i) S1x128x512.size (k0_off3_inb i), k0_pay55 (t6.sl.r_3 c arg3 f3) (t6.sl.r_5 c arg3 f3)⟩]) = (setK (i 1) X3 X13) := by
    exact (set13 i arg13.view f13 _ X3 (fun b l => (congrArg (fun X => k0_pay53 (k0_pay48 X) (k0_pay50 X) (ix3 0 b l)) e3).trans (pay53_at X3 b l))).trans (congrArg _ hf13)
  have h14 : View.read (Elt Ideal) arg14.view (arg14.view.writes (Elt Ideal) f14 [⟨Rect.unit (s := S32x512x128) (k0_off5 i) S1x512x128.size (k0_off5_inb i), k0_pay64 (t6.sl.r_7 c arg4 f4)⟩]) = (setV (i 1) X4 X14) := by
    exact (set14 i arg14.view f14 _ X4 (fun b l => (congrArg (fun X => k0_pay64 (k0_pay60 X) (ix3 0 b l)) e4).trans (pay64_at X4 l b))).trans (congrArg _ hf14)
  have h15 : View.read (Elt Ideal) arg15.view (arg15.view.writes (Elt Ideal) f15 [⟨Rect.unit (s := S32x1024) (k0_off4 i) S1x1024.size (k0_off4_inb i), k0_pay56 (t6.sl.r_4 c arg3 f3)⟩]) = (setS (i 1) X3 X15) := by
    exact (set15 i arg15.view f15 _ X3 (fun L => (congrArg (fun X => k0_pay56 (k0_pay49 X) (ix2 0 L)) e3).trans (pay56_at X3 L))).trans (congrArg _ hf15)
  have h16 : View.read (Elt Ideal) arg16.view (arg16.view.writes (Elt Ideal) f16 [⟨Rect.unit (s := S32x1024) (k0_off4 i) S1x1024.size (k0_off4_inb i), k0_pay65 (t6.sl.r_6 c arg4 f4)⟩]) = (setS (i 1) X4 X16) := by
    exact (set15 i arg16.view f16 _ X4 (fun L => (congrArg (fun X => k0_pay65 (k0_pay59 X) (ix2 0 L)) e4).trans (pay65_at X4 L))).trans (congrArg _ hf16)
  have er : t6.sl.r X2 = qscale X2 := pay34_eq X2
  rw [er]
  iapply (t13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 (qscale X2) (iota .tc S128x512 32 [0] iota_S128x512_d0_w32) (iota .tc S128x512 32 [1] iota_S128x512_d1_w32) k0_pay66 (qlanes X2) (setK (i 1) X3 X13) (setV (i 1) X4 X14) (setS (i 1) X3 X15) (setS (i 1) X4 X16) X17 K)
  unfold owns
  isplitl [H5]
  · iexists _, _; isplitr; swap
    · iexact H5
    · ipureintro; rfl
  isplitl [H12]
  · iexists _; isplitr; swap
    · iexact H12
    · ipureintro; exact h12
  isplitl [H13]
  · iexists _; isplitr; swap
    · iexact H13
    · ipureintro; exact h13
  isplitl [H14]
  · iexists _; isplitr; swap
    · iexact H14
    · ipureintro; exact h14
  isplitl [H15]
  · iexists _; isplitr; swap
    · iexact H15
    · ipureintro; exact h15
  isplitl [H16]
  · iexists _; isplitr; swap
    · iexact H16
    · ipureintro; exact h16
  isplitl [H17]
  · iexists _; isplitr; swap
    · iexact H17
    · ipureintro; exact hf17
  isplitl [H18]
  · iexists _, _; isplitr; swap
    · iexact H18
    · ipureintro; rfl
  isplitl [H19]
  · iexists _, _; isplitr; swap
    · iexact H19
    · ipureintro; rfl
  isplitl [H20]
  · iexists _, _; isplitr; swap
    · iexact H20
    · ipureintro; rfl
  isplitl [H21]
  · iexists _, _; isplitr; swap
    · iexact H21
    · ipureintro; rfl
  isplitl [H22]
  · iexists _, _; isplitr; swap
    · iexact H22
    · ipureintro; rfl
  isplitl [H23]
  · iexists _, _; isplitr; swap
    · iexact H23
    · ipureintro; rfl
  iintro ⟨G5, G12, G13, G14, G15, G16, G17, G18, G19, G20, G21, G22, G23⟩
  iapply Hk
  isplitl [H2]
  · iexists _; isplitr; swap
    · iexact H2
    · ipureintro; exact hf2
  isplitl [H3]
  · iexists _; isplitr; swap
    · iexact H3
    · ipureintro; exact hf3
  isplitl [H4]
  · iexists _; isplitr; swap
    · iexact H4
    · ipureintro; exact hf4
  isplitl [G5]
  · iexact G5
  isplitl [H6]
  · iexists _; isplitr; swap
    · iexact H6
    · ipureintro; exact h6
  isplitl [H7]
  · iexists _; isplitr; swap
    · iexact H7
    · ipureintro; exact h7
  isplitl [H8]
  · iexists _; isplitr; swap
    · iexact H8
    · ipureintro; exact h8
  isplitl [H9]
  · iexists _; isplitr; swap
    · iexact H9
    · ipureintro; exact h9
  isplitl [H10]
  · iexists _; isplitr; swap
    · iexact H10
    · ipureintro; exact h10
  isplitl [H11]
  · iexists _; isplitr; swap
    · iexact H11
    · ipureintro; exact h11
  isplitl [G12]
  · iexact G12
  isplitl [G13]
  · iexact G13
  isplitl [G14]
  · iexact G14
  isplitl [G15]
  · iexact G15
  isplitl [G16]
  · iexact G16
  isplitl [G17]
  · iexact G17
  isplitl [G18]
  · iexact G18
  isplitl [G19]
  · iexact G19
  isplitl [G20]
  · iexact G20
  isplitl [G21]
  · iexact G21
  isplitl [G22]
  · iexact G22
  iexact G23

end Cert.KernelIdeal.Val

end
-- ==== Proof.T0.lean ====
module

public import proofs.«01_k».proof.Proof.T6

@[expose] public section

/-! The whole body at one grid point. -/

set_option maxRecDepth 16384
set_option maxHeartbeats 4000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- A table at its first block's value everywhere at the first block, as it was at every later one. -/
def fill (i : Fin 32) (v : EReal) (X : Vec Ideal S32x1024 .f32) : Vec Ideal S32x1024 .f32 := fun y => if i.val = 0 then v else X y

abbrev one : EReal := Ideal.ofBits .f32 0x3F800000#32

theorem fill_zero (i : Fin 32) (v : EReal) (X : Vec Ideal S32x1024 .f32) (h : i.val = 0) : fill i v X = fun _ => v := funext fun _ => if_pos h
theorem fill_pos (i : Fin 32) (v : EReal) (X : Vec Ideal S32x1024 .f32) (h : i.val ≠ 0) : fill i v X = X := funext fun _ => if_neg h

theorem first_iff : ∀ k : Fin 32, (Scalar.cmpi .ne (Scalar.extui (Scalar.cmpi .eq (BitVec.ofNat 32 k.val) 0#32) : BitVec 32) 0#32 = 1#1) ↔ k.val = 0 := by
  decide +kernel

theorem k0_pay21_eq : k0_pay21 (F := Ideal) = fun _ => negInf := rfl
theorem k0_pay22_eq : k0_pay22 (F := Ideal) = fun _ => one := rfl
theorem k0_pay23_eq : k0_pay23 (F := Ideal) = fun _ => one := rfl

theorem t0a (c : Dev nD) (i : grid0.Coords) (arg2 : Memref sig .tc .vmem S1x128x2048 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x128x2048 .bf16) (harg5 : arg5.IsWhole) (arg6 : Memref sig .tc .vmem S1x128x2048 .fp8e4m3) (harg6 : arg6.IsWhole) (arg7 : Memref sig .tc .vmem S1x32x8 .f32) (harg7 : arg7.IsWhole) (arg8 : Memref sig .tc .vmem S1x128x512 .fp8e4m3) (harg8 : arg8.IsWhole) (arg9 : Memref sig .tc .vmem S1x32x2 .f32) (harg9 : arg9.IsWhole) (arg10 : Memref sig .tc .vmem S1x128x512 .fp8e4m3) (harg10 : arg10.IsWhole) (arg11 : Memref sig .tc .vmem S1x32x2 .f32) (harg11 : arg11.IsWhole) (arg12 : Memref sig .tc .vmem S1024x256 .fp8e4m3) (harg12 : arg12.IsWhole) (arg13 : Memref sig .tc .vmem S32x128x512 .fp8e4m3) (harg13 : arg13.IsWhole) (arg14 : Memref sig .tc .vmem S32x512x128 .fp8e4m3) (harg14 : arg14.IsWhole) (arg15 : Memref sig .tc .vmem S32x1024 .f32) (harg15 : arg15.IsWhole) (arg16 : Memref sig .tc .vmem S32x1024 .f32) (harg16 : arg16.IsWhole) (arg17 : Memref sig .tc .vmem S32x1024 .f32) (harg17 : arg17.IsWhole) (arg18 : Memref sig .tc .vmem S32x1024 .f32) (harg18 : arg18.IsWhole) (arg19 : Memref sig .tc .vmem S32x1024 .f32) (harg19 : arg19.IsWhole) (arg20 : Memref sig .tc .vmem S32x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S256x1024 .f32) (harg23 : arg23.IsWhole) (X2 : Vec Ideal S1x128x2048 .bf16) (X3 : Vec Ideal S1x128x512 .bf16) (X4 : Vec Ideal S1x128x512 .bf16) (X7 : Vec Ideal S1x32x8 .f32) (X9 : Vec Ideal S1x32x2 .f32) (X11 : Vec Ideal S1x32x2 .f32) (X13 : Vec Ideal S32x128x512 .fp8e4m3) (X14 : Vec Ideal S32x512x128 .fp8e4m3) (X15 : Vec Ideal S32x1024 .f32) (X16 : Vec Ideal S32x1024 .f32) (X17 : Vec Ideal S32x1024 .f32) (K : PUnit → sProp 𝕄) (hc : Scalar.cmpi .ne (Scalar.extui (Scalar.cmpi .eq (BitVec.ofNat 32 (i 1).val) 0#32) : BitVec 32) 0#32 = 1#1) :
    iprop(owns (c : Thread nD τ) arg2 fullShare X2 ∗ owns (c : Thread nD τ) arg3 fullShare X3 ∗ owns (c : Thread nD τ) arg4 fullShare X4 ∗ (∃ d, owns (c : Thread nD τ) arg5 fullShare d) ∗ (∃ d, owns (c : Thread nD τ) arg6 fullShare d) ∗ owns (c : Thread nD τ) arg7 fullShare X7 ∗ (∃ d, owns (c : Thread nD τ) arg8 fullShare d) ∗ owns (c : Thread nD τ) arg9 fullShare X9 ∗ (∃ d, owns (c : Thread nD τ) arg10 fullShare d) ∗ owns (c : Thread nD τ) arg11 fullShare X11 ∗ (∃ d, owns (c : Thread nD τ) arg12 fullShare d) ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg2 fullShare X2 ∗ owns (c : Thread nD τ) arg3 fullShare X3 ∗ owns (c : Thread nD τ) arg4 fullShare X4 ∗ owns (c : Thread nD τ) arg5 fullShare (outY (i 1) maskD (setK (i 1) X3 X13) (qlanes X2) (setV (i 1) X4 X14) (cF (qscale X2) (setS (i 1) X3 (fill (i 1) one X15))) (mF (bmF (i 1) maskD (setK (i 1) X3 X13) (qlanes X2) (fill (i 1) negInf X17)) (cF (qscale X2) (setS (i 1) X3 (fill (i 1) one X15)))) (invF (aF (bmF (i 1) maskD (setK (i 1) X3 X13) (qlanes X2) (fill (i 1) negInf X17)) (cF (qscale X2) (setS (i 1) X3 (fill (i 1) one X15))))) (fun y => sclF (aF (bmF (i 1) maskD (setK (i 1) X3 X13) (qlanes X2) (fill (i 1) negInf X17)) (cF (qscale X2) (setS (i 1) X3 (fill (i 1) one X15)))) y * (setS (i 1) X4 (fill (i 1) one X16)) y)) ∗ owns (c : Thread nD τ) arg6 fullShare (qcode X2) ∗ owns (c : Thread nD τ) arg7 fullShare (setRowQ (i 1) (fun h => scl (amaxQ X2 h)) X7) ∗ owns (c : Thread nD τ) arg8 fullShare (kcode X3) ∗ owns (c : Thread nD τ) arg9 fullShare (setRowK (i 1) (fun h => scl (amaxK X3 h)) X9) ∗ owns (c : Thread nD τ) arg10 fullShare (kcode X4) ∗ owns (c : Thread nD τ) arg11 fullShare (setRowK (i 1) (fun h => scl (amaxK X4 h)) X11) ∗ owns (c : Thread nD τ) arg12 fullShare (qlanes X2) ∗ owns (c : Thread nD τ) arg13 fullShare (setK (i 1) X3 X13) ∗ owns (c : Thread nD τ) arg14 fullShare (setV (i 1) X4 X14) ∗ owns (c : Thread nD τ) arg15 fullShare (setS (i 1) X3 (fill (i 1) one X15)) ∗ owns (c : Thread nD τ) arg16 fullShare (setS (i 1) X4 (fill (i 1) one X16)) ∗ owns (c : Thread nD τ) arg17 fullShare (bmF (i 1) maskD (setK (i 1) X3 X13) (qlanes X2) (fill (i 1) negInf X17)) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
      ⊢ wp frame (wpE (defs₀ (F := Ideal)) Variants.none (c : Thread nD τ) none) Set.univ
          (cc0_swa_gqa_fp8_attention (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_swa_gqa_fp8_attention_eq_skeleton]
  rw [skel_eq]
  unfold owns
  iintro ⟨⟨%f2, %hf2, H2⟩, ⟨%f3, %hf3, H3⟩, ⟨%f4, %hf4, H4⟩, ⟨%d5, %f5, -, H5⟩, ⟨%d6, %f6, -, H6⟩, ⟨%f7, %hf7, H7⟩, ⟨%d8, %f8, -, H8⟩, ⟨%f9, %hf9, H9⟩, ⟨%d10, %f10, -, H10⟩, ⟨%f11, %hf11, H11⟩, ⟨%d12, %f12, -, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  have e2 : (View.readAt (Elt Ideal) arg2.view (Rect.unit (s := S1x128x2048) ![0, 0, 0] S1x128x2048.size inb_S1x128x2048_S1x128x2048_0_0_0).toLoadRect f2) = X2 := by rw [View.readAt_full, hf2]
  have hi : (i 1).val = 0 := (first_iff (i 1)).mp hc
  set_option sl_exec.stopBefore "tail6" in sl_exec (disch := sl_exact hc)
  have h15 : View.read (Elt Ideal) arg15.view (arg15.view.writes (Elt Ideal) f15 [⟨Rect.unit (s := S32x1024) ![0, 0] S32x1024.size inb_S32x1024_S32x1024_0_0, k0_pay22 (F := Ideal)⟩]) = (fill (i 1) one X15) := by
    rw [View.read_writes_full, fill_zero _ _ _ hi]; exact k0_pay22_eq
  have h16 : View.read (Elt Ideal) arg16.view (arg16.view.writes (Elt Ideal) f16 [⟨Rect.unit (s := S32x1024) ![0, 0] S32x1024.size inb_S32x1024_S32x1024_0_0, k0_pay23 (F := Ideal)⟩]) = (fill (i 1) one X16) := by
    rw [View.read_writes_full, fill_zero _ _ _ hi]; exact k0_pay23_eq
  have h17 : View.read (Elt Ideal) arg17.view (arg17.view.writes (Elt Ideal) f17 [⟨Rect.unit (s := S32x1024) ![0, 0] S32x1024.size inb_S32x1024_S32x1024_0_0, k0_pay21 (F := Ideal)⟩]) = (fill (i 1) negInf X17) := by
    rw [View.read_writes_full, fill_zero _ _ _ hi]; exact k0_pay21_eq
  iapply (t6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (BitVec.ofNat 32 (i 1).val) X2 X3 X4 X7 X9 X11 X13 X14 (fill (i 1) one X15) (fill (i 1) one X16) (fill (i 1) negInf X17) K)
  unfold owns
  isplitl [H2]
  · iexists _; isplitr; swap
    · iexact H2
    · ipureintro; exact hf2
  isplitl [H3]
  · iexists _; isplitr; swap
    · iexact H3
    · ipureintro; exact hf3
  isplitl [H4]
  · iexists _; isplitr; swap
    · iexact H4
    · ipureintro; exact hf4
  isplitl [H5]
  · iexists _, _; isplitr; swap
    · iexact H5
    · ipureintro; rfl
  isplitl [H6]
  · iexists _, _; isplitr; swap
    · iexact H6
    · ipureintro; rfl
  isplitl [H7]
  · iexists _; isplitr; swap
    · iexact H7
    · ipureintro; exact hf7
  isplitl [H8]
  · iexists _, _; isplitr; swap
    · iexact H8
    · ipureintro; rfl
  isplitl [H9]
  · iexists _; isplitr; swap
    · iexact H9
    · ipureintro; exact hf9
  isplitl [H10]
  · iexists _, _; isplitr; swap
    · iexact H10
    · ipureintro; rfl
  isplitl [H11]
  · iexists _; isplitr; swap
    · iexact H11
    · ipureintro; exact hf11
  isplitl [H12]
  · iexists _, _; isplitr; swap
    · iexact H12
    · ipureintro; rfl
  isplitl [H13]
  · iexists _; isplitr; swap
    · iexact H13
    · ipureintro; exact hf13
  isplitl [H14]
  · iexists _; isplitr; swap
    · iexact H14
    · ipureintro; exact hf14
  isplitl [H15]
  · iexists _; isplitr; swap
    · iexact H15
    · ipureintro; exact h15
  isplitl [H16]
  · iexists _; isplitr; swap
    · iexact H16
    · ipureintro; exact h16
  isplitl [H17]
  · iexists _; isplitr; swap
    · iexact H17
    · ipureintro; exact h17
  isplitl [H18]
  · iexists _, _; isplitr; swap
    · iexact H18
    · ipureintro; rfl
  isplitl [H19]
  · iexists _, _; isplitr; swap
    · iexact H19
    · ipureintro; rfl
  isplitl [H20]
  · iexists _, _; isplitr; swap
    · iexact H20
    · ipureintro; rfl
  isplitl [H21]
  · iexists _, _; isplitr; swap
    · iexact H21
    · ipureintro; rfl
  isplitl [H22]
  · iexists _, _; isplitr; swap
    · iexact H22
    · ipureintro; rfl
  isplitl [H23]
  · iexists _, _; isplitr; swap
    · iexact H23
    · ipureintro; rfl
  iexact Hk

theorem t0b (c : Dev nD) (i : grid0.Coords) (arg2 : Memref sig .tc .vmem S1x128x2048 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x128x2048 .bf16) (harg5 : arg5.IsWhole) (arg6 : Memref sig .tc .vmem S1x128x2048 .fp8e4m3) (harg6 : arg6.IsWhole) (arg7 : Memref sig .tc .vmem S1x32x8 .f32) (harg7 : arg7.IsWhole) (arg8 : Memref sig .tc .vmem S1x128x512 .fp8e4m3) (harg8 : arg8.IsWhole) (arg9 : Memref sig .tc .vmem S1x32x2 .f32) (harg9 : arg9.IsWhole) (arg10 : Memref sig .tc .vmem S1x128x512 .fp8e4m3) (harg10 : arg10.IsWhole) (arg11 : Memref sig .tc .vmem S1x32x2 .f32) (harg11 : arg11.IsWhole) (arg12 : Memref sig .tc .vmem S1024x256 .fp8e4m3) (harg12 : arg12.IsWhole) (arg13 : Memref sig .tc .vmem S32x128x512 .fp8e4m3) (harg13 : arg13.IsWhole) (arg14 : Memref sig .tc .vmem S32x512x128 .fp8e4m3) (harg14 : arg14.IsWhole) (arg15 : Memref sig .tc .vmem S32x1024 .f32) (harg15 : arg15.IsWhole) (arg16 : Memref sig .tc .vmem S32x1024 .f32) (harg16 : arg16.IsWhole) (arg17 : Memref sig .tc .vmem S32x1024 .f32) (harg17 : arg17.IsWhole) (arg18 : Memref sig .tc .vmem S32x1024 .f32) (harg18 : arg18.IsWhole) (arg19 : Memref sig .tc .vmem S32x1024 .f32) (harg19 : arg19.IsWhole) (arg20 : Memref sig .tc .vmem S32x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S256x1024 .f32) (harg23 : arg23.IsWhole) (X2 : Vec Ideal S1x128x2048 .bf16) (X3 : Vec Ideal S1x128x512 .bf16) (X4 : Vec Ideal S1x128x512 .bf16) (X7 : Vec Ideal S1x32x8 .f32) (X9 : Vec Ideal S1x32x2 .f32) (X11 : Vec Ideal S1x32x2 .f32) (X13 : Vec Ideal S32x128x512 .fp8e4m3) (X14 : Vec Ideal S32x512x128 .fp8e4m3) (X15 : Vec Ideal S32x1024 .f32) (X16 : Vec Ideal S32x1024 .f32) (X17 : Vec Ideal S32x1024 .f32) (K : PUnit → sProp 𝕄) (hc : ¬ Scalar.cmpi .ne (Scalar.extui (Scalar.cmpi .eq (BitVec.ofNat 32 (i 1).val) 0#32) : BitVec 32) 0#32 = 1#1) :
    iprop(owns (c : Thread nD τ) arg2 fullShare X2 ∗ owns (c : Thread nD τ) arg3 fullShare X3 ∗ owns (c : Thread nD τ) arg4 fullShare X4 ∗ (∃ d, owns (c : Thread nD τ) arg5 fullShare d) ∗ (∃ d, owns (c : Thread nD τ) arg6 fullShare d) ∗ owns (c : Thread nD τ) arg7 fullShare X7 ∗ (∃ d, owns (c : Thread nD τ) arg8 fullShare d) ∗ owns (c : Thread nD τ) arg9 fullShare X9 ∗ (∃ d, owns (c : Thread nD τ) arg10 fullShare d) ∗ owns (c : Thread nD τ) arg11 fullShare X11 ∗ (∃ d, owns (c : Thread nD τ) arg12 fullShare d) ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg2 fullShare X2 ∗ owns (c : Thread nD τ) arg3 fullShare X3 ∗ owns (c : Thread nD τ) arg4 fullShare X4 ∗ owns (c : Thread nD τ) arg5 fullShare (outY (i 1) maskD (setK (i 1) X3 X13) (qlanes X2) (setV (i 1) X4 X14) (cF (qscale X2) (setS (i 1) X3 (fill (i 1) one X15))) (mF (bmF (i 1) maskD (setK (i 1) X3 X13) (qlanes X2) (fill (i 1) negInf X17)) (cF (qscale X2) (setS (i 1) X3 (fill (i 1) one X15)))) (invF (aF (bmF (i 1) maskD (setK (i 1) X3 X13) (qlanes X2) (fill (i 1) negInf X17)) (cF (qscale X2) (setS (i 1) X3 (fill (i 1) one X15))))) (fun y => sclF (aF (bmF (i 1) maskD (setK (i 1) X3 X13) (qlanes X2) (fill (i 1) negInf X17)) (cF (qscale X2) (setS (i 1) X3 (fill (i 1) one X15)))) y * (setS (i 1) X4 (fill (i 1) one X16)) y)) ∗ owns (c : Thread nD τ) arg6 fullShare (qcode X2) ∗ owns (c : Thread nD τ) arg7 fullShare (setRowQ (i 1) (fun h => scl (amaxQ X2 h)) X7) ∗ owns (c : Thread nD τ) arg8 fullShare (kcode X3) ∗ owns (c : Thread nD τ) arg9 fullShare (setRowK (i 1) (fun h => scl (amaxK X3 h)) X9) ∗ owns (c : Thread nD τ) arg10 fullShare (kcode X4) ∗ owns (c : Thread nD τ) arg11 fullShare (setRowK (i 1) (fun h => scl (amaxK X4 h)) X11) ∗ owns (c : Thread nD τ) arg12 fullShare (qlanes X2) ∗ owns (c : Thread nD τ) arg13 fullShare (setK (i 1) X3 X13) ∗ owns (c : Thread nD τ) arg14 fullShare (setV (i 1) X4 X14) ∗ owns (c : Thread nD τ) arg15 fullShare (setS (i 1) X3 (fill (i 1) one X15)) ∗ owns (c : Thread nD τ) arg16 fullShare (setS (i 1) X4 (fill (i 1) one X16)) ∗ owns (c : Thread nD τ) arg17 fullShare (bmF (i 1) maskD (setK (i 1) X3 X13) (qlanes X2) (fill (i 1) negInf X17)) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
      ⊢ wp frame (wpE (defs₀ (F := Ideal)) Variants.none (c : Thread nD τ) none) Set.univ
          (cc0_swa_gqa_fp8_attention (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_swa_gqa_fp8_attention_eq_skeleton]
  rw [skel_eq]
  unfold owns
  iintro ⟨⟨%f2, %hf2, H2⟩, ⟨%f3, %hf3, H3⟩, ⟨%f4, %hf4, H4⟩, ⟨%d5, %f5, -, H5⟩, ⟨%d6, %f6, -, H6⟩, ⟨%f7, %hf7, H7⟩, ⟨%d8, %f8, -, H8⟩, ⟨%f9, %hf9, H9⟩, ⟨%d10, %f10, -, H10⟩, ⟨%f11, %hf11, H11⟩, ⟨%d12, %f12, -, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  have e2 : (View.readAt (Elt Ideal) arg2.view (Rect.unit (s := S1x128x2048) ![0, 0, 0] S1x128x2048.size inb_S1x128x2048_S1x128x2048_0_0_0).toLoadRect f2) = X2 := by rw [View.readAt_full, hf2]
  have hi : (i 1).val ≠ 0 := fun h => hc ((first_iff (i 1)).mpr h)
  set_option sl_exec.stopBefore "tail6" in sl_exec (disch := sl_exact hc)
  have h15 : View.read (Elt Ideal) arg15.view f15 = (fill (i 1) one X15) := by
    rw [fill_pos _ _ _ hi]; exact hf15
  have h16 : View.read (Elt Ideal) arg16.view f16 = (fill (i 1) one X16) := by
    rw [fill_pos _ _ _ hi]; exact hf16
  have h17 : View.read (Elt Ideal) arg17.view f17 = (fill (i 1) negInf X17) := by
    rw [fill_pos _ _ _ hi]; exact hf17
  iapply (t6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (BitVec.ofNat 32 (i 1).val) X2 X3 X4 X7 X9 X11 X13 X14 (fill (i 1) one X15) (fill (i 1) one X16) (fill (i 1) negInf X17) K)
  unfold owns
  isplitl [H2]
  · iexists _; isplitr; swap
    · iexact H2
    · ipureintro; exact hf2
  isplitl [H3]
  · iexists _; isplitr; swap
    · iexact H3
    · ipureintro; exact hf3
  isplitl [H4]
  · iexists _; isplitr; swap
    · iexact H4
    · ipureintro; exact hf4
  isplitl [H5]
  · iexists _, _; isplitr; swap
    · iexact H5
    · ipureintro; rfl
  isplitl [H6]
  · iexists _, _; isplitr; swap
    · iexact H6
    · ipureintro; rfl
  isplitl [H7]
  · iexists _; isplitr; swap
    · iexact H7
    · ipureintro; exact hf7
  isplitl [H8]
  · iexists _, _; isplitr; swap
    · iexact H8
    · ipureintro; rfl
  isplitl [H9]
  · iexists _; isplitr; swap
    · iexact H9
    · ipureintro; exact hf9
  isplitl [H10]
  · iexists _, _; isplitr; swap
    · iexact H10
    · ipureintro; rfl
  isplitl [H11]
  · iexists _; isplitr; swap
    · iexact H11
    · ipureintro; exact hf11
  isplitl [H12]
  · iexists _, _; isplitr; swap
    · iexact H12
    · ipureintro; rfl
  isplitl [H13]
  · iexists _; isplitr; swap
    · iexact H13
    · ipureintro; exact hf13
  isplitl [H14]
  · iexists _; isplitr; swap
    · iexact H14
    · ipureintro; exact hf14
  isplitl [H15]
  · iexists _; isplitr; swap
    · iexact H15
    · ipureintro; exact h15
  isplitl [H16]
  · iexists _; isplitr; swap
    · iexact H16
    · ipureintro; exact h16
  isplitl [H17]
  · iexists _; isplitr; swap
    · iexact H17
    · ipureintro; exact h17
  isplitl [H18]
  · iexists _, _; isplitr; swap
    · iexact H18
    · ipureintro; rfl
  isplitl [H19]
  · iexists _, _; isplitr; swap
    · iexact H19
    · ipureintro; rfl
  isplitl [H20]
  · iexists _, _; isplitr; swap
    · iexact H20
    · ipureintro; rfl
  isplitl [H21]
  · iexists _, _; isplitr; swap
    · iexact H21
    · ipureintro; rfl
  isplitl [H22]
  · iexists _, _; isplitr; swap
    · iexact H22
    · ipureintro; rfl
  isplitl [H23]
  · iexists _, _; isplitr; swap
    · iexact H23
    · ipureintro; rfl
  iexact Hk

theorem t0 (c : Dev nD) (i : grid0.Coords) (arg2 : Memref sig .tc .vmem S1x128x2048 .bf16) (harg2 : arg2.IsWhole) (arg3 : Memref sig .tc .vmem S1x128x512 .bf16) (harg3 : arg3.IsWhole) (arg4 : Memref sig .tc .vmem S1x128x512 .bf16) (harg4 : arg4.IsWhole) (arg5 : Memref sig .tc .vmem S1x128x2048 .bf16) (harg5 : arg5.IsWhole) (arg6 : Memref sig .tc .vmem S1x128x2048 .fp8e4m3) (harg6 : arg6.IsWhole) (arg7 : Memref sig .tc .vmem S1x32x8 .f32) (harg7 : arg7.IsWhole) (arg8 : Memref sig .tc .vmem S1x128x512 .fp8e4m3) (harg8 : arg8.IsWhole) (arg9 : Memref sig .tc .vmem S1x32x2 .f32) (harg9 : arg9.IsWhole) (arg10 : Memref sig .tc .vmem S1x128x512 .fp8e4m3) (harg10 : arg10.IsWhole) (arg11 : Memref sig .tc .vmem S1x32x2 .f32) (harg11 : arg11.IsWhole) (arg12 : Memref sig .tc .vmem S1024x256 .fp8e4m3) (harg12 : arg12.IsWhole) (arg13 : Memref sig .tc .vmem S32x128x512 .fp8e4m3) (harg13 : arg13.IsWhole) (arg14 : Memref sig .tc .vmem S32x512x128 .fp8e4m3) (harg14 : arg14.IsWhole) (arg15 : Memref sig .tc .vmem S32x1024 .f32) (harg15 : arg15.IsWhole) (arg16 : Memref sig .tc .vmem S32x1024 .f32) (harg16 : arg16.IsWhole) (arg17 : Memref sig .tc .vmem S32x1024 .f32) (harg17 : arg17.IsWhole) (arg18 : Memref sig .tc .vmem S32x1024 .f32) (harg18 : arg18.IsWhole) (arg19 : Memref sig .tc .vmem S32x1024 .f32) (harg19 : arg19.IsWhole) (arg20 : Memref sig .tc .vmem S32x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S256x1024 .f32) (harg23 : arg23.IsWhole) (X2 : Vec Ideal S1x128x2048 .bf16) (X3 : Vec Ideal S1x128x512 .bf16) (X4 : Vec Ideal S1x128x512 .bf16) (X7 : Vec Ideal S1x32x8 .f32) (X9 : Vec Ideal S1x32x2 .f32) (X11 : Vec Ideal S1x32x2 .f32) (X13 : Vec Ideal S32x128x512 .fp8e4m3) (X14 : Vec Ideal S32x512x128 .fp8e4m3) (X15 : Vec Ideal S32x1024 .f32) (X16 : Vec Ideal S32x1024 .f32) (X17 : Vec Ideal S32x1024 .f32) (K : PUnit → sProp 𝕄) :
    iprop(owns (c : Thread nD τ) arg2 fullShare X2 ∗ owns (c : Thread nD τ) arg3 fullShare X3 ∗ owns (c : Thread nD τ) arg4 fullShare X4 ∗ (∃ d, owns (c : Thread nD τ) arg5 fullShare d) ∗ (∃ d, owns (c : Thread nD τ) arg6 fullShare d) ∗ owns (c : Thread nD τ) arg7 fullShare X7 ∗ (∃ d, owns (c : Thread nD τ) arg8 fullShare d) ∗ owns (c : Thread nD τ) arg9 fullShare X9 ∗ (∃ d, owns (c : Thread nD τ) arg10 fullShare d) ∗ owns (c : Thread nD τ) arg11 fullShare X11 ∗ (∃ d, owns (c : Thread nD τ) arg12 fullShare d) ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg2 fullShare X2 ∗ owns (c : Thread nD τ) arg3 fullShare X3 ∗ owns (c : Thread nD τ) arg4 fullShare X4 ∗ owns (c : Thread nD τ) arg5 fullShare (outY (i 1) maskD (setK (i 1) X3 X13) (qlanes X2) (setV (i 1) X4 X14) (cF (qscale X2) (setS (i 1) X3 (fill (i 1) one X15))) (mF (bmF (i 1) maskD (setK (i 1) X3 X13) (qlanes X2) (fill (i 1) negInf X17)) (cF (qscale X2) (setS (i 1) X3 (fill (i 1) one X15)))) (invF (aF (bmF (i 1) maskD (setK (i 1) X3 X13) (qlanes X2) (fill (i 1) negInf X17)) (cF (qscale X2) (setS (i 1) X3 (fill (i 1) one X15))))) (fun y => sclF (aF (bmF (i 1) maskD (setK (i 1) X3 X13) (qlanes X2) (fill (i 1) negInf X17)) (cF (qscale X2) (setS (i 1) X3 (fill (i 1) one X15)))) y * (setS (i 1) X4 (fill (i 1) one X16)) y)) ∗ owns (c : Thread nD τ) arg6 fullShare (qcode X2) ∗ owns (c : Thread nD τ) arg7 fullShare (setRowQ (i 1) (fun h => scl (amaxQ X2 h)) X7) ∗ owns (c : Thread nD τ) arg8 fullShare (kcode X3) ∗ owns (c : Thread nD τ) arg9 fullShare (setRowK (i 1) (fun h => scl (amaxK X3 h)) X9) ∗ owns (c : Thread nD τ) arg10 fullShare (kcode X4) ∗ owns (c : Thread nD τ) arg11 fullShare (setRowK (i 1) (fun h => scl (amaxK X4 h)) X11) ∗ owns (c : Thread nD τ) arg12 fullShare (qlanes X2) ∗ owns (c : Thread nD τ) arg13 fullShare (setK (i 1) X3 X13) ∗ owns (c : Thread nD τ) arg14 fullShare (setV (i 1) X4 X14) ∗ owns (c : Thread nD τ) arg15 fullShare (setS (i 1) X3 (fill (i 1) one X15)) ∗ owns (c : Thread nD τ) arg16 fullShare (setS (i 1) X4 (fill (i 1) one X16)) ∗ owns (c : Thread nD τ) arg17 fullShare (bmF (i 1) maskD (setK (i 1) X3 X13) (qlanes X2) (fill (i 1) negInf X17)) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
      ⊢ wp frame (wpE (defs₀ (F := Ideal)) Variants.none (c : Thread nD τ) none) Set.univ
          (cc0_swa_gqa_fp8_attention (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  by_cases hc : Scalar.cmpi .ne (Scalar.extui (Scalar.cmpi .eq (BitVec.ofNat 32 (i 1).val) 0#32) : BitVec 32) 0#32 = 1#1
  · exact t0a c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X7 X9 X11 X13 X14 X15 X16 X17 K hc
  · exact t0b c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X2 X3 X4 X7 X9 X11 X13 X14 X15 X16 X17 K hc

end Cert.KernelIdeal.Val

end
-- ==== Proof.ValInv.lean ====
module

public import proofs.«01_k».proof.Proof.T0

@[expose] public section

/-! What the tables kept between grid points hold, and how a grid point changes them. -/

set_option maxRecDepth 16384
set_option maxHeartbeats 4000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The queries of block `i` of batch `b`. -/
def XQ (A : Vec Ideal S8x4096x2048 .bf16) (b : Fin 8) (i : Fin 32) : Vec Ideal S1x128x2048 .bf16 := fun y =>
  A (ix3 b ⟨128 * i.val + (y 1).val, by have : (y 1).val < 128 := (y 1).isLt; omega⟩ (y 2))
/-- The keys, or the values, of block `i` of batch `b`. -/
def XK (A : Vec Ideal S8x4096x512 .bf16) (b : Fin 8) (i : Fin 32) : Vec Ideal S1x128x512 .bf16 := fun y =>
  A (ix3 b ⟨128 * i.val + (y 1).val, by have : (y 1).val < 128 := (y 1).isLt; omega⟩ (y 2))

/-- The tables after the point of block `i` of batch `b`: the rows up to `i` hold the batch's codes and scales, the later rows what they were filled
with. -/
structure Full (A1 A2 : Vec Ideal S8x4096x512 .bf16) (b : Fin 8) (i : Fin 32) (K : Vec Ideal S32x128x512 .fp8e4m3) (V : Vec Ideal S32x512x128 .fp8e4m3)
    (S W B : Vec Ideal S32x1024 .f32) : Prop where
  k : ∀ n : Fin 32, n.val ≤ i.val → ∀ (r : Fin 128) (l : Fin 512), K (ix3 n r l) = kcode (XK A1 b n) (ix3 0 r l)
  v : ∀ n : Fin 32, n.val ≤ i.val → ∀ (r : Fin 128) (l : Fin 512), V (ix3 n l r) = kcode (XK A2 b n) (ix3 0 r l)
  ks : ∀ n : Fin 32, n.val ≤ i.val → ∀ L : Fin 1024, S (ix2 n L) = scl (amaxK (XK A1 b n) (kvOf L))
  vs : ∀ n : Fin 32, n.val ≤ i.val → ∀ L : Fin 1024, W (ix2 n L) = scl (amaxK (XK A2 b n) (kvOf L))
  one : ∀ n : Fin 32, i.val < n.val → ∀ L : Fin 1024, S (ix2 n L) = one
  bm : ∀ n : Fin 32, i.val < n.val → ∀ L : Fin 1024, B (ix2 n L) = negInf

/-- The tables before the point of block `i` of batch `b`: nothing is known at the first block, else they are as the previous block left them. -/
def Inv (A1 A2 : Vec Ideal S8x4096x512 .bf16) (b : Fin 8) (i : Fin 32) (K : Vec Ideal S32x128x512 .fp8e4m3) (V : Vec Ideal S32x512x128 .fp8e4m3)
    (S W B : Vec Ideal S32x1024 .f32) : Prop :=
  ∀ j : Fin 32, j.val + 1 = i.val → Full A1 A2 b j K V S W B

theorem step {A1 A2 : Vec Ideal S8x4096x512 .bf16} {b : Fin 8} {i : Fin 32} {K : Vec Ideal S32x128x512 .fp8e4m3} {V : Vec Ideal S32x512x128 .fp8e4m3}
    {S W B : Vec Ideal S32x1024 .f32} (h : Inv A1 A2 b i K V S W B) :
    Full A1 A2 b i (setK i (XK A1 b i) K) (setV i (XK A2 b i) V) (setS i (XK A1 b i) (fill i one S)) (setS i (XK A2 b i) (fill i one W)) (fill i negInf B) := by
  have hp : ∀ n : Fin 32, n.val < i.val → ∃ j : Fin 32, n.val ≤ j.val ∧ j.val + 1 = i.val := fun n hn => ⟨⟨i.val - 1, by omega⟩, by simp only; omega, by simp only; omega⟩
  constructor
  · intro n hn r l
    by_cases e : n.val = i.val
    · obtain rfl : n = i := Fin.ext e
      exact if_pos rfl
    · obtain ⟨j, h1, h2⟩ := hp n (by omega)
      exact (if_neg e).trans ((h j h2).k n h1 r l)
  · intro n hn r l
    by_cases e : n.val = i.val
    · obtain rfl : n = i := Fin.ext e
      exact if_pos rfl
    · obtain ⟨j, h1, h2⟩ := hp n (by omega)
      exact (if_neg e).trans ((h j h2).v n h1 r l)
  · intro n hn L
    by_cases e : n.val = i.val
    · obtain rfl : n = i := Fin.ext e
      exact if_pos rfl
    · obtain ⟨j, h1, h2⟩ := hp n (by omega)
      exact (if_neg e).trans ((if_neg (by omega)).trans ((h j h2).ks n h1 L))
  · intro n hn L
    by_cases e : n.val = i.val
    · obtain rfl : n = i := Fin.ext e
      exact if_pos rfl
    · obtain ⟨j, h1, h2⟩ := hp n (by omega)
      exact (if_neg e).trans ((if_neg (by omega)).trans ((h j h2).vs n h1 L))
  · intro n hn L
    refine (if_neg (by simp only [ix2]; exact (by omega : ¬ n.val = i.val))).trans ?_
    by_cases hi : i.val = 0
    · exact if_pos hi
    · exact (if_neg hi).trans ((h ⟨i.val - 1, by omega⟩ (by simp only; omega)).one n (by simp only; omega) L)
  · intro n hn L
    by_cases hi : i.val = 0
    · exact if_pos hi
    · exact (if_neg hi).trans ((h ⟨i.val - 1, by omega⟩ (by simp only; omega)).bm n (by simp only; omega) L)

theorem Full.maxima {A1 A2 : Vec Ideal S8x4096x512 .bf16} {b : Fin 8} {i : Fin 32} {K : Vec Ideal S32x128x512 .fp8e4m3} {V : Vec Ideal S32x512x128 .fp8e4m3}
    {S W B : Vec Ideal S32x1024 .f32} (h : Full A1 A2 b i K V S W B) (mask : IVec S128x512 1) (K' : Vec Ideal S32x128x512 .fp8e4m3) (Q : Vec Ideal S1024x256 .fp8e4m3) :
    Full A1 A2 b i K V S W (bmF i mask K' Q B) :=
  { h with bm := fun n hn L => (if_neg (by simp only [ix2]; exact (by omega : ¬ n.val < i.val))).trans ((if_neg (by simp only [ix2]; exact (by omega : ¬ n.val = i.val))).trans (h.bm n hn L)) }

/-- The output block of block `i`, from its queries and the tables. -/
def val5 (X : Vec Ideal S1x128x2048 .bf16) (i : Fin 32) (K : Vec Ideal S32x128x512 .fp8e4m3) (V : Vec Ideal S32x512x128 .fp8e4m3) (S W B : Vec Ideal S32x1024 .f32) :
    Vec Ideal S1x128x2048 .bf16 :=
  outY i maskD K (qlanes X) V (cF (qscale X) S) (mF (bmF i maskD K (qlanes X) B) (cF (qscale X) S)) (invF (aF (bmF i maskD K (qlanes X) B) (cF (qscale X) S)))
    (fun y => sclF (aF (bmF i maskD K (qlanes X) B) (cF (qscale X) S)) y * W y)

def bOf (j : ℕ) : Fin 8 := ⟨j / 32 % 8, Nat.mod_lt _ (by norm_num)⟩
def iOf (j : ℕ) : Fin 32 := ⟨j % 32, Nat.mod_lt _ (by norm_num)⟩

theorem co0_val : ∀ t : Fin grid0.N, (grid0.coords t 0).val = t.val / 32 % 8 := by decide +kernel
theorem co1_val : ∀ t : Fin grid0.N, (grid0.coords t 1).val = t.val % 32 := by decide +kernel
theorem co0 (t : Fin grid0.N) : (grid0.coords t 0 : Fin 8) = bOf t.val := Fin.ext (co0_val t)
theorem co1 (t : Fin grid0.N) : (grid0.coords t 1 : Fin 32) = iOf t.val := Fin.ext (co1_val t)

theorem Full.next {A1 A2 : Vec Ideal S8x4096x512 .bf16} {t : ℕ} {K : Vec Ideal S32x128x512 .fp8e4m3} {V : Vec Ideal S32x512x128 .fp8e4m3}
    {S W B : Vec Ideal S32x1024 .f32} (h : Full A1 A2 (bOf t) (iOf t) K V S W B) : Inv A1 A2 (bOf (t + 1)) (iOf (t + 1)) K V S W B := by
  intro j hj
  simp only [iOf] at hj
  have e1 : j = iOf t := Fin.ext (by simp only [iOf]; omega)
  have e2 : bOf (t + 1) = bOf t := Fin.ext (by simp only [bOf]; omega)
  rw [e1, e2]; exact h

end Cert.KernelIdeal.Val

end
-- ==== Proof.ValRun.lean ====
module

public import proofs.«01_k».proof.Proof.ValInv
public import Idealize.ShloMosaic.Lib.Pipeline.FrameBody
public import Idealize.ShloMosaic.Lib.Pipeline.ArrRel
public import Idealize.ShloMosaic.Lib.Pipeline.ValueKit.Geometry

@[expose] public section

/-! The run of the kernel with what each grid point leaves in the output blocks and in the tables kept between points. -/

set_option maxRecDepth 16384
set_option maxHeartbeats 4000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

local notation "𝕄" => MT nD τ sig Unit (Elt Ideal) ℕ (UR sig nD τ) ℕ

variable (m : (ℓ : Loc nD τ sig) → Buf (Elt Ideal) ℓ) (ρ : Dev nD → PrngReg)

/-- The argument arrays of a core. -/
def A0 (c : Dev nD) : Vec Ideal S8x4096x2048 .bf16 := m ((c : Thread nD τ).loc main_arg0)
def A1 (c : Dev nD) : Vec Ideal S8x4096x512 .bf16 := m ((c : Thread nD τ).loc main_arg1)
def A2 (c : Dev nD) : Vec Ideal S8x4096x512 .bf16 := m ((c : Thread nD τ).loc main_arg2)

/-- What a point may leave in each window's block. -/
def aft (c : Dev nD) : (w : Fin cfg0.W) → (t : Fin cfg0.N) → ((cfg0.win w).block.Idx → Elt Ideal (cfg0.win w).elt) → ((cfg0.win w).block.Idx → Elt Ideal (cfg0.win w).elt) → Prop
  | ⟨3, _⟩, t, _, X => ∃ (K : Vec Ideal S32x128x512 .fp8e4m3) (V : Vec Ideal S32x512x128 .fp8e4m3) (S W B : Vec Ideal S32x1024 .f32),
      Full (A1 m c) (A2 m c) (bOf t.val) (iOf t.val) K V S W B ∧ (X : Vec Ideal S1x128x2048 .bf16) = val5 (XQ (A0 m c) (bOf t.val) (iOf t.val)) (iOf t.val) K V S W B
  | ⟨4, _⟩, t, _, X => (X : Vec Ideal S1x128x2048 .fp8e4m3) = qcode (XQ (A0 m c) (bOf t.val) (iOf t.val))
  | ⟨5, _⟩, t, Y, X => (X : Vec Ideal S1x32x8 .f32) = setRowQ (iOf t.val) (fun h => scl (amaxQ (XQ (A0 m c) (bOf t.val) (iOf t.val)) h)) (Y : Vec Ideal S1x32x8 .f32)
  | ⟨6, _⟩, t, _, X => (X : Vec Ideal S1x128x512 .fp8e4m3) = kcode (XK (A1 m c) (bOf t.val) (iOf t.val))
  | ⟨7, _⟩, t, Y, X => (X : Vec Ideal S1x32x2 .f32) = setRowK (iOf t.val) (fun h => scl (amaxK (XK (A1 m c) (bOf t.val) (iOf t.val)) h)) (Y : Vec Ideal S1x32x2 .f32)
  | ⟨8, _⟩, t, _, X => (X : Vec Ideal S1x128x512 .fp8e4m3) = kcode (XK (A2 m c) (bOf t.val) (iOf t.val))
  | ⟨9, _⟩, t, Y, X => (X : Vec Ideal S1x32x2 .f32) = setRowK (iOf t.val) (fun h => scl (amaxK (XK (A2 m c) (bOf t.val) (iOf t.val)) h)) (Y : Vec Ideal S1x32x2 .f32)
  | _, _, _, _ => True

/-- The tables of keys, values and maxima before a point, the other buffers at some contents. -/
def Phi (c : Dev nD) (j : ℕ) : sProp 𝕄 :=
  iprop(iprop((∃ d, owns (c : Thread nD τ) (Memref.whole cc0_scratch0) fullShare d) ∗ (∃ X1 X2 X3 X4 X5, ⌜Inv (A1 m c) (A2 m c) (bOf j) (iOf j) X1 X2 X3 X4 X5⌝ ∗ owns (c : Thread nD τ) (Memref.whole cc0_scratch1) fullShare X1 ∗ owns (c : Thread nD τ) (Memref.whole cc0_scratch2) fullShare X2 ∗ owns (c : Thread nD τ) (Memref.whole cc0_scratch3) fullShare X3 ∗ owns (c : Thread nD τ) (Memref.whole cc0_scratch4) fullShare X4 ∗ owns (c : Thread nD τ) (Memref.whole cc0_scratch5) fullShare X5) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d) ∗ (∃ d, owns (c : Thread nD τ) (Memref.whole cc0_scratch11) fullShare d)) ∗ (∃ r, prngReg c r))

def rdat (c : Dev nD) : RDat τ (Elt Ideal) Unit ℕ (UR sig nD τ) ℕ cfg0 c where
  A w := V m c (Pipeline.arrRef spec0 w)
  after := aft m c
  Φ j := Phi m c j.val
  q _ := fullShare
  owed _ := 0

theorem PhiA0_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d) ∗ (∃ d, owns (c : Thread nD τ) (Memref.whole cc0_scratch11) fullShare d)) ∗ (∃ r, prngReg c r)) := by
  rw [Pipeline.ΦA, scopedRest0_eq]; simp only [owns_whole]; try rfl

theorem hin (c : Dev nD) : (Pipeline.ΦA spec0 c : sProp 𝕄) ⊢ Phi m c 0 := by
  rw [PhiA0_eq]; unfold Phi
  iintro ⟨⟨HS0, ⟨%X1, HS1⟩, ⟨%X2, HS2⟩, ⟨%X3, HS3⟩, ⟨%X4, HS4⟩, ⟨%X5, HS5⟩, HS6, HS7, HS8, HS9, HS10, HS11⟩, Hg⟩
  isplitr [Hg]
  · isplitl [HS0]
    · iexact HS0
    isplitl [HS1 HS2 HS3 HS4 HS5]
    · iexists X1, X2, X3, X4, X5
      isplitr
      · ipureintro; intro j hj; exact absurd hj (by simp [iOf])
      isplitl [HS1]
      · iexact HS1
      isplitl [HS2]
      · iexact HS2
      isplitl [HS3]
      · iexact HS3
      isplitl [HS4]
      · iexact HS4
      iexact HS5
    isplitl [HS6]
    · iexact HS6
    isplitl [HS7]
    · iexact HS7
    isplitl [HS8]
    · iexact HS8
    isplitl [HS9]
    · iexact HS9
    isplitl [HS10]
    · iexact HS10
    iexact HS11
  iexact Hg

theorem hout (c : Dev nD) (j : ℕ) : Phi m c j ⊢ (Pipeline.ΦA spec0 c : sProp 𝕄) := by
  rw [PhiA0_eq]; unfold Phi
  iintro ⟨⟨HS0, ⟨%X1, %X2, %X3, %X4, %X5, -, HS1, HS2, HS3, HS4, HS5⟩, HS6, HS7, HS8, HS9, HS10, HS11⟩, Hg⟩
  isplitr [Hg]
  · isplitl [HS0]
    · iexact HS0
    isplitl [HS1]
    · iexists _; iexact HS1
    isplitl [HS2]
    · iexists _; iexact HS2
    isplitl [HS3]
    · iexists _; iexact HS3
    isplitl [HS4]
    · iexists _; iexact HS4
    isplitl [HS5]
    · iexists _; iexact HS5
    isplitl [HS6]
    · iexact HS6
    isplitl [HS7]
    · iexact HS7
    isplitl [HS8]
    · iexact HS8
    isplitl [HS9]
    · iexact HS9
    isplitl [HS10]
    · iexact HS10
    iexact HS11
  iexact Hg

/-- What the body is called with at point `t`. -/
def bodyPre (c : Dev nD) (t : Fin cfg0.N) (Y : (w : Fin cfg0.W) → (cfg0.win w).block.Idx → Elt Ideal (cfg0.win w).elt) : sProp 𝕄 :=
  iprop((rdat m c).Φ t.castSucc ∗ (rdat m c).owesAt () t.castSucc ∗ owns (c : Thread nD τ) (win0_0.stage (cfg0.slots t 0)) fullShare (Y 0) ∗ owns (c : Thread nD τ) (win0_1.stage (cfg0.slots t 1)) fullShare (Y 1) ∗ owns (c : Thread nD τ) (win0_2.stage (cfg0.slots t 2)) fullShare (Y 2) ∗ owns (c : Thread nD τ) (win0_3.stage (cfg0.slots t 3)) fullShare (Y 3) ∗ owns (c : Thread nD τ) (win0_4.stage (cfg0.slots t 4)) fullShare (Y 4) ∗ owns (c : Thread nD τ) (win0_5.stage (cfg0.slots t 5)) fullShare (Y 5) ∗ owns (c : Thread nD τ) (win0_6.stage (cfg0.slots t 6)) fullShare (Y 6) ∗ owns (c : Thread nD τ) (win0_7.stage (cfg0.slots t 7)) fullShare (Y 7) ∗ owns (c : Thread nD τ) (win0_8.stage (cfg0.slots t 8)) fullShare (Y 8) ∗ owns (c : Thread nD τ) (win0_9.stage (cfg0.slots t 9)) fullShare (Y 9))

/-- What it returns. -/
def bodyPost (c : Dev nD) (t : Fin cfg0.N) (Y : (w : Fin cfg0.W) → (cfg0.win w).block.Idx → Elt Ideal (cfg0.win w).elt) : sProp 𝕄 :=
  iprop((rdat m c).Φ t.succ ∗ (rdat m c).owesAt () t.succ ∗ (∃ X, ⌜aft m c 0 t (Y 0) X⌝ ∗ owns (c : Thread nD τ) (win0_0.stage (cfg0.slots t 0)) fullShare X) ∗ (∃ X, ⌜aft m c 1 t (Y 1) X⌝ ∗ owns (c : Thread nD τ) (win0_1.stage (cfg0.slots t 1)) fullShare X) ∗ (∃ X, ⌜aft m c 2 t (Y 2) X⌝ ∗ owns (c : Thread nD τ) (win0_2.stage (cfg0.slots t 2)) fullShare X) ∗ (∃ X, ⌜aft m c 3 t (Y 3) X⌝ ∗ owns (c : Thread nD τ) (win0_3.stage (cfg0.slots t 3)) fullShare X) ∗ (∃ X, ⌜aft m c 4 t (Y 4) X⌝ ∗ owns (c : Thread nD τ) (win0_4.stage (cfg0.slots t 4)) fullShare X) ∗ (∃ X, ⌜aft m c 5 t (Y 5) X⌝ ∗ owns (c : Thread nD τ) (win0_5.stage (cfg0.slots t 5)) fullShare X) ∗ (∃ X, ⌜aft m c 6 t (Y 6) X⌝ ∗ owns (c : Thread nD τ) (win0_6.stage (cfg0.slots t 6)) fullShare X) ∗ (∃ X, ⌜aft m c 7 t (Y 7) X⌝ ∗ owns (c : Thread nD τ) (win0_7.stage (cfg0.slots t 7)) fullShare X) ∗ (∃ X, ⌜aft m c 8 t (Y 8) X⌝ ∗ owns (c : Thread nD τ) (win0_8.stage (cfg0.slots t 8)) fullShare X) ∗ (∃ X, ⌜aft m c 9 t (Y 9) X⌝ ∗ owns (c : Thread nD τ) (win0_9.stage (cfg0.slots t 9)) fullShare X))

theorem stepN {A1 A2 : Vec Ideal S8x4096x512 .bf16} {t : ℕ} {K : Vec Ideal S32x128x512 .fp8e4m3} {V : Vec Ideal S32x512x128 .fp8e4m3} {S W B : Vec Ideal S32x1024 .f32}
    (k : Fin 32) (hk : k = iOf t) (h : Inv A1 A2 (bOf t) (iOf t) K V S W B) (Q : Vec Ideal S1024x256 .fp8e4m3) :
    Inv A1 A2 (bOf (t + 1)) (iOf (t + 1)) (setK k (XK A1 (bOf t) (iOf t)) K) (setV k (XK A2 (bOf t) (iOf t)) V) (setS k (XK A1 (bOf t) (iOf t)) (fill k one S))
      (setS k (XK A2 (bOf t) (iOf t)) (fill k one W)) (bmF k maskD (setK k (XK A1 (bOf t) (iOf t)) K) Q (fill k negInf B)) := by
  subst hk; exact ((step h).maxima _ _ _).next

theorem sound_body (c : Dev nD) (t : Fin cfg0.N) (Y : (w : Fin cfg0.W) → (cfg0.win w).block.Idx → Elt Ideal (cfg0.win w).elt)
    (h0 : Y 0 = XQ (A0 m c) (bOf t.val) (iOf t.val)) (h1 : Y 1 = XK (A1 m c) (bOf t.val) (iOf t.val)) (h2 : Y 2 = XK (A2 m c) (bOf t.val) (iOf t.val)) :
    bodyPre m c t Y ⊢ wp frame (wpE (defs₀ (F := Ideal)) Variants.none (c : Thread nD τ) none) Set.univ (bodyAt0 t) (fun _ => bodyPost m c t Y) := by
  unfold bodyPre bodyPost bodyAt0
  rw [show (rdat m c).Φ t.succ = Phi m c (t.val + 1) from rfl,
    show (rdat m c).owesAt () t.succ = (rdat m c).owesAt () t.castSucc from rfl,
    show (rdat m c).Φ t.castSucc = Phi m c t.val from rfl, h0, h1, h2]
  unfold Phi
  iintro ⟨⟨⟨HS0, ⟨%X1, %X2, %X3, %X4, %X5, %hI, HS1, HS2, HS3, HS4, HS5⟩, HS6, HS7, HS8, HS9, HS10, HS11⟩, Hg⟩, HO, HW0, HW1, HW2, HW3, HW4, HW5, HW6, HW7, HW8, HW9⟩
  have hF := step hI
  have e1 : (grid0.coords t 1 : Fin 32) = iOf t.val := co1 t
  iapply (t0 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (XQ (A0 m c) (bOf t.val) (iOf t.val)) (XK (A1 m c) (bOf t.val) (iOf t.val)) (XK (A2 m c) (bOf t.val) (iOf t.val)) (Y 5) (Y 7) (Y 9) X1 X2 X3 X4 X5 _)
  isplitl [HW0]
  · iexact HW0
  isplitl [HW1]
  · iexact HW1
  isplitl [HW2]
  · iexact HW2
  isplitl [HW3]
  · iexists _; iexact HW3
  isplitl [HW4]
  · iexists _; iexact HW4
  isplitl [HW5]
  · iexact HW5
  isplitl [HW6]
  · iexists _; iexact HW6
  isplitl [HW7]
  · iexact HW7
  isplitl [HW8]
  · iexists _; iexact HW8
  isplitl [HW9]
  · iexact HW9
  isplitl [HS0]
  · iexact HS0
  isplitl [HS1]
  · iexact HS1
  isplitl [HS2]
  · iexact HS2
  isplitl [HS3]
  · iexact HS3
  isplitl [HS4]
  · iexact HS4
  isplitl [HS5]
  · iexact HS5
  isplitl [HS6]
  · iexact HS6
  isplitl [HS7]
  · iexact HS7
  isplitl [HS8]
  · iexact HS8
  isplitl [HS9]
  · iexact HS9
  isplitl [HS10]
  · iexact HS10
  isplitl [HS11]
  · iexact HS11
  iintro ⟨HW0, HW1, HW2, HW3, HW4, HW5, HW6, HW7, HW8, HW9, HS0, HS1, HS2, HS3, HS4, HS5, HS6, HS7, HS8, HS9, HS10, HS11⟩
  isplitr [HO HW0 HW1 HW2 HW3 HW4 HW5 HW6 HW7 HW8 HW9]
  · isplitr [Hg]
    · isplitl [HS0]
      · iexists _; iexact HS0
      isplitl [HS1 HS2 HS3 HS4 HS5]
      · iexists _, _, _, _, _
        isplitr; swap
        · isplitl [HS1]
          · iexact HS1
          isplitl [HS2]
          · iexact HS2
          isplitl [HS3]
          · iexact HS3
          isplitl [HS4]
          · iexact HS4
          iexact HS5
        · ipureintro; exact stepN (grid0.coords t 1) e1 hI _
      isplitl [HS6]
      · iexact HS6
      isplitl [HS7]
      · iexact HS7
      isplitl [HS8]
      · iexact HS8
      isplitl [HS9]
      · iexact HS9
      isplitl [HS10]
      · iexact HS10
      iexact HS11
    iexact Hg
  isplitl [HO]
  · iexact HO
  isplitl [HW0]
  · iexists _; isplitr; swap
    · iexact HW0
    · ipureintro; trivial
  isplitl [HW1]
  · iexists _; isplitr; swap
    · iexact HW1
    · ipureintro; trivial
  isplitl [HW2]
  · iexists _; isplitr; swap
    · iexact HW2
    · ipureintro; trivial
  isplitl [HW3]
  · iexists _; isplitr; swap
    · iexact HW3
    · ipureintro; exact ⟨_, _, _, _, _, hF, congrArg (fun k : Fin 32 => val5 (XQ (A0 m c) (bOf t.val) (iOf t.val)) k (setK k (XK (A1 m c) (bOf t.val) (iOf t.val)) X1) (setV k (XK (A2 m c) (bOf t.val) (iOf t.val)) X2) (setS k (XK (A1 m c) (bOf t.val) (iOf t.val)) (fill k one X3)) (setS k (XK (A2 m c) (bOf t.val) (iOf t.val)) (fill k one X4)) (fill k negInf X5)) e1⟩
  isplitl [HW4]
  · iexists _; isplitr; swap
    · iexact HW4
    · ipureintro; exact rfl
  isplitl [HW5]
  · iexists _; isplitr; swap
    · iexact HW5
    · ipureintro; exact congrArg (fun k : Fin 32 => setRowQ k (fun h => scl (amaxQ (XQ (A0 m c) (bOf t.val) (iOf t.val)) h)) (Y 5)) e1
  isplitl [HW6]
  · iexists _; isplitr; swap
    · iexact HW6
    · ipureintro; exact rfl
  isplitl [HW7]
  · iexists _; isplitr; swap
    · iexact HW7
    · ipureintro; exact congrArg (fun k : Fin 32 => setRowK k (fun h => scl (amaxK (XK (A1 m c) (bOf t.val) (iOf t.val)) h)) (Y 7)) e1
  isplitl [HW8]
  · iexists _; isplitr; swap
    · iexact HW8
    · ipureintro; exact rfl
  iexists _; isplitr; swap
  · iexact HW9
  · ipureintro; exact congrArg (fun k : Fin 32 => setRowK k (fun h => scl (amaxK (XK (A2 m c) (bOf t.val) (iOf t.val)) h)) (Y 9)) e1

/-- The body table's row at the point is the body as `bodyAt0` spells it. -/
theorem defs₀_row (t : Fin cfg0.N) : defs₀ (F := Ideal) .tc cfg0.body (cfg0.bodyArgs t (cfg0.slots t)) = bodyAt0 t := by
  unfold defs₀; rw [Defs.onTc_tc]

theorem index0 : ∀ t : Fin grid0.N, win0_0.index t (0 : Fin 3) = t.val / 32 % 8 ∧ win0_0.index t (1 : Fin 3) = t.val % 32 ∧ win0_0.index t (2 : Fin 3) = 0 := by decide +kernel
theorem iblk0_eq (c : Dev nD) (t : Fin cfg0.N) : iblk m c 0 t = XQ (A0 m c) (bOf t.val) (iOf t.val) := by
  obtain ⟨e0, e1, e2⟩ := index0 t
  funext y
  show V m c main_arg0 (((cfg0.win 0).blk t).view.emb y) = A0 m c _
  refine congrArg (V m c main_arg0) (funext fun a => Fin.ext ?_)
  match a with
  | ⟨0, _⟩ => show win0_0.index t (0 : Fin 3) * 1 + 1 * (y 0).val = t.val / 32 % 8; have : (y 0).val < 1 := (y 0).isLt; omega
  | ⟨1, _⟩ => show win0_0.index t (1 : Fin 3) * 128 + 1 * (y 1).val = 128 * (t.val % 32) + (y 1).val; omega
  | ⟨2, _⟩ => show win0_0.index t (2 : Fin 3) * 2048 + 1 * (y 2).val = (y 2).val; omega
theorem index1 : ∀ t : Fin grid0.N, win0_1.index t (0 : Fin 3) = t.val / 32 % 8 ∧ win0_1.index t (1 : Fin 3) = t.val % 32 ∧ win0_1.index t (2 : Fin 3) = 0 := by decide +kernel
theorem iblk1_eq (c : Dev nD) (t : Fin cfg0.N) : iblk m c 1 t = XK (A1 m c) (bOf t.val) (iOf t.val) := by
  obtain ⟨e0, e1, e2⟩ := index1 t
  funext y
  show V m c main_arg1 (((cfg0.win 1).blk t).view.emb y) = A1 m c _
  refine congrArg (V m c main_arg1) (funext fun a => Fin.ext ?_)
  match a with
  | ⟨0, _⟩ => show win0_1.index t (0 : Fin 3) * 1 + 1 * (y 0).val = t.val / 32 % 8; have : (y 0).val < 1 := (y 0).isLt; omega
  | ⟨1, _⟩ => show win0_1.index t (1 : Fin 3) * 128 + 1 * (y 1).val = 128 * (t.val % 32) + (y 1).val; omega
  | ⟨2, _⟩ => show win0_1.index t (2 : Fin 3) * 512 + 1 * (y 2).val = (y 2).val; omega
theorem index2 : ∀ t : Fin grid0.N, win0_2.index t (0 : Fin 3) = t.val / 32 % 8 ∧ win0_2.index t (1 : Fin 3) = t.val % 32 ∧ win0_2.index t (2 : Fin 3) = 0 := by decide +kernel
theorem iblk2_eq (c : Dev nD) (t : Fin cfg0.N) : iblk m c 2 t = XK (A2 m c) (bOf t.val) (iOf t.val) := by
  obtain ⟨e0, e1, e2⟩ := index2 t
  funext y
  show V m c main_arg2 (((cfg0.win 2).blk t).view.emb y) = A2 m c _
  refine congrArg (V m c main_arg2) (funext fun a => Fin.ext ?_)
  match a with
  | ⟨0, _⟩ => show win0_2.index t (0 : Fin 3) * 1 + 1 * (y 0).val = t.val / 32 % 8; have : (y 0).val < 1 := (y 0).isLt; omega
  | ⟨1, _⟩ => show win0_2.index t (1 : Fin 3) * 128 + 1 * (y 1).val = 128 * (t.val % 32) + (y 1).val; omega
  | ⟨2, _⟩ => show win0_2.index t (2 : Fin 3) * 512 + 1 * (y 2).val = (y 2).val; omega

theorem found0 (c : Dev nD) (t : Fin cfg0.N) (Y) (h : (rdat m c).Finds 0 t Y) : Y = XQ (A0 m c) (bOf t.val) (iOf t.val) := by
  obtain ⟨d, rfl⟩ := ((rdat m c).finds_of_fetch (fetch0_0 t) Y).mp h
  exact Eq.trans (by unfold RDat.fetched RDat.blockOf iblk; rfl) (iblk0_eq m c t)
theorem found1 (c : Dev nD) (t : Fin cfg0.N) (Y) (h : (rdat m c).Finds 1 t Y) : Y = XK (A1 m c) (bOf t.val) (iOf t.val) := by
  obtain ⟨d, rfl⟩ := ((rdat m c).finds_of_fetch (fetch0_1 t) Y).mp h
  exact Eq.trans (by unfold RDat.fetched RDat.blockOf iblk; rfl) (iblk1_eq m c t)
theorem found2 (c : Dev nD) (t : Fin cfg0.N) (Y) (h : (rdat m c).Finds 2 t Y) : Y = XK (A2 m c) (bOf t.val) (iOf t.val) := by
  obtain ⟨d, rfl⟩ := ((rdat m c).finds_of_fetch (fetch0_2 t) Y).mp h
  exact Eq.trans (by unfold RDat.fetched RDat.blockOf iblk; rfl) (iblk2_eq m c t)

theorem body_obligation (c : Dev nD) : (rdat m c).BodyObligation (defs₀ (F := Ideal)) Variants.none () Set.univ := fun t Y hY => by
  rw [bigSep_W0, bigSep_W0, defs₀_row]
  exact triple_restated (sound_body m c t Y (found0 m c t _ (hY 0)) (found1 m c t _ (hY 1)) (found2 m c t _ (hY 2))) rfl .rfl fun _ => .rfl

set_option backward.isDefEq.respectTransparency.types false in
/-- From any memory with zero counters every execution of @main ends, with what the points leave in the output arrays. -/
theorem run_main :
    θ_run defs (onTc (τ := τ) (main (F := Ideal))) (s₀ m ρ)
      (fun r => Pipeline.RDat.FramePost (cfgs 0) (rdat m) (V m) r ∧ r.2.sem = fun _ => 0) :=
  Pipeline.RDat.θ_run_frame_track cfgs (0 : Fin 1) launch0 defs₀ Variants.none (rdat m) m ρ main
    (body_obligation m) (fun c w => by unfold RDat.share; split <;> rfl)
    (fun _ _ => rfl) (V m) (hmain m Variants.none) (fun _ _ => rfl)
    (hin m) (fun c => hout m c _) (Q' := fun r => Pipeline.RDat.FramePost (cfgs 0) (rdat m) (V m) r ∧ r.2.sem = fun _ => 0)
    (hQ' := fun _ h => h)

end Cert.KernelIdeal.Val

end
-- ==== Proof.Target.lean ====
module

public import proofs.«01_k».proof.Proof.ValInv
public import Idealize.ShloMosaic.Lib.IdealHost

@[expose] public section

/-! Causal attention on coded queries, keys and values, one query row at a time: what the kernel's output block and the reference's
output array are both shown to hold. -/

set_option maxRecDepth 16384
set_option maxHeartbeats 1000000

noncomputable section

namespace Cert.KernelIdeal.Val

open Cert.KernelIdeal Cert.KernelIdeal.Gen
open Idealize.ShloMosaic

/-- The column of depth `d` of query head `h`. -/
def colQ (h : Fin 8) (d : Fin 256) : Fin 2048 := ⟨256 * h.val + d.val, by omega⟩
/-- The column of depth `d` of key head `g`. -/
def colK (g : Fin 2) (d : Fin 256) : Fin 512 := ⟨256 * g.val + d.val, by omega⟩
/-- The key head of a query head. -/
def kvHead (h : Fin 8) : Fin 2 := ⟨h.val / 4, by omega⟩

section
variable (A0 : Vec Ideal S8x4096x2048 .bf16) (A1 A2 : Vec Ideal S8x4096x512 .bf16) (b : Fin 8) (i : Fin 32) (h : Fin 8)

/-- The product of a query's codes and a key's codes. -/
def dotT (q : Fin 128) (n : Fin 32) (r : Fin 128) : EReal :=
  ∑ d : Fin 256, kcode (XK A1 b n) (ix3 0 r (colK (kvHead h) d)) * qcode (XQ A0 b i) (ix3 0 q (colQ h d))
/-- The factor of the scores of key block `n`. -/
def facT (n : Fin 32) : EReal := (Ideal.ofBits .f32 0x3D800000#32 * scl (amaxQ (XQ A0 b i) h)) * scl (amaxK (XK A1 b n) (kvHead h))
/-- The score of a key, the lowest value for a key after the query. -/
def scoreT (q : Fin 128) (n : Fin 32) (r : Fin 128) : EReal :=
  if 128 * n.val + r.val ≤ 128 * i.val + q.val then dotT A0 A1 b i h q n r * facT A0 A1 b i h n else negInf
/-- The largest score of a query. -/
def maxT (q : Fin 128) : EReal := Finset.univ.fold max negInf fun p : Fin 32 × Fin 128 => scoreT A0 A1 b i h q p.1 p.2
/-- The unnormalised probability of a key. -/
def probT (q : Fin 128) (n : Fin 32) (r : Fin 128) : EReal := Ideal.exp (scoreT A0 A1 b i h q n r - maxT A0 A1 b i h q)
/-- The sum of a query's unnormalised probabilities. -/
def sumT (q : Fin 128) : EReal := ∑ n : Fin 32, ∑ r : Fin 128, probT A0 A1 b i h q n r
/-- The largest unnormalised probability of key block `n` over the queries of the block. -/
def topT (n : Fin 32) : EReal := Finset.univ.fold max negInf fun p : Fin 128 × Fin 128 => probT A0 A1 b i h p.1 n p.2
/-- The weighted sum of the values at depth `e`. -/
def accT (q : Fin 128) (e : Fin 256) : EReal :=
  ∑ n : Fin 32, (∑ r : Fin 128, kcode (XK A2 b n) (ix3 0 r (colK (kvHead h) e)) * clip (probT A0 A1 b i h q n r * inv (topT A0 A1 b i h n)))
    * (scl (topT A0 A1 b i h n) * scl (amaxK (XK A2 b n) (kvHead h)))
/-- The output at depth `e`. -/
def outT (q : Fin 128) (e : Fin 256) : EReal := Ideal.div (accT A0 A1 A2 b i h q e) (sumT A0 A1 b i h q)

/-- The whole output array. -/
def outA : Vec Ideal S8x4096x2048 .bf16 := fun y =>
  outT A0 A1 A2 (y 0) ⟨(y 1).val / 128, by have : (y 1).val < 4096 := (y 1).isLt; omega⟩ ⟨(y 2).val / 256, by have : (y 2).val < 2048 := (y 2).isLt; omega⟩
    ⟨(y 1).val % 128, Nat.mod_lt _ (by norm_num)⟩ ⟨(y 2).val % 256, Nat.mod_lt _ (by norm_num)⟩
/-- The array of the queries' codes. -/
def codesQ : Vec Ideal S8x4096x2048 .fp8e4m3 := fun y =>
  qcode (XQ A0 (y 0) ⟨(y 1).val / 128, by have : (y 1).val < 4096 := (y 1).isLt; omega⟩) (ix3 0 ⟨(y 1).val % 128, Nat.mod_lt _ (by norm_num)⟩ (y 2))
/-- The array of the keys' or the values' codes. -/
def codesK : Vec Ideal S8x4096x512 .fp8e4m3 := fun y =>
  kcode (XK A1 (y 0) ⟨(y 1).val / 128, by have : (y 1).val < 4096 := (y 1).isLt; omega⟩) (ix3 0 ⟨(y 1).val % 128, Nat.mod_lt _ (by norm_num)⟩ (y 2))
/-- The array of the queries' scales. -/
def scalesQ : Vec Ideal S8x32x8 .f32 := fun y => scl (amaxQ (XQ A0 (y 0) (y 1)) (y 2))
/-- The array of the keys' or the values' scales. -/
def scalesK : Vec Ideal S8x32x2 .f32 := fun y => scl (amaxK (XK A1 (y 0) (y 1)) (y 2))

end

theorem headQ_col (h : Fin 8) (d : Fin 256) : headQ (colQ h d) = h := Fin.ext (by simp only [headQ, colQ]; omega)
theorem headK_col (g : Fin 2) (d : Fin 256) : headK (colK g d) = g := Fin.ext (by simp only [headK, colK]; omega)

theorem negInf_eq : negInf = ⊥ := by simp [negInf, Ideal.ofBits, Ideal.ieee]

theorem exp_nonneg (x : EReal) : 0 ≤ Ideal.exp x := by
  induction x using EReal.rec with
  | bot => exact le_refl _
  | top => exact le_top
  | coe r => exact EReal.coe_nonneg.mpr (Real.exp_pos r).le

theorem exp_mono {x y : EReal} (h : x ≤ y) : Ideal.exp x ≤ Ideal.exp y := by
  induction x using EReal.rec with
  | bot => exact exp_nonneg y
  | top => rw [top_le_iff.mp h]
  | coe r =>
    induction y using EReal.rec with
    | bot => exact absurd h (by simp)
    | top => exact le_top
    | coe s => exact EReal.coe_le_coe_iff.mpr (Real.exp_le_exp.mpr (EReal.coe_le_coe_iff.mp h))

theorem probT_abs (A0 : Vec Ideal S8x4096x2048 .bf16) (A1 : Vec Ideal S8x4096x512 .bf16) (b : Fin 8) (i : Fin 32) (h : Fin 8) (q : Fin 128) (n : Fin 32) (r : Fin 128) :
    max (probT A0 A1 b i h q n r) (-probT A0 A1 b i h q n r) = probT A0 A1 b i h q n r :=
  max_eq_left ((EReal.neg_le_neg_iff.mpr (exp_nonneg _)).trans (by rw [neg_zero]; exact exp_nonneg _))

end Cert.KernelIdeal.Val

end
-- ==== Proof.Rows.lean ====
module

public import proofs.«01_k».proof.Proof.Target
public import Idealize.ShloMosaic.Lib.Pointwise

@[expose] public section

/-! The output block of a grid point is causal attention on the block's queries. -/

set_option maxRecDepth 16384
set_option maxHeartbeats 1000000

noncomputable section

namespace Cert.KernelIdeal.Val

open Cert.KernelIdeal Cert.KernelIdeal.Gen
open Idealize.ShloMosaic

/-! ## Scales are positive -/

theorem exp2_pos {x : EReal} (h : x ≠ ⊥) : 0 < Ideal.exp2 x := by
  induction x using EReal.rec with
  | bot => exact absurd rfl h
  | top => exact EReal.coe_lt_top 0
  | coe r => exact EReal.coe_pos.mpr (Real.rpow_pos_of_pos (by norm_num) r)

theorem log_ne_bot {x : EReal} (h : 0 < x) : Ideal.log x ≠ ⊥ := by
  induction x using EReal.rec with
  | bot => exact absurd h (by simp)
  | top => exact top_ne_bot
  | coe r =>
    show (if r ≤ 0 then (⊥ : EReal) else (Real.log r : EReal)) ≠ ⊥
    rw [if_neg (not_le.mpr (EReal.coe_pos.mp h))]
    exact EReal.coe_ne_bot _

theorem floor_ne_bot {x : EReal} (h : x ≠ ⊥) : Ideal.liftRound Int.floor x ≠ ⊥ := by
  induction x using EReal.rec with
  | bot => exact absurd rfl h
  | top => exact top_ne_bot
  | coe r => exact EReal.coe_ne_bot _

theorem mul_ne_bot {x : EReal} {c : ℝ} (h : x ≠ ⊥) (hc : 0 < c) : x * (c : EReal) ≠ ⊥ := by
  induction x using EReal.rec with
  | bot => exact absurd rfl h
  | top => rw [EReal.top_mul_coe_of_pos hc]; exact top_ne_bot
  | coe r => rw [← EReal.coe_mul]; exact EReal.coe_ne_bot _

theorem add_ne_bot {x : EReal} {c : ℝ} (h : x ≠ ⊥) : x + (c : EReal) ≠ ⊥ := by
  induction x using EReal.rec with
  | bot => exact absurd rfl h
  | top => rw [EReal.top_add_coe]; exact top_ne_bot
  | coe r => rw [← EReal.coe_add]; exact EReal.coe_ne_bot _

theorem sub_ne_bot {x : EReal} {c : ℝ} (h : x ≠ ⊥) : x - (c : EReal) ≠ ⊥ := by
  rw [sub_eq_add_neg, ← EReal.coe_neg]; exact add_ne_bot h

theorem select_ne_bot {b : BitVec 1} {x y : EReal} (hx : x ≠ ⊥) (hy : y ≠ ⊥) : Scalar.select b x y ≠ ⊥ := by
  unfold Scalar.select; split <;> assumption

theorem one_real : ∃ c : ℝ, 0 < c ∧ Ideal.ofBits .f32 0x3F800000#32 = (c : EReal) := by
  refine ⟨_, ?_, by simp [Ideal.ofBits, Ideal.ieee]; rfl⟩
  norm_num
theorem log2e_real : ∃ c : ℝ, 0 < c ∧ Ideal.ofBits .f32 0x3FB8AA3B#32 = (c : EReal) := by
  refine ⟨_, ?_, by simp [Ideal.ofBits, Ideal.ieee]; rfl⟩
  norm_num
theorem inv448_real : ∃ c : ℝ, 0 < c ∧ Ideal.ofBits .f32 0x3B124925#32 = (c : EReal) := by
  refine ⟨_, ?_, by simp [Ideal.ofBits, Ideal.ieee]; rfl⟩
  norm_num
theorem sm_real : ∃ c : ℝ, 0 < c ∧ Ideal.ofBits .f32 0x3D800000#32 = (c : EReal) := by
  refine ⟨_, ?_, by simp [Ideal.ofBits, Ideal.ieee]; rfl⟩
  norm_num

theorem expo_ne_bot {a : EReal} (ha : 0 ≤ a) : expo a ≠ ⊥ := by
  obtain ⟨c1, h1, e1⟩ := one_real
  obtain ⟨c2, h2, e2⟩ := log2e_real
  obtain ⟨c3, h3, e3⟩ := inv448_real
  by_cases h0 : a = 0
  · subst h0
    have : expo 0 = Scalar.select (Scalar.cmpf (F := Ideal) (φ := .f32) .oeq (0 : EReal) (Ideal.ofBits .f32 0x00000000#32)) (Ideal.ofBits .f32 0x00000000#32) _ := rfl
    rw [this, Ideal.ofBits_zero_f32]
    have hc : Scalar.cmpf (F := Ideal) (φ := .f32) .oeq (0 : EReal) (0 : EReal) = 1#1 := by
      show Ideal.cmp .oeq (0 : EReal) 0 = 1#1
      simp [Ideal.cmp]
    rw [hc]
    exact EReal.zero_ne_bot
  · have hy : 0 < a * Ideal.ofBits .f32 0x3B124925#32 := by
      rw [e3]; exact EReal.mul_pos (lt_of_le_of_ne ha (Ne.symm h0)) (EReal.coe_pos.mpr h3)
    have hl : Ideal.liftRound Int.floor (Ideal.log (a * Ideal.ofBits .f32 0x3B124925#32) * Ideal.ofBits .f32 0x3FB8AA3B#32) ≠ ⊥ := by
      refine floor_ne_bot ?_
      rw [e2]; exact mul_ne_bot (log_ne_bot hy) h2
    have hz : (Ideal.ofBits .f32 0x00000000#32) ≠ ⊥ := by rw [Ideal.ofBits_zero_f32]; exact EReal.zero_ne_bot
    have h0' : Ideal.liftRound Int.floor (Ideal.log (a * Ideal.ofBits .f32 0x3B124925#32) * Ideal.ofBits .f32 0x3FB8AA3B#32) + Ideal.ofBits .f32 0x3F800000#32 ≠ ⊥ := by
      rw [e1]; exact add_ne_bot hl
    have hadd : ∀ x : EReal, x ≠ ⊥ → x + Ideal.ofBits .f32 0x3F800000#32 ≠ ⊥ := fun x hx => by rw [e1]; exact add_ne_bot hx
    have hsub : ∀ x : EReal, x ≠ ⊥ → x - Ideal.ofBits .f32 0x3F800000#32 ≠ ⊥ := fun x hx => by rw [e1]; exact sub_ne_bot hx
    unfold expo
    exact select_ne_bot hz (select_ne_bot (hsub _ (select_ne_bot (hadd _ h0') h0')) (select_ne_bot (hadd _ h0') h0'))

theorem scl_pos {a : EReal} (ha : 0 ≤ a) : 0 < scl a := exp2_pos (expo_ne_bot ha)

theorem le_fold {ι : Type} [Fintype ι] (f : ι → EReal) (x : ι) : f x ≤ Finset.univ.fold max negInf f :=
  (Finset.le_fold_max (f x)).mpr (.inr ⟨x, Finset.mem_univ _, le_rfl⟩)

theorem abs_nonneg' (x : EReal) : 0 ≤ max x (-x) := by
  rcases le_total 0 x with h | h
  · exact le_max_of_le_left h
  · exact le_max_of_le_right (by rw [← neg_zero]; exact EReal.neg_le_neg_iff.mpr h)

theorem fold2_nonneg {n : ℕ} (f : Fin n → Fin 128 → EReal) (d : Fin n) :
    0 ≤ Finset.univ.fold max negInf fun x : Fin n => Finset.univ.fold max negInf fun q : Fin 128 => max (f x q) (-f x q) :=
  (abs_nonneg' (f d 0)).trans ((le_fold (fun q : Fin 128 => max (f d q) (-f d q)) 0).trans (le_fold (fun x : Fin n => Finset.univ.fold max negInf fun q : Fin 128 => max (f x q) (-f x q)) d))

theorem amaxQ_nonneg (X : Vec Ideal S1x128x2048 .bf16) (h : Fin 8) : 0 ≤ amaxQ X h := by
  unfold amaxQ
  exact fold2_nonneg _ 0
theorem amaxK_nonneg (X : Vec Ideal S1x128x512 .bf16) (h : Fin 2) : 0 ≤ amaxK X h := by
  unfold amaxK
  exact fold2_nonneg _ 0

/-! ## Largest values -/

/-- A monotone map that keeps the lowest value goes through a largest value. -/
theorem fold_map {ι : Type} [Fintype ι] (f : ι → EReal) (g : EReal → EReal) (hg : Monotone g) (h : g negInf = negInf) :
    g (Finset.univ.fold max negInf f) = Finset.univ.fold max negInf fun x => g (f x) := by
  have := Finset.fold_hom (op := max) (op' := max) (s := (Finset.univ : Finset ι)) (f := f) (b := negInf) (m := g) (fun x y => hg.map_max)
  rw [← this, h]

/-- A monotone map goes through a largest value of a nonempty family. -/
theorem fold_map' {ι : Type} [Fintype ι] [Nonempty ι] (f : ι → EReal) (g : EReal → EReal) (hg : Monotone g) :
    g (Finset.univ.fold max negInf f) = Finset.univ.fold max negInf fun x => g (f x) := by
  have := Finset.fold_hom (op := max) (op' := max) (s := (Finset.univ : Finset ι)) (f := f) (b := negInf) (m := g) (fun x y => hg.map_max)
  rw [← this]
  refine eq_of_forall_ge_iff fun c => ?_
  rw [Finset.fold_max_le, Finset.fold_max_le]
  refine and_congr_left fun hx => ⟨fun _ => by rw [negInf_eq]; exact bot_le, fun _ => ?_⟩
  obtain ⟨x⟩ := ‹Nonempty ι›
  exact (hg (by rw [negInf_eq]; exact bot_le)).trans (hx x (Finset.mem_univ _))

theorem fold_fold {ι κ : Type} [Fintype ι] [Fintype κ] (f : ι → κ → EReal) :
    (Finset.univ.fold max negInf fun x => Finset.univ.fold max negInf (f x)) = Finset.univ.fold max negInf fun p : ι × κ => f p.1 p.2 := by
  refine eq_of_forall_ge_iff fun c => ?_
  simp only [Finset.fold_max_le, Finset.mem_univ, true_implies]
  exact ⟨fun ⟨h0, h⟩ => ⟨h0, fun p => (h p.1).2 p.2⟩, fun ⟨h0, h⟩ => ⟨h0, fun x => ⟨h0, fun y => h (x, y)⟩⟩⟩

theorem fold_bot {ι : Type} [Fintype ι] (f : ι → EReal) (h : ∀ x, f x = negInf) : Finset.univ.fold max negInf f = negInf := by
  refine eq_of_forall_ge_iff fun c => ?_
  rw [Finset.fold_max_le]
  exact ⟨fun h => h.1, fun h0 => ⟨h0, fun x _ => by rw [h x]; exact h0⟩⟩

theorem mul_mono {c : EReal} (h : 0 ≤ c) : Monotone fun x : EReal => x * c := fun _ _ hx => mul_le_mul_of_nonneg_right hx h
theorem negInf_mul {c : EReal} (h : 0 < c) : negInf * c = negInf := by rw [negInf_eq]; exact EReal.bot_mul_of_pos h
theorem exp_sub_mono (m : EReal) : Monotone fun x : EReal => Ideal.exp (x - m) := fun _ _ hx => exp_mono (EReal.sub_le_sub hx le_rfl)
theorem exp_bot (m : EReal) : Ideal.exp (negInf - m) = 0 := by
  rw [negInf_eq, sub_eq_add_neg, EReal.bot_add]; rfl

/-! ## Lanes -/

theorem kvOf_qlane (h : Fin 8) (q : Fin 128) : kvOf (qlane h q) = kvHead h := Fin.ext (by simp only [kvOf, qlane, kvHead]; omega)
theorem headOf_qlane (h : Fin 8) (q : Fin 128) : headOf (qlane h q) = h := Fin.ext (by simp only [headOf, qlane]; omega)
theorem lane_qlane (h : Fin 8) (q : Fin 128) (d : Fin 256) : lane (qlane h q) d = colK (kvHead h) d := Fin.ext (by simp only [lane, qlane, colK, kvHead]; omega)

theorem sle_ofNat (x y : ℕ) (hx : x < 2 ^ 31) (hy : y < 2 ^ 31) : IntOp.cmpi .sle (BitVec.ofNat 32 x) (BitVec.ofNat 32 y) = if x ≤ y then 1#1 else 0#1 := by
  have e : ∀ z : ℕ, z < 2 ^ 31 → (BitVec.ofNat 32 z).toInt = z := fun z hz => by rw [BitVec.toInt_ofNat', Int.bmod_def]; omega
  show BitVec.ofBool ((BitVec.ofNat 32 x).sle (BitVec.ofNat 32 y)) = _
  by_cases h : x ≤ y
  · rw [if_pos h, show (BitVec.ofNat 32 x).sle (BitVec.ofNat 32 y) = true from BitVec.sle_iff_toInt_le.mpr (by rw [e x hx, e y hy]; omega)]; rfl
  · rw [if_neg h, show (BitVec.ofNat 32 x).sle (BitVec.ofNat 32 y) = false from by rw [← Bool.not_eq_true]; exact fun hh => h (by have := BitVec.sle_iff_toInt_le.mp hh; rw [e x hx, e y hy] at this; omega)]; rfl

theorem and_127 (j : ℕ) : BitVec.ofNat 32 j &&& 127#32 = BitVec.ofNat 32 (j % 128) := by
  apply BitVec.eq_of_toNat_eq
  rw [BitVec.toNat_and, BitVec.toNat_ofNat, BitVec.toNat_ofNat, BitVec.toNat_ofNat, show 127 % 2 ^ 32 = 2 ^ 7 - 1 by norm_num, Nat.and_two_pow_sub_one_eq_mod]
  omega

theorem mask_at (r : Fin 128) (j : Fin 512) : maskD (ix2 r j) = if r.val ≤ j.val % 128 then 1#1 else 0#1 := by
  rw [← sle_ofNat r.val (j.val % 128) (by omega) (by omega), ← and_127]
  pointwise [maskD, k0_pay67, k0_pay66]
  rfl

/-! ## Clipping and sums -/

theorem clip_zero : clip 0 = 0 := by
  have h1 : (0 : EReal) ≤ Ideal.ofBits .f32 0x43E00000#32 := by simp [Ideal.ofBits, Ideal.ieee]; exact_mod_cast (by norm_num)
  have h2 : Ideal.ofBits .f32 0xC3E00000#32 ≤ (0 : EReal) := by simp [Ideal.ofBits, Ideal.ieee]; exact_mod_cast (by norm_num)
  show min _ (max _ _) = _
  rw [max_eq_right h2, min_eq_right h1]

/-- A sum over the blocks whose later terms vanish, as the kernel takes it. -/
theorem sum_split (f : Fin 32 → EReal) (i : Fin 32) (h0 : ∀ n : Fin 32, i.val < n.val → f n = 0) :
    (∑ n ∈ Finset.univ.filter (fun n : Fin 32 => n.val < i.val), f n) + f i = ∑ n : Fin 32, f n := by
  rw [add_comm, ← Finset.sum_insert (s := Finset.univ.filter (fun n : Fin 32 => n.val < i.val)) (a := i) (f := f) (by simp)]
  refine Finset.sum_subset (Finset.subset_univ _) fun n _ hn => h0 n ?_
  simp only [Finset.mem_insert, Finset.mem_filter, Finset.mem_univ, true_and, not_or] at hn
  have : n.val ≠ i.val := fun e => hn.1 (Fin.ext e)
  omega

/-! ## One row of the output -/

section
variable {A1 A2 : Vec Ideal S8x4096x512 .bf16} {b : Fin 8} {i : Fin 32} {K : Vec Ideal S32x128x512 .fp8e4m3} {V : Vec Ideal S32x512x128 .fp8e4m3}
  {S W B : Vec Ideal S32x1024 .f32} (A0 : Vec Ideal S8x4096x2048 .bf16) (hF : Full A1 A2 b i K V S W B) (h : Fin 8) (q : Fin 128)
include hF

theorem dot_eq (n : Fin 32) (r : Fin 128) (hn : n.val ≤ i.val) : dotK K (qlanes (XQ A0 b i)) n r (qlane h q) = dotT A0 A1 b i h q n r := by
  unfold dotK dotT
  refine Finset.sum_congr rfl fun d _ => ?_
  rw [hF.k n hn r, lane_qlane]
  refine congrArg (fun x : EReal => kcode (XK A1 b n) (ix3 0 r (colK (kvHead h) d)) * x) ?_
  show qcode (XQ A0 b i) (ix3 0 _ _) = qcode (XQ A0 b i) (ix3 0 q (colQ h d))
  refine congrArg (qcode (XQ A0 b i)) (congrArg₂ (ix3 0) (Fin.ext ?_) (Fin.ext ?_))
  · show (128 * h.val + q.val) % 128 = q.val; omega
  · show 256 * ((128 * h.val + q.val) / 128) + d.val = 256 * h.val + d.val; omega

omit hF in
theorem qscale_eq (n : Fin 32) : cF (qscale (XQ A0 b i)) S (ix2 n (qlane h q)) = (Ideal.ofBits .f32 0x3D800000#32 * scl (amaxQ (XQ A0 b i) h)) * S (ix2 n (qlane h q)) := by
  show (Ideal.ofBits .f32 0x3D800000#32 * scl (amaxQ (XQ A0 b i) (headQ ⟨256 * ((128 * h.val + q.val) / 128) + (128 * h.val + q.val) % 128, _⟩))) * S (ix2 n (qlane h q)) = _
  refine congrArg (fun k => (Ideal.ofBits .f32 0x3D800000#32 * scl (amaxQ (XQ A0 b i) k)) * S (ix2 n (qlane h q))) (Fin.ext ?_)
  simp only [headQ]; omega

theorem fac_eq (n : Fin 32) (hn : n.val ≤ i.val) : cF (qscale (XQ A0 b i)) S (ix2 n (qlane h q)) = facT A0 A1 b i h n := by
  rw [qscale_eq, hF.ks n hn, kvOf_qlane]; rfl

theorem fac_pos (n : Fin 32) : 0 < cF (qscale (XQ A0 b i)) S (ix2 n (qlane h q)) := by
  rw [qscale_eq]
  obtain ⟨c, hc, e⟩ := sm_real
  refine EReal.mul_pos (EReal.mul_pos (by rw [e]; exact EReal.coe_pos.mpr hc) (scl_pos (amaxQ_nonneg _ _))) ?_
  by_cases hn : n.val ≤ i.val
  · rw [hF.ks n hn]; exact scl_pos (amaxK_nonneg _ _)
  · obtain ⟨c, hc, e⟩ := one_real
    rw [hF.one n (by omega), one, e]; exact EReal.coe_pos.mpr hc

omit hF in
theorem mask_lane (r : Fin 128) : maskD (ix2 r ⟨(qlane h q).val % 512, Nat.mod_lt _ (by norm_num)⟩) = if r.val ≤ q.val then 1#1 else 0#1 := by
  rw [mask_at]
  have : (128 * h.val + q.val) % 512 % 128 = q.val := by omega
  simp only [qlane, this]

omit hF in
theorem score_own (r : Fin 128) : scoreT A0 A1 b i h q i r = if r.val ≤ q.val then dotT A0 A1 b i h q i r * facT A0 A1 b i h i else negInf := by
  unfold scoreT
  by_cases hr : r.val ≤ q.val
  · rw [if_pos hr, if_pos (by omega)]
  · rw [if_neg hr, if_neg (by omega)]

omit hF in
theorem score_late (n : Fin 32) (r : Fin 128) (hn : i.val < n.val) : scoreT A0 A1 b i h q n r = negInf := if_neg (by omega)
omit hF in
theorem score_early (n : Fin 32) (r : Fin 128) (hn : n.val < i.val) : scoreT A0 A1 b i h q n r = dotT A0 A1 b i h q n r * facT A0 A1 b i h n := if_pos (by omega)

/-- A block's largest product times its factor is its largest score. -/
theorem block_max (n : Fin 32) :
    bmF i maskD K (qlanes (XQ A0 b i)) B (ix2 n (qlane h q)) * cF (qscale (XQ A0 b i)) S (ix2 n (qlane h q)) = Finset.univ.fold max negInf fun r : Fin 128 => scoreT A0 A1 b i h q n r := by
  have hp := fac_pos A0 hF h q n
  rcases lt_trichotomy n.val i.val with hn | hn | hn
  · rw [show bmF i maskD K (qlanes (XQ A0 b i)) B (ix2 n (qlane h q)) = blockMax K (qlanes (XQ A0 b i)) n (qlane h q) from if_pos hn]
    unfold blockMax
    refine (fold_map _ _ (mul_mono hp.le) (negInf_mul hp)).trans (congrArg (Finset.univ.fold max negInf) (funext fun r => ?_))
    show dotK K _ n r (qlane h q) * _ = _
    rw [dot_eq A0 hF h q n r hn.le, fac_eq A0 hF h q n hn.le, score_early A0 h q n r hn]
  · obtain rfl : n = i := Fin.ext hn
    rw [show bmF n maskD K (qlanes (XQ A0 b n)) B (ix2 n (qlane h q)) = blockMaxD maskD K (qlanes (XQ A0 b n)) n (qlane h q) from (if_neg (by simp only [ix2]; exact lt_irrefl n.val)).trans (if_pos rfl)]
    unfold blockMaxD
    refine (fold_map _ _ (mul_mono hp.le) (negInf_mul hp)).trans (congrArg (Finset.univ.fold max negInf) (funext fun r => ?_))
    show Scalar.select (maskD _) (dotK K _ n r (qlane h q)) negInf * _ = _
    rw [mask_lane, dot_eq A0 hF h q n r le_rfl, score_own]
    by_cases hr : r.val ≤ q.val
    · rw [if_pos hr, if_pos hr, fac_eq A0 hF h q n le_rfl]; rfl
    · rw [if_neg hr, if_neg hr]; exact negInf_mul hp
  · rw [show bmF i maskD K (qlanes (XQ A0 b i)) B (ix2 n (qlane h q)) = negInf from (if_neg (by simp only [ix2]; exact (by omega : ¬ n.val < i.val))).trans ((if_neg (by simp only [ix2]; exact (by omega : ¬ n.val = i.val))).trans (hF.bm n hn _))]
    rw [negInf_mul hp, fold_bot _ fun r => score_late A0 h q n r hn]

theorem max_eq : mF (bmF i maskD K (qlanes (XQ A0 b i)) B) (cF (qscale (XQ A0 b i)) S) (ix2 0 (qlane h q)) = maxT A0 A1 b i h q := by
  show (Finset.univ.fold max negInf fun n : Fin 32 => bmF i maskD K (qlanes (XQ A0 b i)) B (ix2 n (qlane h q)) * cF (qscale (XQ A0 b i)) S (ix2 n (qlane h q))) = _
  rw [funext fun n => block_max A0 hF h q n]
  exact fold_fold _

theorem top_eq (n : Fin 32) : aF (bmF i maskD K (qlanes (XQ A0 b i)) B) (cF (qscale (XQ A0 b i)) S) n h = topT A0 A1 b i h n := by
  unfold aF topT
  refine Eq.trans ?_ (fold_fold fun q r => probT A0 A1 b i h q n r)
  refine congrArg (Finset.univ.fold max negInf) (funext fun q => ?_)
  rw [block_max A0 hF, max_eq A0 hF]
  exact fold_map' _ _ (exp_sub_mono _)

theorem prob_eq (n : Fin 32) (r : Fin 128) (hn : n.val < i.val) :
    prob K (qlanes (XQ A0 b i)) (cF (qscale (XQ A0 b i)) S) (mF (bmF i maskD K (qlanes (XQ A0 b i)) B) (cF (qscale (XQ A0 b i)) S)) n r (qlane h q) = probT A0 A1 b i h q n r := by
  unfold prob probT
  rw [max_eq A0 hF, dot_eq A0 hF h q n r hn.le, fac_eq A0 hF h q n hn.le, score_early A0 h q n r hn]

theorem probD_eq (r : Fin 128) :
    probD maskD K (qlanes (XQ A0 b i)) (cF (qscale (XQ A0 b i)) S) (mF (bmF i maskD K (qlanes (XQ A0 b i)) B) (cF (qscale (XQ A0 b i)) S)) i r (qlane h q) = probT A0 A1 b i h q i r := by
  unfold probD probT
  rw [max_eq A0 hF, dot_eq A0 hF h q i r le_rfl, fac_eq A0 hF h q i le_rfl, score_own, mask_lane]
  by_cases hr : r.val ≤ q.val
  · rw [if_pos hr, if_pos hr]; rfl
  · rw [if_neg hr, if_neg hr]; rfl

omit hF in
theorem prob_late (n : Fin 32) (r : Fin 128) (hn : i.val < n.val) : probT A0 A1 b i h q n r = 0 := by
  unfold probT; rw [score_late A0 h q n r hn, exp_bot]

theorem ell_eq : ell i maskD K (qlanes (XQ A0 b i)) (cF (qscale (XQ A0 b i)) S) (mF (bmF i maskD K (qlanes (XQ A0 b i)) B) (cF (qscale (XQ A0 b i)) S)) (qlane h q) = sumT A0 A1 b i h q := by
  unfold ell sumT
  rw [← sum_split (fun n => ∑ r : Fin 128, probT A0 A1 b i h q n r) i fun n hn => Finset.sum_eq_zero fun r _ => prob_late A0 h q n r hn]
  refine congrArg₂ (fun x y : EReal => x + y) (Finset.sum_congr rfl fun n hn => Finset.sum_congr rfl fun r _ => ?_) (Finset.sum_congr rfl fun r _ => probD_eq A0 hF h q r)
  exact prob_eq A0 hF h q n r (Finset.mem_filter.mp hn).2

theorem term_eq (p : Fin 128 → EReal) (n : Fin 32) (hn : n.val ≤ i.val) (hp : ∀ r, p r = probT A0 A1 b i h q n r) (e : Fin 256) :
    outTerm V (invF (aF (bmF i maskD K (qlanes (XQ A0 b i)) B) (cF (qscale (XQ A0 b i)) S))) (fun y => sclF (aF (bmF i maskD K (qlanes (XQ A0 b i)) B) (cF (qscale (XQ A0 b i)) S)) y * W y) p n e (qlane h q)
      = (∑ r : Fin 128, kcode (XK A2 b n) (ix3 0 r (colK (kvHead h) e)) * clip (probT A0 A1 b i h q n r * inv (topT A0 A1 b i h n))) * (scl (topT A0 A1 b i h n) * scl (amaxK (XK A2 b n) (kvHead h))) := by
  have ht : aF (bmF i maskD K (qlanes (XQ A0 b i)) B) (cF (qscale (XQ A0 b i)) S) n (headOf (qlane h q)) = topT A0 A1 b i h n := by
    rw [headOf_qlane]; exact top_eq A0 hF h n
  unfold outTerm
  show (∑ r : Fin 128, V (ix3 n (lane (qlane h q) e) r) * clip (p r * inv (aF (bmF i maskD K (qlanes (XQ A0 b i)) B) (cF (qscale (XQ A0 b i)) S) n (headOf (qlane h q)))))
    * (scl (aF (bmF i maskD K (qlanes (XQ A0 b i)) B) (cF (qscale (XQ A0 b i)) S) n (headOf (qlane h q))) * W (ix2 n (qlane h q))) = _
  rw [ht, hF.vs n hn, kvOf_qlane]
  refine congrArg (fun x : EReal => x * _) (Finset.sum_congr rfl fun r _ => ?_)
  rw [hF.v n hn, lane_qlane, hp]

theorem acc_eq (e : Fin 256) :
    acc i maskD K (qlanes (XQ A0 b i)) V (cF (qscale (XQ A0 b i)) S) (mF (bmF i maskD K (qlanes (XQ A0 b i)) B) (cF (qscale (XQ A0 b i)) S))
      (invF (aF (bmF i maskD K (qlanes (XQ A0 b i)) B) (cF (qscale (XQ A0 b i)) S))) (fun y => sclF (aF (bmF i maskD K (qlanes (XQ A0 b i)) B) (cF (qscale (XQ A0 b i)) S)) y * W y) e (qlane h q)
      = accT A0 A1 A2 b i h q e := by
  unfold acc accT
  rw [← sum_split (fun n => (∑ r : Fin 128, kcode (XK A2 b n) (ix3 0 r (colK (kvHead h) e)) * clip (probT A0 A1 b i h q n r * inv (topT A0 A1 b i h n)))
    * (scl (topT A0 A1 b i h n) * scl (amaxK (XK A2 b n) (kvHead h)))) i fun n hn => ?_]
  · refine congrArg₂ (fun x y : EReal => x + y) (Finset.sum_congr rfl fun n hn => ?_) (term_eq A0 hF h q _ i le_rfl (fun r => probD_eq A0 hF h q r) e)
    have hn := (Finset.mem_filter.mp hn).2
    exact term_eq A0 hF h q _ n hn.le (fun r => prob_eq A0 hF h q n r hn) e
  · rw [Finset.sum_eq_zero fun r _ => by rw [prob_late A0 h q n r hn, zero_mul, clip_zero, mul_zero], zero_mul]

end

/-- The output block of a grid point, from tables that hold the batch's earlier blocks: causal attention on the block's queries. -/
theorem val5_eq {A1 A2 : Vec Ideal S8x4096x512 .bf16} {b : Fin 8} {i : Fin 32} {K : Vec Ideal S32x128x512 .fp8e4m3} {V : Vec Ideal S32x512x128 .fp8e4m3}
    {S W B : Vec Ideal S32x1024 .f32} (A0 : Vec Ideal S8x4096x2048 .bf16) (hF : Full A1 A2 b i K V S W B) :
    val5 (XQ A0 b i) i K V S W B = fun y => outT A0 A1 A2 b i ⟨(y 2).val / 256, by have : (y 2).val < 2048 := (y 2).isLt; omega⟩ (y 1) ⟨(y 2).val % 256, Nat.mod_lt _ (by norm_num)⟩ := by
  funext y
  exact congrArg₂ Ideal.div (acc_eq A0 hF _ (y 1) _) (ell_eq A0 hF _ (y 1))

/-! ## Blocks of the arrays -/

section
variable (A0 : Vec Ideal S8x4096x2048 .bf16) (A1 A2 : Vec Ideal S8x4096x512 .bf16) (b : Fin 8) (i : Fin 32)

theorem out_at (y : S1x128x2048.Idx) :
    outA A0 A1 A2 (ix3 b ⟨128 * i.val + (y 1).val, by have : (y 1).val < 128 := (y 1).isLt; omega⟩ (y 2))
      = outT A0 A1 A2 b i ⟨(y 2).val / 256, by have : (y 2).val < 2048 := (y 2).isLt; omega⟩ (y 1) ⟨(y 2).val % 256, Nat.mod_lt _ (by norm_num)⟩ := by
  have hy : (y 1).val < 128 := (y 1).isLt
  unfold outA
  exact congrArg₂ (fun k q => outT A0 A1 A2 b k _ q _) (Fin.ext (by show (128 * i.val + (y 1).val) / 128 = i.val; omega)) (Fin.ext (by show (128 * i.val + (y 1).val) % 128 = (y 1).val; omega))

theorem codesQ_at (y : S1x128x2048.Idx) :
    codesQ A0 (ix3 b ⟨128 * i.val + (y 1).val, by have : (y 1).val < 128 := (y 1).isLt; omega⟩ (y 2)) = qcode (XQ A0 b i) y := by
  have hy : (y 1).val < 128 := (y 1).isLt
  unfold codesQ
  refine (congrArg₂ (fun k q => qcode (XQ A0 b k) (ix3 0 q (y 2))) (Fin.ext (by show (128 * i.val + (y 1).val) / 128 = i.val; omega)) (Fin.ext (by show (128 * i.val + (y 1).val) % 128 = (y 1).val; omega) : _ = (y 1 : Fin 128))).trans ?_
  exact congrArg (qcode (XQ A0 b i)) (eta3 y).symm

theorem scalesQ_at (n : Fin 32) (h : Fin 8) : scalesQ A0 (ix3 b n h) = scl (amaxQ (XQ A0 b n) h) := rfl
theorem scalesK_at (n : Fin 32) (h : Fin 2) : scalesK A1 (ix3 b n h) = scl (amaxK (XK A1 b n) h) := rfl

theorem codesK_at (y : S1x128x512.Idx) :
    codesK A1 (ix3 b ⟨128 * i.val + (y 1).val, by have : (y 1).val < 128 := (y 1).isLt; omega⟩ (y 2)) = kcode (XK A1 b i) y := by
  have hy : (y 1).val < 128 := (y 1).isLt
  unfold codesK
  refine (congrArg₂ (fun k q => kcode (XK A1 b k) (ix3 0 q (y 2))) (Fin.ext (by show (128 * i.val + (y 1).val) / 128 = i.val; omega)) (Fin.ext (by show (128 * i.val + (y 1).val) % 128 = (y 1).val; omega) : _ = (y 1 : Fin 128))).trans ?_
  exact congrArg (kcode (XK A1 b i)) (eta3 y).symm

end

end Cert.KernelIdeal.Val

end
-- ==== Proof.Arrays.lean ====
module

public import proofs.«01_k».proof.Proof.ValRun
public import proofs.«01_k».proof.Proof.Rows

@[expose] public section

/-! The result arrays of the kernel after its run. -/

set_option maxRecDepth 16384
set_option maxHeartbeats 4000000

noncomputable section

namespace Cert.KernelIdeal.Val

open Cert.KernelIdeal Cert.KernelIdeal.Gen
open Idealize.ShloMosaic Idealize.ShloMosaic.TcCoe Idealize.SL.Sem
open Idealize.ShloMosaic.Pipeline (Dat RDat)

variable (m : (ℓ : Loc nD τ sig) → Buf (Elt Ideal) ℓ) (ρ : Dev nD → PrngReg)

theorem index3 : ∀ t : Fin grid0.N, win0_3.index t (0 : Fin 3) = t.val / 32 % 8 ∧ win0_3.index t (1 : Fin 3) = t.val % 32 ∧ win0_3.index t (2 : Fin 3) = 0 := by decide +kernel
/-- Where block `t` of window 3 lies in its array. -/
theorem emb3 (t : Fin cfg0.N) (y : S1x128x2048.Idx) :
    (((cfg0.win 3).blk t).view.emb y : S8x4096x2048.Idx) = ix3 (bOf t.val) ⟨128 * (iOf t.val).val + (y 1).val, by have : (y 1).val < 128 := (y 1).isLt; omega⟩ (y 2) := by
  obtain ⟨e0, e1, e2⟩ := index3 t
  refine funext fun a => Fin.ext ?_
  match a with
  | ⟨0, _⟩ => show win0_3.index t (0 : Fin 3) * 1 + 1 * (y 0).val = t.val / 32 % 8; have : (y 0).val < 1 := (y 0).isLt; omega
  | ⟨1, _⟩ => show win0_3.index t (1 : Fin 3) * 128 + 1 * (y 1).val = 128 * (t.val % 32) + (y 1).val; omega
  | ⟨2, _⟩ => show win0_3.index t (2 : Fin 3) * 2048 + 1 * (y 2).val = (y 2).val; omega

theorem index4 : ∀ t : Fin grid0.N, win0_4.index t (0 : Fin 3) = t.val / 32 % 8 ∧ win0_4.index t (1 : Fin 3) = t.val % 32 ∧ win0_4.index t (2 : Fin 3) = 0 := by decide +kernel
/-- Where block `t` of window 4 lies in its array. -/
theorem emb4 (t : Fin cfg0.N) (y : S1x128x2048.Idx) :
    (((cfg0.win 4).blk t).view.emb y : S8x4096x2048.Idx) = ix3 (bOf t.val) ⟨128 * (iOf t.val).val + (y 1).val, by have : (y 1).val < 128 := (y 1).isLt; omega⟩ (y 2) := by
  obtain ⟨e0, e1, e2⟩ := index4 t
  refine funext fun a => Fin.ext ?_
  match a with
  | ⟨0, _⟩ => show win0_4.index t (0 : Fin 3) * 1 + 1 * (y 0).val = t.val / 32 % 8; have : (y 0).val < 1 := (y 0).isLt; omega
  | ⟨1, _⟩ => show win0_4.index t (1 : Fin 3) * 128 + 1 * (y 1).val = 128 * (t.val % 32) + (y 1).val; omega
  | ⟨2, _⟩ => show win0_4.index t (2 : Fin 3) * 2048 + 1 * (y 2).val = (y 2).val; omega

theorem index6 : ∀ t : Fin grid0.N, win0_6.index t (0 : Fin 3) = t.val / 32 % 8 ∧ win0_6.index t (1 : Fin 3) = t.val % 32 ∧ win0_6.index t (2 : Fin 3) = 0 := by decide +kernel
/-- Where block `t` of window 6 lies in its array. -/
theorem emb6 (t : Fin cfg0.N) (y : S1x128x512.Idx) :
    (((cfg0.win 6).blk t).view.emb y : S8x4096x512.Idx) = ix3 (bOf t.val) ⟨128 * (iOf t.val).val + (y 1).val, by have : (y 1).val < 128 := (y 1).isLt; omega⟩ (y 2) := by
  obtain ⟨e0, e1, e2⟩ := index6 t
  refine funext fun a => Fin.ext ?_
  match a with
  | ⟨0, _⟩ => show win0_6.index t (0 : Fin 3) * 1 + 1 * (y 0).val = t.val / 32 % 8; have : (y 0).val < 1 := (y 0).isLt; omega
  | ⟨1, _⟩ => show win0_6.index t (1 : Fin 3) * 128 + 1 * (y 1).val = 128 * (t.val % 32) + (y 1).val; omega
  | ⟨2, _⟩ => show win0_6.index t (2 : Fin 3) * 512 + 1 * (y 2).val = (y 2).val; omega

theorem index8 : ∀ t : Fin grid0.N, win0_8.index t (0 : Fin 3) = t.val / 32 % 8 ∧ win0_8.index t (1 : Fin 3) = t.val % 32 ∧ win0_8.index t (2 : Fin 3) = 0 := by decide +kernel
/-- Where block `t` of window 8 lies in its array. -/
theorem emb8 (t : Fin cfg0.N) (y : S1x128x512.Idx) :
    (((cfg0.win 8).blk t).view.emb y : S8x4096x512.Idx) = ix3 (bOf t.val) ⟨128 * (iOf t.val).val + (y 1).val, by have : (y 1).val < 128 := (y 1).isLt; omega⟩ (y 2) := by
  obtain ⟨e0, e1, e2⟩ := index8 t
  refine funext fun a => Fin.ext ?_
  match a with
  | ⟨0, _⟩ => show win0_8.index t (0 : Fin 3) * 1 + 1 * (y 0).val = t.val / 32 % 8; have : (y 0).val < 1 := (y 0).isLt; omega
  | ⟨1, _⟩ => show win0_8.index t (1 : Fin 3) * 128 + 1 * (y 1).val = 128 * (t.val % 32) + (y 1).val; omega
  | ⟨2, _⟩ => show win0_8.index t (2 : Fin 3) * 512 + 1 * (y 2).val = (y 2).val; omega

theorem index5 : ∀ t : Fin grid0.N, win0_5.index t (0 : Fin 3) = t.val / 32 % 8 ∧ win0_5.index t (1 : Fin 3) = 0 ∧ win0_5.index t (2 : Fin 3) = 0 := by decide +kernel
/-- Where block `t` of window 5 lies in its array. -/
theorem emb5 (t : Fin cfg0.N) (y : S1x32x8.Idx) : (((cfg0.win 5).blk t).view.emb y : S8x32x8.Idx) = ix3 (bOf t.val) (y 1) (y 2) := by
  obtain ⟨e0, e1, e2⟩ := index5 t
  refine funext fun a => Fin.ext ?_
  match a with
  | ⟨0, _⟩ => show win0_5.index t (0 : Fin 3) * 1 + 1 * (y 0).val = t.val / 32 % 8; have : (y 0).val < 1 := (y 0).isLt; omega
  | ⟨1, _⟩ => show win0_5.index t (1 : Fin 3) * 32 + 1 * (y 1).val = (y 1).val; omega
  | ⟨2, _⟩ => show win0_5.index t (2 : Fin 3) * 8 + 1 * (y 2).val = (y 2).val; omega

theorem fetchless5 : ∀ t : Fin cfg0.N, (cfg0.win 5).fetch t = false := fun _ => rfl

/-- The rows of the scales that the points of a batch have written so far. -/
theorem rows5 (c : Dev nD) : ∀ (t : ℕ) (ht : t < cfg0.N) (X : S1x32x8.Idx → EReal), (rdat m c).Leaves 5 ⟨t, ht⟩ X →
    ∀ n : Fin 32, n.val ≤ t % 32 → ∀ h : Fin 8, X (ix3 0 n h) = scl (amaxQ (XQ (A0 m c) (bOf t) n) h) := by
  intro t
  induction t with
  | zero =>
    rintro ht X ⟨Y, hF, hA⟩ n hn h
    have hA : X = setRowQ (iOf 0) (fun h => scl (amaxQ (XQ (A0 m c) (bOf 0) (iOf 0)) h)) Y := hA
    obtain rfl : n = iOf 0 := Fin.ext (by simp only [iOf]; omega)
    exact (congrFun hA _).trans (if_pos rfl)
  | succ s ih =>
    rintro ht X ⟨Y, hF, hA⟩ n hn h
    have hA : X = setRowQ (iOf (s + 1)) (fun h => scl (amaxQ (XQ (A0 m c) (bOf (s + 1)) (iOf (s + 1))) h)) Y := hA
    refine (congrFun hA _).trans ?_
    by_cases e : n.val = (iOf (s + 1)).val
    · obtain rfl : n = iOf (s + 1) := Fin.ext e
      exact if_pos rfl
    · refine (if_neg e).trans ?_
      simp only [iOf] at e
      rcases ((rdat m c).finds_of_pos (fetchless5 _) (Nat.succ_ne_zero s) Y).mp hF with h1 | h1
      · have := (flush0_5 _).mp h1
        simp only [Nat.add_sub_cancel] at this
        omega
      · have := ih (by omega) Y h1 n (by omega) h
        rw [this, show bOf (s + 1) = bOf s from Fin.ext (by simp only [bOf]; omega)]

theorem index7 : ∀ t : Fin grid0.N, win0_7.index t (0 : Fin 3) = t.val / 32 % 8 ∧ win0_7.index t (1 : Fin 3) = 0 ∧ win0_7.index t (2 : Fin 3) = 0 := by decide +kernel
/-- Where block `t` of window 7 lies in its array. -/
theorem emb7 (t : Fin cfg0.N) (y : S1x32x2.Idx) : (((cfg0.win 7).blk t).view.emb y : S8x32x2.Idx) = ix3 (bOf t.val) (y 1) (y 2) := by
  obtain ⟨e0, e1, e2⟩ := index7 t
  refine funext fun a => Fin.ext ?_
  match a with
  | ⟨0, _⟩ => show win0_7.index t (0 : Fin 3) * 1 + 1 * (y 0).val = t.val / 32 % 8; have : (y 0).val < 1 := (y 0).isLt; omega
  | ⟨1, _⟩ => show win0_7.index t (1 : Fin 3) * 32 + 1 * (y 1).val = (y 1).val; omega
  | ⟨2, _⟩ => show win0_7.index t (2 : Fin 3) * 2 + 1 * (y 2).val = (y 2).val; omega

theorem fetchless7 : ∀ t : Fin cfg0.N, (cfg0.win 7).fetch t = false := fun _ => rfl

/-- The rows of the scales that the points of a batch have written so far. -/
theorem rows7 (c : Dev nD) : ∀ (t : ℕ) (ht : t < cfg0.N) (X : S1x32x2.Idx → EReal), (rdat m c).Leaves 7 ⟨t, ht⟩ X →
    ∀ n : Fin 32, n.val ≤ t % 32 → ∀ h : Fin 2, X (ix3 0 n h) = scl (amaxK (XK (A1 m c) (bOf t) n) h) := by
  intro t
  induction t with
  | zero =>
    rintro ht X ⟨Y, hF, hA⟩ n hn h
    have hA : X = setRowK (iOf 0) (fun h => scl (amaxK (XK (A1 m c) (bOf 0) (iOf 0)) h)) Y := hA
    obtain rfl : n = iOf 0 := Fin.ext (by simp only [iOf]; omega)
    exact (congrFun hA _).trans (if_pos rfl)
  | succ s ih =>
    rintro ht X ⟨Y, hF, hA⟩ n hn h
    have hA : X = setRowK (iOf (s + 1)) (fun h => scl (amaxK (XK (A1 m c) (bOf (s + 1)) (iOf (s + 1))) h)) Y := hA
    refine (congrFun hA _).trans ?_
    by_cases e : n.val = (iOf (s + 1)).val
    · obtain rfl : n = iOf (s + 1) := Fin.ext e
      exact if_pos rfl
    · refine (if_neg e).trans ?_
      simp only [iOf] at e
      rcases ((rdat m c).finds_of_pos (fetchless7 _) (Nat.succ_ne_zero s) Y).mp hF with h1 | h1
      · have := (flush0_7 _).mp h1
        simp only [Nat.add_sub_cancel] at this
        omega
      · have := ih (by omega) Y h1 n (by omega) h
        rw [this, show bOf (s + 1) = bOf s from Fin.ext (by simp only [bOf]; omega)]

theorem index9 : ∀ t : Fin grid0.N, win0_9.index t (0 : Fin 3) = t.val / 32 % 8 ∧ win0_9.index t (1 : Fin 3) = 0 ∧ win0_9.index t (2 : Fin 3) = 0 := by decide +kernel
/-- Where block `t` of window 9 lies in its array. -/
theorem emb9 (t : Fin cfg0.N) (y : S1x32x2.Idx) : (((cfg0.win 9).blk t).view.emb y : S8x32x2.Idx) = ix3 (bOf t.val) (y 1) (y 2) := by
  obtain ⟨e0, e1, e2⟩ := index9 t
  refine funext fun a => Fin.ext ?_
  match a with
  | ⟨0, _⟩ => show win0_9.index t (0 : Fin 3) * 1 + 1 * (y 0).val = t.val / 32 % 8; have : (y 0).val < 1 := (y 0).isLt; omega
  | ⟨1, _⟩ => show win0_9.index t (1 : Fin 3) * 32 + 1 * (y 1).val = (y 1).val; omega
  | ⟨2, _⟩ => show win0_9.index t (2 : Fin 3) * 2 + 1 * (y 2).val = (y 2).val; omega

theorem fetchless9 : ∀ t : Fin cfg0.N, (cfg0.win 9).fetch t = false := fun _ => rfl

/-- The rows of the scales that the points of a batch have written so far. -/
theorem rows9 (c : Dev nD) : ∀ (t : ℕ) (ht : t < cfg0.N) (X : S1x32x2.Idx → EReal), (rdat m c).Leaves 9 ⟨t, ht⟩ X →
    ∀ n : Fin 32, n.val ≤ t % 32 → ∀ h : Fin 2, X (ix3 0 n h) = scl (amaxK (XK (A2 m c) (bOf t) n) h) := by
  intro t
  induction t with
  | zero =>
    rintro ht X ⟨Y, hF, hA⟩ n hn h
    have hA : X = setRowK (iOf 0) (fun h => scl (amaxK (XK (A2 m c) (bOf 0) (iOf 0)) h)) Y := hA
    obtain rfl : n = iOf 0 := Fin.ext (by simp only [iOf]; omega)
    exact (congrFun hA _).trans (if_pos rfl)
  | succ s ih =>
    rintro ht X ⟨Y, hF, hA⟩ n hn h
    have hA : X = setRowK (iOf (s + 1)) (fun h => scl (amaxK (XK (A2 m c) (bOf (s + 1)) (iOf (s + 1))) h)) Y := hA
    refine (congrFun hA _).trans ?_
    by_cases e : n.val = (iOf (s + 1)).val
    · obtain rfl : n = iOf (s + 1) := Fin.ext e
      exact if_pos rfl
    · refine (if_neg e).trans ?_
      simp only [iOf] at e
      rcases ((rdat m c).finds_of_pos (fetchless9 _) (Nat.succ_ne_zero s) Y).mp hF with h1 | h1
      · have := (flush0_9 _).mp h1
        simp only [Nat.add_sub_cancel] at this
        omega
      · have := ih (by omega) Y h1 n (by omega) h
        rw [this, show bOf (s + 1) = bOf s from Fin.ext (by simp only [bOf]; omega)]

section
variable (c : Dev nD) (after : (w' : Fin cfg0.W) → Fin cfg0.N → (cfg0.win w').block.Idx → Elt Ideal (cfg0.win w').elt)
  (hL : ∀ (w : Fin cfg0.W) (u : Fin cfg0.N), (cfg0.win w).flush u = true → (rdat m c).Leaves w u (after w u))
include hL

theorem final3 : ((rdat m c).withAfter after).arrAt 3 cfg0.N = outA (A0 m c) (A1 m c) (A2 m c) := by
  refine Dat.arrAt_eq_of_covers _ 3 _ (by decide +kernel) fun t hf y => ?_
  show after 3 t y = (outA (A0 m c) (A1 m c) (A2 m c)) (((cfg0.win 3).blk t).view.emb y)
  obtain ⟨Y, -, K, V, S, W, B, hFu, hX⟩ := hL 3 t hf
  exact (congrFun (hX.trans (val5_eq (A0 m c) hFu)) y).trans ((out_at (A0 m c) (A1 m c) (A2 m c) (bOf t.val) (iOf t.val) y).symm.trans (congrArg (outA (A0 m c) (A1 m c) (A2 m c)) (emb3 t y).symm))

theorem final4 : ((rdat m c).withAfter after).arrAt 4 cfg0.N = codesQ (A0 m c) := by
  refine Dat.arrAt_eq_of_covers _ 4 _ (by decide +kernel) fun t hf y => ?_
  show after 4 t y = (codesQ (A0 m c)) (((cfg0.win 4).blk t).view.emb y)
  obtain ⟨Y, -, hX⟩ := hL 4 t hf
  exact (congrFun (show after 4 t = qcode (XQ (A0 m c) (bOf t.val) (iOf t.val)) from hX) y).trans ((codesQ_at (A0 m c) (bOf t.val) (iOf t.val) y).symm.trans (congrArg (codesQ (A0 m c)) (emb4 t y).symm))

theorem final5 : ((rdat m c).withAfter after).arrAt 5 cfg0.N = scalesQ (A0 m c) := by
  refine Dat.arrAt_eq_of_covers _ 5 _ (by decide +kernel) fun t hf y => ?_
  show after 5 t y = (scalesQ (A0 m c)) (((cfg0.win 5).blk t).view.emb y)
  have h31 := (flush0_5 t).mp hf
  have := rows5 m c t.val t.isLt (after 5 t) (hL 5 t hf) (y 1) (by have : (y 1).val < 32 := (y 1).isLt; omega) (y 2)
  exact (congrArg (after 5 t) (eta3 y)).trans (this.trans ((scalesQ_at (A0 m c) (bOf t.val) (y 1) (y 2)).symm.trans <| congrArg (scalesQ (A0 m c)) (emb5 t y).symm))

theorem final6 : ((rdat m c).withAfter after).arrAt 6 cfg0.N = codesK (A1 m c) := by
  refine Dat.arrAt_eq_of_covers _ 6 _ (by decide +kernel) fun t hf y => ?_
  show after 6 t y = (codesK (A1 m c)) (((cfg0.win 6).blk t).view.emb y)
  obtain ⟨Y, -, hX⟩ := hL 6 t hf
  exact (congrFun (show after 6 t = kcode (XK (A1 m c) (bOf t.val) (iOf t.val)) from hX) y).trans ((codesK_at (A1 m c) (bOf t.val) (iOf t.val) y).symm.trans (congrArg (codesK (A1 m c)) (emb6 t y).symm))

theorem final7 : ((rdat m c).withAfter after).arrAt 7 cfg0.N = scalesK (A1 m c) := by
  refine Dat.arrAt_eq_of_covers _ 7 _ (by decide +kernel) fun t hf y => ?_
  show after 7 t y = (scalesK (A1 m c)) (((cfg0.win 7).blk t).view.emb y)
  have h31 := (flush0_7 t).mp hf
  have := rows7 m c t.val t.isLt (after 7 t) (hL 7 t hf) (y 1) (by have : (y 1).val < 32 := (y 1).isLt; omega) (y 2)
  exact (congrArg (after 7 t) (eta3 y)).trans (this.trans ((scalesK_at (A1 m c) (bOf t.val) (y 1) (y 2)).symm.trans <| congrArg (scalesK (A1 m c)) (emb7 t y).symm))

theorem final8 : ((rdat m c).withAfter after).arrAt 8 cfg0.N = codesK (A2 m c) := by
  refine Dat.arrAt_eq_of_covers _ 8 _ (by decide +kernel) fun t hf y => ?_
  show after 8 t y = (codesK (A2 m c)) (((cfg0.win 8).blk t).view.emb y)
  obtain ⟨Y, -, hX⟩ := hL 8 t hf
  exact (congrFun (show after 8 t = kcode (XK (A2 m c) (bOf t.val) (iOf t.val)) from hX) y).trans ((codesK_at (A2 m c) (bOf t.val) (iOf t.val) y).symm.trans (congrArg (codesK (A2 m c)) (emb8 t y).symm))

theorem final9 : ((rdat m c).withAfter after).arrAt 9 cfg0.N = scalesK (A2 m c) := by
  refine Dat.arrAt_eq_of_covers _ 9 _ (by decide +kernel) fun t hf y => ?_
  show after 9 t y = (scalesK (A2 m c)) (((cfg0.win 9).blk t).view.emb y)
  have h31 := (flush0_9 t).mp hf
  have := rows9 m c t.val t.isLt (after 9 t) (hL 9 t hf) (y 1) (by have : (y 1).val < 32 := (y 1).isLt; omega) (y 2)
  exact (congrArg (after 9 t) (eta3 y)).trans (this.trans ((scalesK_at (A2 m c) (bOf t.val) (y 1) (y 2)).symm.trans <| congrArg (scalesK (A2 m c)) (emb9 t y).symm))

end

/-- The run of the kernel: its seven result arrays, its arguments unchanged. -/
theorem run : θ_run defs (onTc (τ := τ) (main (F := Ideal))) ⟨m, fun _ => 0, ρ⟩ fun r => ∀ c : Dev nD,
      r.2.mem ((c : Thread nD τ).loc main_v0_0) = outA (A0 m c) (A1 m c) (A2 m c)
      ∧ r.2.mem ((c : Thread nD τ).loc main_v0_1) = codesQ (A0 m c)
      ∧ r.2.mem ((c : Thread nD τ).loc main_v0_2) = scalesQ (A0 m c)
      ∧ r.2.mem ((c : Thread nD τ).loc main_v0_3) = codesK (A1 m c)
      ∧ r.2.mem ((c : Thread nD τ).loc main_v0_4) = scalesK (A1 m c)
      ∧ r.2.mem ((c : Thread nD τ).loc main_v0_5) = codesK (A2 m c)
      ∧ r.2.mem ((c : Thread nD τ).loc main_v0_6) = scalesK (A2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => by
    obtain ⟨after, hL, hA⟩ := RDat.FramePost.exists_exact h.1 c
    exact ⟨(hA 3).trans (final3 m c after hL), (hA 4).trans (final4 m c after hL), (hA 5).trans (final5 m c after hL), (hA 6).trans (final6 m c after hL), (hA 7).trans (final7 m c after hL), (hA 8).trans (final8 m c after hL), (hA 9).trans (final9 m c after hL),
      h.1.arr_in c 0 rfl, h.1.arr_in c 1 rfl, h.1.arr_in c 2 rfl⟩) (run_main m ρ)

end Cert.KernelIdeal.Val

end
-- ==== Proof.RefRun.lean ====
module

public import proofs.«01_k».proof.Proof.Gen.ReferenceIdeal.Frame
public import Idealize.ShloMosaic.Lib.Pipeline.Value

@[expose] public section

noncomputable section

namespace Cert.ReferenceIdeal.Val

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! The run of the reference, each result as one function of the arguments. -/

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_2) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_3) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_4) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_5) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_6) = (dats m 0 c).arrAt 9 cfg0.N :=
  (h c).1 9

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S8x4096x2048.Idx) : ((cfg0.win 0).blk t).view.emb j = j := by
  obtain ⟨e0, e1, e2⟩ := idx_zero0 t
  funext a; apply Fin.ext
  match a with
  | ⟨0, _⟩ => show win0_0.index t (0 : Fin 3) * 8 + 1 * (j 0).val = (j 0).val; omega
  | ⟨1, _⟩ => show win0_0.index t (1 : Fin 3) * 4096 + 1 * (j 1).val = (j 1).val; omega
  | ⟨2, _⟩ => show win0_0.index t (2 : Fin 3) * 2048 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S8x4096x512.Idx) : ((cfg0.win 1).blk t).view.emb j = j := by
  obtain ⟨e0, e1, e2⟩ := idx_zero1 t
  funext a; apply Fin.ext
  match a with
  | ⟨0, _⟩ => show win0_1.index t (0 : Fin 3) * 8 + 1 * (j 0).val = (j 0).val; omega
  | ⟨1, _⟩ => show win0_1.index t (1 : Fin 3) * 4096 + 1 * (j 1).val = (j 1).val; omega
  | ⟨2, _⟩ => show win0_1.index t (2 : Fin 3) * 512 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0, 0] : Fin 3 → Nat) = fun _ => 0 := funext fun a => by fin_cases a <;> rfl

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S8x4096x512.Idx) : ((cfg0.win 2).blk t).view.emb j = j := by
  obtain ⟨e0, e1, e2⟩ := idx_zero2 t
  funext a; apply Fin.ext
  match a with
  | ⟨0, _⟩ => show win0_2.index t (0 : Fin 3) * 8 + 1 * (j 0).val = (j 0).val; omega
  | ⟨1, _⟩ => show win0_2.index t (1 : Fin 3) * 4096 + 1 * (j 1).val = (j 1).val; omega
  | ⟨2, _⟩ => show win0_2.index t (2 : Fin 3) * 512 + 1 * (j 2).val = (j 2).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S8x4096x2048.Idx) : ((cfg0.win 3).blk t).view.emb j = j := by
  obtain ⟨e0, e1, e2⟩ := idx_zero3 t
  funext a; apply Fin.ext
  match a with
  | ⟨0, _⟩ => show win0_3.index t (0 : Fin 3) * 8 + 1 * (j 0).val = (j 0).val; omega
  | ⟨1, _⟩ => show win0_3.index t (1 : Fin 3) * 4096 + 1 * (j 1).val = (j 1).val; omega
  | ⟨2, _⟩ => show win0_3.index t (2 : Fin 3) * 2048 + 1 * (j 2).val = (j 2).val; omega

theorem hz4 : (![0, 0, 0] : Fin 3 → Nat) = fun _ => 0 := funext fun a => by fin_cases a <;> rfl

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S8x4096x2048.Idx) : ((cfg0.win 4).blk t).view.emb j = j := by
  obtain ⟨e0, e1, e2⟩ := idx_zero4 t
  funext a; apply Fin.ext
  match a with
  | ⟨0, _⟩ => show win0_4.index t (0 : Fin 3) * 8 + 1 * (j 0).val = (j 0).val; omega
  | ⟨1, _⟩ => show win0_4.index t (1 : Fin 3) * 4096 + 1 * (j 1).val = (j 1).val; omega
  | ⟨2, _⟩ => show win0_4.index t (2 : Fin 3) * 2048 + 1 * (j 2).val = (j 2).val; omega

theorem hz5 : (![0, 0, 0] : Fin 3 → Nat) = fun _ => 0 := funext fun a => by fin_cases a <;> rfl

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S8x32x8.Idx) : ((cfg0.win 5).blk t).view.emb j = j := by
  obtain ⟨e0, e1, e2⟩ := idx_zero5 t
  funext a; apply Fin.ext
  match a with
  | ⟨0, _⟩ => show win0_5.index t (0 : Fin 3) * 8 + 1 * (j 0).val = (j 0).val; omega
  | ⟨1, _⟩ => show win0_5.index t (1 : Fin 3) * 32 + 1 * (j 1).val = (j 1).val; omega
  | ⟨2, _⟩ => show win0_5.index t (2 : Fin 3) * 8 + 1 * (j 2).val = (j 2).val; omega

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S8x4096x512.Idx) : ((cfg0.win 6).blk t).view.emb j = j := by
  obtain ⟨e0, e1, e2⟩ := idx_zero6 t
  funext a; apply Fin.ext
  match a with
  | ⟨0, _⟩ => show win0_6.index t (0 : Fin 3) * 8 + 1 * (j 0).val = (j 0).val; omega
  | ⟨1, _⟩ => show win0_6.index t (1 : Fin 3) * 4096 + 1 * (j 1).val = (j 1).val; omega
  | ⟨2, _⟩ => show win0_6.index t (2 : Fin 3) * 512 + 1 * (j 2).val = (j 2).val; omega

theorem hz7 : (![0, 0, 0] : Fin 3 → Nat) = fun _ => 0 := funext fun a => by fin_cases a <;> rfl

/-- Window 7's block index at the one point is zero on every axis. -/
theorem idx_zero7 : ∀ t : Fin cfg0.N, win0_7.index t (0 : Fin 3) = 0 ∧ win0_7.index t (1 : Fin 3) = 0 ∧ win0_7.index t (2 : Fin 3) = 0 :=
  (by decide +kernel : ∀ t : Fin grid0.N, _)

/-- An index of window 7's block is the same index of its array. -/
theorem emb7 (t : Fin cfg0.N) (j : S8x32x2.Idx) : ((cfg0.win 7).blk t).view.emb j = j := by
  obtain ⟨e0, e1, e2⟩ := idx_zero7 t
  funext a; apply Fin.ext
  match a with
  | ⟨0, _⟩ => show win0_7.index t (0 : Fin 3) * 8 + 1 * (j 0).val = (j 0).val; omega
  | ⟨1, _⟩ => show win0_7.index t (1 : Fin 3) * 32 + 1 * (j 1).val = (j 1).val; omega
  | ⟨2, _⟩ => show win0_7.index t (2 : Fin 3) * 2 + 1 * (j 2).val = (j 2).val; omega

theorem hz8 : (![0, 0, 0] : Fin 3 → Nat) = fun _ => 0 := funext fun a => by fin_cases a <;> rfl

/-- Window 8's block index at the one point is zero on every axis. -/
theorem idx_zero8 : ∀ t : Fin cfg0.N, win0_8.index t (0 : Fin 3) = 0 ∧ win0_8.index t (1 : Fin 3) = 0 ∧ win0_8.index t (2 : Fin 3) = 0 :=
  (by decide +kernel : ∀ t : Fin grid0.N, _)

/-- An index of window 8's block is the same index of its array. -/
theorem emb8 (t : Fin cfg0.N) (j : S8x4096x512.Idx) : ((cfg0.win 8).blk t).view.emb j = j := by
  obtain ⟨e0, e1, e2⟩ := idx_zero8 t
  funext a; apply Fin.ext
  match a with
  | ⟨0, _⟩ => show win0_8.index t (0 : Fin 3) * 8 + 1 * (j 0).val = (j 0).val; omega
  | ⟨1, _⟩ => show win0_8.index t (1 : Fin 3) * 4096 + 1 * (j 1).val = (j 1).val; omega
  | ⟨2, _⟩ => show win0_8.index t (2 : Fin 3) * 512 + 1 * (j 2).val = (j 2).val; omega

theorem hz9 : (![0, 0, 0] : Fin 3 → Nat) = fun _ => 0 := funext fun a => by fin_cases a <;> rfl

/-- Window 9's block index at the one point is zero on every axis. -/
theorem idx_zero9 : ∀ t : Fin cfg0.N, win0_9.index t (0 : Fin 3) = 0 ∧ win0_9.index t (1 : Fin 3) = 0 ∧ win0_9.index t (2 : Fin 3) = 0 :=
  (by decide +kernel : ∀ t : Fin grid0.N, _)

/-- An index of window 9's block is the same index of its array. -/
theorem emb9 (t : Fin cfg0.N) (j : S8x32x2.Idx) : ((cfg0.win 9).blk t).view.emb j = j := by
  obtain ⟨e0, e1, e2⟩ := idx_zero9 t
  funext a; apply Fin.ext
  match a with
  | ⟨0, _⟩ => show win0_9.index t (0 : Fin 3) * 8 + 1 * (j 0).val = (j 0).val; omega
  | ⟨1, _⟩ => show win0_9.index t (1 : Fin 3) * 32 + 1 * (j 1).val = (j 1).val; omega
  | ⟨2, _⟩ => show win0_9.index t (2 : Fin 3) * 2 + 1 * (j 2).val = (j 2).val; omega

/-! ### Output window 3: the array after the run -/

/-- What the window's array ends holding: `out0_3` applied to the argument arrays in place of the input blocks (a value that the
    frame states apart, `kK_payN a…`, keeps its loads inside its own definition). -/
abbrev G3 (a0 : Vec F S8x4096x2048 .bf16) (a1 : Vec F S8x4096x512 .bf16) (a2 : Vec F S8x4096x512 .bf16) : Vec F S8x4096x2048 .bf16 :=
  k0_pay1 (k0_pay36 a0 a1 a2) (k0_pay21 (k0_pay37 a0 a1 a2)) (k0_pay28 (k0_pay38 a0 a1 a2) (k0_pay39 a0 a1 a2) (k0_pay40 a0 a1 a2) (k0_pay41 a0 a1 a2) (k0_pay42 a0 a1 a2)) (k0_pay29 (k0_pay38 a0 a1 a2) (k0_pay39 a0 a1 a2) (k0_pay40 a0 a1 a2) (k0_pay41 a0 a1 a2) (k0_pay42 a0 a1 a2)) (k0_pay30 (k0_pay38 a0 a1 a2) (k0_pay39 a0 a1 a2) (k0_pay40 a0 a1 a2) (k0_pay41 a0 a1 a2) (k0_pay42 a0 a1 a2)) (Scalar.ofBits .f32 0xC3E00000#32)

/-- The one store through the whole rectangle leaves its payload. -/
theorem out3_eq (a0 : Vec F S8x4096x2048 .bf16) (a1 : Vec F S8x4096x512 .bf16) (a2 : Vec F S8x4096x512 .bf16) : out0_3 (F := F) a0 a1 a2 = G3 a0 a1 a2 := by
  unfold out0_3
  rw [View.canon_unit_zero hz3]

/-- Cutting the point's block out of `X` and reading `X` through the block's view give the same. -/
theorem cut3_eq (t : Fin cfg0.N) (X : Vec F S8x4096x2048 .bf16) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument arrays as the region finds them. -/
theorem flushed3_eq (c : Dev nD) (t : Fin cfg0.N) :
    (dats m 0 c).flushed 3 t = ((cfg0.win 3).blk t).view.read (Elt F) (G3 (V m c main_arg0) (V m c main_arg1) (V m c main_arg2)) := by
  show (cfg0.win 3).cut (grid0.coords t) ((dats m 0 c).after 3 t) = _
  rw [after0_3, out3_eq, iblk0_eq, iblk1_eq, iblk2_eq]
  exact cut3_eq t _

/-- Every index of the array is in the point's block. -/
theorem covered3 (i : S8x4096x2048.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument arrays as launched. -/
theorem final3 (c : Dev nD) : (dats m 0 c).arrAt 3 cfg0.N = G3 (m ((c : Thread nD τ).loc main_arg0)) (m ((c : Thread nD τ).loc main_arg1)) (m ((c : Thread nD τ).loc main_arg2)) :=
  ((dats m 0 c).arrAt_eq_of_cover 3 (G3 (V m c main_arg0) (V m c main_arg1) (V m c main_arg2)) (fun t _ => flushed3_eq m c t) covered3).trans (by rw [V_main_arg0, V_main_arg1, V_main_arg2])

/-! ### Output window 4: the array after the run -/

/-- What the window's array ends holding: `out0_4` applied to the argument arrays in place of the input blocks (a value that the
    frame states apart, `kK_payN a…`, keeps its loads inside its own definition). -/
abbrev G4 (a0 : Vec F S8x4096x2048 .bf16) (a1 : Vec F S8x4096x512 .bf16) (a2 : Vec F S8x4096x512 .bf16) : Vec F S8x4096x2048 .fp8e4m3 :=
  k0_pay15 (k0_pay31 a0 a1 a2)

/-- The one store through the whole rectangle leaves its payload. -/
theorem out4_eq (a0 : Vec F S8x4096x2048 .bf16) (a1 : Vec F S8x4096x512 .bf16) (a2 : Vec F S8x4096x512 .bf16) : out0_4 (F := F) a0 a1 a2 = G4 a0 a1 a2 := by
  unfold out0_4
  rw [View.canon_unit_zero hz4]

/-- Cutting the point's block out of `X` and reading `X` through the block's view give the same. -/
theorem cut4_eq (t : Fin cfg0.N) (X : Vec F S8x4096x2048 .fp8e4m3) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2)) := by
  show (cfg0.win 4).cut (grid0.coords t) ((dats m 0 c).after 4 t) = _
  rw [after0_4, out4_eq, iblk0_eq, iblk1_eq, iblk2_eq]
  exact cut4_eq t _

/-- Every index of the array is in the point's block. -/
theorem covered4 (i : S8x4096x2048.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) :=
  ((dats m 0 c).arrAt_eq_of_cover 4 (G4 (V m c main_arg0) (V m c main_arg1) (V m c main_arg2)) (fun t _ => flushed4_eq m c t) covered4).trans (by rw [V_main_arg0, V_main_arg1, V_main_arg2])

/-! ### Output window 5: the array after the run -/

/-- What the window's array ends holding: `out0_5` applied to the argument arrays in place of the input blocks (a value that the
    frame states apart, `kK_payN a…`, keeps its loads inside its own definition). -/
abbrev G5 (a0 : Vec F S8x4096x2048 .bf16) (a1 : Vec F S8x4096x512 .bf16) (a2 : Vec F S8x4096x512 .bf16) : Vec F S8x32x8 .f32 :=
  k0_pay16 (k0_pay32 a0 a1 a2)

/-- The one store through the whole rectangle leaves its payload. -/
theorem out5_eq (a0 : Vec F S8x4096x2048 .bf16) (a1 : Vec F S8x4096x512 .bf16) (a2 : Vec F S8x4096x512 .bf16) : out0_5 (F := F) a0 a1 a2 = G5 a0 a1 a2 := by
  unfold out0_5
  rw [View.canon_unit_zero hz5]

/-- Cutting the point's block out of `X` and reading `X` through the block's view give the same. -/
theorem cut5_eq (t : Fin cfg0.N) (X : Vec F S8x32x8 .f32) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2)) := by
  show (cfg0.win 5).cut (grid0.coords t) ((dats m 0 c).after 5 t) = _
  rw [after0_5, out5_eq, iblk0_eq, iblk1_eq, iblk2_eq]
  exact cut5_eq t _

/-- Every index of the array is in the point's block. -/
theorem covered5 (i : S8x32x8.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) :=
  ((dats m 0 c).arrAt_eq_of_cover 5 (G5 (V m c main_arg0) (V m c main_arg1) (V m c main_arg2)) (fun t _ => flushed5_eq m c t) covered5).trans (by rw [V_main_arg0, V_main_arg1, V_main_arg2])

/-! ### Output window 6: the array after the run -/

/-- What the window's array ends holding: `out0_6` applied to the argument arrays in place of the input blocks (a value that the
    frame states apart, `kK_payN a…`, keeps its loads inside its own definition). -/
abbrev G6 (a0 : Vec F S8x4096x2048 .bf16) (a1 : Vec F S8x4096x512 .bf16) (a2 : Vec F S8x4096x512 .bf16) : Vec F S8x4096x512 .fp8e4m3 :=
  k0_pay17 (k0_pay33 a0 a1 a2)

/-- The one store through the whole rectangle leaves its payload. -/
theorem out6_eq (a0 : Vec F S8x4096x2048 .bf16) (a1 : Vec F S8x4096x512 .bf16) (a2 : Vec F S8x4096x512 .bf16) : out0_6 (F := F) a0 a1 a2 = G6 a0 a1 a2 := by
  unfold out0_6
  rw [View.canon_unit_zero hz6]

/-- Cutting the point's block out of `X` and reading `X` through the block's view give the same. -/
theorem cut6_eq (t : Fin cfg0.N) (X : Vec F S8x4096x512 .fp8e4m3) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2)) := by
  show (cfg0.win 6).cut (grid0.coords t) ((dats m 0 c).after 6 t) = _
  rw [after0_6, out6_eq, iblk0_eq, iblk1_eq, iblk2_eq]
  exact cut6_eq t _

/-- Every index of the array is in the point's block. -/
theorem covered6 (i : S8x4096x512.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) :=
  ((dats m 0 c).arrAt_eq_of_cover 6 (G6 (V m c main_arg0) (V m c main_arg1) (V m c main_arg2)) (fun t _ => flushed6_eq m c t) covered6).trans (by rw [V_main_arg0, V_main_arg1, V_main_arg2])

/-! ### Output window 7: the array after the run -/

/-- What the window's array ends holding: `out0_7` applied to the argument arrays in place of the input blocks (a value that the
    frame states apart, `kK_payN a…`, keeps its loads inside its own definition). -/
abbrev G7 (a0 : Vec F S8x4096x2048 .bf16) (a1 : Vec F S8x4096x512 .bf16) (a2 : Vec F S8x4096x512 .bf16) : Vec F S8x32x2 .f32 :=
  k0_pay18 (k0_pay34 a0 a1 a2)

/-- The one store through the whole rectangle leaves its payload. -/
theorem out7_eq (a0 : Vec F S8x4096x2048 .bf16) (a1 : Vec F S8x4096x512 .bf16) (a2 : Vec F S8x4096x512 .bf16) : out0_7 (F := F) a0 a1 a2 = G7 a0 a1 a2 := by
  unfold out0_7
  rw [View.canon_unit_zero hz7]

/-- Cutting the point's block out of `X` and reading `X` through the block's view give the same. -/
theorem cut7_eq (t : Fin cfg0.N) (X : Vec F S8x32x2 .f32) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2)) := by
  show (cfg0.win 7).cut (grid0.coords t) ((dats m 0 c).after 7 t) = _
  rw [after0_7, out7_eq, iblk0_eq, iblk1_eq, iblk2_eq]
  exact cut7_eq t _

/-- Every index of the array is in the point's block. -/
theorem covered7 (i : S8x32x2.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) :=
  ((dats m 0 c).arrAt_eq_of_cover 7 (G7 (V m c main_arg0) (V m c main_arg1) (V m c main_arg2)) (fun t _ => flushed7_eq m c t) covered7).trans (by rw [V_main_arg0, V_main_arg1, V_main_arg2])

/-! ### Output window 8: the array after the run -/

/-- What the window's array ends holding: `out0_8` applied to the argument arrays in place of the input blocks (a value that the
    frame states apart, `kK_payN a…`, keeps its loads inside its own definition). -/
abbrev G8 (a0 : Vec F S8x4096x2048 .bf16) (a1 : Vec F S8x4096x512 .bf16) (a2 : Vec F S8x4096x512 .bf16) : Vec F S8x4096x512 .fp8e4m3 :=
  k0_pay19 (k0_pay36 a0 a1 a2)

/-- The one store through the whole rectangle leaves its payload. -/
theorem out8_eq (a0 : Vec F S8x4096x2048 .bf16) (a1 : Vec F S8x4096x512 .bf16) (a2 : Vec F S8x4096x512 .bf16) : out0_8 (F := F) a0 a1 a2 = G8 a0 a1 a2 := by
  unfold out0_8
  rw [View.canon_unit_zero hz8]

/-- Cutting the point's block out of `X` and reading `X` through the block's view give the same. -/
theorem cut8_eq (t : Fin cfg0.N) (X : Vec F S8x4096x512 .fp8e4m3) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2)) := by
  show (cfg0.win 8).cut (grid0.coords t) ((dats m 0 c).after 8 t) = _
  rw [after0_8, out8_eq, iblk0_eq, iblk1_eq, iblk2_eq]
  exact cut8_eq t _

/-- Every index of the array is in the point's block. -/
theorem covered8 (i : S8x4096x512.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) :=
  ((dats m 0 c).arrAt_eq_of_cover 8 (G8 (V m c main_arg0) (V m c main_arg1) (V m c main_arg2)) (fun t _ => flushed8_eq m c t) covered8).trans (by rw [V_main_arg0, V_main_arg1, V_main_arg2])

/-! ### Output window 9: the array after the run -/

/-- What the window's array ends holding: `out0_9` applied to the argument arrays in place of the input blocks (a value that the
    frame states apart, `kK_payN a…`, keeps its loads inside its own definition). -/
abbrev G9 (a0 : Vec F S8x4096x2048 .bf16) (a1 : Vec F S8x4096x512 .bf16) (a2 : Vec F S8x4096x512 .bf16) : Vec F S8x32x2 .f32 :=
  k0_pay20 (k0_pay37 a0 a1 a2)

/-- The one store through the whole rectangle leaves its payload. -/
theorem out9_eq (a0 : Vec F S8x4096x2048 .bf16) (a1 : Vec F S8x4096x512 .bf16) (a2 : Vec F S8x4096x512 .bf16) : out0_9 (F := F) a0 a1 a2 = G9 a0 a1 a2 := by
  unfold out0_9
  rw [View.canon_unit_zero hz9]

/-- Cutting the point's block out of `X` and reading `X` through the block's view give the same. -/
theorem cut9_eq (t : Fin cfg0.N) (X : Vec F S8x32x2 .f32) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2)) := by
  show (cfg0.win 9).cut (grid0.coords t) ((dats m 0 c).after 9 t) = _
  rw [after0_9, out9_eq, iblk0_eq, iblk1_eq, iblk2_eq]
  exact cut9_eq t _

/-- Every index of the array is in the point's block. -/
theorem covered9 (i : S8x32x2.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) :=
  ((dats m 0 c).arrAt_eq_of_cover 9 (G9 (V m c main_arg0) (V m c main_arg1) (V m c main_arg2)) (fun t _ => flushed9_eq m c t) covered9).trans (by rw [V_main_arg0, V_main_arg1, V_main_arg2])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G3 (m ((c : Thread nD τ).loc main_arg0)) (m ((c : Thread nD τ).loc main_arg1)) (m ((c : Thread nD τ).loc main_arg2))
      ∧ r.2.mem ((c : Thread nD τ).loc main_v0_1) = G4 (m ((c : Thread nD τ).loc main_arg0)) (m ((c : Thread nD τ).loc main_arg1)) (m ((c : Thread nD τ).loc main_arg2))
      ∧ r.2.mem ((c : Thread nD τ).loc main_v0_2) = G5 (m ((c : Thread nD τ).loc main_arg0)) (m ((c : Thread nD τ).loc main_arg1)) (m ((c : Thread nD τ).loc main_arg2))
      ∧ r.2.mem ((c : Thread nD τ).loc main_v0_3) = G6 (m ((c : Thread nD τ).loc main_arg0)) (m ((c : Thread nD τ).loc main_arg1)) (m ((c : Thread nD τ).loc main_arg2))
      ∧ r.2.mem ((c : Thread nD τ).loc main_v0_4) = G7 (m ((c : Thread nD τ).loc main_arg0)) (m ((c : Thread nD τ).loc main_arg1)) (m ((c : Thread nD τ).loc main_arg2))
      ∧ r.2.mem ((c : Thread nD τ).loc main_v0_5) = G8 (m ((c : Thread nD τ).loc main_arg0)) (m ((c : Thread nD τ).loc main_arg1)) (m ((c : Thread nD τ).loc main_arg2))
      ∧ r.2.mem ((c : Thread nD τ).loc main_v0_6) = G9 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(post3 m r h c).trans (final3 m c),
      (post4 m r h c).trans (final4 m c),
      (post5 m r h c).trans (final5 m c),
      (post6 m r h c).trans (final6 m c),
      (post7 m r h c).trans (final7 m c),
      (post8 m r h c).trans (final8 m c),
      (post9 m r h c).trans (final9 m c),
      kept_main_arg0 m r h c,
      kept_main_arg1 m r h c,
      kept_main_arg2 m r h c⟩)
    (run_main m ρ)

end Cert.ReferenceIdeal.Val

end
-- ==== Proof.RefVals.lean ====
module

public import proofs.«01_k».proof.Proof.Target
public import proofs.«01_k».proof.Proof.RefRun
public import Idealize.ShloMosaic.Lib.Pointwise

@[expose] public section

/-! The reference's codes and scales, one element at a time. -/

set_option maxRecDepth 16384
set_option maxHeartbeats 1000000

noncomputable section

namespace Cert.ReferenceIdeal.Val

open Cert.ReferenceIdeal Cert.ReferenceIdeal.Gen Idealize.ShloMosaic
open Cert.KernelIdeal.Val (expo inv scl clip negInf XQ XK amaxQ amaxK code qcode kcode headQ headK colQ colK kvHead headQ_col headK_col codesQ codesK scalesQ scalesK)

theorem fold_le {ι : Type} [Fintype ι] (f : ι → EReal) (c : EReal) : Finset.univ.fold max negInf f ≤ c ↔ negInf ≤ c ∧ ∀ x, f x ≤ c :=
  (Finset.fold_max_le (c := c)).trans (by simp)

theorem max_le {s t : Shape} {axes : List (Fin s.rank)} (src : FVec Ideal s .f32) (h : s.Reduces axes t) (j : t.Idx) (c : EReal) :
    multiReduction (F := Ideal) .maximumf axes t src 0xFF800000#32 h (.inl rfl) rfl j ≤ c ↔ negInf ≤ c ∧ ∀ i, h.drop i = j → src i ≤ c := by
  exact (iff_of_eq (congrArg (· ≤ c) (multiReduction_maximumf_eq_fold src _ h _ _ j))).trans ((Finset.fold_max_le (c := c)).trans (by simp))

/-- A power of two to the negated exponent, at one index. -/
theorem exp2_neg {s : Shape} (X : FVec Ideal s .f32) (y : s.Idx) :
    exp2 (subf (broadcast s (Scalar.ofBits .f32 0x00000000#32)) X) y = Ideal.exp2 (0 - X y) := by
  show Ideal.exp2 (Ideal.ofBits .f32 0x00000000#32 - X y) = _
  rw [Ideal.ofBits_zero_f32]

theorem exp2_at {s : Shape} (X : FVec Ideal s .f32) (y : s.Idx) : exp2 X y = Ideal.exp2 (X y) := rfl

/-! ## The largest magnitudes -/

theorem eta5 {a b c d e : ℕ} (y : Shape.Idx ⟨5, ![a, b, c, d, e]⟩) : y = ix5 (y 0) (y 1) (y 2) (y 3) (y 4) := by
  funext k; fin_cases k <;> rfl

theorem dropQ (i : S8x32x128x8x256.Idx) : reduces_S8x32x128x8x256_S8x32x8.drop i = ix3 (i 0) (i 1) (i 3) := by
  funext a
  fin_cases a
  · exact Fin.ext (Shape.Reduces.drop_apply_val_of_eq _ i 0 0 (by decide) (by decide))
  · exact Fin.ext (Shape.Reduces.drop_apply_val_of_eq _ i 1 1 (by decide) (by decide))
  · exact Fin.ext (Shape.Reduces.drop_apply_val_of_eq _ i 2 3 (by decide) (by decide))

theorem dropK (i : S8x32x128x2x256.Idx) : reduces_S8x32x128x2x256_S8x32x2.drop i = ix3 (i 0) (i 1) (i 3) := by
  funext a
  fin_cases a
  · exact Fin.ext (Shape.Reduces.drop_apply_val_of_eq _ i 0 0 (by decide) (by decide))
  · exact Fin.ext (Shape.Reduces.drop_apply_val_of_eq _ i 1 1 (by decide) (by decide))
  · exact Fin.ext (Shape.Reduces.drop_apply_val_of_eq _ i 2 3 (by decide) (by decide))

theorem pay2_at (A : Vec Ideal S8x4096x2048 .bf16) (b : Fin 8) (n : Fin 32) (r : Fin 128) (h : Fin 8) (d : Fin 256) :
    k0_pay2 A (ix5 b n r h d) = XQ A b n (ix3 0 r (colQ h d)) := by
  pointwise [k0_pay2]
  exact congrArg A (congrArg₂ (ix3 b) (Fin.ext (by show n.val * 128 + r.val = 128 * n.val + r.val; omega)) (Fin.ext (by show h.val * 256 + d.val = 256 * h.val + d.val; omega)))

theorem pay6_at (A : Vec Ideal S8x4096x512 .bf16) (b : Fin 8) (n : Fin 32) (r : Fin 128) (h : Fin 2) (d : Fin 256) :
    k0_pay6 A (ix5 b n r h d) = XK A b n (ix3 0 r (colK h d)) := by
  pointwise [k0_pay6]
  exact congrArg A (congrArg₂ (ix3 b) (Fin.ext (by show n.val * 128 + r.val = 128 * n.val + r.val; omega)) (Fin.ext (by show h.val * 256 + d.val = 256 * h.val + d.val; omega)))

theorem pay2_abs (A : Vec Ideal S8x4096x2048 .bf16) (b : Fin 8) (n : Fin 32) (r : Fin 128) (h : Fin 8) (d : Fin 256) :
    absf (k0_pay2 A) (ix5 b n r h d) = max (XQ A b n (ix3 0 r (colQ h d))) (-XQ A b n (ix3 0 r (colQ h d))) := by
  rw [← pay2_at]; rfl

theorem amaxQ_at (A : Vec Ideal S8x4096x2048 .bf16) (b : Fin 8) (n : Fin 32) (h : Fin 8) :
    multiReduction .maximumf [2, 4] S8x32x8 (absf (k0_pay2 A)) 0xFF800000#32 reduces_S8x32x128x8x256_S8x32x8 (.inl rfl) rfl (ix3 b n h) = amaxQ (XQ A b n) h := by
  refine eq_of_forall_ge_iff fun c => (max_le _ _ _ c).trans ?_
  unfold amaxQ
  simp only [fold_le]
  constructor
  · rintro ⟨h0, hs⟩
    refine ⟨h0, fun d => ⟨h0, fun q => ?_⟩⟩
    have := hs (ix5 b n q h d) (dropQ _)
    rwa [pay2_abs] at this
  · rintro ⟨h0, hs⟩
    refine ⟨h0, fun i hi => ?_⟩
    rw [dropQ] at hi
    obtain rfl : i 0 = b := congrFun hi 0
    obtain rfl : i 1 = n := congrFun hi 1
    obtain rfl : i 3 = h := congrFun hi 2
    exact (le_of_eq ((congrArg (absf (k0_pay2 A)) (eta5 i)).trans (pay2_abs A (i 0) (i 1) (i 2) (i 3) (i 4)))).trans ((hs (i 4)).2 (i 2))

theorem pay6_abs (A : Vec Ideal S8x4096x512 .bf16) (b : Fin 8) (n : Fin 32) (r : Fin 128) (h : Fin 2) (d : Fin 256) :
    absf (k0_pay6 A) (ix5 b n r h d) = max (XK A b n (ix3 0 r (colK h d))) (-XK A b n (ix3 0 r (colK h d))) := by
  rw [← pay6_at]; rfl

theorem amaxK_at (A : Vec Ideal S8x4096x512 .bf16) (b : Fin 8) (n : Fin 32) (h : Fin 2) :
    multiReduction .maximumf [2, 4] S8x32x2 (absf (k0_pay6 A)) 0xFF800000#32 reduces_S8x32x128x2x256_S8x32x2 (.inl rfl) rfl (ix3 b n h) = amaxK (XK A b n) h := by
  refine eq_of_forall_ge_iff fun c => (max_le _ _ _ c).trans ?_
  unfold amaxK
  simp only [fold_le]
  constructor
  · rintro ⟨h0, hs⟩
    refine ⟨h0, fun d => ⟨h0, fun q => ?_⟩⟩
    have := hs (ix5 b n q h d) (dropK _)
    rwa [pay6_abs] at this
  · rintro ⟨h0, hs⟩
    refine ⟨h0, fun i hi => ?_⟩
    rw [dropK] at hi
    obtain rfl : i 0 = b := congrFun hi 0
    obtain rfl : i 1 = n := congrFun hi 1
    obtain rfl : i 3 = h := congrFun hi 2
    exact (le_of_eq ((congrArg (absf (k0_pay6 A)) (eta5 i)).trans (pay6_abs A (i 0) (i 1) (i 2) (i 3) (i 4)))).trans ((hs (i 4)).2 (i 2))

theorem castQ (Y : FVec Ideal S8x32x8 .f32) (b : Fin 8) (n : Fin 32) (h : Fin 8) :
    shapeCast S8x32x1x8x1 Y shapeCasts_S8x32x8_S8x32x1x8x1 (ix5 b n 0 h 0) = Y (ix3 b n h) := by
  pointwise []
theorem castK (Y : FVec Ideal S8x32x2 .f32) (b : Fin 8) (n : Fin 32) (h : Fin 2) :
    shapeCast S8x32x1x2x1 Y shapeCasts_S8x32x2_S8x32x1x2x1 (ix5 b n 0 h 0) = Y (ix3 b n h) := by
  pointwise []

/-! ## Exponents and scales -/

theorem pay3_at (A : Vec Ideal S8x4096x2048 .bf16) (b : Fin 8) (n : Fin 32) (h : Fin 8) : k0_pay3 A (ix5 b n 0 h 0) = expo (amaxQ (XQ A b n) h) := by
  show expo (shapeCast S8x32x1x8x1 (multiReduction .maximumf [2, 4] S8x32x8 (absf (k0_pay2 A)) 0xFF800000#32 reduces_S8x32x128x8x256_S8x32x8 (.inl rfl) rfl) shapeCasts_S8x32x8_S8x32x1x8x1 (ix5 b n 0 h 0)) = _
  rw [castQ, amaxQ_at]

theorem pay7_at (A : Vec Ideal S8x4096x512 .bf16) (b : Fin 8) (n : Fin 32) (h : Fin 2) : k0_pay7 A (ix5 b n 0 h 0) = expo (amaxK (XK A b n) h) := by
  show expo (shapeCast S8x32x1x2x1 (multiReduction .maximumf [2, 4] S8x32x2 (absf (k0_pay6 A)) 0xFF800000#32 reduces_S8x32x128x2x256_S8x32x2 (.inl rfl) rfl) shapeCasts_S8x32x2_S8x32x1x2x1 (ix5 b n 0 h 0)) = _
  rw [castK, amaxK_at]

theorem pay12_at (A : Vec Ideal S8x4096x512 .bf16) (b : Fin 8) (n : Fin 32) (h : Fin 2) : k0_pay12 (k0_pay11 A) (ix5 b n 0 h 0) = expo (amaxK (XK A b n) h) := by
  show expo (shapeCast S8x32x1x2x1 (multiReduction .maximumf [2, 4] S8x32x2 (absf (k0_pay6 A)) 0xFF800000#32 reduces_S8x32x128x2x256_S8x32x2 (.inl rfl) rfl) shapeCasts_S8x32x2_S8x32x1x2x1 (ix5 b n 0 h 0)) = _
  rw [castK, amaxK_at]

theorem pay5_at (A : Vec Ideal S8x4096x2048 .bf16) (b : Fin 8) (n : Fin 32) (h : Fin 8) : k0_pay5 A (ix5 b n 0 h 0) = scl (amaxQ (XQ A b n) h) := by
  rw [show k0_pay5 A = exp2 (k0_pay3 A) from rfl, exp2_at, pay3_at]; rfl
theorem pay9_at (A : Vec Ideal S8x4096x512 .bf16) (b : Fin 8) (n : Fin 32) (h : Fin 2) : k0_pay9 A (ix5 b n 0 h 0) = scl (amaxK (XK A b n) h) := by
  rw [show k0_pay9 A = exp2 (k0_pay7 A) from rfl, exp2_at, pay7_at]; rfl
theorem pay14_at (A : Vec Ideal S8x4096x512 .bf16) (b : Fin 8) (n : Fin 32) (h : Fin 2) : k0_pay14 (k0_pay11 A) (ix5 b n 0 h 0) = scl (amaxK (XK A b n) h) := by
  rw [show k0_pay14 (k0_pay11 A) = exp2 (k0_pay12 (k0_pay11 A)) from rfl, exp2_at, pay12_at]; rfl

/-! ## Codes -/

theorem bcQ (E : FVec Ideal S8x32x1x8x1 .f32) (b : Fin 8) (n : Fin 32) (r : Fin 128) (h : Fin 8) (d : Fin 256) :
    broadcastTo S8x32x128x8x256 E broadcasts_S8x32x1x8x1_S8x32x128x8x256 (ix5 b n r h d) = E (ix5 b n 0 h 0) := by
  pointwise []
theorem bcK (E : FVec Ideal S8x32x1x2x1 .f32) (b : Fin 8) (n : Fin 32) (r : Fin 128) (h : Fin 2) (d : Fin 256) :
    broadcastTo S8x32x128x2x256 E broadcasts_S8x32x1x2x1_S8x32x128x2x256 (ix5 b n r h d) = E (ix5 b n 0 h 0) := by
  pointwise []

theorem pay4_at (A : Vec Ideal S8x4096x2048 .bf16) (b : Fin 8) (n : Fin 32) (r : Fin 128) (h : Fin 8) (d : Fin 256) :
    k0_pay4 A (ix5 b n r h d) = qcode (XQ A b n) (ix3 0 r (colQ h d)) := by
  show clip (k0_pay2 A (ix5 b n r h d) * broadcastTo S8x32x128x8x256 (exp2 (subf (broadcast S8x32x1x8x1 (Scalar.ofBits .f32 0x00000000#32)) (k0_pay3 A))) broadcasts_S8x32x1x8x1_S8x32x128x8x256 (ix5 b n r h d)) = clip (XQ A b n (ix3 0 r (colQ h d)) * inv (amaxQ (XQ A b n) (headQ (colQ h d))))
  rw [bcQ, exp2_neg, pay3_at, pay2_at, headQ_col]; rfl
theorem pay8_at (A : Vec Ideal S8x4096x512 .bf16) (b : Fin 8) (n : Fin 32) (r : Fin 128) (h : Fin 2) (d : Fin 256) :
    k0_pay8 A (ix5 b n r h d) = kcode (XK A b n) (ix3 0 r (colK h d)) := by
  show clip (k0_pay6 A (ix5 b n r h d) * broadcastTo S8x32x128x2x256 (exp2 (subf (broadcast S8x32x1x2x1 (Scalar.ofBits .f32 0x00000000#32)) (k0_pay7 A))) broadcasts_S8x32x1x2x1_S8x32x128x2x256 (ix5 b n r h d)) = clip (XK A b n (ix3 0 r (colK h d)) * inv (amaxK (XK A b n) (headK (colK h d))))
  rw [bcK, exp2_neg, pay7_at, pay6_at, headK_col]; rfl
theorem pay13_at (A : Vec Ideal S8x4096x512 .bf16) (b : Fin 8) (n : Fin 32) (r : Fin 128) (h : Fin 2) (d : Fin 256) :
    k0_pay13 (k0_pay10 A) (k0_pay11 A) (ix5 b n r h d) = kcode (XK A b n) (ix3 0 r (colK h d)) := by
  show clip (k0_pay6 A (ix5 b n r h d) * broadcastTo S8x32x128x2x256 (exp2 (subf (broadcast S8x32x1x2x1 (Scalar.ofBits .f32 0x00000000#32)) (k0_pay12 (k0_pay11 A)))) broadcasts_S8x32x1x2x1_S8x32x128x2x256 (ix5 b n r h d)) = clip (XK A b n (ix3 0 r (colK h d)) * inv (amaxK (XK A b n) (headK (colK h d))))
  rw [bcK, exp2_neg, pay12_at, pay6_at, headK_col]; rfl

/-! ## The arrays of codes and scales -/

theorem eta3 {a b c : ℕ} (y : Shape.Idx ⟨3, ![a, b, c]⟩) : y = ix3 (y 0) (y 1) (y 2) := by
  funext k; fin_cases k <;> rfl

theorem pay15_at (Y : FVec Ideal S8x32x128x8x256 .fp8e4m3) (b : Fin 8) (s : Fin 4096) (l : Fin 2048) :
    k0_pay15 Y (ix3 b s l) = Y (ix5 b ⟨s.val / 128, by omega⟩ ⟨s.val % 128, by omega⟩ ⟨l.val / 256, by omega⟩ ⟨l.val % 256, by omega⟩) := by
  pointwise [k0_pay15]
theorem pay17_at (Y : FVec Ideal S8x32x128x2x256 .fp8e4m3) (b : Fin 8) (s : Fin 4096) (l : Fin 512) :
    k0_pay17 Y (ix3 b s l) = Y (ix5 b ⟨s.val / 128, by omega⟩ ⟨s.val % 128, by omega⟩ ⟨l.val / 256, by omega⟩ ⟨l.val % 256, by omega⟩) := by
  pointwise [k0_pay17]
theorem pay16_at (Y : FVec Ideal S8x32x1x8x1 .f32) (b : Fin 8) (n : Fin 32) (h : Fin 8) : k0_pay16 Y (ix3 b n h) = Y (ix5 b n 0 h 0) := by
  pointwise [k0_pay16]
theorem pay18_at (Y : FVec Ideal S8x32x1x2x1 .f32) (b : Fin 8) (n : Fin 32) (h : Fin 2) : k0_pay18 Y (ix3 b n h) = Y (ix5 b n 0 h 0) := by
  pointwise [k0_pay18]

theorem codesQ_eq (A : Vec Ideal S8x4096x2048 .bf16) : k0_pay15 (k0_pay4 A) = codesQ A := by
  funext y
  rw [eta3 y]
  refine (pay15_at _ (y 0) (y 1) (y 2)).trans ((pay4_at ..).trans (congrArg (fun l => qcode _ (ix3 0 _ l)) (Fin.ext ?_)))
  show 256 * ((y 2).val / 256) + (y 2).val % 256 = (y 2).val
  omega
theorem codesK_eq (A : Vec Ideal S8x4096x512 .bf16) : k0_pay17 (k0_pay8 A) = codesK A := by
  funext y
  rw [eta3 y]
  refine (pay17_at _ (y 0) (y 1) (y 2)).trans ((pay8_at ..).trans (congrArg (fun l => kcode _ (ix3 0 _ l)) (Fin.ext ?_)))
  show 256 * ((y 2).val / 256) + (y 2).val % 256 = (y 2).val
  omega
theorem codesV_eq (A : Vec Ideal S8x4096x512 .bf16) : k0_pay19 (k0_pay13 (k0_pay10 A) (k0_pay11 A)) = codesK A := by
  funext y
  rw [eta3 y]
  refine (pay17_at _ (y 0) (y 1) (y 2)).trans ((pay13_at ..).trans (congrArg (fun l => kcode _ (ix3 0 _ l)) (Fin.ext ?_)))
  show 256 * ((y 2).val / 256) + (y 2).val % 256 = (y 2).val
  omega
theorem scalesQ_eq (A : Vec Ideal S8x4096x2048 .bf16) : k0_pay16 (k0_pay5 A) = scalesQ A := by
  funext y
  rw [eta3 y]
  exact (pay16_at _ (y 0) (y 1) (y 2)).trans (pay5_at ..)
theorem scalesK_eq (A : Vec Ideal S8x4096x512 .bf16) : k0_pay18 (k0_pay9 A) = scalesK A := by
  funext y
  rw [eta3 y]
  exact (pay18_at _ (y 0) (y 1) (y 2)).trans (pay9_at ..)
theorem scalesV_eq (A : Vec Ideal S8x4096x512 .bf16) : k0_pay20 (k0_pay14 (k0_pay11 A)) = scalesK A := by
  funext y
  rw [eta3 y]
  exact (pay18_at _ (y 0) (y 1) (y 2)).trans (pay14_at ..)

end Cert.ReferenceIdeal.Val

end
-- ==== Proof.RefScores.lean ====
module

public import proofs.«01_k».proof.Proof.RefVals

@[expose] public section

/-! The reference's scores, one element at a time. -/

set_option maxRecDepth 16384
set_option maxHeartbeats 1000000

noncomputable section

namespace Cert.ReferenceIdeal.Val

open Cert.ReferenceIdeal Cert.ReferenceIdeal.Gen Idealize.ShloMosaic
open Cert.KernelIdeal.Val (expo inv scl clip negInf XQ XK amaxQ amaxK code qcode kcode headQ headK colQ colK kvHead dotT facT scoreT maxT probT sumT topT accT outT outA probT_abs)

/-- The query head of place `j` among those of key head `g`. -/
def hd (g : Fin 2) (j : Fin 4) : Fin 8 := ⟨4 * g.val + j.val, by omega⟩

theorem kvHead_hd (g : Fin 2) (j : Fin 4) : kvHead (hd g j) = g := Fin.ext (by simp only [kvHead, hd]; omega)

/-! ## The scores -/

theorem mm1 (Q : FVec Ideal S8x32x128x2x4x256 .fp8e4m3) (K : FVec Ideal S8x32x128x2x256 .fp8e4m3) (b : Fin 8) (h : Fin 2) (g : Fin 4) (i n : Fin 32) (q r : Fin 128) :
    transpose S8x2x4x32x128x32x128 [0, 1, 6, 4, 5, 2, 3] (matmul (F := Ideal) dot_S8x32x128x2x256_S8x32x128x2x4x256_S8x2x32x128x32x128x4_4_5_12_124_03_03 none K Q (constant S8x2x32x128x32x128x4 .f32 0x00000000#32)) transposes_S8x2x32x128x32x128x4_p0_1_6_4_5_2_3_S8x2x4x32x128x32x128 (ix7 b h g i q n r) = ∑ d : Fin 256, K (ix5 b n r h d) * Q (ix6 b i q h g d) := by
  pointwise []

theorem castC (Y : FVec Ideal S8x32x128x8x256 .fp8e4m3) (b : Fin 8) (i : Fin 32) (q : Fin 128) (g : Fin 2) (j : Fin 4) (d : Fin 256) :
    shapeCast S8x32x128x2x4x256 Y shapeCasts_S8x32x128x8x256_S8x32x128x2x4x256 (ix6 b i q g j d) = Y (ix5 b i q (hd g j) d) := by
  pointwise []
  rw [show (⟨g.val * 4 + j.val, by omega⟩ : Fin 8) = hd g j from Fin.ext (by simp only [hd]; omega)]

theorem fac_at (qs : FVec Ideal S8x32x1x8x1 .f32) (ks : FVec Ideal S8x32x1x2x1 .f32) (b : Fin 8) (g : Fin 2) (j : Fin 4) (i n : Fin 32) (q r : Fin 128) :
    broadcastTo S8x2x4x32x128x32x128 (mulf (broadcastTo S8x2x4x32x1x32x1 (mulf (broadcast S8x2x4x32x1x1x1 (Scalar.ofBits (F := Ideal) .f32 0x3D800000#32)) (shapeCast S8x2x4x32x1x1x1 (transpose S8x2x4x32 [0, 2, 3, 1] (shapeCast S8x32x2x4 qs shapeCasts_S8x32x1x8x1_S8x32x2x4) transposes_S8x32x2x4_p0_2_3_1_S8x2x4x32) shapeCasts_S8x2x4x32_S8x2x4x32x1x1x1)) broadcasts_S8x2x4x32x1x1x1_S8x2x4x32x1x32x1) (broadcastTo S8x2x4x32x1x32x1 (shapeCast S8x2x1x1x1x32x1 (transpose S8x2x32 [0, 2, 1] (shapeCast S8x32x2 ks shapeCasts_S8x32x1x2x1_S8x32x2) transposes_S8x32x2_p0_2_1_S8x2x32) shapeCasts_S8x2x32_S8x2x1x1x1x32x1) broadcasts_S8x2x1x1x1x32x1_S8x2x4x32x1x32x1)) broadcasts_S8x2x4x32x1x32x1_S8x2x4x32x128x32x128 (ix7 b g j i q n r)
      = (Ideal.ofBits .f32 0x3D800000#32 * qs (ix5 b i 0 (hd g j) 0)) * ks (ix5 b n 0 g 0) := by
  pointwise []
  exact congrArg (fun h => Ideal.ofBits .f32 0x3D800000#32 * qs (ix5 b i 0 h 0) * ks (ix5 b n 0 g 0)) (Fin.ext (by simp only [hd]; omega))

theorem pay22_at (Q : FVec Ideal S8x32x128x8x256 .fp8e4m3) (qs : FVec Ideal S8x32x1x8x1 .f32) (K : FVec Ideal S8x32x128x2x256 .fp8e4m3) (ks : FVec Ideal S8x32x1x2x1 .f32)
    (b : Fin 8) (g : Fin 2) (j : Fin 4) (i : Fin 32) (q : Fin 128) (n : Fin 32) (r : Fin 128) :
    k0_pay22 Q qs K ks (ix7 b g j i q n r) = (∑ d : Fin 256, K (ix5 b n r g d) * Q (ix5 b i q (hd g j) d)) * ((Ideal.ofBits .f32 0x3D800000#32 * qs (ix5 b i 0 (hd g j) 0)) * ks (ix5 b n 0 g 0)) := by
  refine (congrArg₂ (fun x y : EReal => x * y) (mm1 (shapeCast S8x32x128x2x4x256 Q shapeCasts_S8x32x128x8x256_S8x32x128x2x4x256) K b g j i n q r) (fac_at qs ks b g j i n q r)).trans ?_
  refine congrArg (fun x : EReal => x * _) (Finset.sum_congr rfl fun d _ => ?_)
  rw [castC]

section
variable (A0 : Vec Ideal S8x4096x2048 .bf16) (A1 A2 : Vec Ideal S8x4096x512 .bf16)

/-- The unmasked scores of the reference. -/
abbrev sR : FVec Ideal S8x2x4x32x128x32x128 .f32 := k0_pay22 (k0_pay4 A0) (k0_pay5 A0) (k0_pay8 A1) (k0_pay9 A1)

theorem sR_at (b : Fin 8) (g : Fin 2) (j : Fin 4) (i : Fin 32) (q : Fin 128) (n : Fin 32) (r : Fin 128) :
    sR A0 A1 (ix7 b g j i q n r) = dotT A0 A1 b i (hd g j) q n r * facT A0 A1 b i (hd g j) n := by
  refine (pay22_at (k0_pay4 A0) (k0_pay5 A0) (k0_pay8 A1) (k0_pay9 A1) b g j i q n r).trans ?_
  unfold dotT facT
  rw [kvHead_hd, pay5_at, pay9_at]
  refine congrArg (fun x : EReal => x * _) (Finset.sum_congr rfl fun d _ => ?_)
  rw [pay4_at, pay8_at]

end

end Cert.ReferenceIdeal.Val

end
-- ==== Proof.RefMask.lean ====
module

public import proofs.«01_k».proof.Proof.RefVals

@[expose] public section

/-! The reference's mask, one element at a time. -/

set_option maxRecDepth 16384
set_option maxHeartbeats 1000000

noncomputable section

namespace Cert.ReferenceIdeal.Val

open Cert.ReferenceIdeal Cert.ReferenceIdeal.Gen Idealize.ShloMosaic
/-! ## The mask -/

/-- Which keys a query sees. -/
abbrev mk : IVec S32x128x32x128 1 := andi k0_pay25 (cmpi .sgt k0_pay24 (subi k0_pay23 k0_pay26))

/-! ## Positions -/

theorem toInt_nat (x : ℕ) (h : x < 2 ^ 31) : (BitVec.ofNat 32 x).toInt = x := by
  rw [BitVec.toInt_ofNat', Int.bmod_def]; omega

theorem pos_nat (n r : ℕ) : IntOp.addi (IntOp.muli (BitVec.ofNat 32 n) 128#32) (BitVec.ofNat 32 r) = BitVec.ofNat 32 (128 * n + r) := by
  show BitVec.ofNat 32 n * BitVec.ofNat 32 128 + BitVec.ofNat 32 r = _
  rw [← BitVec.ofNat_mul, ← BitVec.ofNat_add, Nat.mul_comm]

theorem sle_nat (x y : ℕ) (hx : x < 2 ^ 31) (hy : y < 2 ^ 31) : IntOp.cmpi .sle (BitVec.ofNat 32 x) (BitVec.ofNat 32 y) = if x ≤ y then 1#1 else 0#1 := by
  show BitVec.ofBool ((BitVec.ofNat 32 x).sle (BitVec.ofNat 32 y)) = _
  by_cases h : x ≤ y
  · rw [if_pos h, show (BitVec.ofNat 32 x).sle (BitVec.ofNat 32 y) = true from BitVec.sle_iff_toInt_le.mpr (by rw [toInt_nat x hx, toInt_nat y hy]; omega)]; rfl
  · rw [if_neg h, show (BitVec.ofNat 32 x).sle (BitVec.ofNat 32 y) = false from by rw [← Bool.not_eq_true]; exact fun hh => h (by have := BitVec.sle_iff_toInt_le.mp hh; rw [toInt_nat x hx, toInt_nat y hy] at this; omega)]; rfl

/-- No key of the array is too far back. -/
theorem window_nat (x y : ℕ) (hx : x < 4096) (hy : y < 4096) : IntOp.cmpi .sgt (BitVec.ofNat 32 x) (IntOp.subi (BitVec.ofNat 32 y) 4096#32) = 1#1 := by
  show BitVec.ofBool ((BitVec.ofNat 32 y - 4096#32).slt (BitVec.ofNat 32 x)) = _
  rw [show (BitVec.ofNat 32 y - 4096#32).slt (BitVec.ofNat 32 x) = true from BitVec.slt_iff_toInt_lt.mpr ?_]; · rfl
  rw [BitVec.toInt_sub, toInt_nat x (by omega), toInt_nat y (by omega), show (4096#32 : BitVec 32).toInt = 4096 from rfl, Int.bmod_def]
  omega

theorem mk_at (i : Fin 32) (q : Fin 128) (n : Fin 32) (r : Fin 128) : mk (ix4 i q n r) = if 128 * n.val + r.val ≤ 128 * i.val + q.val then 1#1 else 0#1 := by
  pointwise [mk, k0_pay25, k0_pay24, k0_pay23, k0_pay26]
  rw [pos_nat, pos_nat, sle_nat _ _ (by omega) (by omega), window_nat _ _ (by omega) (by omega)]
  split_ifs <;> rfl

abbrev mk7 : IVec S8x2x4x32x128x32x128 1 :=
  broadcastTo S8x2x4x32x128x32x128 (shapeCast S1x1x1x32x128x32x128 (shapeCast S1x1x1x32x128x32x128 mk shapeCasts_S32x128x32x128_S1x1x1x32x128x32x128) shapeCasts_S1x1x1x32x128x32x128_S1x1x1x32x128x32x128) broadcasts_S1x1x1x32x128x32x128_S8x2x4x32x128x32x128

theorem mk7_at' (M : IVec S32x128x32x128 1) (b : Fin 8) (g : Fin 2) (j : Fin 4) (i : Fin 32) (q : Fin 128) (n : Fin 32) (r : Fin 128) :
    broadcastTo S8x2x4x32x128x32x128 (shapeCast S1x1x1x32x128x32x128 (shapeCast S1x1x1x32x128x32x128 M shapeCasts_S32x128x32x128_S1x1x1x32x128x32x128) shapeCasts_S1x1x1x32x128x32x128_S1x1x1x32x128x32x128) broadcasts_S1x1x1x32x128x32x128_S8x2x4x32x128x32x128 (ix7 b g j i q n r) = M (ix4 i q n r) := by
  pointwise []
end Cert.ReferenceIdeal.Val

end
-- ==== Proof.RefReduce.lean ====
module

public import proofs.«01_k».proof.Proof.RefVals

@[expose] public section

/-! The reference's reductions, one element at a time. -/

set_option maxRecDepth 16384
set_option maxHeartbeats 1000000

noncomputable section

namespace Cert.ReferenceIdeal.Val

open Cert.ReferenceIdeal Cert.ReferenceIdeal.Gen Idealize.ShloMosaic
open Cert.KernelIdeal.Val (expo inv scl clip negInf XQ XK amaxQ amaxK code qcode kcode headQ headK colQ colK kvHead dotT facT scoreT maxT probT sumT topT accT outT outA probT_abs)

theorem eta7 {a b c d e f g : ℕ} (y : Shape.Idx ⟨7, ![a, b, c, d, e, f, g]⟩) : y = ix7 (y 0) (y 1) (y 2) (y 3) (y 4) (y 5) (y 6) := by
  funext k; fin_cases k <;> rfl

/-! ## Reductions -/

theorem drop56 (i : S8x2x4x32x128x32x128.Idx) : reduces_S8x2x4x32x128x32x128_S8x2x4x32x128.drop i = ix5 (i 0) (i 1) (i 2) (i 3) (i 4) := by
  funext a
  fin_cases a
  · exact Fin.ext (Shape.Reduces.drop_apply_val_of_eq _ i 0 0 (by decide) (by decide))
  · exact Fin.ext (Shape.Reduces.drop_apply_val_of_eq _ i 1 1 (by decide) (by decide))
  · exact Fin.ext (Shape.Reduces.drop_apply_val_of_eq _ i 2 2 (by decide) (by decide))
  · exact Fin.ext (Shape.Reduces.drop_apply_val_of_eq _ i 3 3 (by decide) (by decide))
  · exact Fin.ext (Shape.Reduces.drop_apply_val_of_eq _ i 4 4 (by decide) (by decide))

theorem drop46 (i : S8x2x4x32x128x32x128.Idx) : reduces_S8x2x4x32x128x32x128_S8x2x4x32x32.drop i = ix5 (i 0) (i 1) (i 2) (i 3) (i 5) := by
  funext a
  fin_cases a
  · exact Fin.ext (Shape.Reduces.drop_apply_val_of_eq _ i 0 0 (by decide) (by decide))
  · exact Fin.ext (Shape.Reduces.drop_apply_val_of_eq _ i 1 1 (by decide) (by decide))
  · exact Fin.ext (Shape.Reduces.drop_apply_val_of_eq _ i 2 2 (by decide) (by decide))
  · exact Fin.ext (Shape.Reduces.drop_apply_val_of_eq _ i 3 3 (by decide) (by decide))
  · exact Fin.ext (Shape.Reduces.drop_apply_val_of_eq _ i 4 5 (by decide) (by decide))

theorem drop5 (i : S8x2x4x32x128x32x256.Idx) : reduces_S8x2x4x32x128x32x256_S8x2x4x32x128x256.drop i = ix6 (i 0) (i 1) (i 2) (i 3) (i 4) (i 6) := by
  funext a
  fin_cases a
  · exact Fin.ext (Shape.Reduces.drop_apply_val_of_eq _ i 0 0 (by decide) (by decide))
  · exact Fin.ext (Shape.Reduces.drop_apply_val_of_eq _ i 1 1 (by decide) (by decide))
  · exact Fin.ext (Shape.Reduces.drop_apply_val_of_eq _ i 2 2 (by decide) (by decide))
  · exact Fin.ext (Shape.Reduces.drop_apply_val_of_eq _ i 3 3 (by decide) (by decide))
  · exact Fin.ext (Shape.Reduces.drop_apply_val_of_eq _ i 4 4 (by decide) (by decide))
  · exact Fin.ext (Shape.Reduces.drop_apply_val_of_eq _ i 5 6 (by decide) (by decide))

theorem max56 (X : FVec Ideal S8x2x4x32x128x32x128 .f32) (b : Fin 8) (g : Fin 2) (j : Fin 4) (i : Fin 32) (q : Fin 128) :
    multiReduction .maximumf [5, 6] S8x2x4x32x128 X 0xFF800000#32 reduces_S8x2x4x32x128x32x128_S8x2x4x32x128 (.inl rfl) rfl (ix5 b g j i q)
      = Finset.univ.fold max negInf fun p : Fin 32 × Fin 128 => X (ix7 b g j i q p.1 p.2) := by
  refine eq_of_forall_ge_iff fun c => (max_le _ _ _ c).trans ?_
  rw [fold_le]
  refine and_congr_right fun h0 => ⟨fun hs p => hs _ (drop56 _), fun hs k hk => ?_⟩
  rw [drop56] at hk
  obtain rfl : k 0 = b := congrFun hk 0
  obtain rfl : k 1 = g := congrFun hk 1
  obtain rfl : k 2 = j := congrFun hk 2
  obtain rfl : k 3 = i := congrFun hk 3
  obtain rfl : k 4 = q := congrFun hk 4
  exact (le_of_eq (congrArg X (eta7 k))).trans (hs (k 5, k 6))

theorem max46 (X : FVec Ideal S8x2x4x32x128x32x128 .f32) (b : Fin 8) (g : Fin 2) (j : Fin 4) (i : Fin 32) (n : Fin 32) :
    multiReduction .maximumf [4, 6] S8x2x4x32x32 X 0xFF800000#32 reduces_S8x2x4x32x128x32x128_S8x2x4x32x32 (.inl rfl) rfl (ix5 b g j i n)
      = Finset.univ.fold max negInf fun p : Fin 128 × Fin 128 => X (ix7 b g j i p.1 n p.2) := by
  refine eq_of_forall_ge_iff fun c => (max_le _ _ _ c).trans ?_
  rw [fold_le]
  refine and_congr_right fun h0 => ⟨fun hs p => hs _ (drop46 _), fun hs k hk => ?_⟩
  rw [drop46] at hk
  obtain rfl : k 0 = b := congrFun hk 0
  obtain rfl : k 1 = g := congrFun hk 1
  obtain rfl : k 2 = j := congrFun hk 2
  obtain rfl : k 3 = i := congrFun hk 3
  obtain rfl : k 5 = n := congrFun hk 4
  exact (le_of_eq (congrArg X (eta7 k))).trans (hs (k 4, k 6))

theorem sum56 (X : FVec Ideal S8x2x4x32x128x32x128 .f32) (b : Fin 8) (g : Fin 2) (j : Fin 4) (i : Fin 32) (q : Fin 128) :
    multiReduction .add [5, 6] S8x2x4x32x128 X 0x00000000#32 reduces_S8x2x4x32x128x32x128_S8x2x4x32x128 (.inl rfl) rfl (ix5 b g j i q) = ∑ n : Fin 32, ∑ r : Fin 128, X (ix7 b g j i q n r) := by
  refine (multiReduction_add_apply ..).trans ?_
  show ∑ k ∈ Finset.univ.filter (fun k => reduces_S8x2x4x32x128x32x128_S8x2x4x32x128.drop k = ix5 b g j i q), X k = _
  rw [← Fintype.sum_prod_type']
  refine Finset.sum_bij' (fun k _ => ((k 5, k 6) : Fin 32 × Fin 128)) (fun p _ => ix7 b g j i q p.1 p.2) (fun _ _ => Finset.mem_univ _)
    (fun p _ => Finset.mem_filter.mpr ⟨Finset.mem_univ _, drop56 _⟩) (fun k hk => ?_) (fun _ _ => rfl) (fun k hk => ?_) <;>
  · have hk := (Finset.mem_filter.mp hk).2
    rw [drop56] at hk
    obtain rfl : k 0 = b := congrFun hk 0
    obtain rfl : k 1 = g := congrFun hk 1
    obtain rfl : k 2 = j := congrFun hk 2
    obtain rfl : k 3 = i := congrFun hk 3
    obtain rfl : k 4 = q := congrFun hk 4
    first
      | exact (eta7 k).symm
      | exact congrArg X (eta7 k)

theorem sum5 (X : FVec Ideal S8x2x4x32x128x32x256 .f32) (b : Fin 8) (g : Fin 2) (j : Fin 4) (i : Fin 32) (q : Fin 128) (e : Fin 256) :
    multiReduction .add [5] S8x2x4x32x128x256 X 0x00000000#32 reduces_S8x2x4x32x128x32x256_S8x2x4x32x128x256 (.inl rfl) rfl (ix6 b g j i q e) = ∑ n : Fin 32, X (ix7 b g j i q n e) := by
  refine (multiReduction_add_apply ..).trans ?_
  show ∑ k ∈ Finset.univ.filter (fun k => reduces_S8x2x4x32x128x32x256_S8x2x4x32x128x256.drop k = ix6 b g j i q e), X k = _
  refine Finset.sum_bij' (fun k _ => (k 5 : Fin 32)) (fun p _ => ix7 b g j i q p e) (fun _ _ => Finset.mem_univ _)
    (fun p _ => Finset.mem_filter.mpr ⟨Finset.mem_univ _, drop5 _⟩) (fun k hk => ?_) (fun _ _ => rfl) (fun k hk => ?_) <;>
  · have hk := (Finset.mem_filter.mp hk).2
    rw [drop5] at hk
    obtain rfl : k 0 = b := congrFun hk 0
    obtain rfl : k 1 = g := congrFun hk 1
    obtain rfl : k 2 = j := congrFun hk 2
    obtain rfl : k 3 = i := congrFun hk 3
    obtain rfl : k 4 = q := congrFun hk 4
    obtain rfl : k 6 = e := congrFun hk 5
    first
      | exact (eta7 k).symm
      | exact congrArg X (eta7 k)
end Cert.ReferenceIdeal.Val

end
-- ==== Proof.RefShapes.lean ====
module

public import proofs.«01_k».proof.Proof.RefVals

@[expose] public section

/-! The reference's casts, broadcasts and products, one element at a time. -/

set_option maxRecDepth 16384
set_option maxHeartbeats 1000000

noncomputable section

namespace Cert.ReferenceIdeal.Val

open Cert.ReferenceIdeal Cert.ReferenceIdeal.Gen Idealize.ShloMosaic
open Cert.KernelIdeal.Val (expo inv scl clip negInf XQ XK amaxQ amaxK code qcode kcode headQ headK colQ colK kvHead dotT facT scoreT maxT probT sumT topT accT outT outA probT_abs)

theorem bcM (X : FVec Ideal S8x2x4x32x128 .f32) (b : Fin 8) (g : Fin 2) (j : Fin 4) (i : Fin 32) (q : Fin 128) (n : Fin 32) (r : Fin 128) :
    broadcastTo S8x2x4x32x128x32x128 (shapeCast S8x2x4x32x128x1x1 X shapeCasts_S8x2x4x32x128_S8x2x4x32x128x1x1) broadcasts_S8x2x4x32x128x1x1_S8x2x4x32x128x32x128 (ix7 b g j i q n r) = X (ix5 b g j i q) := by
  pointwise []

theorem castT (X : FVec Ideal S8x2x4x32x32 .f32) (b : Fin 8) (g : Fin 2) (j : Fin 4) (i : Fin 32) (n : Fin 32) :
    shapeCast S8x2x4x32x1x32x1 X shapeCasts_S8x2x4x32x32_S8x2x4x32x1x32x1 (ix7 b g j i 0 n 0) = X (ix5 b g j i n) := by
  pointwise []

theorem bcT (X : FVec Ideal S8x2x4x32x1x32x1 .f32) (b : Fin 8) (g : Fin 2) (j : Fin 4) (i : Fin 32) (q : Fin 128) (n : Fin 32) (r : Fin 128) :
    broadcastTo S8x2x4x32x128x32x128 X broadcasts_S8x2x4x32x1x32x1_S8x2x4x32x128x32x128 (ix7 b g j i q n r) = X (ix7 b g j i 0 n 0) := by
  pointwise []

theorem mm2 (V : FVec Ideal S8x32x128x2x256 .fp8e4m3) (P : FVec Ideal S8x2x4x32x128x32x128 .fp8e4m3) (b : Fin 8) (h : Fin 2) (g : Fin 4) (i n : Fin 32) (q : Fin 128) (e : Fin 256) :
    transpose S8x2x4x32x128x32x256 [0, 1, 4, 5, 6, 2, 3] (matmul (F := Ideal) dot_S8x32x128x2x256_S8x2x4x32x128x32x128_S8x2x32x256x4x32x128_2_6_4_234_031_015 none V P (constant S8x2x32x256x4x32x128 .f32 0x00000000#32)) transposes_S8x2x32x256x4x32x128_p0_1_4_5_6_2_3_S8x2x4x32x128x32x256 (ix7 b h g i q n e) = ∑ r : Fin 128, V (ix5 b n r h e) * P (ix7 b h g i q n r) := by
  pointwise []

theorem bcW (X : FVec Ideal S8x2x4x32x1x32x1 .f32) (Y : FVec Ideal S8x2x1x1x1x32x1 .f32) (b : Fin 8) (g : Fin 2) (j : Fin 4) (i : Fin 32) (q : Fin 128) (n : Fin 32) (e : Fin 256) :
    broadcastTo S8x2x4x32x128x32x256 (mulf (exp2 X) (broadcastTo S8x2x4x32x1x32x1 Y broadcasts_S8x2x1x1x1x32x1_S8x2x4x32x1x32x1)) broadcasts_S8x2x4x32x1x32x1_S8x2x4x32x128x32x256 (ix7 b g j i q n e)
      = Ideal.exp2 (X (ix7 b g j i 0 n 0)) * Y (ix7 b g 0 0 0 n 0) := by
  pointwise []
  try rfl

theorem pay21_at (Y : FVec Ideal S8x32x1x2x1 .f32) (b : Fin 8) (g : Fin 2) (n : Fin 32) : k0_pay21 Y (ix7 b g 0 0 0 n 0) = Y (ix5 b n 0 g 0) := by
  pointwise [k0_pay21]

theorem bcL (X : FVec Ideal S8x2x4x32x128 .f32) (b : Fin 8) (g : Fin 2) (j : Fin 4) (i : Fin 32) (q : Fin 128) (e : Fin 256) :
    broadcastTo S8x2x4x32x128x256 (shapeCast S8x2x4x32x128x1 X shapeCasts_S8x2x4x32x128_S8x2x4x32x128x1) broadcasts_S8x2x4x32x128x1_S8x2x4x32x128x256 (ix6 b g j i q e) = X (ix5 b g j i q) := by
  pointwise []

theorem lastT (X : FVec Ideal S8x2x4x32x128x256 .f32) (b : Fin 8) (s : Fin 4096) (l : Fin 2048) :
    shapeCast S8x4096x2048 (transpose S8x32x128x2x4x256 [0, 3, 4, 1, 2, 5] X transposes_S8x2x4x32x128x256_p0_3_4_1_2_5_S8x32x128x2x4x256) shapeCasts_S8x32x128x2x4x256_S8x4096x2048 (ix3 b s l)
      = X (ix6 b ⟨l.val / 1024, by omega⟩ ⟨l.val / 256 % 4, by omega⟩ ⟨s.val / 128, by omega⟩ ⟨s.val % 128, by omega⟩ ⟨l.val % 256, by omega⟩) := by
  pointwise []
end Cert.ReferenceIdeal.Val

end
-- ==== Proof.RefOut.lean ====
module

public import proofs.«01_k».proof.Proof.RefScores
public import proofs.«01_k».proof.Proof.RefMask
public import proofs.«01_k».proof.Proof.RefReduce
public import proofs.«01_k».proof.Proof.RefShapes

@[expose] public section

/-! The reference's attention, one element at a time. -/

set_option maxRecDepth 16384
set_option maxHeartbeats 1000000

noncomputable section

namespace Cert.ReferenceIdeal.Val

open Cert.ReferenceIdeal Cert.ReferenceIdeal.Gen Idealize.ShloMosaic
open Cert.KernelIdeal.Val (expo inv scl clip negInf XQ XK amaxQ amaxK code qcode kcode headQ headK colQ colK kvHead dotT facT scoreT maxT probT sumT topT accT outT outA probT_abs)

section
variable (s : FVec Ideal S8x2x4x32x128x32x128 .f32) (M23 M24 M26 : IVec S32x128x32x128 32) (M25 : IVec S32x128x32x128 1)

/-- The mask spread over the heads. -/
def mkX : IVec S8x2x4x32x128x32x128 1 :=
  broadcastTo S8x2x4x32x128x32x128 (shapeCast S1x1x1x32x128x32x128 (shapeCast S1x1x1x32x128x32x128 (andi M25 (cmpi .sgt M24 (subi M23 M26))) shapeCasts_S32x128x32x128_S1x1x1x32x128x32x128) shapeCasts_S1x1x1x32x128x32x128_S1x1x1x32x128x32x128) broadcasts_S1x1x1x32x128x32x128_S8x2x4x32x128x32x128

/-- The masked scores. -/
def sX : FVec Ideal S8x2x4x32x128x32x128 .f32 := select (mkX M23 M24 M26 M25) s (broadcast S8x2x4x32x128x32x128 (Scalar.ofBits (F := Ideal) .f32 0xFF800000#32))

/-- The largest score of a query. -/
def topX : FVec Ideal S8x2x4x32x128 .f32 := multiReduction .maximumf [5, 6] S8x2x4x32x128 (sX s M23 M24 M26 M25) 0xFF800000#32 reduces_S8x2x4x32x128x32x128_S8x2x4x32x128 (.inl rfl) rfl

/-- The unnormalised probabilities. -/
def pX : FVec Ideal S8x2x4x32x128x32x128 .f32 :=
  exp (subf (sX s M23 M24 M26 M25) (broadcastTo S8x2x4x32x128x32x128 (shapeCast S8x2x4x32x128x1x1 (topX s M23 M24 M26 M25) shapeCasts_S8x2x4x32x128_S8x2x4x32x128x1x1) broadcasts_S8x2x4x32x128x1x1_S8x2x4x32x128x32x128))

theorem pX_apply (b : Fin 8) (g : Fin 2) (j : Fin 4) (i : Fin 32) (q : Fin 128) (n : Fin 32) (r : Fin 128) :
    pX s M23 M24 M26 M25 (ix7 b g j i q n r) = Ideal.exp (sX s M23 M24 M26 M25 (ix7 b g j i q n r) - topX s M23 M24 M26 M25 (ix5 b g j i q)) := by
  unfold pX
  generalize sX s M23 M24 M26 M25 = X
  generalize topX s M23 M24 M26 M25 = Y
  exact congrArg (fun y : EReal => Ideal.exp (X (ix7 b g j i q n r) - y)) (bcM Y b g j i q n r)

theorem pay27_eq : k0_pay27 s M23 M24 M25 M26 = pX s M23 M24 M26 M25 := rfl

end

/-- The exponents of the probabilities' scales. -/
def eX (p : FVec Ideal S8x2x4x32x128x32x128 .f32) (y : S8x2x4x32x1x32x1.Idx) : EReal :=
  expo (shapeCast S8x2x4x32x1x32x1 (multiReduction .maximumf [4, 6] S8x2x4x32x32 (absf p) 0xFF800000#32 reduces_S8x2x4x32x128x32x128_S8x2x4x32x32 (.inl rfl) rfl) shapeCasts_S8x2x4x32x32_S8x2x4x32x1x32x1 y)

section
variable (s : FVec Ideal S8x2x4x32x128x32x128 .f32) (M23 M24 M26 : IVec S32x128x32x128 32) (M25 : IVec S32x128x32x128 1)

theorem pay28_eq : k0_pay28 s M23 M24 M25 M26 = multiReduction .add [5, 6] S8x2x4x32x128 (pX s M23 M24 M26 M25) 0x00000000#32 reduces_S8x2x4x32x128x32x128_S8x2x4x32x128 (.inl rfl) rfl := rfl

theorem pay29_eq : k0_pay29 s M23 M24 M25 M26 = eX (pX s M23 M24 M26 M25) := rfl

theorem pay30_eq : k0_pay30 s M23 M24 M25 M26 = mulf (pX s M23 M24 M26 M25) (broadcastTo S8x2x4x32x128x32x128 (exp2 (subf (broadcast S8x2x4x32x1x32x1 (Scalar.ofBits (F := Ideal) .f32 0x00000000#32)) (eX (pX s M23 M24 M26 M25)))) broadcasts_S8x2x4x32x1x32x1_S8x2x4x32x128x32x128) := rfl

end

/-! ## The probabilities -/

section
variable (A0 : Vec Ideal S8x4096x2048 .bf16) (A1 A2 : Vec Ideal S8x4096x512 .bf16)
variable (s : FVec Ideal S8x2x4x32x128x32x128 .f32)
  (hs : ∀ (b : Fin 8) (g : Fin 2) (j : Fin 4) (i : Fin 32) (q : Fin 128) (n : Fin 32) (r : Fin 128), s (ix7 b g j i q n r) = dotT A0 A1 b i (hd g j) q n r * facT A0 A1 b i (hd g j) n)
include hs

theorem sX_at (b : Fin 8) (g : Fin 2) (j : Fin 4) (i : Fin 32) (q : Fin 128) (n : Fin 32) (r : Fin 128) :
    sX s k0_pay23 k0_pay24 k0_pay26 k0_pay25 (ix7 b g j i q n r) = scoreT A0 A1 b i (hd g j) q n r := by
  show Scalar.select (mkX k0_pay23 k0_pay24 k0_pay26 k0_pay25 (ix7 b g j i q n r)) (s (ix7 b g j i q n r)) negInf = _
  rw [show mkX k0_pay23 k0_pay24 k0_pay26 k0_pay25 (ix7 b g j i q n r) = _ from (mk7_at' _ b g j i q n r).trans (mk_at i q n r), hs]
  unfold scoreT
  split_ifs <;> rfl

theorem topX_at (b : Fin 8) (g : Fin 2) (j : Fin 4) (i : Fin 32) (q : Fin 128) : topX s k0_pay23 k0_pay24 k0_pay26 k0_pay25 (ix5 b g j i q) = maxT A0 A1 b i (hd g j) q := by
  unfold topX maxT
  rw [max56]
  exact congrArg (Finset.univ.fold max negInf) (funext fun p => sX_at A0 A1 s hs b g j i q p.1 p.2)

theorem pX_at (b : Fin 8) (g : Fin 2) (j : Fin 4) (i : Fin 32) (q : Fin 128) (n : Fin 32) (r : Fin 128) :
    pX s k0_pay23 k0_pay24 k0_pay26 k0_pay25 (ix7 b g j i q n r) = probT A0 A1 b i (hd g j) q n r := by
  rw [pX_apply, topX_at A0 A1 s hs, sX_at A0 A1 s hs]
  unfold probT
  rfl

end

/-! ## From the probabilities on -/

section
variable (A0 : Vec Ideal S8x4096x2048 .bf16) (A1 A2 : Vec Ideal S8x4096x512 .bf16)
variable (p : FVec Ideal S8x2x4x32x128x32x128 .f32)
  (hp : ∀ (b : Fin 8) (g : Fin 2) (j : Fin 4) (i : Fin 32) (q : Fin 128) (n : Fin 32) (r : Fin 128), p (ix7 b g j i q n r) = probT A0 A1 b i (hd g j) q n r)
include hp

theorem sumX_at (b : Fin 8) (g : Fin 2) (j : Fin 4) (i : Fin 32) (q : Fin 128) :
    multiReduction .add [5, 6] S8x2x4x32x128 p 0x00000000#32 reduces_S8x2x4x32x128x32x128_S8x2x4x32x128 (.inl rfl) rfl (ix5 b g j i q) = sumT A0 A1 b i (hd g j) q :=
  (sum56 p b g j i q).trans (Finset.sum_congr rfl fun n _ => Finset.sum_congr rfl fun r _ => hp b g j i q n r)

theorem eX_at (b : Fin 8) (g : Fin 2) (j : Fin 4) (i : Fin 32) (n : Fin 32) : eX p (ix7 b g j i 0 n 0) = expo (topT A0 A1 b i (hd g j) n) := by
  unfold eX topT
  rw [castT, max46]
  refine congrArg (fun f => expo (Finset.univ.fold max negInf f)) (funext fun k => ?_)
  show max (p (ix7 b g j i k.1 n k.2)) (-p (ix7 b g j i k.1 n k.2)) = _
  rw [hp]
  exact probT_abs ..

theorem codeX_at (b : Fin 8) (g : Fin 2) (j : Fin 4) (i : Fin 32) (q : Fin 128) (n : Fin 32) (r : Fin 128) :
    mulf p (broadcastTo S8x2x4x32x128x32x128 (exp2 (subf (broadcast S8x2x4x32x1x32x1 (Scalar.ofBits (F := Ideal) .f32 0x00000000#32)) (eX p))) broadcasts_S8x2x4x32x1x32x1_S8x2x4x32x128x32x128) (ix7 b g j i q n r) = probT A0 A1 b i (hd g j) q n r * inv (topT A0 A1 b i (hd g j) n) := by
  show p (ix7 b g j i q n r) * broadcastTo S8x2x4x32x128x32x128 (exp2 (subf (broadcast S8x2x4x32x1x32x1 (Scalar.ofBits (F := Ideal) .f32 0x00000000#32)) (eX p))) broadcasts_S8x2x4x32x1x32x1_S8x2x4x32x128x32x128 (ix7 b g j i q n r) = _
  rw [bcT, exp2_neg, hp, eX_at A0 A1 p hp]
  rfl

end

/-! ## The weighted sums -/

section
variable (V : FVec Ideal S8x32x128x2x256 .fp8e4m3) (W : FVec Ideal S8x2x1x1x1x32x1 .f32) (L : FVec Ideal S8x2x4x32x128 .f32) (T : FVec Ideal S8x2x4x32x1x32x1 .f32) (P : FVec Ideal S8x2x4x32x128x32x128 .f32)

/-- The weighted sums, block by block. -/
def wX : FVec Ideal S8x2x4x32x128x32x256 .f32 :=
  mulf (transpose S8x2x4x32x128x32x256 [0, 1, 4, 5, 6, 2, 3] (matmul (F := Ideal) (φ₂ := .fp8e4m3) dot_S8x32x128x2x256_S8x2x4x32x128x32x128_S8x2x32x256x4x32x128_2_6_4_234_031_015 none V (fun y => clip (P y) : FVec Ideal S8x2x4x32x128x32x128 .fp8e4m3) (constant S8x2x32x256x4x32x128 .f32 0x00000000#32)) transposes_S8x2x32x256x4x32x128_p0_1_4_5_6_2_3_S8x2x4x32x128x32x256)
    (broadcastTo S8x2x4x32x128x32x256 (mulf (exp2 T) (broadcastTo S8x2x4x32x1x32x1 W broadcasts_S8x2x1x1x1x32x1_S8x2x4x32x1x32x1)) broadcasts_S8x2x4x32x1x32x1_S8x2x4x32x128x32x256)

theorem wX_at (b : Fin 8) (g : Fin 2) (j : Fin 4) (i : Fin 32) (q : Fin 128) (n : Fin 32) (e : Fin 256) :
    wX V W T P (ix7 b g j i q n e) = (∑ r : Fin 128, V (ix5 b n r g e) * clip (P (ix7 b g j i q n r))) * (Ideal.exp2 (T (ix7 b g j i 0 n 0)) * W (ix7 b g 0 0 0 n 0)) :=
  congrArg₂ (fun x y : EReal => x * y) (mm2 V (fun y => clip (P y)) b g j i n q e) (bcW T W b g j i q n e)

/-- The weighted sums over the sum of the probabilities. -/
def oX : FVec Ideal S8x2x4x32x128x256 .f32 :=
  divf (multiReduction .add [5] S8x2x4x32x128x256 (wX V W T P) 0x00000000#32 reduces_S8x2x4x32x128x32x256_S8x2x4x32x128x256 (.inl rfl) rfl) (broadcastTo S8x2x4x32x128x256 (shapeCast S8x2x4x32x128x1 L shapeCasts_S8x2x4x32x128_S8x2x4x32x128x1) broadcasts_S8x2x4x32x128x1_S8x2x4x32x128x256)

theorem oX_at (b : Fin 8) (g : Fin 2) (j : Fin 4) (i : Fin 32) (q : Fin 128) (e : Fin 256) :
    oX V W L T P (ix6 b g j i q e) = Ideal.div (∑ n : Fin 32, wX V W T P (ix7 b g j i q n e)) (L (ix5 b g j i q)) :=
  congrArg₂ Ideal.div (sum5 (wX V W T P) b g j i q e) (bcL L b g j i q e)

theorem pay1_eq : k0_pay1 V W L T P (Scalar.ofBits .f32 0xC3E00000#32)
    = shapeCast S8x4096x2048 (transpose S8x32x128x2x4x256 [0, 3, 4, 1, 2, 5] (oX V W L T P) transposes_S8x2x4x32x128x256_p0_3_4_1_2_5_S8x32x128x2x4x256) shapeCasts_S8x32x128x2x4x256_S8x4096x2048 := rfl

end

section
variable (A0 : Vec Ideal S8x4096x2048 .bf16) (A1 A2 : Vec Ideal S8x4096x512 .bf16)

/-- The output from tables that hold what the scores, the probabilities and the values come to. -/
theorem out_of (V : FVec Ideal S8x32x128x2x256 .fp8e4m3) (W : FVec Ideal S8x32x1x2x1 .f32) (s : FVec Ideal S8x2x4x32x128x32x128 .f32)
    (hs : ∀ (b : Fin 8) (g : Fin 2) (j : Fin 4) (i : Fin 32) (q : Fin 128) (n : Fin 32) (r : Fin 128), s (ix7 b g j i q n r) = dotT A0 A1 b i (hd g j) q n r * facT A0 A1 b i (hd g j) n)
    (hV : ∀ (b : Fin 8) (n : Fin 32) (r : Fin 128) (h : Fin 2) (d : Fin 256), V (ix5 b n r h d) = kcode (XK A2 b n) (ix3 0 r (colK h d)))
    (hW : ∀ (b : Fin 8) (n : Fin 32) (h : Fin 2), W (ix5 b n 0 h 0) = scl (amaxK (XK A2 b n) h)) :
    k0_pay1 V (k0_pay21 W) (k0_pay28 s k0_pay23 k0_pay24 k0_pay25 k0_pay26) (k0_pay29 s k0_pay23 k0_pay24 k0_pay25 k0_pay26) (k0_pay30 s k0_pay23 k0_pay24 k0_pay25 k0_pay26) (Scalar.ofBits .f32 0xC3E00000#32) = outA A0 A1 A2 := by
  rw [pay1_eq, pay28_eq, pay29_eq, pay30_eq]
  have hp := pX_at A0 A1 s hs
  generalize pX s k0_pay23 k0_pay24 k0_pay26 k0_pay25 = p at hp
  funext y
  obtain ⟨b, t, l, rfl⟩ : ∃ (b : Fin 8) (t : Fin 4096) (l : Fin 2048), y = ix3 b t l := ⟨y 0, y 1, y 2, eta3 y⟩
  rw [lastT, oX_at, sumX_at A0 A1 p hp]
  have hh : hd ⟨l.val / 1024, by omega⟩ ⟨l.val / 256 % 4, by omega⟩ = ⟨l.val / 256, by omega⟩ := Fin.ext (by
    show 4 * (l.val / 1024) + l.val / 256 % 4 = l.val / 256
    omega)
  have hk : kvHead ⟨l.val / 256, by omega⟩ = ⟨l.val / 1024, by omega⟩ := by rw [← hh, kvHead_hd]
  show _ = outT A0 A1 A2 b ⟨t.val / 128, by omega⟩ ⟨l.val / 256, by omega⟩ ⟨t.val % 128, by omega⟩ ⟨l.val % 256, by omega⟩
  rw [hh]
  unfold outT accT
  refine congrArg (fun x => Ideal.div x _) (Finset.sum_congr rfl fun n _ => ?_)
  rw [wX_at, pay21_at, hW, eX_at A0 A1 p hp, hk, hh]
  refine congrArg (fun x : EReal => x * _) (Finset.sum_congr rfl fun r _ => ?_)
  rw [hV, codeX_at A0 A1 p hp, hh]

end

/-! ## The reference's output -/

theorem outA_eq (A0 : Vec Ideal S8x4096x2048 .bf16) (A1 A2 : Vec Ideal S8x4096x512 .bf16) :
    k0_pay1 (k0_pay13 (k0_pay10 A2) (k0_pay11 A2)) (k0_pay21 (k0_pay14 (k0_pay11 A2))) (k0_pay28 (sR A0 A1) k0_pay23 k0_pay24 k0_pay25 k0_pay26) (k0_pay29 (sR A0 A1) k0_pay23 k0_pay24 k0_pay25 k0_pay26) (k0_pay30 (sR A0 A1) k0_pay23 k0_pay24 k0_pay25 k0_pay26) (Scalar.ofBits .f32 0xC3E00000#32)
      = outA A0 A1 A2 :=
  out_of A0 A1 A2 (k0_pay13 (k0_pay10 A2) (k0_pay11 A2)) (k0_pay14 (k0_pay11 A2)) (sR A0 A1) (sR_at A0 A1) (pay13_at A2) (pay14_at A2)

end Cert.ReferenceIdeal.Val

end
-- ==== Proof.RefArrays.lean ====
module

public import proofs.«01_k».proof.Proof.RefOut

@[expose] public section

/-! The result arrays of the reference after its run. -/

set_option maxRecDepth 16384
set_option maxHeartbeats 1000000

noncomputable section

namespace Cert.ReferenceIdeal.Val

open Cert.ReferenceIdeal Cert.ReferenceIdeal.Gen Idealize.ShloMosaic Idealize.ShloMosaic.TcCoe Idealize.SL.Sem
open Cert.KernelIdeal.Val (outA codesQ codesK scalesQ scalesK)

/-! ## Each result as a function of the arguments -/

section
variable (a0 : Vec Ideal S8x4096x2048 .bf16) (a1 a2 : Vec Ideal S8x4096x512 .bf16)

theorem ldQ : View.ld a0 r0_0 = a0 := View.ld_unit_zero hz0 _ a0
theorem ldK : View.ld a1 r0_1 = a1 := View.ld_unit_zero hz1 _ a1

theorem e31 : k0_pay31 a0 a1 a2 = k0_pay4 a0 := by unfold k0_pay31; rw [ldQ]
theorem e32 : k0_pay32 a0 a1 a2 = k0_pay5 a0 := by unfold k0_pay32; rw [ldQ]
theorem e33 : k0_pay33 a0 a1 a2 = k0_pay8 a1 := by unfold k0_pay33; rw [ldK]
theorem e34 : k0_pay34 a0 a1 a2 = k0_pay9 a1 := by unfold k0_pay34; rw [ldK]
theorem e36 : k0_pay36 a0 a1 a2 = k0_pay13 (k0_pay10 a2) (k0_pay11 a2) := by unfold k0_pay36 k0_pay35; rw [ldK]
theorem e37 : k0_pay37 a0 a1 a2 = k0_pay14 (k0_pay11 a2) := by unfold k0_pay37 k0_pay35; rw [ldK]
theorem e38 : k0_pay38 a0 a1 a2 = sR a0 a1 := by unfold k0_pay38; rw [e31, e32, e33, e34]
theorem e39 : k0_pay39 (F := Ideal) a0 a1 a2 = k0_pay23 := by unfold k0_pay39; rfl
theorem e40 : k0_pay40 (F := Ideal) a0 a1 a2 = k0_pay24 := by unfold k0_pay40; rfl
theorem e41 : k0_pay41 (F := Ideal) a0 a1 a2 = k0_pay25 := by unfold k0_pay41; rfl
theorem e42 : k0_pay42 (F := Ideal) a0 a1 a2 = k0_pay26 := by unfold k0_pay42; rfl

theorem G3_eq : G3 a0 a1 a2 = outA a0 a1 a2 := by
  unfold G3
  rw [e36, e37, e38, e39, e40, e41, e42]
  exact outA_eq a0 a1 a2
theorem G4_eq : G4 a0 a1 a2 = codesQ a0 := by
  unfold G4
  rw [e31]
  exact codesQ_eq a0
theorem G5_eq : G5 a0 a1 a2 = scalesQ a0 := by
  unfold G5
  rw [e32]
  exact scalesQ_eq a0
theorem G6_eq : G6 a0 a1 a2 = codesK a1 := by
  unfold G6
  rw [e33]
  exact codesK_eq a1
theorem G7_eq : G7 a0 a1 a2 = scalesK a1 := by
  unfold G7
  rw [e34]
  exact scalesK_eq a1
theorem G8_eq : G8 a0 a1 a2 = codesK a2 := by
  unfold G8
  rw [e36]
  exact codesV_eq a2
theorem G9_eq : G9 a0 a1 a2 = scalesK a2 := by
  unfold G9
  rw [e37]
  exact scalesV_eq a2

end

/-- The run of the reference: its seven result arrays, its arguments unchanged. -/
theorem run_out (m : (ℓ : Loc nD τ sig) → Buf (Elt Ideal) ℓ) (ρ : Dev nD → PrngReg)
    (a0 : Dev nD → Vec Ideal S8x4096x2048 .bf16) (a1 a2 : Dev nD → Vec Ideal S8x4096x512 .bf16)
    (h : ∀ c : Dev nD, m ((c : Thread nD τ).loc main_arg0) = a0 c ∧ m ((c : Thread nD τ).loc main_arg1) = a1 c ∧ m ((c : Thread nD τ).loc main_arg2) = a2 c) :
    θ_run defs (onTc (τ := τ) (main (F := Ideal))) ⟨m, fun _ => 0, ρ⟩ fun r => ∀ c : Dev nD,
      r.2.mem ((c : Thread nD τ).loc main_v0_0) = outA (a0 c) (a1 c) (a2 c)
      ∧ r.2.mem ((c : Thread nD τ).loc main_v0_1) = codesQ (a0 c)
      ∧ r.2.mem ((c : Thread nD τ).loc main_v0_2) = scalesQ (a0 c)
      ∧ r.2.mem ((c : Thread nD τ).loc main_v0_3) = codesK (a1 c)
      ∧ r.2.mem ((c : Thread nD τ).loc main_v0_4) = scalesK (a1 c)
      ∧ r.2.mem ((c : Thread nD τ).loc main_v0_5) = codesK (a2 c)
      ∧ r.2.mem ((c : Thread nD τ).loc main_v0_6) = scalesK (a2 c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r hr c => by
    obtain ⟨r0, r1, r2, r3, r4, r5, r6, k⟩ := hr c
    obtain ⟨h0, h1, h2⟩ := h c
    rw [h0, h1, h2] at r0 r1 r2 r3 r4 r5 r6
    exact ⟨r0.trans (G3_eq ..), r1.trans (G4_eq ..), r2.trans (G5_eq ..), r3.trans (G6_eq ..), r4.trans (G7_eq ..), r5.trans (G8_eq ..), r6.trans (G9_eq ..), k⟩) (run m ρ)

end Cert.ReferenceIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelSafeRun
public import proofs.«01_k».proof.Proof.SafeRun
public import proofs.«01_k».proof.Proof.Arrays
public import proofs.«01_k».proof.Proof.RefArrays
public import Idealize.ShloMosaic.Adequacy
public import Idealize.ShloMosaic.Init

@[expose] public section

noncomputable section

namespace Cert.Proof

open Idealize.ShloMosaic Idealize.SL.Sem Cert.Kernel

/-- The kernel and the reference, from the same arguments, end with the same seven results. -/
theorem values : Cert.algebraic_KernelIdeal_ReferenceIdeal (hKernelIdeal := Cert.KernelIdeal.Gen.facts) (hReferenceIdeal := Cert.ReferenceIdeal.Gen.facts) := by
  intro m g m' g' _ hm
  exact ⟨fun c => KernelIdeal.Val.outA (KernelIdeal.Val.A0 m c) (KernelIdeal.Val.A1 m c) (KernelIdeal.Val.A2 m c), fun c => KernelIdeal.Val.codesQ (KernelIdeal.Val.A0 m c), fun c => KernelIdeal.Val.scalesQ (KernelIdeal.Val.A0 m c),
    fun c => KernelIdeal.Val.codesK (KernelIdeal.Val.A1 m c), fun c => KernelIdeal.Val.scalesK (KernelIdeal.Val.A1 m c), fun c => KernelIdeal.Val.codesK (KernelIdeal.Val.A2 m c), fun c => KernelIdeal.Val.scalesK (KernelIdeal.Val.A2 m c),
    KernelIdeal.Val.run m g, ReferenceIdeal.Val.run_out m' g' (KernelIdeal.Val.A0 m) (KernelIdeal.Val.A1 m) (KernelIdeal.Val.A2 m) hm⟩

theorem claim : Cert.Claim := ⟨Cert.Kernel.Gen.facts, Cert.KernelIdeal.Gen.facts, Cert.ReferenceIdeal.Gen.facts,
  fun m g _ => Cert.Kernel.Safe.quiescent m g, fun m g _ => Cert.KernelIdeal.Safe.quiescent m g, fun m g _ => Cert.ReferenceIdeal.Gen.frame m g, trivial, values⟩

end Cert.Proof

end
